-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Kernel39Ideal_finite39 [hPre_finite39 : Cert.Pre_finite39.Facts] (m : (ℓ : Loc Cert.Kernel39Ideal.nD Cert.Kernel39Ideal.τ Cert.Kernel39Ideal.sig) → Buf (Elt Ideal) ℓ) : Prop :=
  ∀ c : Dev Cert.Kernel39Ideal.nD,
    (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.2.2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.2.2.2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.2.2.2.2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.2.2.2.2.2.2.1 = (fun _ => 1#1)
    ∧ (Cert.Pre_finite39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3)) (m ((c.tc : Thread Cert.Kernel39Ideal.nD Cert.Kernel39Ideal.τ).loc Cert.Kernel39Ideal.main_arg4)) (m ((c.tc : Thread Cert.Kernel39Ideal.nD Cert.Kernel39Ideal.τ).loc Cert.Kernel39Ideal.main_arg5)) (m ((c.tc : Thread Cert.Kernel39Ideal.nD Cert.Kernel39Ideal.τ).loc Cert.Kernel39Ideal.main_arg6)) (m ((c.tc : Thread Cert.Kernel39Ideal.nD Cert.Kernel39Ideal.τ).loc Cert.Kernel39Ideal.main_arg7)) (m ((c.tc : Thread Cert.Kernel39Ideal.nD Cert.Kernel39Ideal.τ).loc Cert.Kernel39Ideal.main_arg8)) (m ((c.tc : Thread Cert.Kernel39Ideal.nD Cert.Kernel39Ideal.τ).loc Cert.Kernel39Ideal.main_arg9)) (m ((c.tc : Thread Cert.Kernel39Ideal.nD Cert.Kernel39Ideal.τ).loc Cert.Kernel39Ideal.main_arg10))).2.2.2.2.2.2.2.2.2.2 = (fun _ => 1#1)

def Pre_Reference39Ideal (m : (ℓ : Loc Cert.Reference39Ideal.nD Cert.Reference39Ideal.τ Cert.Reference39Ideal.sig) → Buf (Elt Ideal) ℓ) : Prop :=
  True

def Pre_Reference39Ideal_finite39 [hPre_finite39 : Cert.Pre_finite39.Facts] (m : (ℓ : Loc Cert.Reference39Ideal.nD Cert.Reference39Ideal.τ Cert.Reference39Ideal.sig) → Buf (Elt Ideal) ℓ) : Prop :=
  ∀ c : Dev Cert.Reference39Ideal.nD,
    (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.2.2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.2.2.2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.2.2.2.2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.2.2.2.2.2.2.1 = (fun _ => 1#1)
    ∧ (Cert.Pre_finite39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3)) (m ((c.tc : Thread Cert.Reference39Ideal.nD Cert.Reference39Ideal.τ).loc Cert.Reference39Ideal.main_arg4)) (m ((c.tc : Thread Cert.Reference39Ideal.nD Cert.Reference39Ideal.τ).loc Cert.Reference39Ideal.main_arg5)) (m ((c.tc : Thread Cert.Reference39Ideal.nD Cert.Reference39Ideal.τ).loc Cert.Reference39Ideal.main_arg6)) (m ((c.tc : Thread Cert.Reference39Ideal.nD Cert.Reference39Ideal.τ).loc Cert.Reference39Ideal.main_arg7)) (m ((c.tc : Thread Cert.Reference39Ideal.nD Cert.Reference39Ideal.τ).loc Cert.Reference39Ideal.main_arg8)) (m ((c.tc : Thread Cert.Reference39Ideal.nD Cert.Reference39Ideal.τ).loc Cert.Reference39Ideal.main_arg9)) (m ((c.tc : Thread Cert.Reference39Ideal.nD Cert.Reference39Ideal.τ).loc Cert.Reference39Ideal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6)
      ∧ r.2.mem ((c.tc : Thread Cert.Kernel39.nD Cert.Kernel39.τ).loc Cert.Kernel39.main_arg7) = m ((c.tc : Thread Cert.Kernel39.nD Cert.Kernel39.τ).loc Cert.Kernel39.main_arg7)
      ∧ r.2.mem ((c.tc : Thread Cert.Kernel39.nD Cert.Kernel39.τ).loc Cert.Kernel39.main_arg8) = m ((c.tc : Thread Cert.Kernel39.nD Cert.Kernel39.τ).loc Cert.Kernel39.main_arg8)
      ∧ r.2.mem ((c.tc : Thread Cert.Kernel39.nD Cert.Kernel39.τ).loc Cert.Kernel39.main_arg9) = m ((c.tc : Thread Cert.Kernel39.nD Cert.Kernel39.τ).loc Cert.Kernel39.main_arg9)
      ∧ r.2.mem ((c.tc : Thread Cert.Kernel39.nD Cert.Kernel39.τ).loc Cert.Kernel39.main_arg10) = m ((c.tc : Thread Cert.Kernel39.nD Cert.Kernel39.τ).loc Cert.Kernel39.main_arg10))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
      ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
      ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
      ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10))
      ∧ r.2.sem = fun _ => 0)

def quiescent_Kernel39Ideal_pre_finite39 [hKernel39Ideal : Cert.Kernel39Ideal.Facts] [hPre_finite39 : Cert.Pre_finite39.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal_finite39 m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
      ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
      ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
      ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
      ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7)
      ∧ r.2.mem ((c.tc : Thread Cert.Reference39Ideal.nD Cert.Reference39Ideal.τ).loc Cert.Reference39Ideal.main_arg8) = m ((c.tc : Thread Cert.Reference39Ideal.nD Cert.Reference39Ideal.τ).loc Cert.Reference39Ideal.main_arg8)
      ∧ r.2.mem ((c.tc : Thread Cert.Reference39Ideal.nD Cert.Reference39Ideal.τ).loc Cert.Reference39Ideal.main_arg9) = m ((c.tc : Thread Cert.Reference39Ideal.nD Cert.Reference39Ideal.τ).loc Cert.Reference39Ideal.main_arg9)
      ∧ r.2.mem ((c.tc : Thread Cert.Reference39Ideal.nD Cert.Reference39Ideal.τ).loc Cert.Reference39Ideal.main_arg10) = m ((c.tc : Thread Cert.Reference39Ideal.nD Cert.Reference39Ideal.τ).loc Cert.Reference39Ideal.main_arg10))
      ∧ r.2.sem = fun _ => 0)

def quiescent_Reference39Ideal_pre_finite39 [hReference39Ideal : Cert.Reference39Ideal.Facts] [hPre_finite39 : Cert.Pre_finite39.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal_finite39 m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6)
      ∧ r.2.mem ((c.tc : Thread Cert.Reference39Ideal.nD Cert.Reference39Ideal.τ).loc Cert.Reference39Ideal.main_arg7) = m ((c.tc : Thread Cert.Reference39Ideal.nD Cert.Reference39Ideal.τ).loc Cert.Reference39Ideal.main_arg7)
      ∧ r.2.mem ((c.tc : Thread Cert.Reference39Ideal.nD Cert.Reference39Ideal.τ).loc Cert.Reference39Ideal.main_arg8) = m ((c.tc : Thread Cert.Reference39Ideal.nD Cert.Reference39Ideal.τ).loc Cert.Reference39Ideal.main_arg8)
      ∧ r.2.mem ((c.tc : Thread Cert.Reference39Ideal.nD Cert.Reference39Ideal.τ).loc Cert.Reference39Ideal.main_arg9) = m ((c.tc : Thread Cert.Reference39Ideal.nD Cert.Reference39Ideal.τ).loc Cert.Reference39Ideal.main_arg9)
      ∧ r.2.mem ((c.tc : Thread Cert.Reference39Ideal.nD Cert.Reference39Ideal.τ).loc Cert.Reference39Ideal.main_arg10) = m ((c.tc : Thread Cert.Reference39Ideal.nD Cert.Reference39Ideal.τ).loc Cert.Reference39Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)) (v8 : (c : Dev Cert.KernelIdeal.nD) → Buf (Elt Ideal) ((c.tc : Thread Cert.KernelIdeal.nD Cert.KernelIdeal.τ).loc Cert.KernelIdeal.main_v13_8)) (v9 : (c : Dev Cert.KernelIdeal.nD) → Buf (Elt Ideal) ((c.tc : Thread Cert.KernelIdeal.nD Cert.KernelIdeal.τ).loc Cert.KernelIdeal.main_v13_9)) (v10 : (c : Dev Cert.KernelIdeal.nD) → Buf (Elt Ideal) ((c.tc : Thread Cert.KernelIdeal.nD Cert.KernelIdeal.τ).loc Cert.KernelIdeal.main_v13_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_v13_7) = v7 c
          ∧ r.2.mem ((c.tc : Thread Cert.KernelIdeal.nD Cert.KernelIdeal.τ).loc Cert.KernelIdeal.main_v13_8) = v8 c
          ∧ r.2.mem ((c.tc : Thread Cert.KernelIdeal.nD Cert.KernelIdeal.τ).loc Cert.KernelIdeal.main_v13_9) = v9 c
          ∧ r.2.mem ((c.tc : Thread Cert.KernelIdeal.nD Cert.KernelIdeal.τ).loc Cert.KernelIdeal.main_v13_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_v71) = v5 c
          ∧ r.2.mem ((c.tc : Thread Cert.ReferenceIdeal.nD Cert.ReferenceIdeal.τ).loc Cert.ReferenceIdeal.main_v68) = v6 c
          ∧ r.2.mem ((c.tc : Thread Cert.ReferenceIdeal.nD Cert.ReferenceIdeal.τ).loc Cert.ReferenceIdeal.main_v66) = v7 c
          ∧ r.2.mem ((c.tc : Thread Cert.ReferenceIdeal.nD Cert.ReferenceIdeal.τ).loc Cert.ReferenceIdeal.main_v93) = v8 c
          ∧ r.2.mem ((c.tc : Thread Cert.ReferenceIdeal.nD Cert.ReferenceIdeal.τ).loc Cert.ReferenceIdeal.main_v90) = v9 c
          ∧ r.2.mem ((c.tc : Thread Cert.ReferenceIdeal.nD Cert.ReferenceIdeal.τ).loc Cert.ReferenceIdeal.main_v86) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v35) = v1 c
          ∧ r.2.mem ((c.tc : Thread Cert.Reference13Ideal.nD Cert.Reference13Ideal.τ).loc Cert.Reference13Ideal.main_v17) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v26) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v25) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v25) = v0 c
          ∧ r.2.mem ((c.tc : Thread Cert.Reference34Ideal.nD Cert.Reference34Ideal.τ).loc Cert.Reference34Ideal.main_v18) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v7) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v75) = v0 c
          ∧ r.2.mem ((c.tc : Thread Cert.Reference32Ideal.nD Cert.Reference32Ideal.τ).loc Cert.Reference32Ideal.main_v57) = v1 c
          ∧ r.2.mem ((c.tc : Thread Cert.Reference32Ideal.nD Cert.Reference32Ideal.τ).loc Cert.Reference32Ideal.main_v36) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v52) = v0 c
          ∧ r.2.mem ((c.tc : Thread Cert.Reference33Ideal.nD Cert.Reference33Ideal.τ).loc Cert.Reference33Ideal.main_v53) = v1 c
          ∧ r.2.mem ((c.tc : Thread Cert.Reference33Ideal.nD Cert.Reference33Ideal.τ).loc Cert.Reference33Ideal.main_v36) = v2 c
          ∧ r.2.mem ((c.tc : Thread Cert.Reference33Ideal.nD Cert.Reference33Ideal.τ).loc Cert.Reference33Ideal.main_v54) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v7) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v9) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v9) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_v27) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal_pre_finite39 [hKernel39Ideal : Cert.Kernel39Ideal.Facts] [hReference39Ideal : Cert.Reference39Ideal.Facts] [hPre_finite39 : Cert.Pre_finite39.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal_finite39 m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)
      ∧ m' ((c.tc : Thread Cert.Reference39Ideal.nD Cert.Reference39Ideal.τ).loc Cert.Reference39Ideal.main_arg7) = m ((c.tc : Thread Cert.Kernel39Ideal.nD Cert.Kernel39Ideal.τ).loc Cert.Kernel39Ideal.main_arg7)
      ∧ m' ((c.tc : Thread Cert.Reference39Ideal.nD Cert.Reference39Ideal.τ).loc Cert.Reference39Ideal.main_arg8) = m ((c.tc : Thread Cert.Kernel39Ideal.nD Cert.Kernel39Ideal.τ).loc Cert.Kernel39Ideal.main_arg8)
      ∧ m' ((c.tc : Thread Cert.Reference39Ideal.nD Cert.Reference39Ideal.τ).loc Cert.Reference39Ideal.main_arg9) = m ((c.tc : Thread Cert.Kernel39Ideal.nD Cert.Kernel39Ideal.τ).loc Cert.Kernel39Ideal.main_arg9)
      ∧ m' ((c.tc : Thread Cert.Reference39Ideal.nD Cert.Reference39Ideal.τ).loc Cert.Reference39Ideal.main_arg10) = m ((c.tc : Thread Cert.Kernel39Ideal.nD Cert.Kernel39Ideal.τ).loc Cert.Kernel39Ideal.main_arg10)) →
    ∃ (v0 : (c : Dev Cert.Kernel39Ideal.nD) → Buf (Elt Ideal) ((c.tc : Thread Cert.Kernel39Ideal.nD Cert.Kernel39Ideal.τ).loc Cert.Kernel39Ideal.main_v14)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v14) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6)
          ∧ r.2.mem ((c.tc : Thread Cert.Kernel39Ideal.nD Cert.Kernel39Ideal.τ).loc Cert.Kernel39Ideal.main_arg7) = m ((c.tc : Thread Cert.Kernel39Ideal.nD Cert.Kernel39Ideal.τ).loc Cert.Kernel39Ideal.main_arg7)
          ∧ r.2.mem ((c.tc : Thread Cert.Kernel39Ideal.nD Cert.Kernel39Ideal.τ).loc Cert.Kernel39Ideal.main_arg8) = m ((c.tc : Thread Cert.Kernel39Ideal.nD Cert.Kernel39Ideal.τ).loc Cert.Kernel39Ideal.main_arg8)
          ∧ r.2.mem ((c.tc : Thread Cert.Kernel39Ideal.nD Cert.Kernel39Ideal.τ).loc Cert.Kernel39Ideal.main_arg9) = m ((c.tc : Thread Cert.Kernel39Ideal.nD Cert.Kernel39Ideal.τ).loc Cert.Kernel39Ideal.main_arg9)
          ∧ r.2.mem ((c.tc : Thread Cert.Kernel39Ideal.nD Cert.Kernel39Ideal.τ).loc Cert.Kernel39Ideal.main_arg10) = m ((c.tc : Thread Cert.Kernel39Ideal.nD Cert.Kernel39Ideal.τ).loc Cert.Kernel39Ideal.main_arg10))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v53) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6)
          ∧ r.2.mem ((c.tc : Thread Cert.Reference39Ideal.nD Cert.Reference39Ideal.τ).loc Cert.Reference39Ideal.main_arg7) = m' ((c.tc : Thread Cert.Reference39Ideal.nD Cert.Reference39Ideal.τ).loc Cert.Reference39Ideal.main_arg7)
          ∧ r.2.mem ((c.tc : Thread Cert.Reference39Ideal.nD Cert.Reference39Ideal.τ).loc Cert.Reference39Ideal.main_arg8) = m' ((c.tc : Thread Cert.Reference39Ideal.nD Cert.Reference39Ideal.τ).loc Cert.Reference39Ideal.main_arg8)
          ∧ r.2.mem ((c.tc : Thread Cert.Reference39Ideal.nD Cert.Reference39Ideal.τ).loc Cert.Reference39Ideal.main_arg9) = m' ((c.tc : Thread Cert.Reference39Ideal.nD Cert.Reference39Ideal.τ).loc Cert.Reference39Ideal.main_arg9)
          ∧ r.2.mem ((c.tc : Thread Cert.Reference39Ideal.nD Cert.Reference39Ideal.τ).loc Cert.Reference39Ideal.main_arg10) = m' ((c.tc : Thread Cert.Reference39Ideal.nD Cert.Reference39Ideal.τ).loc Cert.Reference39Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel34 : Cert.Kernel34.Facts) (hKernel34Ideal : Cert.Kernel34Ideal.Facts) (hReference34Ideal : Cert.Reference34Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel36 : Cert.Kernel36.Facts) (hKernel36Ideal : Cert.Kernel36Ideal.Facts) (hReference36Ideal : Cert.Reference36Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel35 : Cert.Kernel35.Facts) (hKernel35Ideal : Cert.Kernel35Ideal.Facts) (hReference35Ideal : Cert.Reference35Ideal.Facts) (hKernel31 : Cert.Kernel31.Facts) (hKernel31Ideal : Cert.Kernel31Ideal.Facts) (hReference31Ideal : Cert.Reference31Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite : Cert.Pre_finite.Facts) (hPre_finite2 : Cert.Pre_finite2.Facts) (hPre_finite39 : Cert.Pre_finite39.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Kernel39Ideal_pre_finite39 (hKernel39Ideal := hKernel39Ideal) (hPre_finite39 := hPre_finite39)
    ∧ quiescent_Reference39Ideal (hReference39Ideal := hReference39Ideal)
    ∧ quiescent_Reference39Ideal_pre_finite39 (hReference39Ideal := hReference39Ideal) (hPre_finite39 := hPre_finite39)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel34_Kernel34Ideal
    ∧ algebraic_Kernel34Ideal_Reference34Ideal (hKernel34Ideal := hKernel34Ideal) (hReference34Ideal := hReference34Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel36_Kernel36Ideal
    ∧ algebraic_Kernel36Ideal_Reference36Ideal (hKernel36Ideal := hKernel36Ideal) (hReference36Ideal := hReference36Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel35_Kernel35Ideal
    ∧ algebraic_Kernel35Ideal_Reference35Ideal (hKernel35Ideal := hKernel35Ideal) (hReference35Ideal := hReference35Ideal)
    ∧ preserves_Kernel31_Kernel31Ideal
    ∧ algebraic_Kernel31Ideal_Reference31Ideal (hKernel31Ideal := hKernel31Ideal) (hReference31Ideal := hReference31Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal_pre_finite39 (hKernel39Ideal := hKernel39Ideal) (hReference39Ideal := hReference39Ideal) (hPre_finite39 := hPre_finite39)
-- ==== Pre_finite.lean ====
abbrev S4352x2048 : Shape := ⟨2, ![4352, 2048]⟩
abbrev S1x2048 : Shape := ⟨2, ![1, 2048]⟩
abbrev S_ : Shape := ⟨0, ![]⟩

class Facts : Prop where
  bcast_S_S4352x2048 : S_.BroadcastsInDim S4352x2048 (![] : Fin 0 → Fin S4352x2048.rank)
  bcast_S_S1x2048 : S_.BroadcastsInDim S1x2048 (![] : Fin 0 → Fin S1x2048.rank)

variable [Facts]

def fn_part1 {F : FTy → Type} [FloatOps F] (main_arg6 : FVec F S4352x2048 .f32) (main_arg7 : FVec F S4352x2048 .f32) (main_arg8 : FVec F S1x2048 .f32) (main_arg9 : FVec F S1x2048 .f32) (main_arg10 : FVec F S1x2048 .f32) (main_arg11 : FVec F S4352x2048 .f32) (main_v2 : IVec S4352x2048 1) (main_v5 : IVec S4352x2048 1) (main_v8 : IVec S4352x2048 1) (main_v11 : IVec S4352x2048 1) (main_v14 : IVec S4352x2048 1) (main_v17 : IVec S4352x2048 1) : IVec S4352x2048 1 × IVec S4352x2048 1 × IVec S4352x2048 1 × IVec S4352x2048 1 × IVec S4352x2048 1 × IVec S4352x2048 1 × IVec S4352x2048 1 × IVec S4352x2048 1 × IVec S1x2048 1 × IVec S1x2048 1 × IVec S1x2048 1 × IVec S4352x2048 1 :=
  let main_v18 : FVec F S4352x2048 .f32 := Host.absf main_arg6
  let main_cst_5 : FVec F S_ .f32 := constant S_ .f32 0x7F800000#32
  let main_v19 : FVec F S4352x2048 .f32 := broadcastInDim S4352x2048 ![] bcast_S_S4352x2048 main_cst_5
  let main_v20 : IVec S4352x2048 1 := cmpf .olt main_v18 main_v19
  let main_v21 : FVec F S4352x2048 .f32 := Host.absf main_arg7
  let main_cst_6 : FVec F S_ .f32 := constant S_ .f32 0x7F800000#32
  let main_v22 : FVec F S4352x2048 .f32 := broadcastInDim S4352x2048 ![] bcast_S_S4352x2048 main_cst_6
  let main_v23 : IVec S4352x2048 1 := cmpf .olt main_v21 main_v22
  let main_v24 : FVec F S1x2048 .f32 := Host.absf main_arg8
  let main_cst_7 : FVec F S_ .f32 := constant S_ .f32 0x7F800000#32
  let main_v25 : FVec F S1x2048 .f32 := broadcastInDim S1x2048 ![] bcast_S_S1x2048 main_cst_7
  let main_v26 : IVec S1x2048 1 := cmpf .olt main_v24 main_v25
  let main_v27 : FVec F S1x2048 .f32 := Host.absf main_arg9
  let main_cst_8 : FVec F S_ .f32 := constant S_ .f32 0x7F800000#32
  let main_v28 : FVec F S1x2048 .f32 := broadcastInDim S1x2048 ![] bcast_S_S1x2048 main_cst_8
  let main_v29 : IVec S1x2048 1 := cmpf .olt main_v27 main_v28
  let main_v30 : FVec F S1x2048 .f32 := Host.absf main_arg10
  let main_cst_9 : FVec F S_ .f32 := constant S_ .f32 0x7F800000#32
  let main_v31 : FVec F S1x2048 .f32 := broadcastInDim S1x2048 ![] bcast_S_S1x2048 main_cst_9
  let main_v32 : IVec S1x2048 1 := cmpf .olt main_v30 main_v31
  let main_v33 : FVec F S4352x2048 .f32 := Host.absf main_arg11
  let main_cst_10 : FVec F S_ .f32 := constant S_ .f32 0x7F800000#32
  let main_v34 : FVec F S4352x2048 .f32 := broadcastInDim S4352x2048 ![] bcast_S_S4352x2048 main_cst_10
  let main_v35 : IVec S4352x2048 1 := cmpf .olt main_v33 main_v34
  (main_v2, main_v5, main_v8, main_v11, main_v14, main_v17, main_v20, main_v23, main_v26, main_v29, main_v32, main_v35)

def fn {F : FTy → Type} [FloatOps F] (main_arg0 : FVec F S4352x2048 .f32) (main_arg1 : FVec F S4352x2048 .f32) (main_arg2 : FVec F S4352x2048 .f32) (main_arg3 : FVec F S4352x2048 .f32) (main_arg4 : FVec F S4352x2048 .f32) (main_arg5 : FVec F S4352x2048 .f32) (main_arg6 : FVec F S4352x2048 .f32) (main_arg7 : FVec F S4352x2048 .f32) (main_arg8 : FVec F S1x2048 .f32) (main_arg9 : FVec F S1x2048 .f32) (main_arg10 : FVec F S1x2048 .f32) (main_arg11 : FVec F S4352x2048 .f32) : IVec S4352x2048 1 × IVec S4352x2048 1 × IVec S4352x2048 1 × IVec S4352x2048 1 × IVec S4352x2048 1 × IVec S4352x2048 1 × IVec S4352x2048 1 × IVec S4352x2048 1 × IVec S1x2048 1 × IVec S1x2048 1 × IVec S1x2048 1 × IVec S4352x2048 1 :=
  let main_v0 : FVec F S4352x2048 .f32 := Host.absf main_arg0
  let main_cst : FVec F S_ .f32 := constant S_ .f32 0x7F800000#32
  let main_v1 : FVec F S4352x2048 .f32 := broadcastInDim S4352x2048 ![] bcast_S_S4352x2048 main_cst
  let main_v2 : IVec S4352x2048 1 := cmpf .olt main_v0 main_v1
  let main_v3 : FVec F S4352x2048 .f32 := Host.absf main_arg1
  let main_cst_0 : FVec F S_ .f32 := constant S_ .f32 0x7F800000#32
  let main_v4 : FVec F S4352x2048 .f32 := broadcastInDim S4352x2048 ![] bcast_S_S4352x2048 main_cst_0
  let main_v5 : IVec S4352x2048 1 := cmpf .olt main_v3 main_v4
  let main_v6 : FVec F S4352x2048 .f32 := Host.absf main_arg2
  let main_cst_1 : FVec F S_ .f32 := constant S_ .f32 0x7F800000#32
  let main_v7 : FVec F S4352x2048 .f32 := broadcastInDim S4352x2048 ![] bcast_S_S4352x2048 main_cst_1
  let main_v8 : IVec S4352x2048 1 := cmpf .olt main_v6 main_v7
  let main_v9 : FVec F S4352x2048 .f32 := Host.absf main_arg3
  let main_cst_2 : FVec F S_ .f32 := constant S_ .f32 0x7F800000#32
  let main_v10 : FVec F S4352x2048 .f32 := broadcastInDim S4352x2048 ![] bcast_S_S4352x2048 main_cst_2
  let main_v11 : IVec S4352x2048 1 := cmpf .olt main_v9 main_v10
  let main_v12 : FVec F S4352x2048 .f32 := Host.absf main_arg4
  let main_cst_3 : FVec F S_ .f32 := constant S_ .f32 0x7F800000#32
  let main_v13 : FVec F S4352x2048 .f32 := broadcastInDim S4352x2048 ![] bcast_S_S4352x2048 main_cst_3
  let main_v14 : IVec S4352x2048 1 := cmpf .olt main_v12 main_v13
  let main_v15 : FVec F S4352x2048 .f32 := Host.absf main_arg5
  let main_cst_4 : FVec F S_ .f32 := constant S_ .f32 0x7F800000#32
  let main_v16 : FVec F S4352x2048 .f32 := broadcastInDim S4352x2048 ![] bcast_S_S4352x2048 main_cst_4
  let main_v17 : IVec S4352x2048 1 := cmpf .olt main_v15 main_v16
  fn_part1 (F := F) main_arg6 main_arg7 main_arg8 main_arg9 main_arg10 main_arg11 main_v2 main_v5 main_v8 main_v11 main_v14 main_v17
-- ==== Pre_finite2.lean ====
abbrev S4352x2048 : Shape := ⟨2, ![4352, 2048]⟩
abbrev S5632x2048 : Shape := ⟨2, ![5632, 2048]⟩
abbrev S4352x5632 : Shape := ⟨2, ![4352, 5632]⟩
abbrev S_ : Shape := ⟨0, ![]⟩

class Facts : Prop where
  bitsLt_bf16_f32 : FTy.bits .bf16 < FTy.bits .f32
  bcast_S_S4352x2048 : S_.BroadcastsInDim S4352x2048 (![] : Fin 0 → Fin S4352x2048.rank)
  bcast_S_S5632x2048 : S_.BroadcastsInDim S5632x2048 (![] : Fin 0 → Fin S5632x2048.rank)
  bcast_S_S4352x5632 : S_.BroadcastsInDim S4352x5632 (![] : Fin 0 → Fin S4352x5632.rank)

variable [Facts]

def fn {F : FTy → Type} [FloatOps F] (main_arg0 : FVec F S4352x2048 .bf16) (main_arg1 : FVec F S5632x2048 .bf16) (main_arg2 : FVec F S4352x5632 .bf16) (main_arg3 : FVec F S4352x5632 .bf16) : IVec S4352x2048 1 × IVec S5632x2048 1 × IVec S4352x5632 1 × IVec S4352x5632 1 :=
  let main_v0 : FVec F S4352x2048 .f32 := (extf .f32 · bitsLt_bf16_f32) main_arg0
  let main_v1 : FVec F S4352x2048 .f32 := Host.absf main_v0
  let main_cst : FVec F S_ .f32 := constant S_ .f32 0x7F800000#32
  let main_v2 : FVec F S4352x2048 .f32 := broadcastInDim S4352x2048 ![] bcast_S_S4352x2048 main_cst
  let main_v3 : IVec S4352x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4352x5632 .f32 := (extf .f32 · bitsLt_bf16_f32) main_arg2
  let main_v9 : FVec F S4352x5632 .f32 := Host.absf main_v8
  let main_cst_1 : FVec F S_ .f32 := constant S_ .f32 0x7F800000#32
  let main_v10 : FVec F S4352x5632 .f32 := broadcastInDim S4352x5632 ![] bcast_S_S4352x5632 main_cst_1
  let main_v11 : IVec S4352x5632 1 := cmpf .olt main_v9 main_v10
  let main_v12 : FVec F S4352x5632 .f32 := (extf .f32 · bitsLt_bf16_f32) main_arg3
  let main_v13 : FVec F S4352x5632 .f32 := Host.absf main_v12
  let main_cst_2 : FVec F S_ .f32 := constant S_ .f32 0x7F800000#32
  let main_v14 : FVec F S4352x5632 .f32 := broadcastInDim S4352x5632 ![] bcast_S_S4352x5632 main_cst_2
  let main_v15 : IVec S4352x5632 1 := cmpf .olt main_v13 main_v14
  (main_v3, main_v7, main_v11, main_v15)
-- ==== Pre_finite39.lean ====
abbrev S4352x2048 : Shape := ⟨2, ![4352, 2048]⟩
abbrev S1x2048 : Shape := ⟨2, ![1, 2048]⟩
abbrev S_ : Shape := ⟨0, ![]⟩

class Facts : Prop where
  bcast_S_S4352x2048 : S_.BroadcastsInDim S4352x2048 (![] : Fin 0 → Fin S4352x2048.rank)
  bcast_S_S1x2048 : S_.BroadcastsInDim S1x2048 (![] : Fin 0 → Fin S1x2048.rank)

variable [Facts]

def fn_part1 {F : FTy → Type} [FloatOps F] (main_arg6 : FVec F S4352x2048 .f32) (main_arg7 : FVec F S4352x2048 .f32) (main_arg8 : FVec F S1x2048 .f32) (main_arg9 : FVec F S1x2048 .f32) (main_arg10 : FVec F S1x2048 .f32) (main_v2 : IVec S4352x2048 1) (main_v5 : IVec S4352x2048 1) (main_v8 : IVec S4352x2048 1) (main_v11 : IVec S4352x2048 1) (main_v14 : IVec S4352x2048 1) (main_v17 : IVec S4352x2048 1) : IVec S4352x2048 1 × IVec S4352x2048 1 × IVec S4352x2048 1 × IVec S4352x2048 1 × IVec S4352x2048 1 × IVec S4352x2048 1 × IVec S4352x2048 1 × IVec S4352x2048 1 × IVec S1x2048 1 × IVec S1x2048 1 × IVec S1x2048 1 :=
  let main_v18 : FVec F S4352x2048 .f32 := Host.absf main_arg6
  let main_cst_5 : FVec F S_ .f32 := constant S_ .f32 0x7F800000#32
  let main_v19 : FVec F S4352x2048 .f32 := broadcastInDim S4352x2048 ![] bcast_S_S4352x2048 main_cst_5
  let main_v20 : IVec S4352x2048 1 := cmpf .olt main_v18 main_v19
  let main_v21 : FVec F S4352x2048 .f32 := Host.absf main_arg7
  let main_cst_6 : FVec F S_ .f32 := constant S_ .f32 0x7F800000#32
  let main_v22 : FVec F S4352x2048 .f32 := broadcastInDim S4352x2048 ![] bcast_S_S4352x2048 main_cst_6
  let main_v23 : IVec S4352x2048 1 := cmpf .olt main_v21 main_v22
  let main_v24 : FVec F S1x2048 .f32 := Host.absf main_arg8
  let main_cst_7 : FVec F S_ .f32 := constant S_ .f32 0x7F800000#32
  let main_v25 : FVec F S1x2048 .f32 := broadcastInDim S1x2048 ![] bcast_S_S1x2048 main_cst_7
  let main_v26 : IVec S1x2048 1 := cmpf .olt main_v24 main_v25
  let main_v27 : FVec F S1x2048 .f32 := Host.absf main_arg9
  let main_cst_8 : FVec F S_ .f32 := constant S_ .f32 0x7F800000#32
  let main_v28 : FVec F S1x2048 .f32 := broadcastInDim S1x2048 ![] bcast_S_S1x2048 main_cst_8
  let main_v29 : IVec S1x2048 1 := cmpf .olt main_v27 main_v28
  let main_v30 : FVec F S1x2048 .f32 := Host.absf main_arg10
  let main_cst_9 : FVec F S_ .f32 := constant S_ .f32 0x7F800000#32
  let main_v31 : FVec F S1x2048 .f32 := broadcastInDim S1x2048 ![] bcast_S_S1x2048 main_cst_9
  let main_v32 : IVec S1x2048 1 := cmpf .olt main_v30 main_v31
  (main_v2, main_v5, main_v8, main_v11, main_v14, main_v17, main_v20, main_v23, main_v26, main_v29, main_v32)

def fn {F : FTy → Type} [FloatOps F] (main_arg0 : FVec F S4352x2048 .f32) (main_arg1 : FVec F S4352x2048 .f32) (main_arg2 : FVec F S4352x2048 .f32) (main_arg3 : FVec F S4352x2048 .f32) (main_arg4 : FVec F S4352x2048 .f32) (main_arg5 : FVec F S4352x2048 .f32) (main_arg6 : FVec F S4352x2048 .f32) (main_arg7 : FVec F S4352x2048 .f32) (main_arg8 : FVec F S1x2048 .f32) (main_arg9 : FVec F S1x2048 .f32) (main_arg10 : FVec F S1x2048 .f32) : IVec S4352x2048 1 × IVec S4352x2048 1 × IVec S4352x2048 1 × IVec S4352x2048 1 × IVec S4352x2048 1 × IVec S4352x2048 1 × IVec S4352x2048 1 × IVec S4352x2048 1 × IVec S1x2048 1 × IVec S1x2048 1 × IVec S1x2048 1 :=
  let main_v0 : FVec F S4352x2048 .f32 := Host.absf main_arg0
  let main_cst : FVec F S_ .f32 := constant S_ .f32 0x7F800000#32
  let main_v1 : FVec F S4352x2048 .f32 := broadcastInDim S4352x2048 ![] bcast_S_S4352x2048 main_cst
  let main_v2 : IVec S4352x2048 1 := cmpf .olt main_v0 main_v1
  let main_v3 : FVec F S4352x2048 .f32 := Host.absf main_arg1
  let main_cst_0 : FVec F S_ .f32 := constant S_ .f32 0x7F800000#32
  let main_v4 : FVec F S4352x2048 .f32 := broadcastInDim S4352x2048 ![] bcast_S_S4352x2048 main_cst_0
  let main_v5 : IVec S4352x2048 1 := cmpf .olt main_v3 main_v4
  let main_v6 : FVec F S4352x2048 .f32 := Host.absf main_arg2
  let main_cst_1 : FVec F S_ .f32 := constant S_ .f32 0x7F800000#32
  let main_v7 : FVec F S4352x2048 .f32 := broadcastInDim S4352x2048 ![] bcast_S_S4352x2048 main_cst_1
  let main_v8 : IVec S4352x2048 1 := cmpf .olt main_v6 main_v7
  let main_v9 : FVec F S4352x2048 .f32 := Host.absf main_arg3
  let main_cst_2 : FVec F S_ .f32 := constant S_ .f32 0x7F800000#32
  let main_v10 : FVec F S4352x2048 .f32 := broadcastInDim S4352x2048 ![] bcast_S_S4352x2048 main_cst_2
  let main_v11 : IVec S4352x2048 1 := cmpf .olt main_v9 main_v10
  let main_v12 : FVec F S4352x2048 .f32 := Host.absf main_arg4
  let main_cst_3 : FVec F S_ .f32 := constant S_ .f32 0x7F800000#32
  let main_v13 : FVec F S4352x2048 .f32 := broadcastInDim S4352x2048 ![] bcast_S_S4352x2048 main_cst_3
  let main_v14 : IVec S4352x2048 1 := cmpf .olt main_v12 main_v13
  let main_v15 : FVec F S4352x2048 .f32 := Host.absf main_arg5
  let main_cst_4 : FVec F S_ .f32 := constant S_ .f32 0x7F800000#32
  let main_v16 : FVec F S4352x2048 .f32 := broadcastInDim S4352x2048 ![] bcast_S_S4352x2048 main_cst_4
  let main_v17 : IVec S4352x2048 1 := cmpf .olt main_v15 main_v16
  fn_part1 (F := F) main_arg6 main_arg7 main_arg8 main_arg9 main_arg10 main_v2 main_v5 main_v8 main_v11 main_v14 main_v17
-- ==== Kernel.lean ====
abbrev S4352x2048 : Shape := ⟨2, ![4352, 2048]⟩
abbrev S1x2048 : Shape := ⟨2, ![1, 2048]⟩
abbrev S2048x128 : Shape := ⟨2, ![2048, 128]⟩
abbrev S_ : Shape := ⟨0, ![]⟩
abbrev S64x2048 : Shape := ⟨2, ![64, 2048]⟩
abbrev S128x2048 : Shape := ⟨2, ![128, 2048]⟩
abbrev S64x128 : Shape := ⟨2, ![64, 128]⟩
abbrev S2048 : Shape := ⟨1, ![2048]⟩

abbrev nBuf : Space → Nat
  | .hbm => 43
  | .vmem => 41
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4352x2048, .f32⟩
  | .hbm, ⟨12, _⟩ => ⟨S2048x128, .i32⟩
  | .hbm, ⟨13, _⟩ => ⟨S2048x128, .i32⟩
  | .hbm, ⟨14, _⟩ => ⟨S_, .i32⟩
  | .hbm, ⟨15, _⟩ => ⟨S2048x128, .i32⟩
  | .hbm, ⟨16, _⟩ => ⟨S2048x128, .i32⟩
  | .hbm, ⟨17, _⟩ => ⟨S2048x128, .i1⟩
  | .hbm, ⟨18, _⟩ => ⟨S_, .i32⟩
  | .hbm, ⟨19, _⟩ => ⟨S2048x128, .i32⟩
  | .hbm, ⟨20, _⟩ => ⟨S2048x128, .i32⟩
  | .hbm, ⟨21, _⟩ => ⟨S_, .i32⟩
  | .hbm, ⟨22, _⟩ => ⟨S2048x128, .i32⟩
  | .hbm, ⟨23, _⟩ => ⟨S2048x128, .i32⟩
  | .hbm, ⟨24, _⟩ => ⟨S2048x128, .i1⟩
  | .hbm, ⟨25, _⟩ => ⟨S2048x128, .i1⟩
  | .hbm, ⟨26, _⟩ => ⟨S_, .f32⟩
  | .hbm, ⟨27, _⟩ => ⟨S_, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x128, .bf16⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .f32⟩
  | .hbm, ⟨36, _⟩ => ⟨S4352x2048, .f32⟩
  | .hbm, ⟨37, _⟩ => ⟨S4352x2048, .f32⟩
  | .hbm, ⟨38, _⟩ => ⟨S4352x2048, .f32⟩
  | .hbm, ⟨39, _⟩ => ⟨S4352x2048, .f32⟩
  | .hbm, ⟨40, _⟩ => ⟨S1x2048, .f32⟩
  | .hbm, ⟨41, _⟩ => ⟨S1x2048, .f32⟩
  | .hbm, ⟨42, _⟩ => ⟨S1x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S2048x128, .bf16⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S64x2048, .f32⟩
  | .local _ .vmem, ⟨25, _⟩ => ⟨S64x2048, .f32⟩
  | .local _ .vmem, ⟨26, _⟩ => ⟨S64x2048, .f32⟩
  | .local _ .vmem, ⟨27, _⟩ => ⟨S64x2048, .f32⟩
  | .local _ .vmem, ⟨28, _⟩ => ⟨S64x2048, .f32⟩
  | .local _ .vmem, ⟨29, _⟩ => ⟨S64x2048, .f32⟩
  | .local _ .vmem, ⟨30, _⟩ => ⟨S64x2048, .f32⟩
  | .local _ .vmem, ⟨31, _⟩ => ⟨S64x2048, .f32⟩
  | .local _ .vmem, ⟨32, _⟩ => ⟨S64x2048, .f32⟩
  | .local _ .vmem, ⟨33, _⟩ => ⟨S64x2048, .f32⟩
  | .local _ .vmem, ⟨34, _⟩ => ⟨S64x2048, .f32⟩
  | .local _ .vmem, ⟨35, _⟩ => ⟨S64x2048, .f32⟩
  | .local _ .vmem, ⟨36, _⟩ => ⟨S64x2048, .f32⟩
  | .local _ .vmem, ⟨37, _⟩ => ⟨S64x2048, .f32⟩
  | .local _ .vmem, ⟨38, _⟩ => ⟨S1x2048, .f32⟩
  | .local _ .vmem, ⟨39, _⟩ => ⟨S1x2048, .f32⟩
  | .local _ .vmem, ⟨40, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_v13_3 : Ref sig .tc := ⟨.hbm, 35, rfl⟩
abbrev main_v13_4 : Ref sig .tc := ⟨.hbm, 36, rfl⟩
abbrev main_v13_5 : Ref sig .tc := ⟨.hbm, 37, rfl⟩
abbrev main_v13_6 : Ref sig .tc := ⟨.hbm, 38, rfl⟩
abbrev main_v13_7 : Ref sig .tc := ⟨.hbm, 39, rfl⟩
abbrev main_v13_8 : Ref sig .tc := ⟨.hbm, 40, rfl⟩
abbrev main_v13_9 : Ref sig .tc := ⟨.hbm, 41, rfl⟩
abbrev main_v13_10 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg22_0 : Ref sig .tc := ⟨.vmem, 39, rfl⟩
abbrev cc0_stg23_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem22_0 : DmaSem sig := 39
abbrev cc0_sem23_0 : DmaSem sig := 40

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferenceIdeal.lean ====
abbrev S4352x2048 : Shape := ⟨2, ![4352, 2048]⟩
abbrev S1x2048 : Shape := ⟨2, ![1, 2048]⟩
abbrev S4352x32x64 : Shape := ⟨3, ![4352, 32, 64]⟩
abbrev S_ : Shape := ⟨0, ![]⟩
abbrev S4352x32 : Shape := ⟨2, ![4352, 32]⟩
abbrev S4352x32x1 : Shape := ⟨3, ![4352, 32, 1]⟩
abbrev S2048 : Shape := ⟨1, ![2048]⟩

abbrev nBuf : Space → Nat
  | .hbm => 163
  | .vmem => 0
  | .smem => 0
  | _ => 0

abbrev hbmTy0_0 (i : Nat) : BufTy := match i % 128 with
  | 0 => ⟨S4352x2048, .f32⟩
  | 1 => ⟨S4352x2048, .f32⟩
  | 2 => ⟨S4352x2048, .f32⟩
  | 3 => ⟨S4352x2048, .f32⟩
  | 4 => ⟨S4352x2048, .f32⟩
  | 5 => ⟨S4352x2048, .f32⟩
  | 6 => ⟨S4352x2048, .f32⟩
  | 7 => ⟨S4352x2048, .f32⟩
  | 8 => ⟨S1x2048, .f32⟩
  | 9 => ⟨S1x2048, .f32⟩
  | 10 => ⟨S1x2048, .f32⟩
  | 11 => ⟨S4352x2048, .f32⟩
  | 12 => ⟨S4352x32x64, .f32⟩
  | 13 => ⟨S4352x32x64, .f32⟩
  | 14 => ⟨S4352x32x64, .f32⟩
  | 15 => ⟨S4352x32x64, .f32⟩
  | 16 => ⟨S_, .f32⟩
  | 17 => ⟨S4352x32, .f32⟩
  | 18 => ⟨S4352x32x1, .f32⟩
  | 19 => ⟨S_, .f32⟩
  | 20 => ⟨S4352x32x1, .f32⟩
  | 21 => ⟨S4352x32x1, .f32⟩
  | 22 => ⟨S4352x32x64, .f32⟩
  | 23 => ⟨S4352x32x64, .f32⟩
  | 24 => ⟨S4352x32x64, .f32⟩
  | 25 => ⟨S_, .f32⟩
  | 26 => ⟨S4352x32x64, .f32⟩
  | 27 => ⟨S4352x32x64, .f32⟩
  | 28 => ⟨S_, .f32⟩
  | 29 => ⟨S4352x32, .f32⟩
  | 30 => ⟨S4352x32x1, .f32⟩
  | 31 => ⟨S_, .f32⟩
  | 32 => ⟨S4352x32x1, .f32⟩
  | 33 => ⟨S4352x32x1, .f32⟩
  | 34 => ⟨S4352x32x64, .f32⟩
  | 35 => ⟨S4352x32x64, .f32⟩
  | 36 => ⟨S_, .f32⟩
  | 37 => ⟨S4352x32x1, .f32⟩
  | 38 => ⟨S4352x32x1, .f32⟩
  | 39 => ⟨S4352x32x1, .f32⟩
  | 40 => ⟨S4352x32x1, .f32⟩
  | 41 => ⟨S_, .f32⟩
  | 42 => ⟨S4352x32x1, .f32⟩
  | 43 => ⟨S4352x32x1, .f32⟩
  | 44 => ⟨S4352x32x64, .f32⟩
  | 45 => ⟨S4352x32x64, .f32⟩
  | 46 => ⟨S4352x2048, .f32⟩
  | 47 => ⟨S4352x2048, .f32⟩
  | 48 => ⟨S4352x2048, .f32⟩
  | 49 => ⟨S4352x2048, .f32⟩
  | 50 => ⟨S4352x2048, .f32⟩
  | 51 => ⟨S4352x32x64, .f32⟩
  | 52 => ⟨S4352x2048, .f32⟩
  | 53 => ⟨S4352x32x64, .f32⟩
  | 54 => ⟨S4352x32x64, .f32⟩
  | 55 => ⟨S_, .f32⟩
  | 56 => ⟨S4352x32, .f32⟩
  | 57 => ⟨S4352x32x1, .f32⟩
  | 58 => ⟨S4352x32x64, .f32⟩
  | 59 => ⟨S4352x32x64, .f32⟩
  | 60 => ⟨S4352x2048, .f32⟩
  | 61 => ⟨S4352x2048, .f32⟩
  | 62 => ⟨S4352x2048, .f32⟩
  | 63 => ⟨S4352x2048, .f32⟩
  | 64 => ⟨S4352x2048, .f32⟩
  | 65 => ⟨S_, .f32⟩
  | 66 => ⟨S4352x2048, .f32⟩
  | 67 => ⟨S4352x2048, .f32⟩
  | 68 => ⟨S_, .f32⟩
  | 69 => ⟨S4352x2048, .f32⟩
  | 70 => ⟨S4352x2048, .f32⟩
  | 71 => ⟨S_, .f32⟩
  | 72 => ⟨S4352x2048, .f32⟩
  | 73 => ⟨S4352x2048, .f32⟩
  | 74 => ⟨S4352x2048, .f32⟩
  | 75 => ⟨S4352x2048, .f32⟩
  | 76 => ⟨S4352x2048, .f32⟩
  | 77 => ⟨S4352x2048, .f32⟩
  | 78 => ⟨S_, .f32⟩
  | 79 => ⟨S4352x2048, .f32⟩
  | 80 => ⟨S4352x2048, .f32⟩
  | 81 => ⟨S_, .f32⟩
  | 82 => ⟨S4352x2048, .f32⟩
  | 83 => ⟨S4352x2048, .f32⟩
  | 84 => ⟨S_, .f32⟩
  | 85 => ⟨S4352x2048, .f32⟩
  | 86 => ⟨S4352x2048, .f32⟩
  | 87 => ⟨S4352x2048, .f32⟩
  | 88 => ⟨S4352x2048, .f32⟩
  | 89 => ⟨S4352x2048, .f32⟩
  | 90 => ⟨S4352x2048, .f32⟩
  | 91 => ⟨S4352x2048, .f32⟩
  | 92 => ⟨S4352x2048, .f32⟩
  | 93 => ⟨S4352x2048, .f32⟩
  | 94 => ⟨S4352x2048, .f32⟩
  | 95 => ⟨S4352x2048, .f32⟩
  | 96 => ⟨S4352x2048, .f32⟩
  | 97 => ⟨S4352x2048, .f32⟩
  | 98 => ⟨S4352x2048, .f32⟩
  | 99 => ⟨S4352x2048, .f32⟩
  | 100 => ⟨S4352x32x64, .f32⟩
  | 101 => ⟨S4352x32x64, .f32⟩
  | 102 => ⟨S4352x32x64, .f32⟩
  | 103 => ⟨S4352x32x64, .f32⟩
  | 104 => ⟨S_, .f32⟩
  | 105 => ⟨S4352x32, .f32⟩
  | 106 => ⟨S4352x32x1, .f32⟩
  | 107 => ⟨S_, .f32⟩
  | 108 => ⟨S4352x32, .f32⟩
  | 109 => ⟨S4352x32x64, .f32⟩
  | 110 => ⟨S4352x32x64, .f32⟩
  | 111 => ⟨S4352x32x64, .f32⟩
  | 112 => ⟨S4352x2048, .f32⟩
  | 113 => ⟨S_, .f32⟩
  | 114 => ⟨S2048, .f32⟩
  | 115 => ⟨S1x2048, .f32⟩
  | 116 => ⟨S4352x32x64, .f32⟩
  | 117 => ⟨S4352x32x64, .f32⟩
  | 118 => ⟨S_, .f32⟩
  | 119 => ⟨S2048, .f32⟩
  | 120 => ⟨S1x2048, .f32⟩
  | 121 => ⟨S4352x2048, .f32⟩
  | 122 => ⟨S_, .f32⟩
  | 123 => ⟨S2048, .f32⟩
  | 124 => ⟨S1x2048, .f32⟩
  | 125 => ⟨S4352x2048, .f32⟩
  | 126 => ⟨S4352x2048, .f32⟩
  | 127 => ⟨S4352x32x64, .f32⟩
  | _ => ⟨S4352x2048, .f32⟩

abbrev hbmTy0_1 (i : Nat) : BufTy := match i % 128 with
  | 0 => ⟨S4352x32x64, .f32⟩
  | 1 => ⟨S_, .f32⟩
  | 2 => ⟨S4352x32, .f32⟩
  | 3 => ⟨S4352x32x1, .f32⟩
  | 4 => ⟨S4352x32x64, .f32⟩
  | 5 => ⟨S4352x32x64, .f32⟩
  | 6 => ⟨S4352x32x1, .f32⟩
  | 7 => ⟨S4352x32x64, .f32⟩
  | 8 => ⟨S_, .f32⟩
  | 9 => ⟨S4352x32, .f32⟩
  | 10 => ⟨S4352x32x1, .f32⟩
  | 11 => ⟨S_, .f32⟩
  | 12 => ⟨S4352x32x1, .f32⟩
  | 13 => ⟨S4352x32x1, .f32⟩
  | 14 => ⟨S_, .f32⟩
  | 15 => ⟨S4352x32, .f32⟩
  | 16 => ⟨S4352x32x64, .f32⟩
  | 17 => ⟨S4352x32x64, .f32⟩
  | 18 => ⟨S4352x32x64, .f32⟩
  | 19 => ⟨S_, .f32⟩
  | 20 => ⟨S4352x32, .f32⟩
  | 21 => ⟨S4352x32x1, .f32⟩
  | 22 => ⟨S4352x32x64, .f32⟩
  | 23 => ⟨S4352x32x1, .f32⟩
  | 24 => ⟨S_, .f32⟩
  | 25 => ⟨S4352x32x1, .f32⟩
  | 26 => ⟨S4352x32x1, .f32⟩
  | 27 => ⟨S_, .f32⟩
  | 28 => ⟨S4352x32, .f32⟩
  | 29 => ⟨S4352x32x64, .f32⟩
  | 30 => ⟨S4352x32x64, .f32⟩
  | 31 => ⟨S4352x2048, .f32⟩
  | 32 => ⟨S4352x2048, .f32⟩
  | 33 => ⟨S4352x2048, .f32⟩
  | 34 => ⟨S4352x2048, .f32⟩
  | _ => ⟨S4352x2048, .f32⟩

abbrev hbmTy (i : Nat) : BufTy := match i / 128 with
  | 0 => hbmTy0_0 i
  | 1 => hbmTy0_1 i
  | _ => ⟨S4352x2048, .f32⟩

abbrev bufTy : (tb : Table) → Fin (tcTables nBuf tb) → BufTy
  | .hbm, ⟨i, _⟩ => hbmTy i
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_15 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_19 : Ref sig .tc := ⟨.hbm, 136, rfl⟩
abbrev main_v104 : Ref sig .tc := ⟨.hbm, 137, rfl⟩
abbrev main_v105 : Ref sig .tc := ⟨.hbm, 138, rfl⟩
abbrev main_cst_20 : Ref sig .tc := ⟨.hbm, 139, rfl⟩
abbrev main_v106 : Ref sig .tc := ⟨.hbm, 140, rfl⟩
abbrev main_v107 : Ref sig .tc := ⟨.hbm, 141, rfl⟩
abbrev main_cst_21 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_22 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_23 : Ref sig .tc := ⟨.hbm, 152, rfl⟩
abbrev main_v116 : Ref sig .tc := ⟨.hbm, 153, rfl⟩
abbrev main_v117 : Ref sig .tc := ⟨.hbm, 154, rfl⟩
abbrev main_cst_24 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩

abbrev nD : Nat := 1
abbrev τ : Topo := Topo.v7x

variable {F : FTy → Type} [FloatOps F]
-- ==== Kernel2.lean ====
abbrev S4352x2048 : Shape := ⟨2, ![4352, 2048]⟩
abbrev S5632x2048 : Shape := ⟨2, ![5632, 2048]⟩
abbrev S4352x5632 : Shape := ⟨2, ![4352, 5632]⟩
abbrev S544x2048 : Shape := ⟨2, ![544, 2048]⟩
abbrev S1408x2048 : Shape := ⟨2, ![1408, 2048]⟩
abbrev S544x1408 : Shape := ⟨2, ![544, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .bf16⟩
  | .hbm, ⟨3, _⟩ => ⟨S4352x5632, .bf16⟩
  | .hbm, ⟨4, _⟩ => ⟨S4352x5632, .bf16⟩
  | .hbm, ⟨5, _⟩ => ⟨S4352x5632, .bf16⟩
  | .local _ .vmem, ⟨0, _⟩ => ⟨S544x2048, .bf16⟩
  | .local _ .vmem, ⟨1, _⟩ => ⟨S544x2048, .bf16⟩
  | .local _ .vmem, ⟨2, _⟩ => ⟨S1408x2048, .bf16⟩
  | .local _ .vmem, ⟨3, _⟩ => ⟨S1408x2048, .bf16⟩
  | .local _ .vmem, ⟨4, _⟩ => ⟨S544x1408, .bf16⟩
  | .local _ .vmem, ⟨5, _⟩ => ⟨S544x1408, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .bf16⟩
  | .local _ .vmem, ⟨11, _⟩ => ⟨S544x1408, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4352x2048 : Shape := ⟨2, ![4352, 2048]⟩
abbrev S5632x2048 : Shape := ⟨2, ![5632, 2048]⟩
abbrev S4352x5632 : Shape := ⟨2, ![4352, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .bf16⟩
  | .hbm, ⟨3, _⟩ => ⟨S4352x5632, .bf16⟩
  | .hbm, ⟨4, _⟩ => ⟨S4352x2048, .f32⟩
  | .hbm, ⟨5, _⟩ => ⟨S5632x2048, .f32⟩
  | .hbm, ⟨6, _⟩ => ⟨S4352x5632, .f32⟩
  | .hbm, ⟨7, _⟩ => ⟨S4352x5632, .f32⟩
  | .hbm, ⟨8, _⟩ => ⟨S4352x5632, .f32⟩
  | .hbm, ⟨9, _⟩ => ⟨S4352x5632, .f32⟩
  | .hbm, ⟨10, _⟩ => ⟨S_, .f32⟩
  | .hbm, ⟨11, _⟩ => ⟨S4352x5632, .f32⟩
  | .hbm, ⟨12, _⟩ => ⟨S4352x5632, .f32⟩
  | .hbm, ⟨13, _⟩ => ⟨S_, .f32⟩
  | .hbm, ⟨14, _⟩ => ⟨S4352x5632, .f32⟩
  | .hbm, ⟨15, _⟩ => ⟨S4352x5632, .f32⟩
  | .hbm, ⟨16, _⟩ => ⟨S_, .f32⟩
  | .hbm, ⟨17, _⟩ => ⟨S4352x5632, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S4352x2048, .f32⟩
  | .hbm, ⟨23, _⟩ => ⟨S_, .f32⟩
  | .hbm, ⟨24, _⟩ => ⟨S4352x2048, .f32⟩
  | .hbm, ⟨25, _⟩ => ⟨S4352x2048, .f32⟩
  | .hbm, ⟨26, _⟩ => ⟨S_, .f32⟩
  | .hbm, ⟨27, _⟩ => ⟨S4352x2048, .f32⟩
  | .hbm, ⟨28, _⟩ => ⟨S4352x2048, .f32⟩
  | .hbm, ⟨29, _⟩ => ⟨S4352x5632, .f32⟩
  | .hbm, ⟨30, _⟩ => ⟨S4352x5632, .f32⟩
  | .hbm, ⟨31, _⟩ => ⟨S4352x5632, .f32⟩
  | .hbm, ⟨32, _⟩ => ⟨S4352x5632, .f32⟩
  | .hbm, ⟨33, _⟩ => ⟨S4352x5632, .f32⟩
  | .hbm, ⟨34, _⟩ => ⟨S4352x5632, .f32⟩
  | .hbm, ⟨35, _⟩ => ⟨S4352x5632, .f32⟩
  | .hbm, ⟨36, _⟩ => ⟨S4352x5632, .bf16⟩
  | .hbm, ⟨37, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S4352x5632 : Shape := ⟨2, ![4352, 5632]⟩
abbrev S5632x2048 : Shape := ⟨2, ![5632, 2048]⟩
abbrev S4352x2048 : Shape := ⟨2, ![4352, 2048]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x5632, .bf16⟩
  | .hbm, ⟨3, _⟩ => ⟨S5632x2048, .bf16⟩
  | .hbm, ⟨4, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1408, .bf16⟩
  | .local _ .vmem, ⟨5, _⟩ => ⟨S1088x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4352x5632 : Shape := ⟨2, ![4352, 5632]⟩
abbrev S5632x2048 : Shape := ⟨2, ![5632, 2048]⟩
abbrev S_ : Shape := ⟨0, ![]⟩
abbrev S4352x2048 : Shape := ⟨2, ![4352, 2048]⟩
abbrev S2048x5632 : Shape := ⟨2, ![2048, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x5632, .bf16⟩
  | .hbm, ⟨3, _⟩ => ⟨S5632x2048, .bf16⟩
  | .hbm, ⟨4, _⟩ => ⟨S4352x5632, .f32⟩
  | .hbm, ⟨5, _⟩ => ⟨S5632x2048, .f32⟩
  | .hbm, ⟨6, _⟩ => ⟨S4352x5632, .f32⟩
  | .hbm, ⟨7, _⟩ => ⟨S5632x2048, .f32⟩
  | .hbm, ⟨8, _⟩ => ⟨S_, .f32⟩
  | .hbm, ⟨9, _⟩ => ⟨S4352x2048, .f32⟩
  | .hbm, ⟨10, _⟩ => ⟨S2048x5632, .f32⟩
  | .hbm, ⟨11, _⟩ => ⟨S4352x5632, .f32⟩
  | .hbm, ⟨12, _⟩ => ⟨S2048x5632, .f32⟩
  | .hbm, ⟨13, _⟩ => ⟨S4352x5632, .f32⟩
  | .hbm, ⟨14, _⟩ => ⟨S4352x2048, .f32⟩
  | .hbm, ⟨15, _⟩ => ⟨S4352x2048, .f32⟩
  | .hbm, ⟨16, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4352x5632 : Shape := ⟨2, ![4352, 5632]⟩
abbrev S4352x2048 : Shape := ⟨2, ![4352, 2048]⟩
abbrev S5632x2048 : Shape := ⟨2, ![5632, 2048]⟩
abbrev S544x1408 : Shape := ⟨2, ![544, 1408]⟩
abbrev S544x2048 : Shape := ⟨2, ![544, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .bf16⟩
  | .local _ .vmem, ⟨0, _⟩ => ⟨S544x1408, .bf16⟩
  | .local _ .vmem, ⟨1, _⟩ => ⟨S544x1408, .bf16⟩
  | .local _ .vmem, ⟨2, _⟩ => ⟨S544x2048, .bf16⟩
  | .local _ .vmem, ⟨3, _⟩ => ⟨S544x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x5632 : Shape := ⟨2, ![4352, 5632]⟩
abbrev S4352x2048 : Shape := ⟨2, ![4352, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S4352x5632, .f32⟩
  | .hbm, ⟨3, _⟩ => ⟨S4352x2048, .f32⟩
  | .hbm, ⟨4, _⟩ => ⟨S_, .f32⟩
  | .hbm, ⟨5, _⟩ => ⟨S2048x5632, .f32⟩
  | .hbm, ⟨6, _⟩ => ⟨S4352x5632, .f32⟩
  | .hbm, ⟨7, _⟩ => ⟨S5632x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4352x5632 : Shape := ⟨2, ![4352, 5632]⟩
abbrev S4352x2048 : Shape := ⟨2, ![4352, 2048]⟩
abbrev S5632x2048 : Shape := ⟨2, ![5632, 2048]⟩
abbrev S544x1408 : Shape := ⟨2, ![544, 1408]⟩
abbrev S544x2048 : Shape := ⟨2, ![544, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S5632x2048, .bf16⟩
  | .local _ .vmem, ⟨0, _⟩ => ⟨S544x1408, .bf16⟩
  | .local _ .vmem, ⟨1, _⟩ => ⟨S544x1408, .bf16⟩
  | .local _ .vmem, ⟨2, _⟩ => ⟨S544x2048, .bf16⟩
  | .local _ .vmem, ⟨3, _⟩ => ⟨S544x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x5632 : Shape := ⟨2, ![4352, 5632]⟩
abbrev S4352x2048 : Shape := ⟨2, ![4352, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S4352x2048, .bf16⟩
  | .hbm, ⟨2, _⟩ => ⟨S4352x5632, .f32⟩
  | .hbm, ⟨3, _⟩ => ⟨S4352x2048, .f32⟩
  | .hbm, ⟨4, _⟩ => ⟨S_, .f32⟩
  | .hbm, ⟨5, _⟩ => ⟨S5632x2048, .f32⟩
  | .hbm, ⟨6, _⟩ => ⟨S4352x2048, .f32⟩
  | .hbm, ⟨7, _⟩ => ⟨S_, .f32⟩
  | .hbm, ⟨8, _⟩ => ⟨S4352x2048, .f32⟩
  | .hbm, ⟨9, _⟩ => ⟨S4352x2048, .f32⟩
  | .hbm, ⟨10, _⟩ => ⟨S_, .f32⟩
  | .hbm, ⟨11, _⟩ => ⟨S4352x2048, .f32⟩
  | .hbm, ⟨12, _⟩ => ⟨S4352x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel6.lean ====
abbrev S4352x2048 : Shape := ⟨2, ![4352, 2048]⟩
abbrev S5632x2048 : Shape := ⟨2, ![5632, 2048]⟩
abbrev S4352x5632 : Shape := ⟨2, ![4352, 5632]⟩
abbrev S544x2048 : Shape := ⟨2, ![544, 2048]⟩
abbrev S1408x2048 : Shape := ⟨2, ![1408, 2048]⟩
abbrev S544x1408 : Shape := ⟨2, ![544, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S5632x2048, .bf16⟩
  | .hbm, ⟨3, _⟩ => ⟨S4352x5632, .bf16⟩
  | .hbm, ⟨4, _⟩ => ⟨S4352x5632, .bf16⟩
  | .hbm, ⟨5, _⟩ => ⟨S4352x5632, .bf16⟩
  | .local _ .vmem, ⟨0, _⟩ => ⟨S544x2048, .bf16⟩
  | .local _ .vmem, ⟨1, _⟩ => ⟨S544x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1408x2048, .bf16⟩
  | .local _ .vmem, ⟨5, _⟩ => ⟨S1408x2048, .bf16⟩
  | .local _ .vmem, ⟨6, _⟩ => ⟨S544x1408, .bf16⟩
  | .local _ .vmem, ⟨7, _⟩ => ⟨S544x1408, .bf16⟩
  | .local _ .vmem, ⟨8, _⟩ => ⟨S544x1408, .bf16⟩
  | .local _ .vmem, ⟨9, _⟩ => ⟨S544x1408, .bf16⟩
  | .local _ .vmem, ⟨10, _⟩ => ⟨S544x1408, .bf16⟩
  | .local _ .vmem, ⟨11, _⟩ => ⟨S544x1408, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S544x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4352x2048 : Shape := ⟨2, ![4352, 2048]⟩
abbrev S5632x2048 : Shape := ⟨2, ![5632, 2048]⟩
abbrev S2048x5632 : Shape := ⟨2, ![2048, 5632]⟩
abbrev S4352x5632 : Shape := ⟨2, ![4352, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S5632x2048, .bf16⟩
  | .hbm, ⟨3, _⟩ => ⟨S4352x2048, .f32⟩
  | .hbm, ⟨4, _⟩ => ⟨S5632x2048, .f32⟩
  | .hbm, ⟨5, _⟩ => ⟨S5632x2048, .f32⟩
  | .hbm, ⟨6, _⟩ => ⟨S2048x5632, .f32⟩
  | .hbm, ⟨7, _⟩ => ⟨S4352x5632, .f32⟩
  | .hbm, ⟨8, _⟩ => ⟨S2048x5632, .f32⟩
  | .hbm, ⟨9, _⟩ => ⟨S4352x5632, .f32⟩
  | .hbm, ⟨10, _⟩ => ⟨S4352x5632, .bf16⟩
  | .hbm, ⟨11, _⟩ => ⟨S4352x5632, .bf16⟩
  | .hbm, ⟨12, _⟩ => ⟨S4352x5632, .f32⟩
  | .hbm, ⟨13, _⟩ => ⟨S4352x5632, .f32⟩
  | .hbm, ⟨14, _⟩ => ⟨S_, .f32⟩
  | .hbm, ⟨15, _⟩ => ⟨S4352x5632, .f32⟩
  | .hbm, ⟨16, _⟩ => ⟨S4352x5632, .f32⟩
  | .hbm, ⟨17, _⟩ => ⟨S_, .f32⟩
  | .hbm, ⟨18, _⟩ => ⟨S4352x5632, .f32⟩
  | .hbm, ⟨19, _⟩ => ⟨S4352x5632, .f32⟩
  | .hbm, ⟨20, _⟩ => ⟨S4352x5632, .f32⟩
  | .hbm, ⟨21, _⟩ => ⟨S4352x5632, .f32⟩
  | .hbm, ⟨22, _⟩ => ⟨S4352x5632, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S4352x5632 : Shape := ⟨2, ![4352, 5632]⟩
abbrev S5632x2048 : Shape := ⟨2, ![5632, 2048]⟩
abbrev S4352x2048 : Shape := ⟨2, ![4352, 2048]⟩
abbrev S1088x1408 : Shape := ⟨2, ![1088, 1408]⟩
abbrev S1408x1024 : Shape := ⟨2, ![1408, 1024]⟩
abbrev S1088x1024 : Shape := ⟨2, ![1088, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .hbm, ⟨3, _⟩ => ⟨S4352x2048, .f32⟩
  | .local _ .vmem, ⟨0, _⟩ => ⟨S1088x1408, .bf16⟩
  | .local _ .vmem, ⟨1, _⟩ => ⟨S1088x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4352x5632 : Shape := ⟨2, ![4352, 5632]⟩
abbrev S5632x2048 : Shape := ⟨2, ![5632, 2048]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .hbm, ⟨3, _⟩ => ⟨S4352x5632, .f32⟩
  | .hbm, ⟨4, _⟩ => ⟨S5632x2048, .f32⟩
  | .hbm, ⟨5, _⟩ => ⟨S4352x2048, .f32⟩
  | .hbm, ⟨6, _⟩ => ⟨S_, .f32⟩
  | .hbm, ⟨7, _⟩ => ⟨S4352x2048, .f32⟩
  | .hbm, ⟨8, _⟩ => ⟨S4352x2048, .f32⟩
  | .hbm, ⟨9, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S4352x2048 : Shape := ⟨2, ![4352, 2048]⟩
abbrev S2048x2048 : Shape := ⟨2, ![2048, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x2048 : Shape := ⟨2, ![4352, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S2048x2048, .f32⟩
  | .hbm, ⟨4, _⟩ => ⟨S2048x2048, .f32⟩
  | .hbm, ⟨5, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4352x2048 : Shape := ⟨2, ![4352, 2048]⟩
abbrev S2048x2048 : Shape := ⟨2, ![2048, 2048]⟩
abbrev S1088x512 : Shape := ⟨2, ![1088, 512]⟩
abbrev S512x512 : Shape := ⟨2, ![512, 512]⟩

abbrev nBuf : Space → Nat
  | .hbm => 11
  | .vmem => 23
  | .smem => 0
  | _ => 0

abbrev bufTy : (tb : Table) → Fin (tcTables nBuf tb) → BufTy
  | .hbm, ⟨0, _⟩ => ⟨S4352x2048, .f32⟩
  | .hbm, ⟨1, _⟩ => ⟨S2048x2048, .bf16⟩
  | .hbm, ⟨2, _⟩ => ⟨S4352x2048, .f32⟩
  | .hbm, ⟨3, _⟩ => ⟨S2048x2048, .bf16⟩
  | .hbm, ⟨4, _⟩ => ⟨S4352x2048, .f32⟩
  | .hbm, ⟨5, _⟩ => ⟨S2048x2048, .bf16⟩
  | .hbm, ⟨6, _⟩ => ⟨S4352x2048, .f32⟩
  | .hbm, ⟨7, _⟩ => ⟨S2048x2048, .bf16⟩
  | .hbm, ⟨8, _⟩ => ⟨S4352x2048, .f32⟩
  | .hbm, ⟨9, _⟩ => ⟨S2048x2048, .bf16⟩
  | .hbm, ⟨10, _⟩ => ⟨S4352x2048, .f32⟩
  | .local _ .vmem, ⟨0, _⟩ => ⟨S1088x512, .f32⟩
  | .local _ .vmem, ⟨1, _⟩ => ⟨S1088x512, .f32⟩
  | .local _ .vmem, ⟨2, _⟩ => ⟨S512x512, .bf16⟩
  | .local _ .vmem, ⟨3, _⟩ => ⟨S512x512, .bf16⟩
  | .local _ .vmem, ⟨4, _⟩ => ⟨S1088x512, .f32⟩
  | .local _ .vmem, ⟨5, _⟩ => ⟨S1088x512, .f32⟩
  | .local _ .vmem, ⟨6, _⟩ => ⟨S512x512, .bf16⟩
  | .local _ .vmem, ⟨7, _⟩ => ⟨S512x512, .bf16⟩
  | .local _ .vmem, ⟨8, _⟩ => ⟨S1088x512, .f32⟩
  | .local _ .vmem, ⟨9, _⟩ => ⟨S1088x512, .f32⟩
  | .local _ .vmem, ⟨10, _⟩ => ⟨S512x512, .bf16⟩
  | .local _ .vmem, ⟨11, _⟩ => ⟨S512x512, .bf16⟩
  | .local _ .vmem, ⟨12, _⟩ => ⟨S1088x512, .f32⟩
  | .local _ .vmem, ⟨13, _⟩ => ⟨S1088x512, .f32⟩
  | .local _ .vmem, ⟨14, _⟩ => ⟨S512x512, .bf16⟩
  | .local _ .vmem, ⟨15, _⟩ => ⟨S512x512, .bf16⟩
  | .local _ .vmem, ⟨16, _⟩ => ⟨S1088x512, .f32⟩
  | .local _ .vmem, ⟨17, _⟩ => ⟨S1088x512, .f32⟩
  | .local _ .vmem, ⟨18, _⟩ => ⟨S512x512, .bf16⟩
  | .local _ .vmem, ⟨19, _⟩ => ⟨S512x512, .bf16⟩
  | .local _ .vmem, ⟨20, _⟩ => ⟨S1088x512, .f32⟩
  | .local _ .vmem, ⟨21, _⟩ => ⟨S1088x512, .f32⟩
  | .local _ .vmem, ⟨22, _⟩ => ⟨S1088x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v32 : BitVec 1 := Scalar.cmpi .eq arg2 c3_i32
  let v33 : BitVec 32 := Scalar.extui v32
  let c0_i32_28 : BitVec 32 := 0#32
  let v34 : BitVec 1 := Scalar.cmpi .ne v33 c0_i32_28
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1088x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1088x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1088x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference9Ideal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .bf16⟩
  | .hbm, ⟨2, _⟩ => ⟨S4352x2048, .f32⟩
  | .hbm, ⟨3, _⟩ => ⟨S2048x2048, .bf16⟩
  | .hbm, ⟨4, _⟩ => ⟨S4352x2048, .f32⟩
  | .hbm, ⟨5, _⟩ => ⟨S2048x2048, .bf16⟩
  | .hbm, ⟨6, _⟩ => ⟨S4352x2048, .f32⟩
  | .hbm, ⟨7, _⟩ => ⟨S2048x2048, .bf16⟩
  | .hbm, ⟨8, _⟩ => ⟨S4352x2048, .f32⟩
  | .hbm, ⟨9, _⟩ => ⟨S2048x2048, .bf16⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S4352x2048, .f32⟩
  | .hbm, ⟨17, _⟩ => ⟨S2048x2048, .f32⟩
  | .hbm, ⟨18, _⟩ => ⟨S4352x2048, .f32⟩
  | .hbm, ⟨19, _⟩ => ⟨S2048x2048, .f32⟩
  | .hbm, ⟨20, _⟩ => ⟨S4352x2048, .f32⟩
  | .hbm, ⟨21, _⟩ => ⟨S2048x2048, .f32⟩
  | .hbm, ⟨22, _⟩ => ⟨S4352x2048, .f32⟩
  | .hbm, ⟨23, _⟩ => ⟨S2048x2048, .f32⟩
  | .hbm, ⟨24, _⟩ => ⟨S4352x2048, .f32⟩
  | .hbm, ⟨25, _⟩ => ⟨S2048x2048, .f32⟩
  | .hbm, ⟨26, _⟩ => ⟨S4352x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S4352x2048, .f32⟩
  | .hbm, ⟨32, _⟩ => ⟨S4352x2048, .f32⟩
  | .hbm, ⟨33, _⟩ => ⟨S4352x2048, .f32⟩
  | .hbm, ⟨34, _⟩ => ⟨S4352x2048, .f32⟩
  | .hbm, ⟨35, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel10.lean ====
abbrev S4352x2048 : Shape := ⟨2, ![4352, 2048]⟩
abbrev S2048x2048 : Shape := ⟨2, ![2048, 2048]⟩
abbrev S544x1024 : Shape := ⟨2, ![544, 1024]⟩
abbrev S544x2048 : Shape := ⟨2, ![544, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S4352x2048, .bf16⟩
  | .hbm, ⟨2, _⟩ => ⟨S2048x2048, .bf16⟩
  | .local _ .vmem, ⟨0, _⟩ => ⟨S544x1024, .f32⟩
  | .local _ .vmem, ⟨1, _⟩ => ⟨S544x1024, .f32⟩
  | .local _ .vmem, ⟨2, _⟩ => ⟨S544x2048, .bf16⟩
  | .local _ .vmem, ⟨3, _⟩ => ⟨S544x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4352x2048 : Shape := ⟨2, ![4352, 2048]⟩
abbrev S2048x2048 : Shape := ⟨2, ![2048, 2048]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4352x2048 : Shape := ⟨2, ![4352, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S4352x2048, .f32⟩
  | .hbm, ⟨6, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4352x2048 : Shape := ⟨2, ![4352, 2048]⟩
abbrev S2048x2048 : Shape := ⟨2, ![2048, 2048]⟩
abbrev S544x1024 : Shape := ⟨2, ![544, 1024]⟩
abbrev S544x2048 : Shape := ⟨2, ![544, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S544x1024, .bf16⟩
  | .local _ .vmem, ⟨1, _⟩ => ⟨S544x1024, .bf16⟩
  | .local _ .vmem, ⟨2, _⟩ => ⟨S544x2048, .bf16⟩
  | .local _ .vmem, ⟨3, _⟩ => ⟨S544x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S4352x2048, .f32⟩
  | .hbm, ⟨3, _⟩ => ⟨S4352x2048, .f32⟩
  | .hbm, ⟨4, _⟩ => ⟨S_, .f32⟩
  | .hbm, ⟨5, _⟩ => ⟨S2048x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4352x2048 : Shape := ⟨2, ![4352, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .bf16⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S_, .f32⟩
  | .hbm, ⟨31, _⟩ => ⟨S4352, .f32⟩
  | .hbm, ⟨32, _⟩ => ⟨S4352x1, .f32⟩
  | .hbm, ⟨33, _⟩ => ⟨S4352x2048, .f32⟩
  | .hbm, ⟨34, _⟩ => ⟨S4352x2048, .f32⟩
  | .hbm, ⟨35, _⟩ => ⟨S4352x1, .f32⟩
  | .hbm, ⟨36, _⟩ => ⟨S_, .f32⟩
  | .hbm, ⟨37, _⟩ => ⟨S4352x1, .f32⟩
  | .hbm, ⟨38, _⟩ => ⟨S4352x1, .f32⟩
  | .hbm, ⟨39, _⟩ => ⟨S_, .f32⟩
  | .hbm, ⟨40, _⟩ => ⟨S4352, .f32⟩
  | .hbm, ⟨41, _⟩ => ⟨S4352x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .f32⟩
  | .hbm, ⟨46, _⟩ => ⟨S4352x2048, .f32⟩
  | .hbm, ⟨47, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel14.lean ====
abbrev S4352x2048 : Shape := ⟨2, ![4352, 2048]⟩
abbrev S1x2048 : Shape := ⟨2, ![1, 2048]⟩
abbrev S2176x256 : Shape := ⟨2, ![2176, 256]⟩
abbrev S1x256 : Shape := ⟨2, ![1, 256]⟩
abbrev S256 : Shape := ⟨1, ![256]⟩

abbrev nBuf : Space → Nat
  | .hbm => 6
  | .vmem => 12
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S1x2048, .f32⟩
  | .local _ .vmem, ⟨0, _⟩ => ⟨S2176x256, .f32⟩
  | .local _ .vmem, ⟨1, _⟩ => ⟨S2176x256, .f32⟩
  | .local _ .vmem, ⟨2, _⟩ => ⟨S1x256, .f32⟩
  | .local _ .vmem, ⟨3, _⟩ => ⟨S1x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S2176x256, .f32⟩
  | .local _ .vmem, ⟨9, _⟩ => ⟨S2176x256, .f32⟩
  | .local _ .vmem, ⟨10, _⟩ => ⟨S1x256, .f32⟩
  | .local _ .vmem, ⟨11, _⟩ => ⟨S1x256, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2176x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference14Ideal.lean ====
abbrev S4352x2048 : Shape := ⟨2, ![4352, 2048]⟩
abbrev S1x2048 : Shape := ⟨2, ![1, 2048]⟩
abbrev S2x2176x2048 : Shape := ⟨3, ![2, 2176, 2048]⟩
abbrev S_ : Shape := ⟨0, ![]⟩
abbrev S2x1x2048 : Shape := ⟨3, ![2, 1, 2048]⟩
abbrev S2x2175x2048 : Shape := ⟨3, ![2, 2175, 2048]⟩
abbrev S1x1x2048 : Shape := ⟨3, ![1, 1, 2048]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S4352x2048, .f32⟩
  | .hbm, ⟨4, _⟩ => ⟨S2x2176x2048, .f32⟩
  | .hbm, ⟨5, _⟩ => ⟨S_, .f32⟩
  | .hbm, ⟨6, _⟩ => ⟨S2x1x2048, .f32⟩
  | .hbm, ⟨7, _⟩ => ⟨S2x2175x2048, .f32⟩
  | .hbm, ⟨8, _⟩ => ⟨S2x2176x2048, .f32⟩
  | .hbm, ⟨9, _⟩ => ⟨S_, .f32⟩
  | .hbm, ⟨10, _⟩ => ⟨S2x1x2048, .f32⟩
  | .hbm, ⟨11, _⟩ => ⟨S2x2176x2048, .f32⟩
  | .hbm, ⟨12, _⟩ => ⟨S1x1x2048, .f32⟩
  | .hbm, ⟨13, _⟩ => ⟨S2x2176x2048, .f32⟩
  | .hbm, ⟨14, _⟩ => ⟨S2x2176x2048, .f32⟩
  | .hbm, ⟨15, _⟩ => ⟨S2x2176x2048, .f32⟩
  | .hbm, ⟨16, _⟩ => ⟨S4352x2048, .f32⟩
  | .hbm, ⟨17, _⟩ => ⟨S4352x2048, .f32⟩
  | .hbm, ⟨18, _⟩ => ⟨S2x2176x2048, .f32⟩
  | .hbm, ⟨19, _⟩ => ⟨S2x2176x2048, .f32⟩
  | .hbm, ⟨20, _⟩ => ⟨S2x2176x2048, .f32⟩
  | .hbm, ⟨21, _⟩ => ⟨S2x2176x2048, .f32⟩
  | .hbm, ⟨22, _⟩ => ⟨S_, .f32⟩
  | .hbm, ⟨23, _⟩ => ⟨S2048, .f32⟩
  | .hbm, ⟨24, _⟩ => ⟨S1x1x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2x2176x2048, .f32⟩
  | .hbm, ⟨29, _⟩ => ⟨S2x2176x2048, .f32⟩
  | .hbm, ⟨30, _⟩ => ⟨S2x1x2048, .f32⟩
  | .hbm, ⟨31, _⟩ => ⟨S2x2175x2048, .f32⟩
  | .hbm, ⟨32, _⟩ => ⟨S_, .f32⟩
  | .hbm, ⟨33, _⟩ => ⟨S2x2176x2048, .f32⟩
  | .hbm, ⟨34, _⟩ => ⟨S2x2176x2048, .f32⟩
  | .hbm, ⟨35, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel15.lean ====
abbrev S4352x2048 : Shape := ⟨2, ![4352, 2048]⟩
abbrev S1x2048 : Shape := ⟨2, ![1, 2048]⟩
abbrev S2176x256 : Shape := ⟨2, ![2176, 256]⟩
abbrev S1x256 : Shape := ⟨2, ![1, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S4352x2048, .f32⟩
  | .hbm, ⟨4, _⟩ => ⟨S1x2048, .f32⟩
  | .local _ .vmem, ⟨0, _⟩ => ⟨S2176x256, .f32⟩
  | .local _ .vmem, ⟨1, _⟩ => ⟨S2176x256, .f32⟩
  | .local _ .vmem, ⟨2, _⟩ => ⟨S1x256, .f32⟩
  | .local _ .vmem, ⟨3, _⟩ => ⟨S1x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S1x256, .f32⟩
  | .local _ .vmem, ⟨9, _⟩ => ⟨S1x256, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference15Ideal.lean ====
abbrev S4352x2048 : Shape := ⟨2, ![4352, 2048]⟩
abbrev S1x2048 : Shape := ⟨2, ![1, 2048]⟩
abbrev S2x2176x2048 : Shape := ⟨3, ![2, 2176, 2048]⟩
abbrev S_ : Shape := ⟨0, ![]⟩
abbrev S2x1x2048 : Shape := ⟨3, ![2, 1, 2048]⟩
abbrev S2x2175x2048 : Shape := ⟨3, ![2, 2175, 2048]⟩
abbrev S1x1x2048 : Shape := ⟨3, ![1, 1, 2048]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S2x2176x2048, .f32⟩
  | .hbm, ⟨4, _⟩ => ⟨S_, .f32⟩
  | .hbm, ⟨5, _⟩ => ⟨S2x1x2048, .f32⟩
  | .hbm, ⟨6, _⟩ => ⟨S2x2175x2048, .f32⟩
  | .hbm, ⟨7, _⟩ => ⟨S2x2176x2048, .f32⟩
  | .hbm, ⟨8, _⟩ => ⟨S_, .f32⟩
  | .hbm, ⟨9, _⟩ => ⟨S2x1x2048, .f32⟩
  | .hbm, ⟨10, _⟩ => ⟨S2x2176x2048, .f32⟩
  | .hbm, ⟨11, _⟩ => ⟨S1x1x2048, .f32⟩
  | .hbm, ⟨12, _⟩ => ⟨S2x2176x2048, .f32⟩
  | .hbm, ⟨13, _⟩ => ⟨S2x2176x2048, .f32⟩
  | .hbm, ⟨14, _⟩ => ⟨S2x2176x2048, .f32⟩
  | .hbm, ⟨15, _⟩ => ⟨S4352x2048, .f32⟩
  | .hbm, ⟨16, _⟩ => ⟨S2x2176x2048, .f32⟩
  | .hbm, ⟨17, _⟩ => ⟨S2x2176x2048, .f32⟩
  | .hbm, ⟨18, _⟩ => ⟨S2x2176x2048, .f32⟩
  | .hbm, ⟨19, _⟩ => ⟨S2x2176x2048, .f32⟩
  | .hbm, ⟨20, _⟩ => ⟨S_, .f32⟩
  | .hbm, ⟨21, _⟩ => ⟨S2048, .f32⟩
  | .hbm, ⟨22, _⟩ => ⟨S1x1x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S2x2176x2048, .f32⟩
  | .hbm, ⟨27, _⟩ => ⟨S2x2176x2048, .f32⟩
  | .hbm, ⟨28, _⟩ => ⟨S2x1x2048, .f32⟩
  | .hbm, ⟨29, _⟩ => ⟨S2x2175x2048, .f32⟩
  | .hbm, ⟨30, _⟩ => ⟨S_, .f32⟩
  | .hbm, ⟨31, _⟩ => ⟨S2x2176x2048, .f32⟩
  | .hbm, ⟨32, _⟩ => ⟨S2x2176x2048, .f32⟩
  | .hbm, ⟨33, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel34.lean ====
abbrev S4352x512 : Shape := ⟨2, ![4352, 512]⟩
abbrev S1x512 : Shape := ⟨2, ![1, 512]⟩
abbrev S2176x256 : Shape := ⟨2, ![2176, 256]⟩
abbrev S1x256 : Shape := ⟨2, ![1, 256]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S4352x512, .f32⟩
  | .hbm, ⟨3, _⟩ => ⟨S4352x512, .f32⟩
  | .hbm, ⟨4, _⟩ => ⟨S1x512, .f32⟩
  | .local _ .vmem, ⟨0, _⟩ => ⟨S2176x256, .f32⟩
  | .local _ .vmem, ⟨1, _⟩ => ⟨S2176x256, .f32⟩
  | .local _ .vmem, ⟨2, _⟩ => ⟨S1x256, .f32⟩
  | .local _ .vmem, ⟨3, _⟩ => ⟨S1x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S1x256, .f32⟩
  | .local _ .vmem, ⟨9, _⟩ => ⟨S1x256, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference34Ideal.lean ====
abbrev S4352x512 : Shape := ⟨2, ![4352, 512]⟩
abbrev S1x512 : Shape := ⟨2, ![1, 512]⟩
abbrev S2x2176x512 : Shape := ⟨3, ![2, 2176, 512]⟩
abbrev S_ : Shape := ⟨0, ![]⟩
abbrev S2x1x512 : Shape := ⟨3, ![2, 1, 512]⟩
abbrev S2x2175x512 : Shape := ⟨3, ![2, 2175, 512]⟩
abbrev S1x1x512 : Shape := ⟨3, ![1, 1, 512]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S4352x512, .f32⟩
  | .hbm, ⟨3, _⟩ => ⟨S2x2176x512, .f32⟩
  | .hbm, ⟨4, _⟩ => ⟨S_, .f32⟩
  | .hbm, ⟨5, _⟩ => ⟨S2x1x512, .f32⟩
  | .hbm, ⟨6, _⟩ => ⟨S2x2175x512, .f32⟩
  | .hbm, ⟨7, _⟩ => ⟨S2x2176x512, .f32⟩
  | .hbm, ⟨8, _⟩ => ⟨S_, .f32⟩
  | .hbm, ⟨9, _⟩ => ⟨S2x1x512, .f32⟩
  | .hbm, ⟨10, _⟩ => ⟨S2x2176x512, .f32⟩
  | .hbm, ⟨11, _⟩ => ⟨S1x1x512, .f32⟩
  | .hbm, ⟨12, _⟩ => ⟨S2x2176x512, .f32⟩
  | .hbm, ⟨13, _⟩ => ⟨S2x2176x512, .f32⟩
  | .hbm, ⟨14, _⟩ => ⟨S2x2176x512, .f32⟩
  | .hbm, ⟨15, _⟩ => ⟨S4352x512, .f32⟩
  | .hbm, ⟨16, _⟩ => ⟨S2x2176x512, .f32⟩
  | .hbm, ⟨17, _⟩ => ⟨S2x2176x512, .f32⟩
  | .hbm, ⟨18, _⟩ => ⟨S2x2176x512, .f32⟩
  | .hbm, ⟨19, _⟩ => ⟨S2x2176x512, .f32⟩
  | .hbm, ⟨20, _⟩ => ⟨S_, .f32⟩
  | .hbm, ⟨21, _⟩ => ⟨S512, .f32⟩
  | .hbm, ⟨22, _⟩ => ⟨S1x1x512, .f32⟩
  | .hbm, ⟨23, _⟩ => ⟨S_, .f32⟩
  | .hbm, ⟨24, _⟩ => ⟨S512, .f32⟩
  | .hbm, ⟨25, _⟩ => ⟨S1x512, .f32⟩
  | .hbm, ⟨26, _⟩ => ⟨S2x2176x512, .f32⟩
  | .hbm, ⟨27, _⟩ => ⟨S2x2176x512, .f32⟩
  | .hbm, ⟨28, _⟩ => ⟨S2x1x512, .f32⟩
  | .hbm, ⟨29, _⟩ => ⟨S2x2175x512, .f32⟩
  | .hbm, ⟨30, _⟩ => ⟨S_, .f32⟩
  | .hbm, ⟨31, _⟩ => ⟨S2x2176x512, .f32⟩
  | .hbm, ⟨32, _⟩ => ⟨S2x2176x512, .f32⟩
  | .hbm, ⟨33, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel16.lean ====
abbrev S4352x2048 : Shape := ⟨2, ![4352, 2048]⟩
abbrev S512x2048 : Shape := ⟨2, ![512, 2048]⟩
abbrev S4352x512 : Shape := ⟨2, ![4352, 512]⟩
abbrev S1088x2048 : Shape := ⟨2, ![1088, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S512x2048, .bf16⟩
  | .hbm, ⟨2, _⟩ => ⟨S4352x512, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S1088x512, .f32⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x2048 : Shape := ⟨2, ![4352, 2048]⟩
abbrev S512x2048 : Shape := ⟨2, ![512, 2048]⟩
abbrev S2048x512 : Shape := ⟨2, ![2048, 512]⟩
abbrev S4352x512 : Shape := ⟨2, ![4352, 512]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S512x2048, .bf16⟩
  | .hbm, ⟨2, _⟩ => ⟨S4352x2048, .f32⟩
  | .hbm, ⟨3, _⟩ => ⟨S512x2048, .f32⟩
  | .hbm, ⟨4, _⟩ => ⟨S2048x512, .f32⟩
  | .hbm, ⟨5, _⟩ => ⟨S4352x512, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4352x2048 : Shape := ⟨2, ![4352, 2048]⟩
abbrev S1152x2048 : Shape := ⟨2, ![1152, 2048]⟩
abbrev S4352x1152 : Shape := ⟨2, ![4352, 1152]⟩
abbrev S1088x2048 : Shape := ⟨2, ![1088, 2048]⟩
abbrev S384x2048 : Shape := ⟨2, ![384, 2048]⟩
abbrev S1088x384 : Shape := ⟨2, ![1088, 384]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1152x2048, .bf16⟩
  | .hbm, ⟨2, _⟩ => ⟨S4352x1152, .f32⟩
  | .local _ .vmem, ⟨0, _⟩ => ⟨S1088x2048, .bf16⟩
  | .local _ .vmem, ⟨1, _⟩ => ⟨S1088x2048, .bf16⟩
  | .local _ .vmem, ⟨2, _⟩ => ⟨S384x2048, .bf16⟩
  | .local _ .vmem, ⟨3, _⟩ => ⟨S384x2048, .bf16⟩
  | .local _ .vmem, ⟨4, _⟩ => ⟨S1088x384, .f32⟩
  | .local _ .vmem, ⟨5, _⟩ => ⟨S1088x384, .f32⟩
  | .local _ .vmem, ⟨6, _⟩ => ⟨S1088x384, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4352x2048 : Shape := ⟨2, ![4352, 2048]⟩
abbrev S1152x2048 : Shape := ⟨2, ![1152, 2048]⟩
abbrev S2048x1152 : Shape := ⟨2, ![2048, 1152]⟩
abbrev S4352x1152 : Shape := ⟨2, ![4352, 1152]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1152x2048, .bf16⟩
  | .hbm, ⟨2, _⟩ => ⟨S4352x2048, .f32⟩
  | .hbm, ⟨3, _⟩ => ⟨S1152x2048, .f32⟩
  | .hbm, ⟨4, _⟩ => ⟨S2048x1152, .f32⟩
  | .hbm, ⟨5, _⟩ => ⟨S4352x1152, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4352x512 : Shape := ⟨2, ![4352, 512]⟩
abbrev S512x2048 : Shape := ⟨2, ![512, 2048]⟩
abbrev S4352x2048 : Shape := ⟨2, ![4352, 2048]⟩
abbrev S1088x512 : Shape := ⟨2, ![1088, 512]⟩
abbrev S512x1024 : Shape := ⟨2, ![512, 1024]⟩
abbrev S1088x1024 : Shape := ⟨2, ![1088, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x512, .f32⟩
  | .hbm, ⟨1, _⟩ => ⟨S512x2048, .bf16⟩
  | .hbm, ⟨2, _⟩ => ⟨S4352x2048, .f32⟩
  | .hbm, ⟨3, _⟩ => ⟨S4352x2048, .f32⟩
  | .local _ .vmem, ⟨0, _⟩ => ⟨S1088x512, .f32⟩
  | .local _ .vmem, ⟨1, _⟩ => ⟨S1088x512, .f32⟩
  | .local _ .vmem, ⟨2, _⟩ => ⟨S512x1024, .bf16⟩
  | .local _ .vmem, ⟨3, _⟩ => ⟨S512x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4352x512 : Shape := ⟨2, ![4352, 512]⟩
abbrev S512x2048 : Shape := ⟨2, ![512, 2048]⟩
abbrev S4352x2048 : Shape := ⟨2, ![4352, 2048]⟩
abbrev S_ : Shape := ⟨0, ![]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S512x2048, .bf16⟩
  | .hbm, ⟨2, _⟩ => ⟨S4352x2048, .f32⟩
  | .hbm, ⟨3, _⟩ => ⟨S512x2048, .f32⟩
  | .hbm, ⟨4, _⟩ => ⟨S_, .f32⟩
  | .hbm, ⟨5, _⟩ => ⟨S4352x2048, .f32⟩
  | .hbm, ⟨6, _⟩ => ⟨S2048x512, .f32⟩
  | .hbm, ⟨7, _⟩ => ⟨S4352x512, .f32⟩
  | .hbm, ⟨8, _⟩ => ⟨S4352x2048, .f32⟩
  | .hbm, ⟨9, _⟩ => ⟨S4352x2048, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S4352x1152 : Shape := ⟨2, ![4352, 1152]⟩
abbrev S1152x2048 : Shape := ⟨2, ![1152, 2048]⟩
abbrev S4352x2048 : Shape := ⟨2, ![4352, 2048]⟩
abbrev S1088x1152 : Shape := ⟨2, ![1088, 1152]⟩
abbrev S1152x1024 : Shape := ⟨2, ![1152, 1024]⟩
abbrev S1088x1024 : Shape := ⟨2, ![1088, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x1152, .f32⟩
  | .hbm, ⟨1, _⟩ => ⟨S1152x2048, .bf16⟩
  | .hbm, ⟨2, _⟩ => ⟨S4352x2048, .f32⟩
  | .hbm, ⟨3, _⟩ => ⟨S4352x2048, .f32⟩
  | .local _ .vmem, ⟨0, _⟩ => ⟨S1088x1152, .f32⟩
  | .local _ .vmem, ⟨1, _⟩ => ⟨S1088x1152, .f32⟩
  | .local _ .vmem, ⟨2, _⟩ => ⟨S1152x1024, .bf16⟩
  | .local _ .vmem, ⟨3, _⟩ => ⟨S1152x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4352x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4352x1152 : Shape := ⟨2, ![4352, 1152]⟩
abbrev S1152x2048 : Shape := ⟨2, ![1152, 2048]⟩
abbrev S4352x2048 : Shape := ⟨2, ![4352, 2048]⟩
abbrev S_ : Shape := ⟨0, ![]⟩
abbrev S2048x1152 : Shape := ⟨2, ![2048, 1152]⟩

abbrev nBuf : Space → Nat
  | .hbm => 10
  | .vmem => 0
  | .smem => 0
  | _ => 0

abbrev bufTy : (tb : Table) → Fin (tcTables nBuf tb) → BufTy
  | .hbm, ⟨0, _⟩ => ⟨S4352x1152, .f32⟩
  | .hbm, ⟨1, _⟩ => ⟨S1152x2048, .bf16⟩
  | .hbm, ⟨2, _⟩ => ⟨S4352x2048, .f32⟩
  | .hbm, ⟨3, _⟩ => ⟨S1152x2048, .f32⟩
  | .hbm, ⟨4, _⟩ => ⟨S_, .f32⟩
  | .hbm, ⟨5, _⟩ => ⟨S4352x2048, .f32⟩
  | .hbm, ⟨6, _⟩ => ⟨S2048x1152, .f32⟩
  | .hbm, ⟨7, _⟩ => ⟨S4352x1152, .f32⟩
  | .hbm, ⟨8, _⟩ => ⟨S4352x2048, .f32⟩
  | .hbm, ⟨9, _⟩ => ⟨S4352x2048, .f32⟩
  | _, _ => ⟨S4352x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel20.lean ====
abbrev S4352x512 : Shape := ⟨2, ![4352, 512]⟩
abbrev S4352x2048 : Shape := ⟨2, ![4352, 2048]⟩
abbrev S512x2048 : Shape := ⟨2, ![512, 2048]⟩
abbrev S544x512 : Shape := ⟨2, ![544, 512]⟩
abbrev S544x2048 : Shape := ⟨2, ![544, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .f32⟩
  | .hbm, ⟨1, _⟩ => ⟨S4352x2048, .bf16⟩
  | .hbm, ⟨2, _⟩ => ⟨S512x2048, .bf16⟩
  | .local _ .vmem, ⟨0, _⟩ => ⟨S544x512, .f32⟩
  | .local _ .vmem, ⟨1, _⟩ => ⟨S544x512, .f32⟩
  | .local _ .vmem, ⟨2, _⟩ => ⟨S544x2048, .bf16⟩
  | .local _ .vmem, ⟨3, _⟩ => ⟨S544x2048, .bf16⟩
  | .local _ .vmem, ⟨4, _⟩ => ⟨S512x2048, .bf16⟩
  | .local _ .vmem, ⟨5, _⟩ => ⟨S512x2048, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S4352x512 : Shape := ⟨2, ![4352, 512]⟩
abbrev S4352x2048 : Shape := ⟨2, ![4352, 2048]⟩
abbrev S_ : Shape := ⟨0, ![]⟩
abbrev S512x2048 : Shape := ⟨2, ![512, 2048]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S512x2048, .f32⟩
  | .hbm, ⟨5, _⟩ => ⟨S2048x512, .f32⟩
  | .hbm, ⟨6, _⟩ => ⟨S4352x512, .f32⟩
  | .hbm, ⟨7, _⟩ => ⟨S512x2048, .f32⟩
  | .hbm, ⟨8, _⟩ => ⟨S2048x512, .f32⟩
  | .hbm, ⟨9, _⟩ => ⟨S512x2048, .f32⟩
  | .hbm, ⟨10, _⟩ => ⟨S512x2048, .bf16⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel21.lean ====
abbrev S4352x1152 : Shape := ⟨2, ![4352, 1152]⟩
abbrev S4352x2048 : Shape := ⟨2, ![4352, 2048]⟩
abbrev S1152x2048 : Shape := ⟨2, ![1152, 2048]⟩
abbrev S544x1152 : Shape := ⟨2, ![544, 1152]⟩
abbrev S544x2048 : Shape := ⟨2, ![544, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x1152, .f32⟩
  | .hbm, ⟨1, _⟩ => ⟨S4352x2048, .bf16⟩
  | .hbm, ⟨2, _⟩ => ⟨S1152x2048, .bf16⟩
  | .local _ .vmem, ⟨0, _⟩ => ⟨S544x1152, .f32⟩
  | .local _ .vmem, ⟨1, _⟩ => ⟨S544x1152, .f32⟩
  | .local _ .vmem, ⟨2, _⟩ => ⟨S544x2048, .bf16⟩
  | .local _ .vmem, ⟨3, _⟩ => ⟨S544x2048, .bf16⟩
  | .local _ .vmem, ⟨4, _⟩ => ⟨S1152x2048, .bf16⟩
  | .local _ .vmem, ⟨5, _⟩ => ⟨S1152x2048, .f32⟩
  | _, _ => ⟨S4352x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1152x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4352x1152 : Shape := ⟨2, ![4352, 1152]⟩
abbrev S4352x2048 : Shape := ⟨2, ![4352, 2048]⟩
abbrev S_ : Shape := ⟨0, ![]⟩
abbrev S1152x2048 : Shape := ⟨2, ![1152, 2048]⟩
abbrev S2048x1152 : Shape := ⟨2, ![2048, 1152]⟩

abbrev nBuf : Space → Nat
  | .hbm => 11
  | .vmem => 0
  | .smem => 0
  | _ => 0

abbrev bufTy : (tb : Table) → Fin (tcTables nBuf tb) → BufTy
  | .hbm, ⟨0, _⟩ => ⟨S4352x1152, .f32⟩
  | .hbm, ⟨1, _⟩ => ⟨S4352x2048, .bf16⟩
  | .hbm, ⟨2, _⟩ => ⟨S4352x2048, .f32⟩
  | .hbm, ⟨3, _⟩ => ⟨S_, .f32⟩
  | .hbm, ⟨4, _⟩ => ⟨S1152x2048, .f32⟩
  | .hbm, ⟨5, _⟩ => ⟨S2048x1152, .f32⟩
  | .hbm, ⟨6, _⟩ => ⟨S4352x1152, .f32⟩
  | .hbm, ⟨7, _⟩ => ⟨S1152x2048, .f32⟩
  | .hbm, ⟨8, _⟩ => ⟨S2048x1152, .f32⟩
  | .hbm, ⟨9, _⟩ => ⟨S1152x2048, .f32⟩
  | .hbm, ⟨10, _⟩ => ⟨S1152x2048, .bf16⟩
  | _, _ => ⟨S4352x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel22.lean ====
abbrev S4352x512 : Shape := ⟨2, ![4352, 512]⟩
abbrev S512x3072 : Shape := ⟨2, ![512, 3072]⟩
abbrev S4352x3072 : Shape := ⟨2, ![4352, 3072]⟩
abbrev S1088x512 : Shape := ⟨2, ![1088, 512]⟩
abbrev S512x1024 : Shape := ⟨2, ![512, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x512, .bf16⟩
  | .hbm, ⟨1, _⟩ => ⟨S512x3072, .bf16⟩
  | .hbm, ⟨2, _⟩ => ⟨S4352x3072, .f32⟩
  | .local _ .vmem, ⟨0, _⟩ => ⟨S1088x512, .bf16⟩
  | .local _ .vmem, ⟨1, _⟩ => ⟨S1088x512, .bf16⟩
  | .local _ .vmem, ⟨2, _⟩ => ⟨S512x1024, .bf16⟩
  | .local _ .vmem, ⟨3, _⟩ => ⟨S512x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4352x512 : Shape := ⟨2, ![4352, 512]⟩
abbrev S512x3072 : Shape := ⟨2, ![512, 3072]⟩
abbrev S4352x3072 : Shape := ⟨2, ![4352, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S512x3072, .bf16⟩
  | .hbm, ⟨2, _⟩ => ⟨S4352x512, .f32⟩
  | .hbm, ⟨3, _⟩ => ⟨S512x3072, .f32⟩
  | .hbm, ⟨4, _⟩ => ⟨S4352x3072, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S4352x512 : Shape := ⟨2, ![4352, 512]⟩
abbrev S512x4096 : Shape := ⟨2, ![512, 4096]⟩
abbrev S4352x4096 : Shape := ⟨2, ![4352, 4096]⟩
abbrev S1088x512 : Shape := ⟨2, ![1088, 512]⟩
abbrev S512x1024 : Shape := ⟨2, ![512, 1024]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x512, .bf16⟩
  | .hbm, ⟨1, _⟩ => ⟨S512x4096, .bf16⟩
  | .hbm, ⟨2, _⟩ => ⟨S4352x4096, .f32⟩
  | .local _ .vmem, ⟨0, _⟩ => ⟨S1088x512, .bf16⟩
  | .local _ .vmem, ⟨1, _⟩ => ⟨S1088x512, .bf16⟩
  | .local _ .vmem, ⟨2, _⟩ => ⟨S512x1024, .bf16⟩
  | .local _ .vmem, ⟨3, _⟩ => ⟨S512x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4352x512 : Shape := ⟨2, ![4352, 512]⟩
abbrev S512x4096 : Shape := ⟨2, ![512, 4096]⟩
abbrev S4352x4096 : Shape := ⟨2, ![4352, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S512x4096, .bf16⟩
  | .hbm, ⟨2, _⟩ => ⟨S4352x512, .f32⟩
  | .hbm, ⟨3, _⟩ => ⟨S512x4096, .f32⟩
  | .hbm, ⟨4, _⟩ => ⟨S4352x4096, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S4352x2048 : Shape := ⟨2, ![4352, 2048]⟩
abbrev S512x2048 : Shape := ⟨2, ![512, 2048]⟩
abbrev S4352x512 : Shape := ⟨2, ![4352, 512]⟩
abbrev S1088x2048 : Shape := ⟨2, ![1088, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S512x2048, .bf16⟩
  | .hbm, ⟨2, _⟩ => ⟨S4352x512, .f32⟩
  | .local _ .vmem, ⟨0, _⟩ => ⟨S1088x2048, .f32⟩
  | .local _ .vmem, ⟨1, _⟩ => ⟨S1088x2048, .f32⟩
  | .local _ .vmem, ⟨2, _⟩ => ⟨S512x2048, .bf16⟩
  | .local _ .vmem, ⟨3, _⟩ => ⟨S1088x512, .f32⟩
  | .local _ .vmem, ⟨4, _⟩ => ⟨S1088x512, .f32⟩
  | .local _ .vmem, ⟨5, _⟩ => ⟨S1088x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4352x2048 : Shape := ⟨2, ![4352, 2048]⟩
abbrev S512x2048 : Shape := ⟨2, ![512, 2048]⟩
abbrev S_ : Shape := ⟨0, ![]⟩
abbrev S4352x512 : Shape := ⟨2, ![4352, 512]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S512x2048, .bf16⟩
  | .hbm, ⟨2, _⟩ => ⟨S512x2048, .f32⟩
  | .hbm, ⟨3, _⟩ => ⟨S_, .f32⟩
  | .hbm, ⟨4, _⟩ => ⟨S4352x512, .f32⟩
  | .hbm, ⟨5, _⟩ => ⟨S4352x2048, .f32⟩
  | .hbm, ⟨6, _⟩ => ⟨S4352x512, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S4352x1024 : Shape := ⟨2, ![4352, 1024]⟩
abbrev S512x1024 : Shape := ⟨2, ![512, 1024]⟩
abbrev S4352x512 : Shape := ⟨2, ![4352, 512]⟩
abbrev S1088x1024 : Shape := ⟨2, ![1088, 1024]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .f32⟩
  | .hbm, ⟨1, _⟩ => ⟨S512x1024, .bf16⟩
  | .hbm, ⟨2, _⟩ => ⟨S4352x512, .f32⟩
  | .hbm, ⟨3, _⟩ => ⟨S4352x512, .f32⟩
  | .local _ .vmem, ⟨0, _⟩ => ⟨S1088x1024, .f32⟩
  | .local _ .vmem, ⟨1, _⟩ => ⟨S1088x1024, .f32⟩
  | .local _ .vmem, ⟨2, _⟩ => ⟨S512x1024, .bf16⟩
  | .local _ .vmem, ⟨3, _⟩ => ⟨S1088x512, .f32⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4352x1024 : Shape := ⟨2, ![4352, 1024]⟩
abbrev S512x1024 : Shape := ⟨2, ![512, 1024]⟩
abbrev S4352x512 : Shape := ⟨2, ![4352, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S512x1024, .bf16⟩
  | .hbm, ⟨2, _⟩ => ⟨S4352x512, .f32⟩
  | .hbm, ⟨3, _⟩ => ⟨S512x1024, .f32⟩
  | .hbm, ⟨4, _⟩ => ⟨S_, .f32⟩
  | .hbm, ⟨5, _⟩ => ⟨S4352x512, .f32⟩
  | .hbm, ⟨6, _⟩ => ⟨S4352x1024, .f32⟩
  | .hbm, ⟨7, _⟩ => ⟨S4352x512, .f32⟩
  | .hbm, ⟨8, _⟩ => ⟨S4352x512, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel26.lean ====
abbrev S4352x2048 : Shape := ⟨2, ![4352, 2048]⟩
abbrev S512x2048 : Shape := ⟨2, ![512, 2048]⟩
abbrev S4352x512 : Shape := ⟨2, ![4352, 512]⟩
abbrev S1088x1024 : Shape := ⟨2, ![1088, 1024]⟩
abbrev S512x1024 : Shape := ⟨2, ![512, 1024]⟩
abbrev S1088x512 : Shape := ⟨2, ![1088, 512]⟩

abbrev nBuf : Space → Nat
  | .hbm => 5
  | .vmem => 11
  | .smem => 0
  | _ => 0

abbrev bufTy : (tb : Table) → Fin (tcTables nBuf tb) → BufTy
  | .hbm, ⟨0, _⟩ => ⟨S4352x2048, .f32⟩
  | .hbm, ⟨1, _⟩ => ⟨S512x2048, .bf16⟩
  | .hbm, ⟨2, _⟩ => ⟨S4352x2048, .f32⟩
  | .hbm, ⟨3, _⟩ => ⟨S512x2048, .bf16⟩
  | .hbm, ⟨4, _⟩ => ⟨S4352x512, .f32⟩
  | .local _ .vmem, ⟨0, _⟩ => ⟨S1088x1024, .f32⟩
  | .local _ .vmem, ⟨1, _⟩ => ⟨S1088x1024, .f32⟩
  | .local _ .vmem, ⟨2, _⟩ => ⟨S512x1024, .bf16⟩
  | .local _ .vmem, ⟨3, _⟩ => ⟨S512x1024, .bf16⟩
  | .local _ .vmem, ⟨4, _⟩ => ⟨S1088x1024, .f32⟩
  | .local _ .vmem, ⟨5, _⟩ => ⟨S1088x1024, .f32⟩
  | .local _ .vmem, ⟨6, _⟩ => ⟨S512x1024, .bf16⟩
  | .local _ .vmem, ⟨7, _⟩ => ⟨S512x1024, .bf16⟩
  | .local _ .vmem, ⟨8, _⟩ => ⟨S1088x512, .f32⟩
  | .local _ .vmem, ⟨9, _⟩ => ⟨S1088x512, .f32⟩
  | .local _ .vmem, ⟨10, _⟩ => ⟨S1088x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_13 : BitVec 32 := 0#32
  let v19 : BitVec 1 := Scalar.cmpi .ne v18 c0_i32_13
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference26Ideal.lean ====
abbrev S4352x2048 : Shape := ⟨2, ![4352, 2048]⟩
abbrev S512x2048 : Shape := ⟨2, ![512, 2048]⟩
abbrev S_ : Shape := ⟨0, ![]⟩
abbrev S4352x512 : Shape := ⟨2, ![4352, 512]⟩

abbrev nBuf : Space → Nat
  | .hbm => 13
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S512x2048, .bf16⟩
  | .hbm, ⟨2, _⟩ => ⟨S4352x2048, .f32⟩
  | .hbm, ⟨3, _⟩ => ⟨S512x2048, .bf16⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S4352x512, .f32⟩
  | .hbm, ⟨8, _⟩ => ⟨S4352x2048, .f32⟩
  | .hbm, ⟨9, _⟩ => ⟨S4352x2048, .f32⟩
  | .hbm, ⟨10, _⟩ => ⟨S4352x512, .f32⟩
  | .hbm, ⟨11, _⟩ => ⟨S4352x512, .f32⟩
  | .hbm, ⟨12, _⟩ => ⟨S4352x512, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel27.lean ====
abbrev S4352x512 : Shape := ⟨2, ![4352, 512]⟩
abbrev S4352x2048 : Shape := ⟨2, ![4352, 2048]⟩
abbrev S512x2048 : Shape := ⟨2, ![512, 2048]⟩
abbrev S544x512 : Shape := ⟨2, ![544, 512]⟩
abbrev S544x2048 : Shape := ⟨2, ![544, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4352x2048, .f32⟩
  | .hbm, ⟨2, _⟩ => ⟨S512x2048, .f32⟩
  | .local _ .vmem, ⟨0, _⟩ => ⟨S544x512, .bf16⟩
  | .local _ .vmem, ⟨1, _⟩ => ⟨S544x512, .bf16⟩
  | .local _ .vmem, ⟨2, _⟩ => ⟨S544x2048, .f32⟩
  | .local _ .vmem, ⟨3, _⟩ => ⟨S544x2048, .f32⟩
  | .local _ .vmem, ⟨4, _⟩ => ⟨S512x2048, .f32⟩
  | .local _ .vmem, ⟨5, _⟩ => ⟨S512x2048, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S4352x512 : Shape := ⟨2, ![4352, 512]⟩
abbrev S4352x2048 : Shape := ⟨2, ![4352, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x2048, .f32⟩
  | .hbm, ⟨2, _⟩ => ⟨S4352x512, .f32⟩
  | .hbm, ⟨3, _⟩ => ⟨S_, .f32⟩
  | .hbm, ⟨4, _⟩ => ⟨S512x2048, .f32⟩
  | .hbm, ⟨5, _⟩ => ⟨S4352x2048, .f32⟩
  | .hbm, ⟨6, _⟩ => ⟨S2048x512, .f32⟩
  | .hbm, ⟨7, _⟩ => ⟨S512x2048, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S4352x512 : Shape := ⟨2, ![4352, 512]⟩
abbrev S4352x1024 : Shape := ⟨2, ![4352, 1024]⟩
abbrev S512x1024 : Shape := ⟨2, ![512, 1024]⟩
abbrev S544x512 : Shape := ⟨2, ![544, 512]⟩
abbrev S544x1024 : Shape := ⟨2, ![544, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4352x1024, .f32⟩
  | .hbm, ⟨2, _⟩ => ⟨S512x1024, .f32⟩
  | .local _ .vmem, ⟨0, _⟩ => ⟨S544x512, .bf16⟩
  | .local _ .vmem, ⟨1, _⟩ => ⟨S544x512, .bf16⟩
  | .local _ .vmem, ⟨2, _⟩ => ⟨S544x1024, .f32⟩
  | .local _ .vmem, ⟨3, _⟩ => ⟨S544x1024, .f32⟩
  | .local _ .vmem, ⟨4, _⟩ => ⟨S512x1024, .f32⟩
  | .local _ .vmem, ⟨5, _⟩ => ⟨S512x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S544x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference28Ideal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x1024, .f32⟩
  | .hbm, ⟨2, _⟩ => ⟨S4352x512, .f32⟩
  | .hbm, ⟨3, _⟩ => ⟨S_, .f32⟩
  | .hbm, ⟨4, _⟩ => ⟨S512x1024, .f32⟩
  | .hbm, ⟨5, _⟩ => ⟨S4352x1024, .f32⟩
  | .hbm, ⟨6, _⟩ => ⟨S1024x512, .f32⟩
  | .hbm, ⟨7, _⟩ => ⟨S512x1024, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel32.lean ====
abbrev S4352x1152 : Shape := ⟨2, ![4352, 1152]⟩
abbrev S1x512 : Shape := ⟨2, ![1, 512]⟩
abbrev S4352x512 : Shape := ⟨2, ![4352, 512]⟩
abbrev S4352x128 : Shape := ⟨2, ![4352, 128]⟩
abbrev S128x1152 : Shape := ⟨2, ![128, 1152]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S4352x1152, .f32⟩
  | .hbm, ⟨1, _⟩ => ⟨S1x512, .f32⟩
  | .hbm, ⟨2, _⟩ => ⟨S1x512, .f32⟩
  | .hbm, ⟨3, _⟩ => ⟨S4352x512, .f32⟩
  | .hbm, ⟨4, _⟩ => ⟨S4352x512, .f32⟩
  | .hbm, ⟨5, _⟩ => ⟨S4352x128, .f32⟩
  | .hbm, ⟨6, _⟩ => ⟨S4352x1152, .f32⟩
  | .hbm, ⟨7, _⟩ => ⟨S1x512, .f32⟩
  | .hbm, ⟨8, _⟩ => ⟨S1x512, .f32⟩
  | .local _ .vmem, ⟨0, _⟩ => ⟨S128x1152, .f32⟩
  | .local _ .vmem, ⟨1, _⟩ => ⟨S128x1152, .f32⟩
  | .local _ .vmem, ⟨2, _⟩ => ⟨S1x512, .f32⟩
  | .local _ .vmem, ⟨3, _⟩ => ⟨S1x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x1152, .f32⟩
  | .local _ .vmem, ⟨11, _⟩ => ⟨S128x1152, .f32⟩
  | .local _ .vmem, ⟨12, _⟩ => ⟨S1x512, .f32⟩
  | .local _ .vmem, ⟨13, _⟩ => ⟨S1x512, .f32⟩
  | _, _ => ⟨S4352x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference32Ideal.lean ====
abbrev S4352x1152 : Shape := ⟨2, ![4352, 1152]⟩
abbrev S1x512 : Shape := ⟨2, ![1, 512]⟩
abbrev S4352x512 : Shape := ⟨2, ![4352, 512]⟩
abbrev S4352x128 : Shape := ⟨2, ![4352, 128]⟩
abbrev S_ : Shape := ⟨0, ![]⟩
abbrev S4352 : Shape := ⟨1, ![4352]⟩
abbrev S4352x1 : Shape := ⟨2, ![4352, 1]⟩
abbrev S512 : Shape := ⟨1, ![512]⟩

abbrev nBuf : Space → Nat
  | .hbm => 101
  | .vmem => 0
  | .smem => 0
  | _ => 0

abbrev bufTy : (tb : Table) → Fin (tcTables nBuf tb) → BufTy
  | .hbm, ⟨0, _⟩ => ⟨S4352x1152, .f32⟩
  | .hbm, ⟨1, _⟩ => ⟨S1x512, .f32⟩
  | .hbm, ⟨2, _⟩ => ⟨S1x512, .f32⟩
  | .hbm, ⟨3, _⟩ => ⟨S4352x512, .f32⟩
  | .hbm, ⟨4, _⟩ => ⟨S4352x512, .f32⟩
  | .hbm, ⟨5, _⟩ => ⟨S4352x128, .f32⟩
  | .hbm, ⟨6, _⟩ => ⟨S4352x512, .f32⟩
  | .hbm, ⟨7, _⟩ => ⟨S4352x512, .f32⟩
  | .hbm, ⟨8, _⟩ => ⟨S_, .f32⟩
  | .hbm, ⟨9, _⟩ => ⟨S4352, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S_, .f32⟩
  | .hbm, ⟨15, _⟩ => ⟨S4352x1, .f32⟩
  | .hbm, ⟨16, _⟩ => ⟨S4352x1, .f32⟩
  | .hbm, ⟨17, _⟩ => ⟨S4352x1, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S4352x512, .f32⟩
  | .hbm, ⟨23, _⟩ => ⟨S4352x512, .f32⟩
  | .hbm, ⟨24, _⟩ => ⟨S4352x512, .f32⟩
  | .hbm, ⟨25, _⟩ => ⟨S4352x512, .f32⟩
  | .hbm, ⟨26, _⟩ => ⟨S4352x512, .f32⟩
  | .hbm, ⟨27, _⟩ => ⟨S4352x512, .f32⟩
  | .hbm, ⟨28, _⟩ => ⟨S_, .f32⟩
  | .hbm, ⟨29, _⟩ => ⟨S4352, .f32⟩
  | .hbm, ⟨30, _⟩ => ⟨S4352x1, .f32⟩
  | .hbm, ⟨31, _⟩ => ⟨S_, .f32⟩
  | .hbm, ⟨32, _⟩ => ⟨S4352x1, .f32⟩
  | .hbm, ⟨33, _⟩ => ⟨S4352x1, .f32⟩
  | .hbm, ⟨34, _⟩ => ⟨S_, .f32⟩
  | .hbm, ⟨35, _⟩ => ⟨S4352x1, .f32⟩
  | .hbm, ⟨36, _⟩ => ⟨S4352x1, .f32⟩
  | .hbm, ⟨37, _⟩ => ⟨S4352x1, .f32⟩
  | .hbm, ⟨38, _⟩ => ⟨S4352x1, .f32⟩
  | .hbm, ⟨39, _⟩ => ⟨S_, .f32⟩
  | .hbm, ⟨40, _⟩ => ⟨S4352x1, .f32⟩
  | .hbm, ⟨41, _⟩ => ⟨S4352x1, .f32⟩
  | .hbm, ⟨42, _⟩ => ⟨S4352x512, .f32⟩
  | .hbm, ⟨43, _⟩ => ⟨S4352x512, .f32⟩
  | .hbm, ⟨44, _⟩ => ⟨S4352x512, .f32⟩
  | .hbm, ⟨45, _⟩ => ⟨S4352x512, .f32⟩
  | .hbm, ⟨46, _⟩ => ⟨S4352x128, .f32⟩
  | .hbm, ⟨47, _⟩ => ⟨S_, .f32⟩
  | .hbm, ⟨48, _⟩ => ⟨S4352x1152, .f32⟩
  | .hbm, ⟨49, _⟩ => ⟨S4352x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S4352x512, .f32⟩
  | .hbm, ⟨54, _⟩ => ⟨S4352x512, .f32⟩
  | .hbm, ⟨55, _⟩ => ⟨S4352x512, .f32⟩
  | .hbm, ⟨56, _⟩ => ⟨S_, .f32⟩
  | .hbm, ⟨57, _⟩ => ⟨S4352, .f32⟩
  | .hbm, ⟨58, _⟩ => ⟨S4352x1, .f32⟩
  | .hbm, ⟨59, _⟩ => ⟨S4352x512, .f32⟩
  | .hbm, ⟨60, _⟩ => ⟨S4352x512, .f32⟩
  | .hbm, ⟨61, _⟩ => ⟨S4352x1, .f32⟩
  | .hbm, ⟨62, _⟩ => ⟨S_, .f32⟩
  | .hbm, ⟨63, _⟩ => ⟨S4352x1, .f32⟩
  | .hbm, ⟨64, _⟩ => ⟨S4352x1, .f32⟩
  | .hbm, ⟨65, _⟩ => ⟨S_, .f32⟩
  | .hbm, ⟨66, _⟩ => ⟨S4352, .f32⟩
  | .hbm, ⟨67, _⟩ => ⟨S4352x512, .f32⟩
  | .hbm, ⟨68, _⟩ => ⟨S4352x512, .f32⟩
  | .hbm, ⟨69, _⟩ => ⟨S4352x512, .f32⟩
  | .hbm, ⟨70, _⟩ => ⟨S4352x512, .f32⟩
  | .hbm, ⟨71, _⟩ => ⟨S4352x512, .f32⟩
  | .hbm, ⟨72, _⟩ => ⟨S_, .f32⟩
  | .hbm, ⟨73, _⟩ => ⟨S4352x1152, .f32⟩
  | .hbm, ⟨74, _⟩ => ⟨S4352x1152, .f32⟩
  | .hbm, ⟨75, _⟩ => ⟨S4352x512, .f32⟩
  | .hbm, ⟨76, _⟩ => ⟨S_, .f32⟩
  | .hbm, ⟨77, _⟩ => ⟨S512, .f32⟩
  | .hbm, ⟨78, _⟩ => ⟨S1x512, .f32⟩
  | .hbm, ⟨79, _⟩ => ⟨S4352x512, .f32⟩
  | .hbm, ⟨80, _⟩ => ⟨S4352x512, .f32⟩
  | .hbm, ⟨81, _⟩ => ⟨S4352x512, .f32⟩
  | .hbm, ⟨82, _⟩ => ⟨S_, .f32⟩
  | .hbm, ⟨83, _⟩ => ⟨S4352, .f32⟩
  | .hbm, ⟨84, _⟩ => ⟨S4352x1, .f32⟩
  | .hbm, ⟨85, _⟩ => ⟨S4352x512, .f32⟩
  | .hbm, ⟨86, _⟩ => ⟨S4352x512, .f32⟩
  | .hbm, ⟨87, _⟩ => ⟨S4352x1, .f32⟩
  | .hbm, ⟨88, _⟩ => ⟨S_, .f32⟩
  | .hbm, ⟨89, _⟩ => ⟨S4352x1, .f32⟩
  | .hbm, ⟨90, _⟩ => ⟨S4352x1, .f32⟩
  | .hbm, ⟨91, _⟩ => ⟨S_, .f32⟩
  | .hbm, ⟨92, _⟩ => ⟨S4352, .f32⟩
  | .hbm, ⟨93, _⟩ => ⟨S4352x512, .f32⟩
  | .hbm, ⟨94, _⟩ => ⟨S4352x512, .f32⟩
  | .hbm, ⟨95, _⟩ => ⟨S4352x512, .f32⟩
  | .hbm, ⟨96, _⟩ => ⟨S4352x512, .f32⟩
  | .hbm, ⟨97, _⟩ => ⟨S4352x512, .f32⟩
  | .hbm, ⟨98, _⟩ => ⟨S_, .f32⟩
  | .hbm, ⟨99, _⟩ => ⟨S4352x1152, .f32⟩
  | .hbm, ⟨100, _⟩ => ⟨S4352x1152, .f32⟩
  | _, _ => ⟨S4352x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Kernel33.lean ====
abbrev S4352x2048 : Shape := ⟨2, ![4352, 2048]⟩
abbrev S4352x1 : Shape := ⟨2, ![4352, 1]⟩
abbrev S1x2048 : Shape := ⟨2, ![1, 2048]⟩
abbrev S1x128 : Shape := ⟨2, ![1, 128]⟩
abbrev S128x2048 : Shape := ⟨2, ![128, 2048]⟩
abbrev S128x1 : Shape := ⟨2, ![128, 1]⟩
abbrev S128 : Shape := ⟨1, ![128]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x1, .f32⟩
  | .hbm, ⟨3, _⟩ => ⟨S1x2048, .f32⟩
  | .hbm, ⟨4, _⟩ => ⟨S4352x2048, .f32⟩
  | .hbm, ⟨5, _⟩ => ⟨S4352x2048, .bf16⟩
  | .hbm, ⟨6, _⟩ => ⟨S1x2048, .f32⟩
  | .hbm, ⟨7, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x1, .f32⟩
  | .local _ .vmem, ⟨5, _⟩ => ⟨S128x1, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | .local _ .vmem, ⟨12, _⟩ => ⟨S1x128, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference33Ideal.lean ====
abbrev S4352x2048 : Shape := ⟨2, ![4352, 2048]⟩
abbrev S4352x1 : Shape := ⟨2, ![4352, 1]⟩
abbrev S1x2048 : Shape := ⟨2, ![1, 2048]⟩
abbrev S_ : Shape := ⟨0, ![]⟩
abbrev S4352 : Shape := ⟨1, ![4352]⟩
abbrev S2048 : Shape := ⟨1, ![2048]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x1, .f32⟩
  | .hbm, ⟨3, _⟩ => ⟨S1x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S4352x2048, .f32⟩
  | .hbm, ⟨25, _⟩ => ⟨S4352x2048, .f32⟩
  | .hbm, ⟨26, _⟩ => ⟨S4352x2048, .f32⟩
  | .hbm, ⟨27, _⟩ => ⟨S_, .f32⟩
  | .hbm, ⟨28, _⟩ => ⟨S4352x2048, .f32⟩
  | .hbm, ⟨29, _⟩ => ⟨S4352x2048, .f32⟩
  | .hbm, ⟨30, _⟩ => ⟨S_, .f32⟩
  | .hbm, ⟨31, _⟩ => ⟨S4352, .f32⟩
  | .hbm, ⟨32, _⟩ => ⟨S_, .f32⟩
  | .hbm, ⟨33, _⟩ => ⟨S4352, .f32⟩
  | .hbm, ⟨34, _⟩ => ⟨S4352, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4352, .f32⟩
  | .hbm, ⟨43, _⟩ => ⟨S_, .f32⟩
  | .hbm, ⟨44, _⟩ => ⟨S4352, .f32⟩
  | .hbm, ⟨45, _⟩ => ⟨S4352, .f32⟩
  | .hbm, ⟨46, _⟩ => ⟨S4352x2048, .f32⟩
  | .hbm, ⟨47, _⟩ => ⟨S4352x2048, .f32⟩
  | .hbm, ⟨48, _⟩ => ⟨S4352x2048, .f32⟩
  | .hbm, ⟨49, _⟩ => ⟨S4352x2048, .f32⟩
  | .hbm, ⟨50, _⟩ => ⟨S4352x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4352x2048, .f32⟩
  | .hbm, ⟨55, _⟩ => ⟨S4352x2048, .f32⟩
  | .hbm, ⟨56, _⟩ => ⟨S4352x2048, .f32⟩
  | .hbm, ⟨57, _⟩ => ⟨S_, .f32⟩
  | .hbm, ⟨58, _⟩ => ⟨S4352, .f32⟩
  | .hbm, ⟨59, _⟩ => ⟨S4352x1, .f32⟩
  | .hbm, ⟨60, _⟩ => ⟨S4352x2048, .f32⟩
  | .hbm, ⟨61, _⟩ => ⟨S4352x2048, .f32⟩
  | .hbm, ⟨62, _⟩ => ⟨S4352x1, .f32⟩
  | .hbm, ⟨63, _⟩ => ⟨S_, .f32⟩
  | .hbm, ⟨64, _⟩ => ⟨S4352x1, .f32⟩
  | .hbm, ⟨65, _⟩ => ⟨S4352x1, .f32⟩
  | .hbm, ⟨66, _⟩ => ⟨S_, .f32⟩
  | .hbm, ⟨67, _⟩ => ⟨S4352, .f32⟩
  | .hbm, ⟨68, _⟩ => ⟨S4352x2048, .f32⟩
  | .hbm, ⟨69, _⟩ => ⟨S4352x2048, .f32⟩
  | .hbm, ⟨70, _⟩ => ⟨S4352x2048, .f32⟩
  | .hbm, ⟨71, _⟩ => ⟨S4352x2048, .f32⟩
  | .hbm, ⟨72, _⟩ => ⟨S4352x2048, .f32⟩
  | .hbm, ⟨73, _⟩ => ⟨S4352x2048, .bf16⟩
  | .hbm, ⟨74, _⟩ => ⟨S1x128, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_13 : Ref sig .tc := ⟨.hbm, 63, rfl⟩
abbrev main_v45 : Ref sig .tc := ⟨.hbm, 64, rfl⟩
abbrev main_v46 : Ref sig .tc := ⟨.hbm, 65, rfl⟩
abbrev main_cst_14 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel36.lean ====
abbrev S4352x2048 : Shape := ⟨2, ![4352, 2048]⟩
abbrev S16x2048 : Shape := ⟨2, ![16, 2048]⟩

abbrev nBuf : Space → Nat
  | .hbm => 2
  | .vmem => 3
  | .smem => 0
  | _ => 0

abbrev bufTy : (tb : Table) → Fin (tcTables nBuf tb) → BufTy
  | .hbm, ⟨0, _⟩ => ⟨S4352x2048, .f32⟩
  | .hbm, ⟨1, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c136_i32 : BitVec 32 := 136#32
  let v0 : BitVec 32 := Scalar.muli arg0 c136_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference36Ideal.lean ====
abbrev S4352x2048 : Shape := ⟨2, ![4352, 2048]⟩
abbrev S_ : Shape := ⟨0, ![]⟩
abbrev S16x2048 : Shape := ⟨2, ![16, 2048]⟩
abbrev S1x16x2048 : Shape := ⟨3, ![1, 16, 2048]⟩
abbrev S2x16x2048 : Shape := ⟨3, ![2, 16, 2048]⟩
abbrev S2x2176x2048 : Shape := ⟨3, ![2, 2176, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S_, .f32⟩
  | .hbm, ⟨2, _⟩ => ⟨S16x2048, .f32⟩
  | .hbm, ⟨3, _⟩ => ⟨S1x16x2048, .f32⟩
  | .hbm, ⟨4, _⟩ => ⟨S2x16x2048, .f32⟩
  | .hbm, ⟨5, _⟩ => ⟨S2x2176x2048, .f32⟩
  | .hbm, ⟨6, _⟩ => ⟨S2x16x2048, .f32⟩
  | .hbm, ⟨7, _⟩ => ⟨S_, .f32⟩
  | .hbm, ⟨8, _⟩ => ⟨S16x2048, .f32⟩
  | .hbm, ⟨9, _⟩ => ⟨S1x16x2048, .f32⟩
  | .hbm, ⟨10, _⟩ => ⟨S_, .f32⟩
  | .hbm, ⟨11, _⟩ => ⟨S16x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel29.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x2048, .f32⟩
  | .hbm, ⟨14, _⟩ => ⟨S4352x2048, .f32⟩
  | .hbm, ⟨15, _⟩ => ⟨S4352x2048, .f32⟩
  | .hbm, ⟨16, _⟩ => ⟨S4352x2048, .f32⟩
  | .hbm, ⟨17, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S4352x2048 : Shape := ⟨2, ![4352, 2048]⟩
abbrev S1x2048 : Shape := ⟨2, ![1, 2048]⟩
abbrev S2176x256 : Shape := ⟨2, ![2176, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .local _ .vmem, ⟨0, _⟩ => ⟨S2176x256, .f32⟩
  | .local _ .vmem, ⟨1, _⟩ => ⟨S2176x256, .f32⟩
  | .local _ .vmem, ⟨2, _⟩ => ⟨S1x256, .f32⟩
  | .local _ .vmem, ⟨3, _⟩ => ⟨S1x256, .f32⟩
  | .local _ .vmem, ⟨4, _⟩ => ⟨S2176x256, .f32⟩
  | .local _ .vmem, ⟨5, _⟩ => ⟨S2176x256, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S4352x2048 : Shape := ⟨2, ![4352, 2048]⟩
abbrev S1x2048 : Shape := ⟨2, ![1, 2048]⟩
abbrev S2x2176x2048 : Shape := ⟨3, ![2, 2176, 2048]⟩
abbrev S_ : Shape := ⟨0, ![]⟩
abbrev S2x1x2048 : Shape := ⟨3, ![2, 1, 2048]⟩
abbrev S2x2175x2048 : Shape := ⟨3, ![2, 2175, 2048]⟩
abbrev S1x1x2048 : Shape := ⟨3, ![1, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S2x2176x2048, .f32⟩
  | .hbm, ⟨3, _⟩ => ⟨S_, .f32⟩
  | .hbm, ⟨4, _⟩ => ⟨S2x1x2048, .f32⟩
  | .hbm, ⟨5, _⟩ => ⟨S2x2175x2048, .f32⟩
  | .hbm, ⟨6, _⟩ => ⟨S2x2176x2048, .f32⟩
  | .hbm, ⟨7, _⟩ => ⟨S2x2176x2048, .f32⟩
  | .hbm, ⟨8, _⟩ => ⟨S1x1x2048, .f32⟩
  | .hbm, ⟨9, _⟩ => ⟨S2x2176x2048, .f32⟩
  | .hbm, ⟨10, _⟩ => ⟨S2x2176x2048, .f32⟩
  | .hbm, ⟨11, _⟩ => ⟨S2x2176x2048, .f32⟩
  | .hbm, ⟨12, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel35.lean ====
abbrev S4352x512 : Shape := ⟨2, ![4352, 512]⟩
abbrev S1x512 : Shape := ⟨2, ![1, 512]⟩
abbrev S2176x256 : Shape := ⟨2, ![2176, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S4352x512, .f32⟩
  | .local _ .vmem, ⟨0, _⟩ => ⟨S2176x256, .f32⟩
  | .local _ .vmem, ⟨1, _⟩ => ⟨S2176x256, .f32⟩
  | .local _ .vmem, ⟨2, _⟩ => ⟨S1x256, .f32⟩
  | .local _ .vmem, ⟨3, _⟩ => ⟨S1x256, .f32⟩
  | .local _ .vmem, ⟨4, _⟩ => ⟨S2176x256, .f32⟩
  | .local _ .vmem, ⟨5, _⟩ => ⟨S2176x256, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S4352x512 : Shape := ⟨2, ![4352, 512]⟩
abbrev S1x512 : Shape := ⟨2, ![1, 512]⟩
abbrev S2x2176x512 : Shape := ⟨3, ![2, 2176, 512]⟩
abbrev S_ : Shape := ⟨0, ![]⟩
abbrev S2x1x512 : Shape := ⟨3, ![2, 1, 512]⟩
abbrev S2x2175x512 : Shape := ⟨3, ![2, 2175, 512]⟩
abbrev S1x1x512 : Shape := ⟨3, ![1, 1, 512]⟩

abbrev nBuf : Space → Nat
  | .hbm => 13
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S1x512, .f32⟩
  | .hbm, ⟨2, _⟩ => ⟨S2x2176x512, .f32⟩
  | .hbm, ⟨3, _⟩ => ⟨S_, .f32⟩
  | .hbm, ⟨4, _⟩ => ⟨S2x1x512, .f32⟩
  | .hbm, ⟨5, _⟩ => ⟨S2x2175x512, .f32⟩
  | .hbm, ⟨6, _⟩ => ⟨S2x2176x512, .f32⟩
  | .hbm, ⟨7, _⟩ => ⟨S2x2176x512, .f32⟩
  | .hbm, ⟨8, _⟩ => ⟨S1x1x512, .f32⟩
  | .hbm, ⟨9, _⟩ => ⟨S2x2176x512, .f32⟩
  | .hbm, ⟨10, _⟩ => ⟨S2x2176x512, .f32⟩
  | .hbm, ⟨11, _⟩ => ⟨S2x2176x512, .f32⟩
  | .hbm, ⟨12, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel31.lean ====
abbrev S4352x1152 : Shape := ⟨2, ![4352, 1152]⟩
abbrev S1x512 : Shape := ⟨2, ![1, 512]⟩
abbrev S4352x512 : Shape := ⟨2, ![4352, 512]⟩
abbrev S256x1152 : Shape := ⟨2, ![256, 1152]⟩
abbrev S256x512 : Shape := ⟨2, ![256, 512]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4352x1152, .f32⟩
  | .hbm, ⟨1, _⟩ => ⟨S1x512, .f32⟩
  | .hbm, ⟨2, _⟩ => ⟨S1x512, .f32⟩
  | .hbm, ⟨3, _⟩ => ⟨S4352x512, .bf16⟩
  | .hbm, ⟨4, _⟩ => ⟨S4352x512, .bf16⟩
  | .local _ .vmem, ⟨0, _⟩ => ⟨S256x1152, .f32⟩
  | .local _ .vmem, ⟨1, _⟩ => ⟨S256x1152, .f32⟩
  | .local _ .vmem, ⟨2, _⟩ => ⟨S1x512, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | _, _ => ⟨S4352x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference31Ideal.lean ====
abbrev S4352x1152 : Shape := ⟨2, ![4352, 1152]⟩
abbrev S1x512 : Shape := ⟨2, ![1, 512]⟩
abbrev S4352x512 : Shape := ⟨2, ![4352, 512]⟩
abbrev S_ : Shape := ⟨0, ![]⟩
abbrev S4352 : Shape := ⟨1, ![4352]⟩
abbrev S4352x1 : Shape := ⟨2, ![4352, 1]⟩

abbrev nBuf : Space → Nat
  | .hbm => 37
  | .vmem => 0
  | .smem => 0
  | _ => 0

abbrev bufTy : (tb : Table) → Fin (tcTables nBuf tb) → BufTy
  | .hbm, ⟨0, _⟩ => ⟨S4352x1152, .f32⟩
  | .hbm, ⟨1, _⟩ => ⟨S1x512, .f32⟩
  | .hbm, ⟨2, _⟩ => ⟨S1x512, .f32⟩
  | .hbm, ⟨3, _⟩ => ⟨S4352x512, .f32⟩
  | .hbm, ⟨4, _⟩ => ⟨S4352x512, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x512, .f32⟩
  | .hbm, ⟨16, _⟩ => ⟨S4352x512, .f32⟩
  | .hbm, ⟨17, _⟩ => ⟨S4352x512, .f32⟩
  | .hbm, ⟨18, _⟩ => ⟨S4352x512, .f32⟩
  | .hbm, ⟨19, _⟩ => ⟨S4352x512, .bf16⟩
  | .hbm, ⟨20, _⟩ => ⟨S4352x512, .f32⟩
  | .hbm, ⟨21, _⟩ => ⟨S4352x512, .f32⟩
  | .hbm, ⟨22, _⟩ => ⟨S_, .f32⟩
  | .hbm, ⟨23, _⟩ => ⟨S4352, .f32⟩
  | .hbm, ⟨24, _⟩ => ⟨S4352x1, .f32⟩
  | .hbm, ⟨25, _⟩ => ⟨S_, .f32⟩
  | .hbm, ⟨26, _⟩ => ⟨S4352x1, .f32⟩
  | .hbm, ⟨27, _⟩ => ⟨S4352x1, .f32⟩
  | .hbm, ⟨28, _⟩ => ⟨S_, .f32⟩
  | .hbm, ⟨29, _⟩ => ⟨S4352x1, .f32⟩
  | .hbm, ⟨30, _⟩ => ⟨S4352x1, .f32⟩
  | .hbm, ⟨31, _⟩ => ⟨S4352x1, .f32⟩
  | .hbm, ⟨32, _⟩ => ⟨S4352x512, .f32⟩
  | .hbm, ⟨33, _⟩ => ⟨S4352x512, .f32⟩
  | .hbm, ⟨34, _⟩ => ⟨S4352x512, .f32⟩
  | .hbm, ⟨35, _⟩ => ⟨S4352x512, .f32⟩
  | .hbm, ⟨36, _⟩ => ⟨S4352x512, .bf16⟩
  | _, _ => ⟨S4352x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel37.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S704x2048 : Shape := ⟨2, ![704, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference38Ideal.lean ====
abbrev S704x2048 : Shape := ⟨2, ![704, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S_, .f32⟩
  | .hbm, ⟨5, _⟩ => ⟨S704x2048, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S4352x2048 : Shape := ⟨2, ![4352, 2048]⟩
abbrev S1x2048 : Shape := ⟨2, ![1, 2048]⟩
abbrev S2048x128 : Shape := ⟨2, ![2048, 128]⟩
abbrev S_ : Shape := ⟨0, ![]⟩
abbrev S128x2048 : Shape := ⟨2, ![128, 2048]⟩
abbrev S128x128 : Shape := ⟨2, ![128, 128]⟩

abbrev nBuf : Space → Nat
  | .hbm => 33
  | .vmem => 23
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048x128, .i32⟩
  | .hbm, ⟨12, _⟩ => ⟨S2048x128, .i32⟩
  | .hbm, ⟨13, _⟩ => ⟨S_, .i32⟩
  | .hbm, ⟨14, _⟩ => ⟨S2048x128, .i32⟩
  | .hbm, ⟨15, _⟩ => ⟨S2048x128, .i32⟩
  | .hbm, ⟨16, _⟩ => ⟨S2048x128, .i1⟩
  | .hbm, ⟨17, _⟩ => ⟨S_, .i32⟩
  | .hbm, ⟨18, _⟩ => ⟨S2048x128, .i32⟩
  | .hbm, ⟨19, _⟩ => ⟨S2048x128, .i32⟩
  | .hbm, ⟨20, _⟩ => ⟨S_, .i32⟩
  | .hbm, ⟨21, _⟩ => ⟨S2048x128, .i32⟩
  | .hbm, ⟨22, _⟩ => ⟨S2048x128, .i32⟩
  | .hbm, ⟨23, _⟩ => ⟨S2048x128, .i1⟩
  | .hbm, ⟨24, _⟩ => ⟨S2048x128, .i1⟩
  | .hbm, ⟨25, _⟩ => ⟨S_, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S2048x128, .bf16⟩
  | .hbm, ⟨31, _⟩ => ⟨S128x2048, .bf16⟩
  | .hbm, ⟨32, _⟩ => ⟨S4352x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S2048x128, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference39Ideal.lean ====
abbrev S4352x2048 : Shape := ⟨2, ![4352, 2048]⟩
abbrev S1x2048 : Shape := ⟨2, ![1, 2048]⟩
abbrev S4352x32x64 : Shape := ⟨3, ![4352, 32, 64]⟩
abbrev S_ : Shape := ⟨0, ![]⟩
abbrev S4352x32 : Shape := ⟨2, ![4352, 32]⟩
abbrev S4352x32x1 : Shape := ⟨3, ![4352, 32, 1]⟩

abbrev nBuf : Space → Nat
  | .hbm => 75
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S4352x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S4352x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4352x32x64, .f32⟩
  | .hbm, ⟨12, _⟩ => ⟨S4352x32x64, .f32⟩
  | .hbm, ⟨13, _⟩ => ⟨S4352x32x64, .f32⟩
  | .hbm, ⟨14, _⟩ => ⟨S4352x32x64, .f32⟩
  | .hbm, ⟨15, _⟩ => ⟨S_, .f32⟩
  | .hbm, ⟨16, _⟩ => ⟨S4352x32, .f32⟩
  | .hbm, ⟨17, _⟩ => ⟨S4352x32x1, .f32⟩
  | .hbm, ⟨18, _⟩ => ⟨S_, .f32⟩
  | .hbm, ⟨19, _⟩ => ⟨S4352x32x1, .f32⟩
  | .hbm, ⟨20, _⟩ => ⟨S4352x32x1, .f32⟩
  | .hbm, ⟨21, _⟩ => ⟨S4352x32x64, .f32⟩
  | .hbm, ⟨22, _⟩ => ⟨S4352x32x64, .f32⟩
  | .hbm, ⟨23, _⟩ => ⟨S4352x32x64, .f32⟩
  | .hbm, ⟨24, _⟩ => ⟨S_, .f32⟩
  | .hbm, ⟨25, _⟩ => ⟨S4352x32, .f32⟩
  | .hbm, ⟨26, _⟩ => ⟨S4352x32x1, .f32⟩
  | .hbm, ⟨27, _⟩ => ⟨S_, .f32⟩
  | .hbm, ⟨28, _⟩ => ⟨S4352x32x1, .f32⟩
  | .hbm, ⟨29, _⟩ => ⟨S4352x32x1, .f32⟩
  | .hbm, ⟨30, _⟩ => ⟨S4352x32x64, .f32⟩
  | .hbm, ⟨31, _⟩ => ⟨S4352x32x64, .f32⟩
  | .hbm, ⟨32, _⟩ => ⟨S_, .f32⟩
  | .hbm, ⟨33, _⟩ => ⟨S4352x32x1, .f32⟩
  | .hbm, ⟨34, _⟩ => ⟨S4352x32x1, .f32⟩
  | .hbm, ⟨35, _⟩ => ⟨S4352x32x1, .f32⟩
  | .hbm, ⟨36, _⟩ => ⟨S4352x32x64, .f32⟩
  | .hbm, ⟨37, _⟩ => ⟨S4352x32x64, .f32⟩
  | .hbm, ⟨38, _⟩ => ⟨S4352x2048, .f32⟩
  | .hbm, ⟨39, _⟩ => ⟨S4352x2048, .f32⟩
  | .hbm, ⟨40, _⟩ => ⟨S4352x2048, .f32⟩
  | .hbm, ⟨41, _⟩ => ⟨S4352x2048, .f32⟩
  | .hbm, ⟨42, _⟩ => ⟨S4352x2048, .f32⟩
  | .hbm, ⟨43, _⟩ => ⟨S4352x32x64, .f32⟩
  | .hbm, ⟨44, _⟩ => ⟨S4352x2048, .f32⟩
  | .hbm, ⟨45, _⟩ => ⟨S4352x32x64, .f32⟩
  | .hbm, ⟨46, _⟩ => ⟨S4352x32x64, .f32⟩
  | .hbm, ⟨47, _⟩ => ⟨S_, .f32⟩
  | .hbm, ⟨48, _⟩ => ⟨S4352x32, .f32⟩
  | .hbm, ⟨49, _⟩ => ⟨S4352x32x1, .f32⟩
  | .hbm, ⟨50, _⟩ => ⟨S4352x32x64, .f32⟩
  | .hbm, ⟨51, _⟩ => ⟨S4352x32x64, .f32⟩
  | .hbm, ⟨52, _⟩ => ⟨S4352x2048, .f32⟩
  | .hbm, ⟨53, _⟩ => ⟨S4352x2048, .f32⟩
  | .hbm, ⟨54, _⟩ => ⟨S4352x2048, .f32⟩
  | .hbm, ⟨55, _⟩ => ⟨S4352x2048, .f32⟩
  | .hbm, ⟨56, _⟩ => ⟨S4352x2048, .f32⟩
  | .hbm, ⟨57, _⟩ => ⟨S_, .f32⟩
  | .hbm, ⟨58, _⟩ => ⟨S4352x2048, .f32⟩
  | .hbm, ⟨59, _⟩ => ⟨S4352x2048, .f32⟩
  | .hbm, ⟨60, _⟩ => ⟨S_, .f32⟩
  | .hbm, ⟨61, _⟩ => ⟨S4352x2048, .f32⟩
  | .hbm, ⟨62, _⟩ => ⟨S4352x2048, .f32⟩
  | .hbm, ⟨63, _⟩ => ⟨S4352x2048, .f32⟩
  | .hbm, ⟨64, _⟩ => ⟨S4352x2048, .f32⟩
  | .hbm, ⟨65, _⟩ => ⟨S4352x2048, .f32⟩
  | .hbm, ⟨66, _⟩ => ⟨S_, .f32⟩
  | .hbm, ⟨67, _⟩ => ⟨S4352x2048, .f32⟩
  | .hbm, ⟨68, _⟩ => ⟨S4352x2048, .f32⟩
  | .hbm, ⟨69, _⟩ => ⟨S_, .f32⟩
  | .hbm, ⟨70, _⟩ => ⟨S4352x2048, .f32⟩
  | .hbm, ⟨71, _⟩ => ⟨S4352x2048, .f32⟩
  | .hbm, ⟨72, _⟩ => ⟨S4352x2048, .f32⟩
  | .hbm, ⟨73, _⟩ => ⟨S4352x2048, .f32⟩
  | .hbm, ⟨74, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.Reals.lean ====
/- Arrays of finite extended reals: every operation of the two programs, applied to arrays whose
   elements are real numbers, gives an array of real numbers. The lemmas named `l_…` move one
   operation from the extended reals to the reals; together they bring an expression over finite
   elements to the coercion of one real expression. -/
module

public import Idealize.ShloMosaic.Lib.Pipeline.ValueKit
public import Idealize.ShloMosaic.Lib.Pointwise

@[expose] public section

set_option maxRecDepth 16384

noncomputable section

namespace Cert.Reals

open Idealize.ShloMosaic

/-- The array of rank two whose elements are the real numbers `f r c`. -/
def up2 {n m : ℕ} (f : Fin n → Fin m → ℝ) : (⟨2, ![n, m]⟩ : Shape).Idx → EReal :=
  fun i => ((f (i 0) (i 1) : ℝ) : EReal)

/-- An element of an array of real numbers. -/
theorem up2_at {n m : ℕ} (f : Fin n → Fin m → ℝ) (r : Fin n) (c : Fin m) :
    up2 f (ix2 r c) = ((f r c : ℝ) : EReal) := rfl

/-- An array of rank two all of whose elements are finite is `up2` of its real values. -/
theorem eq_up2 {n m : ℕ} {x : (⟨2, ![n, m]⟩ : Shape).Idx → EReal} (h : ∀ i, x i ≠ ⊥ ∧ x i ≠ ⊤) :
    x = up2 fun r c => (x (ix2 r c)).toReal := by
  funext i
  rw [eq_ix2 i]
  exact (EReal.coe_toReal (h _).2 (h _).1).symm

/-- Two arrays of rank two agree where their elements agree. -/
theorem ext2 {n m : ℕ} {x y : (⟨2, ![n, m]⟩ : Shape).Idx → EReal}
    (h : ∀ (r : Fin n) (c : Fin m), x (ix2 r c) = y (ix2 r c)) : x = y := by
  funext i
  rw [eq_ix2 i]
  exact h _ _

/-- The array of rank three whose elements are the real numbers `f a b c`. -/
def up3 {n m k : ℕ} (f : Fin n → Fin m → Fin k → ℝ) : (⟨3, ![n, m, k]⟩ : Shape).Idx → EReal :=
  fun i => ((f (i 0) (i 1) (i 2) : ℝ) : EReal)

/-- An element of an array of real numbers. -/
theorem up3_at {n m k : ℕ} (f : Fin n → Fin m → Fin k → ℝ) (a : Fin n) (b : Fin m) (c : Fin k) :
    up3 f (ix3 a b c) = ((f a b c : ℝ) : EReal) := rfl

/-- Two arrays of rank three agree where their elements agree. -/
theorem ext3 {n m k : ℕ} {x y : (⟨3, ![n, m, k]⟩ : Shape).Idx → EReal}
    (h : ∀ (a : Fin n) (b : Fin m) (c : Fin k), x (ix3 a b c) = y (ix3 a b c)) : x = y := by
  funext i
  rw [eq_ix3 i]
  exact h _ _ _

theorem l_zero : (0 : EReal) = ((0 : ℝ) : EReal) := rfl
theorem l_one : (1 : EReal) = ((1 : ℝ) : EReal) := rfl
theorem l_add (a b : ℝ) : (a : EReal) + (b : EReal) = ((a + b : ℝ) : EReal) := rfl
theorem l_mul (a b : ℝ) : (a : EReal) * (b : EReal) = ((a * b : ℝ) : EReal) := (EReal.coe_mul a b).symm
theorem l_sub (a b : ℝ) : (a : EReal) - (b : EReal) = ((a - b : ℝ) : EReal) := (EReal.coe_sub a b).symm
theorem l_neg (a : ℝ) : -(a : EReal) = ((-a : ℝ) : EReal) := (EReal.coe_neg a).symm
theorem l_max (a b : ℝ) : max (a : EReal) (b : EReal) = ((max a b : ℝ) : EReal) :=
  (EReal.coe_strictMono.monotone.map_max (a := a) (b := b)).symm

/-- A finite sum of real numbers is a real number. -/
theorem l_sum {ι : Type} (s : Finset ι) (f : ι → ℝ) :
    ∑ k ∈ s, ((f k : ℝ) : EReal) = ((∑ k ∈ s, f k : ℝ) : EReal) := by
  classical
  induction s using Finset.induction_on with
  | empty => rfl
  | insert a s ha ih => rw [Finset.sum_insert ha, Finset.sum_insert ha, ih, l_add]

theorem l_exp (a : ℝ) : Ideal.exp (a : EReal) = ((Real.exp a : ℝ) : EReal) := rfl
theorem l_tanh (a : ℝ) : Ideal.tanh (a : EReal) = ((Real.tanh a : ℝ) : EReal) := rfl

/-- A quotient of real numbers with a divisor other than zero. -/
theorem l_div {b : ℝ} (hb : b ≠ 0) (a : ℝ) : Ideal.div (a : EReal) (b : EReal) = ((a / b : ℝ) : EReal) := by
  rw [Ideal.div_coe hb, l_mul]
  congr 1
  ring

/-- The inverse square root of a positive real number. -/
theorem l_rsqrt {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg ha.le.not_gt, if_neg ha.ne']

/-- The logarithm of a positive real number. -/
theorem l_log {a : ℝ} (ha : 0 < a) : Ideal.log (a : EReal) = ((Real.log a : ℝ) : EReal) := by
  show (if a ≤ 0 then (⊥ : EReal) else ((Real.log a : ℝ) : EReal)) = _
  rw [if_neg ha.not_ge]

end Cert.Reals

end
-- ==== Proof.GateReals.lean ====
/- The mathematics of the gated merge and of its gradient over the real numbers: the group norm of each
   head, the bonus, the two gates, and the cotangents. Both programs are read as these functions. -/
module

public import proofs.«01_k».proof.Proof.Reals

@[expose] public section

set_option maxRecDepth 16384

noncomputable section

namespace Cert.Gate

open Idealize.ShloMosaic Idealize.ShloMosaic.TcCoe Idealize.SL.Sem
open Cert.Reals

/-- The matrix of heads: column `h` is one on the 64 channels of head `h` and zero elsewhere. -/
def Em (c : Fin 2048) (h : Fin 128) : ℝ := if 64 * h.val ≤ c.val ∧ c.val < 64 * h.val + 64 then 1 else 0

/-- Its transpose. -/
def Et (h : Fin 128) (c : Fin 2048) : ℝ := Em c h

/-- The sum of a row over the 64 channels of the head that channel `c` belongs to. -/
def seg {n : ℕ} (x : Fin n → Fin 2048 → ℝ) (r : Fin n) (c : Fin 2048) : ℝ :=
  ∑ l : Fin 64, x r ⟨64 * (c.val / 64) + l.val, by omega⟩

/-- Summing per head and spreading the sums back over the channels of each head. -/
theorem seg_eq {n : ℕ} (x : Fin n → Fin 2048 → ℝ) (r : Fin n) (c : Fin 2048) :
    ∑ h : Fin 128, (∑ k : Fin 2048, x r k * Em k h) * Et h c = seg x r c := by
  have hc : c.val / 64 < 128 := by omega
  rw [Finset.sum_eq_single (⟨c.val / 64, hc⟩ : Fin 128)]
  · have h1 : Et ⟨c.val / 64, hc⟩ c = 1 := by
      unfold Et Em
      rw [if_pos]
      constructor <;> dsimp only <;> omega
    rw [h1, mul_one]
    unfold seg
    have e : ∀ k : Fin 2048, x r k * Em k ⟨c.val / 64, hc⟩
        = if 64 * (c.val / 64) ≤ k.val ∧ k.val < 64 * (c.val / 64) + 64 then x r k else 0 := by
      intro k
      unfold Em
      split_ifs <;> simp
    rw [Finset.sum_congr rfl fun k _ => e k, ← Finset.sum_filter]
    symm
    refine Finset.sum_bij (fun l _ => (⟨64 * (c.val / 64) + l.val, by omega⟩ : Fin 2048)) ?_ ?_ ?_ ?_
    · intro l _
      simp only [Finset.mem_filter, Finset.mem_univ, true_and]
      omega
    · intro a _ b _ hab
      have := congrArg Fin.val hab
      dsimp only at this
      exact Fin.ext (by omega)
    · intro k hk
      simp only [Finset.mem_filter, Finset.mem_univ, true_and] at hk
      exact ⟨⟨k.val - 64 * (c.val / 64), by omega⟩, Finset.mem_univ _, Fin.ext (by dsimp only; omega)⟩
    · intro l _
      rfl
  · intro h _ hne
    have : Et h c = 0 := by
      unfold Et Em
      rw [if_neg]
      intro hh
      exact hne (Fin.ext (by dsimp only; omega))
    rw [this, mul_zero]
  · intro h
    exact absurd (Finset.mem_univ _) h

/-- Products of a row with the matrix of heads. -/
def sums {n : ℕ} (x : Fin n → Fin 2048 → ℝ) (r : Fin n) (h : Fin 128) : ℝ := ∑ k : Fin 2048, x r k * Em k h

def none0 {n m : ℕ} (r : Fin n) (c : Fin m) : ℝ := 0

/-- The small number added to the variance of a head. -/
def eps : ℝ := 10995116 / 2 ^ 34

theorem lit_64 : Ideal.ofBits .f32 0x3C800000#32 = ((1 / 64 : ℝ) : EReal) := by
  simp [Ideal.ofBits, Ideal.ieee, -EReal.coe_mul]; norm_num

theorem lit_eps : Ideal.ofBits .f32 0x3A27C5AC#32 = ((eps : ℝ) : EReal) := by
  unfold eps
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- A value minus the mean over the channels of its head. -/
def cen {n : ℕ} (y : Fin n → Fin 2048 → ℝ) (r : Fin n) (c : Fin 2048) : ℝ := y r c - seg y r c * (1 / 64)

/-- The variance over the channels of a head, plus `eps`. -/
def var {n : ℕ} (y : Fin n → Fin 2048 → ℝ) (r : Fin n) (c : Fin 2048) : ℝ :=
  seg (fun r c => cen y r c * cen y r c) r c * (1 / 64) + eps

theorem var_pos {n : ℕ} (y : Fin n → Fin 2048 → ℝ) (r : Fin n) (c : Fin 2048) : 0 < var y r c := by
  have h : 0 ≤ seg (fun r c => cen y r c * cen y r c) r c :=
    Finset.sum_nonneg fun l _ => mul_self_nonneg _
  have he : 0 < eps := by unfold eps; norm_num
  unfold var
  positivity

/-- The inverse square root of `var`. -/
def rst {n : ℕ} (y : Fin n → Fin 2048 → ℝ) (r : Fin n) (c : Fin 2048) : ℝ := (Real.sqrt (var y r c))⁻¹

/-- The derivative of `rst` by `var`. -/
def rst' {n : ℕ} (y : Fin n → Fin 2048 → ℝ) (r : Fin n) (c : Fin 2048) : ℝ :=
  -(1 / 2) * (rst y r c / var y r c)

/-- The normalised row with its scale and shift. -/
def nrm {n : ℕ} (y : Fin n → Fin 2048 → ℝ) (gw gb : Fin 1 → Fin 2048 → ℝ) (r : Fin n) (c : Fin 2048) : ℝ :=
  cen y r c * rst y r c * gw 0 c + gb 0 c

/-- The triple product whose head sums are the bonus. -/
def tri {n : ℕ} (r k : Fin n → Fin 2048 → ℝ) (rk : Fin 1 → Fin 2048 → ℝ) (i : Fin n) (c : Fin 2048) : ℝ :=
  r i c * k i c * rk 0 c

/-- A row plus the bonus times the values. -/
def act {n : ℕ} (u b v : Fin n → Fin 2048 → ℝ) (i : Fin n) (c : Fin 2048) : ℝ := u i c + b i c * v i c

theorem exp_pos1 (x : ℝ) : (1 + Real.exp (0 - x)) ≠ 0 := by positivity

theorem exp_pos2 (x : ℝ) : (1 + Real.exp (0 - x)) * (1 + Real.exp (0 - x)) ≠ 0 := by positivity

/-- The logistic function. -/
def sg (x : ℝ) : ℝ := 1 / (1 + Real.exp (0 - x))

/-- The derivative of the logistic function. -/
def sg' (x : ℝ) : ℝ := Real.exp (0 - x) / ((1 + Real.exp (0 - x)) * (1 + Real.exp (0 - x)))

/-- The cotangent of the bonus: head sums of the cotangent times the values. -/
def dbn {n : ℕ} (d g v : Fin n → Fin 2048 → ℝ) (i : Fin n) (c : Fin 2048) : ℝ :=
  seg (fun i c => d i c * g i c * v i c) i c

/-- The product whose head sums are the cotangent of the squares that make up the variance. -/
def dsq {n : ℕ} (g d u w : Fin n → Fin 2048 → ℝ) (gw : Fin 1 → Fin 2048 → ℝ) (i : Fin n) (c : Fin 2048) : ℝ :=
  u i c * (d i c * g i c * gw 0 c) * w i c * (1 / 64)

/-- The cotangent of the centred row: `p` is the part through the scaling, `s` the cotangent of the squares. -/
def dcen {n : ℕ} (u p s : Fin n → Fin 2048 → ℝ) (i : Fin n) (c : Fin 2048) : ℝ :=
  p i c + u i c * seg s i c + seg s i c * u i c

/-- The cotangent of the gated row, before it is split among the factors. -/
def dd {n : ℕ} (pa dm : Fin n → Fin 2048 → ℝ) (i : Fin n) (c : Fin 2048) : ℝ := sg (pa i c) * dm i c

/-- The gradient by the rows that go into the group norm. -/
def oDy {n : ℕ} (y g d : Fin n → Fin 2048 → ℝ) (gw : Fin 1 → Fin 2048 → ℝ) (i : Fin n) (c : Fin 2048) : ℝ :=
  dcen (cen y) (fun i c => d i c * g i c * gw 0 c * rst y i c) (dsq g d (cen y) (rst' y) gw) i c
    + seg (fun i c => (0 - dcen (cen y) (fun i c => d i c * g i c * gw 0 c * rst y i c)
        (dsq g d (cen y) (rst' y) gw) i c) * (1 / 64)) i c

/-- The gradient by the receptances. -/
def oDr {n : ℕ} (k v g d : Fin n → Fin 2048 → ℝ) (rk : Fin 1 → Fin 2048 → ℝ) (i : Fin n) (c : Fin 2048) : ℝ :=
  dbn d g v i c * rk 0 c * k i c

/-- The gradient by the keys. -/
def oDk {n : ℕ} (r v g d : Fin n → Fin 2048 → ℝ) (rk : Fin 1 → Fin 2048 → ℝ) (i : Fin n) (c : Fin 2048) : ℝ :=
  r i c * (dbn d g v i c * rk 0 c)

/-- The gradient by the values. -/
def oDv {n : ℕ} (r k g d : Fin n → Fin 2048 → ℝ) (rk : Fin 1 → Fin 2048 → ℝ) (i : Fin n) (c : Fin 2048) : ℝ :=
  seg (tri r k rk) i c * (d i c * g i c)

/-- The row that the gate `g` multiplies. -/
def oAct {n : ℕ} (y r k v : Fin n → Fin 2048 → ℝ) (gw gb rk : Fin 1 → Fin 2048 → ℝ) (i : Fin n) (c : Fin 2048) : ℝ :=
  act (nrm y gw gb) (seg (tri r k rk)) v i c

/-- The gradient by the gate `g`. -/
def oDg {n : ℕ} (a d : Fin n → Fin 2048 → ℝ) (i : Fin n) (c : Fin 2048) : ℝ := a i c * d i c

/-- The gradient by the argument of the first branch's gate. -/
def oPa {n : ℕ} (a g pa dm : Fin n → Fin 2048 → ℝ) (i : Fin n) (c : Fin 2048) : ℝ :=
  dm i c * (a i c * g i c) * sg' (pa i c)

/-- The gradient by the argument of the second branch's gate. -/
def oPb {n : ℕ} (b pb dm : Fin n → Fin 2048 → ℝ) (i : Fin n) (c : Fin 2048) : ℝ := dm i c * b i c * sg' (pb i c)

/-- The gradient by the scale of the group norm. -/
def oGw {n : ℕ} (y g d : Fin n → Fin 2048 → ℝ) (_ : Fin 1) (c : Fin 2048) : ℝ :=
  ∑ i : Fin n, cen y i c * rst y i c * (d i c * g i c)

/-- The gradient by the shift of the group norm. -/
def oGb {n : ℕ} (g d : Fin n → Fin 2048 → ℝ) (_ : Fin 1) (c : Fin 2048) : ℝ := ∑ i : Fin n, d i c * g i c

/-- The gradient by the bonus weights. -/
def oRk {n : ℕ} (r k v g d : Fin n → Fin 2048 → ℝ) (_ : Fin 1) (c : Fin 2048) : ℝ :=
  ∑ i : Fin n, r i c * k i c * dbn d g v i c

/-- The derivative of the logistic function in terms of its value. -/
theorem sg'_eq (x : ℝ) : sg x * (1 - sg x) = sg' x := by
  unfold sg sg'
  have h : (1 + Real.exp (0 - x)) ≠ 0 := by positivity
  field_simp
  ring

end Cert.Gate

end
-- ==== Proof.Gate.lean ====
/- The kernel's body on arrays of real numbers: each value it computes, as a real function of the blocks. -/
module

public import proofs.«01_k».proof.Proof.Gen.KernelIdeal.Skeleton
public import proofs.«01_k».proof.Proof.GateReals

@[expose] public section

set_option maxRecDepth 16384

noncomputable section

namespace Cert.Gate

open Idealize.ShloMosaic Idealize.ShloMosaic.TcCoe Idealize.SL.Sem
open Cert.Reals Cert.KernelIdeal Cert.KernelIdeal.Gen

theorem pay7_up : k0_pay7 (F := Ideal) (up2 Em) = up2 Em := by
  refine ext2 (n := 2048) (m := 128) fun r c => ?_
  pointwise [k0_pay7]

theorem pay8_up : k0_pay8 (F := Ideal) (up2 Em) = up2 Et := by
  refine ext2 (n := 128) (m := 2048) fun r c => ?_
  pointwise [k0_pay8, pay7_up, up2_at]
  rfl

theorem pay10_up (y : Fin 64 → Fin 2048 → ℝ) :
    k0_pay10 (F := Ideal) (up2 y) (up2 (seg y)) = up2 (cen y) := by
  refine ext2 (n := 64) (m := 2048) fun r c => ?_
  pointwise [k0_pay10, up2_at, lit_64]
  simp only [l_zero, l_add, l_mul, l_sub, l_sum, zero_mul, Finset.sum_const_zero, zero_add, add_zero]
  rfl

/-- Head sums of an array, as the kernel forms them: the array and what rounding leaves of it, each times the matrix of heads. -/
def headSums (x : FVec Ideal S64x2048 .f32) (e : FVec Ideal S2048x128 .bf16) : FVec Ideal S64x128 .f32 :=
  addf (matmul dot_S64x2048_S2048x128_S64x128_1_0_0_1_n_n none (truncf .bf16 x bitsLt_bf16_f32) e
      (constant S64x128 .f32 0x00000000#32))
    (matmul dot_S64x2048_S2048x128_S64x128_1_0_0_1_n_n none
      (truncf .bf16 (subf x (extf .f32 (truncf .bf16 x bitsLt_bf16_f32) bitsLt_bf16_f32)) bitsLt_bf16_f32) e
      (constant S64x128 .f32 0x00000000#32))

/-- Head sums spread back over the channels, the same way with the transposed matrix. -/
def spread (z : FVec Ideal S64x128 .f32) (t : FVec Ideal S128x2048 .bf16) : FVec Ideal S64x2048 .f32 :=
  addf (matmul dot_S64x128_S128x2048_S64x2048_1_0_0_1_n_n none (truncf .bf16 z bitsLt_bf16_f32) t
      (constant S64x2048 .f32 0x00000000#32))
    (matmul dot_S64x128_S128x2048_S64x2048_1_0_0_1_n_n none
      (truncf .bf16 (subf z (extf .f32 (truncf .bf16 z bitsLt_bf16_f32) bitsLt_bf16_f32)) bitsLt_bf16_f32) t
      (constant S64x2048 .f32 0x00000000#32))

theorem headSums_up (x : Fin 64 → Fin 2048 → ℝ) : headSums (up2 x) (up2 Em) = up2 (sums x) := by
  refine ext2 (n := 64) (m := 128) fun r c => ?_
  pointwise [headSums, up2_at]
  simp only [l_zero, l_add, l_mul, l_sub, l_sum, sub_self, zero_mul, mul_zero, Finset.sum_const_zero, add_zero, zero_add]
  rfl

theorem spread_up (x : Fin 64 → Fin 2048 → ℝ) : spread (up2 (sums x)) (up2 Et) = up2 (seg x) := by
  refine ext2 (n := 64) (m := 2048) fun r c => ?_
  pointwise [spread, up2_at]
  simp only [l_zero, l_add, l_mul, l_sub, l_sum, sub_self, zero_mul, mul_zero, Finset.sum_const_zero, add_zero, zero_add]
  rw [← seg_eq]
  rfl

theorem up2_mulf (x y : Fin 64 → Fin 2048 → ℝ) :
    (mulf (up2 x : FVec Ideal S64x2048 .f32) (up2 y) : FVec Ideal S64x2048 .f32) = up2 (fun r c => x r c * y r c) := by
  refine ext2 (n := 64) (m := 2048) fun r c => ?_
  pointwise [up2_at]
  rw [l_mul]

theorem pay9_up (y : Fin 64 → Fin 2048 → ℝ) : k0_pay9 (F := Ideal) (up2 y) (up2 Em) = up2 (seg y) := by
  show spread (headSums (up2 y) (k0_pay7 (F := Ideal) (up2 Em))) (k0_pay8 (F := Ideal) (up2 Em)) = _
  rw [pay7_up, pay8_up, headSums_up, spread_up]

theorem pay11_up (y : Fin 64 → Fin 2048 → ℝ) :
    k0_pay11 (F := Ideal) (up2 y) (up2 Em) (up2 Et) (up2 (seg y)) = up2 (var y) := by
  show addf (mulf (spread (headSums (mulf (k0_pay10 (F := Ideal) (up2 y) (up2 (seg y)))
    (k0_pay10 (F := Ideal) (up2 y) (up2 (seg y)))) (up2 Em)) (up2 Et))
    (broadcast S64x2048 (Scalar.ofBits .f32 0x3C800000#32))) (broadcast S64x2048 (Scalar.ofBits .f32 0x3A27C5AC#32)) = _
  rw [pay10_up, up2_mulf, headSums_up, spread_up]
  refine ext2 (n := 64) (m := 2048) fun r c => ?_
  pointwise [up2_at, lit_64, lit_eps]
  simp only [l_add, l_mul]
  rfl

theorem pay12_up (y : Fin 64 → Fin 2048 → ℝ) :
    k0_pay12 (F := Ideal) (up2 y) (up2 Em) (up2 Et) (up2 (seg y)) = up2 (rst y) := by
  refine ext2 (n := 64) (m := 2048) fun r c => ?_
  pointwise [k0_pay12, pay11_up, up2_at]
  rw [l_rsqrt (var_pos y r c)]
  rfl

theorem pay13_up (y : Fin 64 → Fin 2048 → ℝ) :
    k0_pay13 (F := Ideal) (up2 y) (up2 Em) (up2 Et) (up2 (seg y)) = up2 (rst' y) := by
  refine ext2 (n := 64) (m := 2048) fun r c => ?_
  pointwise [k0_pay13, pay11_up, pay12_up, up2_at, lit_neg_half]
  rw [l_div (var_pos y r c).ne', l_mul]
  rfl

theorem pay14_up (y : Fin 64 → Fin 2048 → ℝ) :
    k0_pay14 (F := Ideal) (up2 y) (up2 Em) (up2 Et) (up2 (seg y))
      = up2 (fun r c => cen y r c * rst y r c) := by
  refine ext2 (n := 64) (m := 2048) fun r c => ?_
  pointwise [k0_pay14, pay10_up, pay12_up, up2_at]
  rw [l_mul]

theorem pay15_up (y : Fin 64 → Fin 2048 → ℝ) (gw gb : Fin 1 → Fin 2048 → ℝ) :
    k0_pay15 (F := Ideal) (up2 y) (up2 gw) (up2 gb) (up2 Em) (up2 Et) (up2 (seg y))
      = up2 (nrm y gw gb) := by
  refine ext2 (n := 64) (m := 2048) fun r c => ?_
  pointwise [k0_pay15, pay14_up, up2_at]
  simp only [l_add, l_mul]
  rfl

theorem pay16_up (r k : Fin 64 → Fin 2048 → ℝ) :
    k0_pay16 (F := Ideal) (up2 r) (up2 k) = up2 (fun i c => r i c * k i c) := by
  refine ext2 (n := 64) (m := 2048) fun i c => ?_
  pointwise [k0_pay16, up2_at]
  rw [l_mul]

theorem pay17_up (r k : Fin 64 → Fin 2048 → ℝ) (rk : Fin 1 → Fin 2048 → ℝ) :
    k0_pay17 (F := Ideal) (up2 r) (up2 k) (up2 rk) (up2 Em) (up2 Et) = up2 (seg (tri r k rk)) := by
  have e0 : (mulf (k0_pay16 (F := Ideal) (up2 r) (up2 k)) (broadcastTo S64x2048 (up2 rk : FVec Ideal S1x2048 .f32)
      broadcasts_S1x2048_S64x2048) : FVec Ideal S64x2048 .f32) = up2 (tri r k rk) := by
    refine ext2 (n := 64) (m := 2048) fun i c => ?_
    pointwise [pay16_up, up2_at]
    simp only [l_mul]
    rfl
  show spread (headSums (mulf (k0_pay16 (F := Ideal) (up2 r) (up2 k)) (broadcastTo S64x2048 (up2 rk : FVec Ideal S1x2048 .f32)
      broadcasts_S1x2048_S64x2048)) (up2 Em)) (up2 Et) = _
  rw [e0, headSums_up, spread_up]

theorem pay18_up (v u b : Fin 64 → Fin 2048 → ℝ) :
    k0_pay18 (F := Ideal) (up2 v) (up2 u) (up2 b) = up2 (act u b v) := by
  refine ext2 (n := 64) (m := 2048) fun i c => ?_
  pointwise [k0_pay18, up2_at]
  simp only [l_mul, l_add]
  rfl

theorem pay25_up (p d : Fin 64 → Fin 2048 → ℝ) :
    k0_pay25 (F := Ideal) (up2 p) (up2 d) = up2 (fun i c => sg (p i c) * d i c) := by
  refine ext2 (n := 64) (m := 2048) fun i c => ?_
  pointwise [k0_pay25, k0_pay22, k0_pay21, k0_pay24, up2_at]
  simp only [l_zero, l_one, l_sub, l_exp, l_add, l_div (exp_pos1 _), l_mul]
  rfl

theorem pay27_up (p d : Fin 64 → Fin 2048 → ℝ) :
    k0_pay27 (F := Ideal) (up2 p) (up2 d) = up2 (fun i c => sg (p i c) * d i c) := by
  refine ext2 (n := 64) (m := 2048) fun i c => ?_
  pointwise [k0_pay27, k0_pay20, k0_pay19, k0_pay23, up2_at]
  simp only [l_zero, l_one, l_sub, l_exp, l_add, l_div (exp_pos1 _), l_mul]
  rfl

theorem pay26_up (p b d : Fin 64 → Fin 2048 → ℝ) :
    k0_pay26 (F := Ideal) (up2 p) (up2 b) (up2 d) = up2 (fun i c => d i c * b i c * sg' (p i c)) := by
  refine ext2 (n := 64) (m := 2048) fun i c => ?_
  pointwise [k0_pay26, k0_pay22, k0_pay21, k0_pay24, up2_at]
  simp only [l_zero, l_one, l_sub, l_exp, l_add, l_mul, l_div (exp_pos2 _)]
  congr 1
  unfold sg'
  ring

theorem pay28_up (v g p d u b : Fin 64 → Fin 2048 → ℝ) :
    k0_pay28 (F := Ideal) (up2 v) (up2 g) (up2 p) (up2 d) (up2 u) (up2 b)
      = up2 (fun i c => d i c * (act u b v i c * g i c) * sg' (p i c)) := by
  refine ext2 (n := 64) (m := 2048) fun i c => ?_
  pointwise [k0_pay28, k0_pay19, k0_pay20, k0_pay23, pay18_up, up2_at]
  simp only [l_zero, l_one, l_sub, l_exp, l_add, l_mul, l_div (exp_pos2 _)]
  congr 1
  unfold sg'
  ring

theorem pay29_up (v p d u b : Fin 64 → Fin 2048 → ℝ) :
    k0_pay29 (F := Ideal) (up2 v) (up2 p) (up2 d) (up2 u) (up2 b)
      = up2 (fun i c => act u b v i c * (sg (p i c) * d i c)) := by
  refine ext2 (n := 64) (m := 2048) fun i c => ?_
  pointwise [k0_pay29, pay18_up, pay27_up, up2_at]
  rw [l_mul]

theorem pay31_up (g b d : Fin 64 → Fin 2048 → ℝ) :
    k0_pay31 (F := Ideal) (up2 g) (up2 b) (up2 d) = up2 (fun i c => b i c * (d i c * g i c)) := by
  refine ext2 (n := 64) (m := 2048) fun i c => ?_
  pointwise [k0_pay31, k0_pay30, up2_at]
  simp only [l_mul]

theorem pay32_up (v g d : Fin 64 → Fin 2048 → ℝ) :
    k0_pay32 (F := Ideal) (up2 v) (up2 g) (up2 Em) (up2 Et) (up2 d) = up2 (dbn d g v) := by
  show spread (headSums (mulf (mulf (up2 d : FVec Ideal S64x2048 .f32) (up2 g)) (up2 v)) (up2 Em)) (up2 Et) = _
  rw [up2_mulf, up2_mulf, headSums_up, spread_up]
  rfl

theorem pay33_up (v g w d : Fin 64 → Fin 2048 → ℝ) :
    k0_pay33 (F := Ideal) (up2 v) (up2 g) (up2 Em) (up2 Et) (up2 w) (up2 d)
      = up2 (fun (_ : Fin 1) c => ∑ i : Fin 64, w i c * dbn d g v i c) := by
  refine ext2 (n := 1) (m := 2048) fun i c => ?_
  pointwise [k0_pay33, pay32_up, up2_at]
  simp only [l_mul, l_sum]

theorem pay35_up (r v g d : Fin 64 → Fin 2048 → ℝ) (rk : Fin 1 → Fin 2048 → ℝ) :
    k0_pay35 (F := Ideal) (up2 r) (up2 v) (up2 g) (up2 rk) (up2 Em) (up2 Et) (up2 d)
      = up2 (fun i c => r i c * (dbn d g v i c * rk 0 c)) := by
  refine ext2 (n := 64) (m := 2048) fun i c => ?_
  pointwise [k0_pay35, k0_pay34, pay32_up, up2_at]
  simp only [l_mul]

theorem pay36_up (k v g d : Fin 64 → Fin 2048 → ℝ) (rk : Fin 1 → Fin 2048 → ℝ) :
    k0_pay36 (F := Ideal) (up2 k) (up2 v) (up2 g) (up2 rk) (up2 Em) (up2 Et) (up2 d)
      = up2 (fun i c => dbn d g v i c * rk 0 c * k i c) := by
  refine ext2 (n := 64) (m := 2048) fun i c => ?_
  pointwise [k0_pay36, k0_pay34, pay32_up, up2_at]
  simp only [l_mul]

theorem pay37_up (g d : Fin 64 → Fin 2048 → ℝ) :
    k0_pay37 (F := Ideal) (up2 g) (up2 d) = up2 (fun (_ : Fin 1) c => ∑ i : Fin 64, d i c * g i c) := by
  refine ext2 (n := 1) (m := 2048) fun i c => ?_
  pointwise [k0_pay37, k0_pay30, up2_at]
  simp only [l_mul, l_sum]

theorem pay38_up (g u d : Fin 64 → Fin 2048 → ℝ) :
    k0_pay38 (F := Ideal) (up2 g) (up2 u) (up2 d)
      = up2 (fun (_ : Fin 1) c => ∑ i : Fin 64, u i c * (d i c * g i c)) := by
  refine ext2 (n := 1) (m := 2048) fun i c => ?_
  pointwise [k0_pay38, k0_pay30, up2_at]
  simp only [l_mul, l_sum]

theorem pay40_up (g d s : Fin 64 → Fin 2048 → ℝ) (gw : Fin 1 → Fin 2048 → ℝ) :
    k0_pay40 (F := Ideal) (up2 g) (up2 gw) (up2 s) (up2 d) = up2 (fun i c => d i c * g i c * gw 0 c * s i c) := by
  refine ext2 (n := 64) (m := 2048) fun i c => ?_
  pointwise [k0_pay40, k0_pay39, k0_pay30, up2_at]
  simp only [l_mul]

theorem pay41_up (g d u w : Fin 64 → Fin 2048 → ℝ) (gw : Fin 1 → Fin 2048 → ℝ) :
    k0_pay41 (F := Ideal) (up2 g) (up2 gw) (up2 Em) (up2 u) (up2 w) (up2 d) = up2 (sums (dsq g d u w gw)) := by
  refine ext2 (n := 64) (m := 128) fun i c => ?_
  pointwise [k0_pay41, k0_pay39, k0_pay30, up2_at, lit_64]
  simp only [l_zero, l_add, l_mul, l_sub, l_sum, sub_self, zero_mul, Finset.sum_const_zero, zero_add, add_zero]
  rfl

theorem pay42_up (g d u w : Fin 64 → Fin 2048 → ℝ) (gw : Fin 1 → Fin 2048 → ℝ) :
    k0_pay42 (F := Ideal) (up2 g) (up2 gw) (up2 Em) (up2 u) (up2 w) (up2 d) = up2 (sums (dsq g d u w gw)) := by
  refine ext2 (n := 64) (m := 128) fun i c => ?_
  pointwise [k0_pay42, pay41_up, up2_at]

theorem pay43_up (g d u w : Fin 64 → Fin 2048 → ℝ) (gw : Fin 1 → Fin 2048 → ℝ) :
    k0_pay43 (F := Ideal) (up2 g) (up2 gw) (up2 Em) (up2 u) (up2 w) (up2 d) = up2 none0 := by
  refine ext2 (n := 64) (m := 128) fun i c => ?_
  pointwise [k0_pay43, pay42_up, pay41_up, up2_at]
  rw [l_sub, sub_self]
  rfl

theorem pay44_up (g d u w : Fin 64 → Fin 2048 → ℝ) (gw : Fin 1 → Fin 2048 → ℝ) :
    k0_pay44 (F := Ideal) (up2 g) (up2 gw) (up2 Em) (up2 Et) (up2 u) (up2 w) (up2 d) = up2 (seg (dsq g d u w gw)) := by
  refine ext2 (n := 64) (m := 2048) fun i c => ?_
  pointwise [k0_pay44, pay42_up, up2_at]
  simp only [l_zero, l_add, l_mul, l_sum, zero_add]
  rw [← seg_eq]
  rfl

theorem pay45_up (u p s : Fin 64 → Fin 2048 → ℝ) :
    k0_pay45 (F := Ideal) (up2 Em) (up2 Et) (up2 u) (up2 p) (up2 none0) (up2 (seg s)) (constant S64x2048 .f32 0x00000000#32)
      = up2 (fun i c => dcen u p s i c + seg (fun i c => (0 - dcen u p s i c) * (1 / 64)) i c) := by
  have e0 : (addf (up2 (seg s) : FVec Ideal S64x2048 .f32)
      (matmul (φ₁ := .bf16) (φ₂ := .bf16) dot_S64x128_S128x2048_S64x2048_1_0_0_1_n_n none (up2 none0 : FVec Ideal S64x128 .bf16) (up2 Et : FVec Ideal S128x2048 .bf16)
        (constant S64x2048 .f32 0x00000000#32)) : FVec Ideal S64x2048 .f32) = up2 (seg s) := by
    refine ext2 (n := 64) (m := 2048) fun i c => ?_
    pointwise [up2_at, none0]
    simp only [l_zero, l_add, l_mul, l_sum, zero_mul, Finset.sum_const_zero, zero_add, add_zero]
  have e1 : (addf (addf (up2 p : FVec Ideal S64x2048 .f32) (mulf (up2 u : FVec Ideal S64x2048 .f32) (up2 (seg s))))
      (mulf (up2 (seg s) : FVec Ideal S64x2048 .f32) (up2 u)) : FVec Ideal S64x2048 .f32) = up2 (dcen u p s) := by
    refine ext2 (n := 64) (m := 2048) fun i c => ?_
    pointwise [up2_at]
    simp only [l_add, l_mul]
    rfl
  have e2 : (mulf (subf (broadcast S64x2048 (Scalar.ofBits .f32 0x00000000#32)) (up2 (dcen u p s) : FVec Ideal S64x2048 .f32))
      (broadcast S64x2048 (Scalar.ofBits .f32 0x3C800000#32)) : FVec Ideal S64x2048 .f32)
        = up2 (fun i c => (0 - dcen u p s i c) * (1 / 64)) := by
    refine ext2 (n := 64) (m := 2048) fun i c => ?_
    pointwise [up2_at, lit_64]
    simp only [l_zero, l_sub, l_mul]
  unfold k0_pay45
  dsimp only
  rw [e0, e1, e2]
  show addf (up2 (dcen u p s) : FVec Ideal S64x2048 .f32)
    (spread (headSums (up2 (fun i c => (0 - dcen u p s i c) * (1 / 64))) (up2 Em)) (up2 Et)) = _
  rw [headSums_up, spread_up]
  refine ext2 (n := 64) (m := 2048) fun i c => ?_
  pointwise [up2_at]
  rw [l_add]

end Cert.Gate

end
-- ==== Proof.KVal.lean ====
/- What the kernel's grid leaves in each result array, for arguments that are arrays of real numbers. -/
module

public import proofs.«01_k».proof.Proof.Gen.KernelIdeal.Value
public import proofs.«01_k».proof.Proof.Gate

@[expose] public section

set_option maxRecDepth 16384

noncomputable section

namespace Cert.KVal

open Idealize.ShloMosaic Idealize.ShloMosaic.TcCoe Idealize.SL.Sem
open Idealize.ShloMosaic.Pipeline (Dat)
open Cert.Reals Cert.Gate Cert.KernelIdeal Cert.KernelIdeal.Gen

/-- Block indices: row block `t` of the row arrays, the whole of the small ones. -/
theorem idx : ∀ t : Fin cfg0.N, win0_0.index t = ![t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] ∧ win0_8.index t = ![0, 0] ∧ win0_9.index t = ![0, 0]
    ∧ win0_10.index t = ![0, 0] ∧ win0_11.index t = ![0, 0] ∧ win0_12.index t = ![t.val, 0]
    ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0]
    ∧ win0_19.index t = ![t.val, 0] ∧ win0_20.index t = ![t.val, 0] ∧ win0_21.index t = ![0, 0]
    ∧ win0_22.index t = ![0, 0] ∧ win0_23.index t = ![0, 0] :=
  (by decide +kernel : ∀ t : Fin grid0.N, _)

/-- Rows `64 t, …, 64 t + 63` of an array. -/
def rows (x : Fin 4352 → Fin 2048 → ℝ) (t : Fin cfg0.N) (r : Fin 64) (c : Fin 2048) : ℝ :=
  x ⟨64 * t.val + r.val, by have := lt_of_lt_of_eq t.isLt N_0; omega⟩ c

/-- The arguments are arrays of real numbers, on one device. -/
structure Ins (m : (ℓ : Loc nD τ sig) → Buf (Elt Ideal) ℓ) (c : Dev nD)
    (y r k v g pa pb yb dm : Fin 4352 → Fin 2048 → ℝ) (gw gb rk : Fin 1 → Fin 2048 → ℝ) : Prop where
  h0 : m ((c : Thread nD τ).loc main_arg0) = up2 y
  h1 : m ((c : Thread nD τ).loc main_arg1) = up2 r
  h2 : m ((c : Thread nD τ).loc main_arg2) = up2 k
  h3 : m ((c : Thread nD τ).loc main_arg3) = up2 v
  h4 : m ((c : Thread nD τ).loc main_arg4) = up2 g
  h5 : m ((c : Thread nD τ).loc main_arg5) = up2 pa
  h6 : m ((c : Thread nD τ).loc main_arg6) = up2 pb
  h7 : m ((c : Thread nD τ).loc main_arg7) = up2 yb
  h8 : m ((c : Thread nD τ).loc main_arg8) = up2 gw
  h9 : m ((c : Thread nD τ).loc main_arg9) = up2 gb
  h10 : m ((c : Thread nD τ).loc main_arg10) = up2 rk
  h11 : m ((c : Thread nD τ).loc main_arg11) = up2 dm

variable {m : (ℓ : Loc nD τ sig) → Buf (Elt Ideal) ℓ} {c : Dev nD}
  {y r k v g pa pb yb dm : Fin 4352 → Fin 2048 → ℝ} {gw gb rk : Fin 1 → Fin 2048 → ℝ}

/-- The computed operand is the matrix of heads. -/
theorem heads (c : Dev nD) : V m c main_v12 = up2 Em := by
  show StableHlo.after (List.flatten [hostOps0, hostOps0_1, hostOps0_2]) _ _ = _
  simp only [hostOps0, hostOps0_1, hostOps0_2, List.flatten_cons, List.flatten_nil, List.cons_append, List.nil_append, List.append_nil]
  after_results_simp
  change (truncf .bf16 (select (andi
      (cmpi .sle (muli (broadcastInDim S2048x128 ![] bcast_S_S2048x128 (constantI S_ 32 64#32)) (iotaInDim S2048x128 32 1))
        (iotaInDim S2048x128 32 0))
      (cmpi .slt (iotaInDim S2048x128 32 0)
        (addi (muli (broadcastInDim S2048x128 ![] bcast_S_S2048x128 (constantI S_ 32 64#32)) (iotaInDim S2048x128 32 1))
          (broadcastInDim S2048x128 ![] bcast_S_S2048x128 (constantI S_ 32 64#32)))))
    (broadcastInDim S2048x128 ![] bcast_S_S2048x128 (constant S_ .f32 0x3F800000#32))
    (broadcastInDim S2048x128 ![] bcast_S_S2048x128 (constant S_ .f32 0x00000000#32)) : FVec Ideal S2048x128 .f32)
    bitsLt_bf16_f32 : FVec Ideal S2048x128 .bf16) = up2 Em
  refine ext2 (n := 2048) (m := 128) fun a b => ?_
  pointwise [up2_at]
  have hm : IntOp.muli (64#32) (BitVec.ofNat 32 b.val) = BitVec.ofNat 32 (64 * b.val) := by
    show 64#32 * BitVec.ofNat 32 b.val = _
    apply BitVec.eq_of_toNat_eq
    simp [BitVec.toNat_mul]
  have hs : IntOp.addi (BitVec.ofNat 32 (64 * b.val)) 64#32 = BitVec.ofNat 32 (64 * b.val + 64) := by
    show BitVec.ofNat 32 (64 * b.val) + 64#32 = _
    apply BitVec.eq_of_toNat_eq
    simp [BitVec.toNat_add]
  have ea : (BitVec.ofNat 32 a.val).toNat = a.val := by simp only [BitVec.toNat_ofNat]; omega
  have eb : (BitVec.ofNat 32 (64 * b.val)).toNat = 64 * b.val := by simp only [BitVec.toNat_ofNat]; omega
  have ec : (BitVec.ofNat 32 (64 * b.val + 64)).toNat = 64 * b.val + 64 := by simp only [BitVec.toNat_ofNat]; omega
  rw [hm, hs, WordCmp.cmpi_sle_of_lt (by rw [eb]; omega) (by rw [ea]; omega),
    WordCmp.cmpi_slt_of_lt (by rw [ea]; omega) (by rw [ec]; omega), ea, eb, ec]
  unfold Em
  by_cases h1 : 64 * b.val ≤ a.val <;> by_cases h2 : a.val < 64 * b.val + 64 <;>
    simp [h1, h2, IntOp.andi, Scalar.select]

theorem blk11 (t : Fin cfg0.N) : iblk m c 11 t = up2 Em := by
  refine ext2 (n := 2048) (m := 128) fun a b => ?_
  have e : iblk m c 11 t (ix2 a b) = V m c main_v12 (ix2 a b) := by
    blk_ext [iblk, idx t]
  rw [e, heads]

theorem blk0 (h : Ins m c y r k v g pa pb yb dm gw gb rk) (t : Fin cfg0.N) : iblk m c 0 t = up2 (rows y t) := by
  refine ext2 (n := 64) (m := 2048) fun a b => ?_
  have e : iblk m c 0 t (ix2 a b) = m ((c : Thread nD τ).loc main_arg0) (ix2 ⟨64 * t.val + a.val, by have := lt_of_lt_of_eq t.isLt N_0; omega⟩ b) := by
    blk_point [iblk, V, idx t]
  rw [e, h.h0]
  rfl

theorem blk1 (h : Ins m c y r k v g pa pb yb dm gw gb rk) (t : Fin cfg0.N) : iblk m c 1 t = up2 (rows r t) := by
  refine ext2 (n := 64) (m := 2048) fun a b => ?_
  have e : iblk m c 1 t (ix2 a b) = m ((c : Thread nD τ).loc main_arg1) (ix2 ⟨64 * t.val + a.val, by have := lt_of_lt_of_eq t.isLt N_0; omega⟩ b) := by
    blk_point [iblk, V, idx t]
  rw [e, h.h1]
  rfl

theorem blk2 (h : Ins m c y r k v g pa pb yb dm gw gb rk) (t : Fin cfg0.N) : iblk m c 2 t = up2 (rows k t) := by
  refine ext2 (n := 64) (m := 2048) fun a b => ?_
  have e : iblk m c 2 t (ix2 a b) = m ((c : Thread nD τ).loc main_arg2) (ix2 ⟨64 * t.val + a.val, by have := lt_of_lt_of_eq t.isLt N_0; omega⟩ b) := by
    blk_point [iblk, V, idx t]
  rw [e, h.h2]
  rfl

theorem blk3 (h : Ins m c y r k v g pa pb yb dm gw gb rk) (t : Fin cfg0.N) : iblk m c 3 t = up2 (rows v t) := by
  refine ext2 (n := 64) (m := 2048) fun a b => ?_
  have e : iblk m c 3 t (ix2 a b) = m ((c : Thread nD τ).loc main_arg3) (ix2 ⟨64 * t.val + a.val, by have := lt_of_lt_of_eq t.isLt N_0; omega⟩ b) := by
    blk_point [iblk, V, idx t]
  rw [e, h.h3]
  rfl

theorem blk4 (h : Ins m c y r k v g pa pb yb dm gw gb rk) (t : Fin cfg0.N) : iblk m c 4 t = up2 (rows g t) := by
  refine ext2 (n := 64) (m := 2048) fun a b => ?_
  have e : iblk m c 4 t (ix2 a b) = m ((c : Thread nD τ).loc main_arg4) (ix2 ⟨64 * t.val + a.val, by have := lt_of_lt_of_eq t.isLt N_0; omega⟩ b) := by
    blk_point [iblk, V, idx t]
  rw [e, h.h4]
  rfl

theorem blk5 (h : Ins m c y r k v g pa pb yb dm gw gb rk) (t : Fin cfg0.N) : iblk m c 5 t = up2 (rows pa t) := by
  refine ext2 (n := 64) (m := 2048) fun a b => ?_
  have e : iblk m c 5 t (ix2 a b) = m ((c : Thread nD τ).loc main_arg5) (ix2 ⟨64 * t.val + a.val, by have := lt_of_lt_of_eq t.isLt N_0; omega⟩ b) := by
    blk_point [iblk, V, idx t]
  rw [e, h.h5]
  rfl

theorem blk6 (h : Ins m c y r k v g pa pb yb dm gw gb rk) (t : Fin cfg0.N) : iblk m c 6 t = up2 (rows pb t) := by
  refine ext2 (n := 64) (m := 2048) fun a b => ?_
  have e : iblk m c 6 t (ix2 a b) = m ((c : Thread nD τ).loc main_arg6) (ix2 ⟨64 * t.val + a.val, by have := lt_of_lt_of_eq t.isLt N_0; omega⟩ b) := by
    blk_point [iblk, V, idx t]
  rw [e, h.h6]
  rfl

theorem blk7 (h : Ins m c y r k v g pa pb yb dm gw gb rk) (t : Fin cfg0.N) : iblk m c 7 t = up2 (rows yb t) := by
  refine ext2 (n := 64) (m := 2048) fun a b => ?_
  have e : iblk m c 7 t (ix2 a b) = m ((c : Thread nD τ).loc main_arg7) (ix2 ⟨64 * t.val + a.val, by have := lt_of_lt_of_eq t.isLt N_0; omega⟩ b) := by
    blk_point [iblk, V, idx t]
  rw [e, h.h7]
  rfl

theorem blk8 (h : Ins m c y r k v g pa pb yb dm gw gb rk) (t : Fin cfg0.N) : iblk m c 8 t = up2 gw := by
  refine ext2 (n := 1) (m := 2048) fun a b => ?_
  have e : iblk m c 8 t (ix2 a b) = m ((c : Thread nD τ).loc main_arg8) (ix2 a b) := by
    blk_point [iblk, V, idx t]
  rw [e, h.h8]

theorem blk9 (h : Ins m c y r k v g pa pb yb dm gw gb rk) (t : Fin cfg0.N) : iblk m c 9 t = up2 gb := by
  refine ext2 (n := 1) (m := 2048) fun a b => ?_
  have e : iblk m c 9 t (ix2 a b) = m ((c : Thread nD τ).loc main_arg9) (ix2 a b) := by
    blk_point [iblk, V, idx t]
  rw [e, h.h9]

theorem blk10 (h : Ins m c y r k v g pa pb yb dm gw gb rk) (t : Fin cfg0.N) : iblk m c 10 t = up2 rk := by
  refine ext2 (n := 1) (m := 2048) fun a b => ?_
  have e : iblk m c 10 t (ix2 a b) = m ((c : Thread nD τ).loc main_arg10) (ix2 a b) := by
    blk_point [iblk, V, idx t]
  rw [e, h.h10]

theorem blk12 (h : Ins m c y r k v g pa pb yb dm gw gb rk) (t : Fin cfg0.N) : iblk m c 12 t = up2 (rows dm t) := by
  refine ext2 (n := 64) (m := 2048) fun a b => ?_
  have e : iblk m c 12 t (ix2 a b) = m ((c : Thread nD τ).loc main_arg11) (ix2 ⟨64 * t.val + a.val, by have := lt_of_lt_of_eq t.isLt N_0; omega⟩ b) := by
    blk_point [iblk, V, idx t]
  rw [e, h.h11]
  rfl

theorem emb13 (F : Fin 4352 → Fin 2048 → ℝ) (t : Fin cfg0.N) (z : ((cfg0.win 13).xblock (cfg0.grid.coords t)).Idx) :
    up2 (rows F t) z = up2 F (((View.whole main_v13_0).slice (win0_13.rect t)).emb z) := by
  have e : ((View.whole main_v13_0).slice (win0_13.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the group norm's rows. -/
theorem final_13 (h : Ins m c y r k v g pa pb yb dm gw gb rk) :
    (dats m 0 c).arrAt 13 (cfgs 0).N = up2 (oDy y g (dd pa dm) gw) := by
  refine (dats m 0 c).arrAt_eq_of_covers 13 _ (by decide +kernel) fun t hf z => ?_
  blk_simp
  rw [after0_13]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb13 (oDy y g (dd pa dm) gw) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb13 (oDy y g (dd pa dm) gw) t z

theorem emb14 (F : Fin 4352 → Fin 2048 → ℝ) (t : Fin cfg0.N) (z : ((cfg0.win 14).xblock (cfg0.grid.coords t)).Idx) :
    up2 (rows F t) z = up2 F (((View.whole main_v13_1).slice (win0_14.rect t)).emb z) := by
  have e : ((View.whole main_v13_1).slice (win0_14.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the receptances. -/
theorem final_14 (h : Ins m c y r k v g pa pb yb dm gw gb rk) :
    (dats m 0 c).arrAt 14 (cfgs 0).N = up2 (oDr k v g (dd pa dm) rk) := by
  refine (dats m 0 c).arrAt_eq_of_covers 14 _ (by decide +kernel) fun t hf z => ?_
  blk_simp
  rw [after0_14]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb14 (oDr k v g (dd pa dm) rk) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb14 (oDr k v g (dd pa dm) rk) t z

theorem emb15 (F : Fin 4352 → Fin 2048 → ℝ) (t : Fin cfg0.N) (z : ((cfg0.win 15).xblock (cfg0.grid.coords t)).Idx) :
    up2 (rows F t) z = up2 F (((View.whole main_v13_2).slice (win0_15.rect t)).emb z) := by
  have e : ((View.whole main_v13_2).slice (win0_15.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the keys. -/
theorem final_15 (h : Ins m c y r k v g pa pb yb dm gw gb rk) :
    (dats m 0 c).arrAt 15 (cfgs 0).N = up2 (oDk r v g (dd pa dm) rk) := by
  refine (dats m 0 c).arrAt_eq_of_covers 15 _ (by decide +kernel) fun t hf z => ?_
  blk_simp
  rw [after0_15]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb15 (oDk r v g (dd pa dm) rk) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb15 (oDk r v g (dd pa dm) rk) t z

theorem emb16 (F : Fin 4352 → Fin 2048 → ℝ) (t : Fin cfg0.N) (z : ((cfg0.win 16).xblock (cfg0.grid.coords t)).Idx) :
    up2 (rows F t) z = up2 F (((View.whole main_v13_3).slice (win0_16.rect t)).emb z) := by
  have e : ((View.whole main_v13_3).slice (win0_16.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the values. -/
theorem final_16 (h : Ins m c y r k v g pa pb yb dm gw gb rk) :
    (dats m 0 c).arrAt 16 (cfgs 0).N = up2 (oDv r k g (dd pa dm) rk) := by
  refine (dats m 0 c).arrAt_eq_of_covers 16 _ (by decide +kernel) fun t hf z => ?_
  blk_simp
  rw [after0_16]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb16 (oDv r k g (dd pa dm) rk) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb16 (oDv r k g (dd pa dm) rk) t z

theorem emb17 (F : Fin 4352 → Fin 2048 → ℝ) (t : Fin cfg0.N) (z : ((cfg0.win 17).xblock (cfg0.grid.coords t)).Idx) :
    up2 (rows F t) z = up2 F (((View.whole main_v13_4).slice (win0_17.rect t)).emb z) := by
  have e : ((View.whole main_v13_4).slice (win0_17.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the gate. -/
theorem final_17 (h : Ins m c y r k v g pa pb yb dm gw gb rk) :
    (dats m 0 c).arrAt 17 (cfgs 0).N = up2 (oDg (oAct y r k v gw gb rk) (dd pa dm)) := by
  refine (dats m 0 c).arrAt_eq_of_covers 17 _ (by decide +kernel) fun t hf z => ?_
  blk_simp
  rw [after0_17]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb17 (oDg (oAct y r k v gw gb rk) (dd pa dm)) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb17 (oDg (oAct y r k v gw gb rk) (dd pa dm)) t z

theorem emb18 (F : Fin 4352 → Fin 2048 → ℝ) (t : Fin cfg0.N) (z : ((cfg0.win 18).xblock (cfg0.grid.coords t)).Idx) :
    up2 (rows F t) z = up2 F (((View.whole main_v13_5).slice (win0_18.rect t)).emb z) := by
  have e : ((View.whole main_v13_5).slice (win0_18.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the first branch's gate argument. -/
theorem final_18 (h : Ins m c y r k v g pa pb yb dm gw gb rk) :
    (dats m 0 c).arrAt 18 (cfgs 0).N = up2 (oPa (oAct y r k v gw gb rk) g pa dm) := by
  refine (dats m 0 c).arrAt_eq_of_covers 18 _ (by decide +kernel) fun t hf z => ?_
  blk_simp
  rw [after0_18]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb18 (oPa (oAct y r k v gw gb rk) g pa dm) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb18 (oPa (oAct y r k v gw gb rk) g pa dm) t z

theorem emb19 (F : Fin 4352 → Fin 2048 → ℝ) (t : Fin cfg0.N) (z : ((cfg0.win 19).xblock (cfg0.grid.coords t)).Idx) :
    up2 (rows F t) z = up2 F (((View.whole main_v13_6).slice (win0_19.rect t)).emb z) := by
  have e : ((View.whole main_v13_6).slice (win0_19.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the second branch's gate argument. -/
theorem final_19 (h : Ins m c y r k v g pa pb yb dm gw gb rk) :
    (dats m 0 c).arrAt 19 (cfgs 0).N = up2 (oPb yb pb dm) := by
  refine (dats m 0 c).arrAt_eq_of_covers 19 _ (by decide +kernel) fun t hf z => ?_
  blk_simp
  rw [after0_19]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb19 (oPb yb pb dm) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb19 (oPb yb pb dm) t z

theorem emb20 (F : Fin 4352 → Fin 2048 → ℝ) (t : Fin cfg0.N) (z : ((cfg0.win 20).xblock (cfg0.grid.coords t)).Idx) :
    up2 (rows F t) z = up2 F (((View.whole main_v13_7).slice (win0_20.rect t)).emb z) := by
  have e : ((View.whole main_v13_7).slice (win0_20.rect t)).emb z = ix2 ⟨64 * t.val + (z 0).val, by have := lt_of_lt_of_eq t.isLt N_0; have h : (z 0).val < 64 := (z 0).isLt; omega⟩ (z 1) := by
    blk_ext [idx t]
  rw [e]
  rfl

/-- The gradient by the second branch's row. -/
theorem final_20 (h : Ins m c y r k v g pa pb yb dm gw gb rk) :
    (dats m 0 c).arrAt 20 (cfgs 0).N = up2 (dd pb dm) := by
  refine (dats m 0 c).arrAt_eq_of_covers 20 _ (by decide +kernel) fun t hf z => ?_
  blk_simp
  rw [after0_20]
  by_cases h0 : t.val % 68 = 0
  · rw [outsAt0_A m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb20 (dd pb dm) t z
  · rw [outsAt0_B m c t h0 h0 h0]
    frame_out
    simp only [blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
    exact emb20 (dd pb dm) t z

/-- The rows of the 68 blocks are the rows of the array. -/
theorem sum_rows (f : Fin 4352 → ℝ) (t : Fin cfg0.N) :
    ∑ s : Fin 68, ∑ i : Fin 64, f ⟨64 * (68 * (t.val / 68) + s.val) + i.val,
      by have := lt_of_lt_of_eq t.isLt N_0; omega⟩ = ∑ i : Fin 4352, f i :=
  Fin.sum_mul_add_congr fun s k hl => congrArg f (Fin.ext (by
    have := lt_of_lt_of_eq t.isLt N_0
    dsimp only
    omega))

/-- The gradient by the scale of the group norm. -/
theorem final_21 (h : Ins m c y r k v g pa pb yb dm gw gb rk) :
    (dats m 0 c).arrAt 21 (cfgs 0).N = up2 (oGw y g (dd pa dm)) := by
  refine (dats m 0 c).arrAt_eq_of_covers 21 _ (by decide +kernel) fun t hf y' => ?_
  blk_simp
  have hpay : ∀ a b j, k0_pay2 (F := Ideal) a b j = b j + k0_pay2 (F := Ideal) a (fun _ => 0) j := by
    intro a b j
    pointwise [k0_pay2]
  have hone : ∀ a j, k0_pay2 (F := Ideal) a (fun _ => 0) j = a j := by
    intro a j
    pointwise [k0_pay2]
  have hzero : ∀ j, k0_pay1 (F := Ideal) j = 0 := by
    intro j
    pointwise [k0_pay1]
  rw [after0_21, Pipeline.eq_sum_fin_of_reset_step_apply_of_flush (fun n h => (outsAt0 m c n h).2.2.2.2.2.2.2.2.1) 68
    (fun _ => 0) _
    (fun t h j => by rw [outsAt0_A m c t h h h]; frame_out; rw [hpay, hzero])
    (fun t h j => by rw [outsAt0_B m c t h h h]; frame_out; rw [hpay]) t ((flush0_21 t).mp hf) _, zero_add]
  simp only [hone, blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
  have ey : ((View.whole main_v13_8).slice (win0_21.rect t)).emb y' = ix2 0 (y' 1) := by
    blk_ext [idx t]
  rw [ey]
  refine (l_sum _ _).trans (congrArg _ (sum_rows (fun i => cen y i (y' 1) * rst y i (y' 1) * (dd pa dm i (y' 1) * g i (y' 1))) t))

/-- The gradient by the shift of the group norm. -/
theorem final_22 (h : Ins m c y r k v g pa pb yb dm gw gb rk) :
    (dats m 0 c).arrAt 22 (cfgs 0).N = up2 (oGb g (dd pa dm)) := by
  refine (dats m 0 c).arrAt_eq_of_covers 22 _ (by decide +kernel) fun t hf y' => ?_
  blk_simp
  have hpay : ∀ a b j, k0_pay4 (F := Ideal) a b j = b j + k0_pay4 (F := Ideal) a (fun _ => 0) j := by
    intro a b j
    pointwise [k0_pay4]
  have hone : ∀ a j, k0_pay4 (F := Ideal) a (fun _ => 0) j = a j := by
    intro a j
    pointwise [k0_pay4]
  have hzero : ∀ j, k0_pay3 (F := Ideal) j = 0 := by
    intro j
    pointwise [k0_pay3]
  rw [after0_22, Pipeline.eq_sum_fin_of_reset_step_apply_of_flush (fun n h => (outsAt0 m c n h).2.2.2.2.2.2.2.2.2.1) 68
    (fun _ => 0) _
    (fun t h j => by rw [outsAt0_A m c t h h h]; frame_out; rw [hpay, hzero])
    (fun t h j => by rw [outsAt0_B m c t h h h]; frame_out; rw [hpay]) t ((flush0_22 t).mp hf) _, zero_add]
  simp only [hone, blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
  have ey : ((View.whole main_v13_9).slice (win0_22.rect t)).emb y' = ix2 0 (y' 1) := by
    blk_ext [idx t]
  rw [ey]
  refine (l_sum _ _).trans (congrArg _ (sum_rows (fun i => dd pa dm i (y' 1) * g i (y' 1)) t))

/-- The gradient by the bonus weights. -/
theorem final_23 (h : Ins m c y r k v g pa pb yb dm gw gb rk) :
    (dats m 0 c).arrAt 23 (cfgs 0).N = up2 (oRk r k v g (dd pa dm)) := by
  refine (dats m 0 c).arrAt_eq_of_covers 23 _ (by decide +kernel) fun t hf y' => ?_
  blk_simp
  have hpay : ∀ a b j, k0_pay6 (F := Ideal) a b j = b j + k0_pay6 (F := Ideal) a (fun _ => 0) j := by
    intro a b j
    pointwise [k0_pay6]
  have hone : ∀ a j, k0_pay6 (F := Ideal) a (fun _ => 0) j = a j := by
    intro a j
    pointwise [k0_pay6]
  have hzero : ∀ j, k0_pay5 (F := Ideal) j = 0 := by
    intro j
    pointwise [k0_pay5]
  rw [after0_23, Pipeline.eq_sum_fin_of_reset_step_apply_of_flush (fun n h => (outsAt0 m c n h).2.2.2.2.2.2.2.2.2.2) 68
    (fun _ => 0) _
    (fun t h j => by rw [outsAt0_A m c t h h h]; frame_out; rw [hpay, hzero])
    (fun t h j => by rw [outsAt0_B m c t h h h]; frame_out; rw [hpay]) t ((flush0_23 t).mp hf) _, zero_add]
  simp only [hone, blk0 h, blk1 h, blk2 h, blk3 h, blk4 h, blk5 h, blk6 h, blk7 h, blk8 h, blk9 h, blk10 h, blk11, blk12 h, pay7_up, pay8_up, pay9_up, pay10_up, pay11_up, pay12_up, pay13_up, pay14_up, pay15_up, pay16_up, pay17_up, pay18_up, pay25_up, pay26_up, pay27_up, pay28_up, pay29_up, pay31_up, pay32_up, pay33_up, pay35_up, pay36_up, pay37_up, pay38_up, pay40_up, pay41_up, pay42_up, pay43_up, pay44_up, pay45_up]
  have ey : ((View.whole main_v13_10).slice (win0_23.rect t)).emb y' = ix2 0 (y' 1) := by
    blk_ext [idx t]
  rw [ey]
  refine (l_sum _ _).trans (congrArg _ (sum_rows (fun i => r i (y' 1) * k i (y' 1) * dbn (dd pa dm) g v i (y' 1)) t))

end Cert.KVal

end
-- ==== Proof.RefGate.lean ====
/- The reference's operations on arrays of real numbers, and its eleven results as real functions of the arguments. -/
module

public import proofs.«01_k».proof.Proof.Gen.ReferenceIdeal.Run
public import proofs.«01_k».proof.Proof.GateReals

@[expose] public section

set_option maxRecDepth 16384

noncomputable section

namespace Cert.RefGate

open Idealize.ShloMosaic Idealize.ShloMosaic.TcCoe Idealize.SL.Sem
open Cert.Reals Cert.Gate Cert.ReferenceIdeal Cert.ReferenceIdeal.Gen

/-- Rows of 2048 channels as rows of 32 heads of 64 channels. -/
def H (x : FVec Ideal S4352x2048 .f32) : FVec Ideal S4352x32x64 .f32 :=
  shapeCast _ x shapeCasts_S4352x2048_S4352x32x64
/-- The way back. -/
def L (x : FVec Ideal S4352x32x64 .f32) : FVec Ideal S4352x2048 .f32 :=
  shapeCast _ x shapeCasts_S4352x32x64_S4352x2048
/-- Sums over the channels of each head. -/
def RA (x : FVec Ideal S4352x32x64 .f32) : FVec Ideal S4352x32 .f32 :=
  Host.reduceAdd x (constant S_ .f32 0x00000000#32) reducesTo_S4352x32x64_S4352x32_d2 h_S_
/-- Sums over an axis of length one. -/
def RB (x : FVec Ideal S4352x32x1 .f32) : FVec Ideal S4352x32 .f32 :=
  Host.reduceAdd x (constant S_ .f32 0x00000000#32) reducesTo_S4352x32x1_S4352x32_d2 h_S_
def B1 (x : FVec Ideal S4352x32 .f32) : FVec Ideal S4352x32x1 .f32 :=
  broadcastInDim S4352x32x1 ![0, 1] bcast_S4352x32_S4352x32x1_0_1 x
def B2 (x : FVec Ideal S4352x32 .f32) : FVec Ideal S4352x32x64 .f32 :=
  broadcastInDim S4352x32x64 ![0, 1] bcast_S4352x32_S4352x32x64_0_1 x
def B3 (x : FVec Ideal S4352x32x1 .f32) : FVec Ideal S4352x32x64 .f32 :=
  broadcastInDim S4352x32x64 ![0, 1, 2] bcast_S4352x32x1_S4352x32x64_0_1_2 x
def SB (x : FVec Ideal S4352x32 .f32) : FVec Ideal S4352x32x1 .f32 :=
  shapeCast _ x shapeCasts_S4352x32_S4352x32x1
def BR (x : FVec Ideal S1x2048 .f32) : FVec Ideal S4352x2048 .f32 :=
  broadcastInDim S4352x2048 ![0, 1] bcast_S1x2048_S4352x2048_0_1 x
/-- One constant per head. -/
def K1 (b : BitVec 32) : FVec Ideal S4352x32x1 .f32 :=
  broadcastInDim S4352x32x1 ![] bcast_S_S4352x32x1 (constant S_ .f32 b)
/-- The array of ones. -/
def one : FVec Ideal S4352x2048 .f32 :=
  broadcastInDim S4352x2048 ![] bcast_S_S4352x2048 (constant S_ .f32 0x3F800000#32)
def two : FVec Ideal S4352x32x64 .f32 :=
  broadcastInDim S4352x32x64 ![] bcast_S_S4352x32x64 (constant S_ .f32 0x40000000#32)
/-- The logistic function of an array. -/
def SG (x : FVec Ideal S4352x2048 .f32) : FVec Ideal S4352x2048 .f32 :=
  Host.divf one (addf one (Host.exp (Host.negf x)))
def SC (x : FVec Ideal S4352x2048 .f32) : FVec Ideal S4352x2048 .f32 :=
  shapeCast _ x shapeCasts_S4352x2048_S4352x2048
/-- The centred heads. -/
def CEN (y : FVec Ideal S4352x2048 .f32) : FVec Ideal S4352x32x64 .f32 :=
  subf (H y) (B3 (Host.divf (B1 (RA (H y))) (K1 0x42800000#32)))
def VAR (y : FVec Ideal S4352x2048 .f32) : FVec Ideal S4352x32x1 .f32 :=
  addf (Host.divf (B1 (RA (mulf (CEN y) (CEN y)))) (K1 0x42800000#32)) (K1 0x3A27C5AC#32)
def RS (y : FVec Ideal S4352x2048 .f32) : FVec Ideal S4352x32x1 .f32 := Host.rsqrt (VAR y)
/-- The cotangent of the normalised row before its gate. -/
def D1 (g pa dm : FVec Ideal S4352x2048 .f32) : FVec Ideal S4352x2048 .f32 := mulf (mulf (SG pa) (SC dm)) g
/-- The bonus per head. -/
def BON (r k : FVec Ideal S4352x2048 .f32) (rk : FVec Ideal S1x2048 .f32) : FVec Ideal S4352x32x64 .f32 :=
  B3 (B1 (RA (mulf (mulf (H r) (H k)) (H (BR rk)))))
/-- The cotangent of the bonus per head. -/
def DBN (v d1 : FVec Ideal S4352x2048 .f32) : FVec Ideal S4352x32x64 .f32 := B2 (RB (SB (RA (mulf (H d1) (H v)))))
/-- The row with its bonus, before the gate. -/
def ACT (y r k v : FVec Ideal S4352x2048 .f32) (gw gb rk : FVec Ideal S1x2048 .f32) : FVec Ideal S4352x2048 .f32 :=
  addf (addf (mulf (L (mulf (CEN y) (B3 (RS y)))) (BR gw)) (BR gb)) (L (mulf (BON r k rk) (H v)))

variable {m : ℕ}

/-- Channel `l` of head `h`. -/
def ch (h : Fin 32) (l : Fin 64) : Fin 2048 := ⟨64 * h.val + l.val, by omega⟩
/-- The first channel of the head of channel `c`. -/
def hd (c : Fin 2048) : Fin 32 := ⟨c.val / 64, by omega⟩
def lo (c : Fin 2048) : Fin 64 := ⟨c.val % 64, by omega⟩

theorem ch_hd_lo (c : Fin 2048) : ch (hd c) (lo c) = c := Fin.ext (by simp only [ch, hd, lo]; omega)

theorem seg_ch {n : ℕ} (x : Fin n → Fin 2048 → ℝ) (i : Fin n) (h : Fin 32) (l : Fin 64) :
    seg x i (ch h l) = ∑ l' : Fin 64, x i (ch h l') := by
  unfold seg
  refine Finset.sum_congr rfl fun l' _ => ?_
  congr 1
  refine Fin.ext ?_
  simp only [ch]
  omega

theorem var_ch {n : ℕ} (y : Fin n → Fin 2048 → ℝ) (i : Fin n) (h : Fin 32) (l l' : Fin 64) :
    var y i (ch h l) = var y i (ch h l') := by
  unfold var
  rw [seg_ch, seg_ch]

theorem rst_ch {n : ℕ} (y : Fin n → Fin 2048 → ℝ) (i : Fin n) (h : Fin 32) (l l' : Fin 64) :
    rst y i (ch h l) = rst y i (ch h l') := by
  unfold rst
  rw [var_ch y i h l l']

theorem lit_r64 : Ideal.ofBits .f32 0x42800000#32 = ((64 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem H_up (x : Fin 4352 → Fin 2048 → ℝ) : H (up2 x) = up3 (fun i h l => x i (ch h l)) := by
  refine ext3 (n := 4352) (m := 32) (k := 64) fun i h l => ?_
  pointwise [H, up3_at]
  show ((x i _ : ℝ) : EReal) = _
  congr 2
  refine Fin.ext ?_
  simp only [ch, ix2_1]
  omega

theorem L_up (x : Fin 4352 → Fin 32 → Fin 64 → ℝ) : L (up3 x) = up2 (fun i c => x i (hd c) (lo c)) := by
  refine ext2 (n := 4352) (m := 2048) fun i c => ?_
  pointwise [L, up2_at]
  rfl

theorem RA_up (x : Fin 4352 → Fin 32 → Fin 64 → ℝ) : RA (up3 x) = up2 (fun i h => ∑ l, x i h l) := by
  refine ext2 (n := 4352) (m := 32) fun i c => ?_
  pointwise [RA, up2_at, up3_at]
  simp only [l_sum, l_zero, l_add, zero_add]

theorem RB_up (x : Fin 4352 → Fin 32 → Fin 1 → ℝ) : RB (up3 x) = up2 (fun i h => x i h 0) := by
  refine ext2 (n := 4352) (m := 32) fun i c => ?_
  pointwise [RB, up2_at, up3_at]
  simp only [l_sum, l_zero, l_add, zero_add, Fin.sum_univ_one]

theorem B1_up (x : Fin 4352 → Fin 32 → ℝ) : B1 (up2 x) = up3 (fun i h (_ : Fin 1) => x i h) := by
  refine ext3 (n := 4352) (m := 32) (k := 1) fun i h l => ?_
  pointwise [B1, up2_at, up3_at]

theorem SB_up (x : Fin 4352 → Fin 32 → ℝ) : SB (up2 x) = up3 (fun i h (_ : Fin 1) => x i h) := by
  refine ext3 (n := 4352) (m := 32) (k := 1) fun i h l => ?_
  pointwise [SB, up2_at, up3_at]

theorem B2_up (x : Fin 4352 → Fin 32 → ℝ) : B2 (up2 x) = up3 (fun i h (_ : Fin 64) => x i h) := by
  refine ext3 (n := 4352) (m := 32) (k := 64) fun i h l => ?_
  pointwise [B2, up2_at, up3_at]

theorem B3_up (x : Fin 4352 → Fin 32 → Fin 1 → ℝ) : B3 (up3 x) = up3 (fun i h (_ : Fin 64) => x i h 0) := by
  refine ext3 (n := 4352) (m := 32) (k := 64) fun i h l => ?_
  pointwise [B3, up3_at]

theorem BR_up (x : Fin 1 → Fin 2048 → ℝ) : BR (up2 x) = up2 (fun (_ : Fin 4352) c => x 0 c) := by
  refine ext2 (n := 4352) (m := 2048) fun i c => ?_
  pointwise [BR, up2_at]

theorem SC_up (x : Fin 4352 → Fin 2048 → ℝ) : SC (up2 x) = up2 x := by
  refine ext2 (n := 4352) (m := 2048) fun i c => ?_
  pointwise [SC]

theorem SG_up (x : Fin 4352 → Fin 2048 → ℝ) : SG (up2 x) = up2 (fun i c => sg (x i c)) := by
  refine ext2 (n := 4352) (m := 2048) fun i c => ?_
  pointwise [SG, one, up2_at]
  simp only [l_neg, l_exp, l_one, l_add]
  rw [← zero_sub, l_div (exp_pos1 _)]
  rfl

theorem mulf2 (x y : Fin 4352 → Fin 2048 → ℝ) :
    (mulf (up2 x : FVec Ideal S4352x2048 .f32) (up2 y) : FVec Ideal S4352x2048 .f32) = up2 (fun i c => x i c * y i c) := by
  refine ext2 (n := 4352) (m := 2048) fun i c => ?_
  pointwise [up2_at]
  rw [l_mul]

theorem addf2 (x y : Fin 4352 → Fin 2048 → ℝ) :
    (addf (up2 x : FVec Ideal S4352x2048 .f32) (up2 y) : FVec Ideal S4352x2048 .f32) = up2 (fun i c => x i c + y i c) := by
  refine ext2 (n := 4352) (m := 2048) fun i c => ?_
  pointwise [up2_at]
  rw [l_add]

theorem mulf3 (x y : Fin 4352 → Fin 32 → Fin 64 → ℝ) :
    (mulf (up3 x : FVec Ideal S4352x32x64 .f32) (up3 y) : FVec Ideal S4352x32x64 .f32)
      = up3 (fun i h l => x i h l * y i h l) := by
  refine ext3 (n := 4352) (m := 32) (k := 64) fun i h l => ?_
  pointwise [up3_at]
  rw [l_mul]

theorem addf3 (x y : Fin 4352 → Fin 32 → Fin 64 → ℝ) :
    (addf (up3 x : FVec Ideal S4352x32x64 .f32) (up3 y) : FVec Ideal S4352x32x64 .f32)
      = up3 (fun i h l => x i h l + y i h l) := by
  refine ext3 (n := 4352) (m := 32) (k := 64) fun i h l => ?_
  pointwise [up3_at]
  rw [l_add]

theorem negf3 (x : Fin 4352 → Fin 32 → Fin 64 → ℝ) :
    (Host.negf (up3 x : FVec Ideal S4352x32x64 .f32) : FVec Ideal S4352x32x64 .f32) = up3 (fun i h l => -x i h l) := by
  refine ext3 (n := 4352) (m := 32) (k := 64) fun i h l => ?_
  pointwise [up3_at]
  rw [l_neg]

theorem two_up : two = up3 (fun _ _ _ => 2) := by
  refine ext3 (n := 4352) (m := 32) (k := 64) fun i h l => ?_
  pointwise [two, up3_at, lit_two]

theorem div64 (x : Fin 4352 → Fin 32 → Fin 1 → ℝ) :
    (Host.divf (up3 x : FVec Ideal S4352x32x1 .f32) (K1 0x42800000#32) : FVec Ideal S4352x32x1 .f32)
      = up3 (fun i h l => x i h l * (1 / 64)) := by
  refine ext3 (n := 4352) (m := 32) (k := 1) fun i h l => ?_
  pointwise [K1, up3_at, lit_r64]
  rw [l_div (by norm_num)]
  congr 1
  ring

theorem mulfu (x y : Fin 4352 → Fin 32 → Fin 1 → ℝ) :
    (mulf (up3 x : FVec Ideal S4352x32x1 .f32) (up3 y) : FVec Ideal S4352x32x1 .f32)
      = up3 (fun i h l => x i h l * y i h l) := by
  refine ext3 (n := 4352) (m := 32) (k := 1) fun i h l => ?_
  pointwise [up3_at]
  rw [l_mul]

theorem addfu (x y : Fin 4352 → Fin 32 → Fin 1 → ℝ) :
    (addf (up3 x : FVec Ideal S4352x32x1 .f32) (up3 y) : FVec Ideal S4352x32x1 .f32)
      = up3 (fun i h l => x i h l + y i h l) := by
  refine ext3 (n := 4352) (m := 32) (k := 1) fun i h l => ?_
  pointwise [up3_at]
  rw [l_add]

theorem CEN_up (y : Fin 4352 → Fin 2048 → ℝ) : CEN (up2 y) = up3 (fun i h l => cen y i (ch h l)) := by
  unfold CEN
  rw [H_up, RA_up, B1_up, div64, B3_up]
  refine ext3 (n := 4352) (m := 32) (k := 64) fun i h l => ?_
  pointwise [up3_at]
  rw [l_sub]
  unfold cen
  rw [seg_ch]

theorem VAR_up (y : Fin 4352 → Fin 2048 → ℝ) : VAR (up2 y) = up3 (fun i h (_ : Fin 1) => var y i (ch h 0)) := by
  unfold VAR
  rw [CEN_up, mulf3, RA_up, B1_up, div64]
  refine ext3 (n := 4352) (m := 32) (k := 1) fun i h l => ?_
  pointwise [K1, up3_at, lit_eps]
  rw [l_add]
  unfold var
  rw [seg_ch]

theorem RS_up (y : Fin 4352 → Fin 2048 → ℝ) : RS (up2 y) = up3 (fun i h (_ : Fin 1) => rst y i (ch h 0)) := by
  unfold RS
  rw [VAR_up]
  refine ext3 (n := 4352) (m := 32) (k := 1) fun i h l => ?_
  pointwise [up3_at]
  rw [l_rsqrt (var_pos y i _)]
  rfl

theorem rst'_up (y : Fin 4352 → Fin 2048 → ℝ) :
    (mulf (K1 0xBF000000#32) (Host.divf (RS (up2 y)) (VAR (up2 y))) : FVec Ideal S4352x32x1 .f32)
      = up3 (fun i h (_ : Fin 1) => rst' y i (ch h 0)) := by
  rw [VAR_up, RS_up]
  refine ext3 (n := 4352) (m := 32) (k := 1) fun i h l => ?_
  pointwise [K1, up3_at, lit_neg_half]
  rw [l_div (var_pos y i _).ne', l_mul]
  rfl

theorem D1_up (g pa dm : Fin 4352 → Fin 2048 → ℝ) :
    D1 (up2 g) (up2 pa) (up2 dm) = up2 (fun i c => sg (pa i c) * dm i c * g i c) := by
  unfold D1
  rw [SG_up, SC_up, mulf2, mulf2]

theorem BON_up (r k : Fin 4352 → Fin 2048 → ℝ) (rk : Fin 1 → Fin 2048 → ℝ) :
    BON (up2 r) (up2 k) (up2 rk) = up3 (fun i h l => seg (tri r k rk) i (ch h l)) := by
  unfold BON
  rw [H_up, H_up, BR_up, H_up, mulf3, mulf3, RA_up, B1_up, B3_up]
  refine ext3 (n := 4352) (m := 32) (k := 64) fun i h l => ?_
  rw [up3_at, up3_at, seg_ch]
  rfl

theorem DBN_up (v d1 : Fin 4352 → Fin 2048 → ℝ) :
    DBN (up2 v) (up2 d1) = up3 (fun i h l => seg (fun i c => d1 i c * v i c) i (ch h l)) := by
  unfold DBN
  rw [H_up, H_up, mulf3, RA_up, SB_up, RB_up, B2_up]
  refine ext3 (n := 4352) (m := 32) (k := 64) fun i h l => ?_
  rw [up3_at, up3_at, seg_ch]

theorem ACT_up (y r k v : Fin 4352 → Fin 2048 → ℝ) (gw gb rk : Fin 1 → Fin 2048 → ℝ) :
    ACT (up2 y) (up2 r) (up2 k) (up2 v) (up2 gw) (up2 gb) (up2 rk)
      = up2 (act (nrm y gw gb) (seg (tri r k rk)) v) := by
  unfold ACT
  rw [CEN_up, RS_up, B3_up, mulf3, L_up, BR_up, BR_up, mulf2, addf2, BON_up, H_up, mulf3, L_up, addf2]
  refine ext2 (n := 4352) (m := 2048) fun i c => ?_
  rw [up2_at, up2_at]
  simp only [ch_hd_lo]
  rw [rst_ch y i (hd c) 0 (lo c), ch_hd_lo]
  rfl

/-- The cotangent of the normalised heads. -/
def DYH (gw : FVec Ideal S1x2048 .f32) (d1 : FVec Ideal S4352x2048 .f32) : FVec Ideal S4352x32x64 .f32 := H (mulf d1 (BR gw))

/-- The part of the cotangent of the centred heads that comes through their squares. -/
def TSQ (y : FVec Ideal S4352x2048 .f32) (gw : FVec Ideal S1x2048 .f32) (d1 : FVec Ideal S4352x2048 .f32) :
    FVec Ideal S4352x32x64 .f32 :=
  mulf (B2 (RB (Host.divf (mulf (SB (RA (mulf (CEN y) (DYH gw d1)))) (mulf (K1 0xBF000000#32) (Host.divf (RS y) (VAR y))))
    (K1 0x42800000#32)))) (mulf two (CEN y))

/-- The cotangent of the rows that go into the group norm. -/
def DY (y : FVec Ideal S4352x2048 .f32) (gw : FVec Ideal S1x2048 .f32) (d1 : FVec Ideal S4352x2048 .f32) :
    FVec Ideal S4352x2048 .f32 :=
  L (addf (addf (mulf (DYH gw d1) (B3 (RS y))) (TSQ y gw d1))
    (B2 (RB (Host.divf (addf (SB (RA (Host.negf (mulf (DYH gw d1) (B3 (RS y)))))) (SB (RA (Host.negf (TSQ y gw d1)))))
      (K1 0x42800000#32)))))

theorem DYH_up (gw : Fin 1 → Fin 2048 → ℝ) (d1 : Fin 4352 → Fin 2048 → ℝ) :
    DYH (up2 gw) (up2 d1) = up3 (fun i h l => d1 i (ch h l) * gw 0 (ch h l)) := by
  unfold DYH
  rw [BR_up, mulf2, H_up]

theorem TSQ_up (y : Fin 4352 → Fin 2048 → ℝ) (gw : Fin 1 → Fin 2048 → ℝ) (d1 : Fin 4352 → Fin 2048 → ℝ) :
    TSQ (up2 y) (up2 gw) (up2 d1) = up3 (fun i h l =>
      2 * (cen y i (ch h l) * seg (fun i c => cen y i c * (d1 i c * gw 0 c) * rst' y i c * (1 / 64)) i (ch h l))) := by
  unfold TSQ
  rw [CEN_up, DYH_up, mulf3, RA_up, SB_up, rst'_up, mulfu, div64, RB_up, B2_up, two_up, mulf3, mulf3]
  refine ext3 (n := 4352) (m := 32) (k := 64) fun i h l => ?_
  rw [up3_at, up3_at, seg_ch]
  have e : ∀ l' : Fin 64, rst' y i (ch h l') = rst' y i (ch h 0) := by
    intro l'
    unfold rst'
    rw [rst_ch y i h l' 0, var_ch y i h l' 0]
  simp only [e]
  rw [← Finset.sum_mul, ← Finset.sum_mul]
  congr 1
  ring

theorem DY_up (y : Fin 4352 → Fin 2048 → ℝ) (gw : Fin 1 → Fin 2048 → ℝ) (g d : Fin 4352 → Fin 2048 → ℝ) :
    DY (up2 y) (up2 gw) (up2 (fun i c => d i c * g i c)) = up2 (fun i c =>
      dcen (cen y) (fun i c => d i c * g i c * gw 0 c * rst y i c) (dsq g d (cen y) (rst' y) gw) i c
        + seg (fun i c => (0 - dcen (cen y) (fun i c => d i c * g i c * gw 0 c * rst y i c)
            (dsq g d (cen y) (rst' y) gw) i c) * (1 / 64)) i c) := by
  unfold DY
  rw [TSQ_up, DYH_up, RS_up, B3_up, mulf3, addf3, negf3, negf3, RA_up, RA_up, SB_up, SB_up, addfu, div64, RB_up, B2_up,
    addf3, L_up]
  refine ext2 (n := 4352) (m := 2048) fun i c => ?_
  rw [up2_at, up2_at]
  have hs := seg_ch (fun i c => (0 - dcen (cen y) (fun i c => d i c * g i c * gw 0 c * rst y i c)
            (dsq g d (cen y) (rst' y) gw) i c) * (1 / 64)) i (hd c) (lo c)
  rw [ch_hd_lo] at hs
  rw [hs]
  have e : ∀ l : Fin 64, (0 - dcen (cen y) (fun i c => d i c * g i c * gw 0 c * rst y i c)
      (dsq g d (cen y) (rst' y) gw) i (ch (hd c) l)) * (1 / 64)
      = (-(d i (ch (hd c) l) * g i (ch (hd c) l) * gw 0 (ch (hd c) l) * rst y i (ch (hd c) 0))) * (1 / 64)
        + (-(2 * (cen y i (ch (hd c) l) * seg (fun i c => cen y i c * (d i c * g i c * gw 0 c) * rst' y i c * (1 / 64)) i (ch (hd c) l)))) * (1 / 64) := by
    intro l
    rw [rst_ch y i (hd c) 0 l]
    unfold dcen dsq
    ring
  rw [Finset.sum_congr rfl fun l _ => e l, Finset.sum_add_distrib, ← Finset.sum_mul, ← Finset.sum_mul, ← add_mul]
  congr 2
  simp only [ch_hd_lo]
  rw [rst_ch y i (hd c) 0 (lo c), ch_hd_lo]
  unfold dcen dsq
  ring

theorem up2_up3 (x : Fin 4352 → Fin 2048 → ℝ) : L (up3 (fun i h l => x i (ch h l))) = up2 x := by
  rw [L_up]
  simp only [ch_hd_lo]

theorem one_sub (x : Fin 4352 → Fin 2048 → ℝ) :
    mulf (SG (up2 x)) (subf one (SG (up2 x))) = (up2 (fun i c => sg' (x i c)) : FVec Ideal S4352x2048 .f32) := by
  rw [SG_up]
  refine ext2 (n := 4352) (m := 2048) fun i c => ?_
  pointwise [one, up2_at]
  simp only [l_one, l_sub, l_mul, sg'_eq]

theorem D1_dd (g pa dm : Fin 4352 → Fin 2048 → ℝ) :
    D1 (up2 g) (up2 pa) (up2 dm) = up2 (fun i c => dd pa dm i c * g i c) := D1_up g pa dm

theorem ref_dy (y g pa dm : Fin 4352 → Fin 2048 → ℝ) (gw : Fin 1 → Fin 2048 → ℝ) :
    DY (up2 y) (up2 gw) (D1 (up2 g) (up2 pa) (up2 dm)) = up2 (oDy y g (dd pa dm) gw) := by
  rw [D1_dd, DY_up]
  rfl

theorem ref_dr (k v g pa dm : Fin 4352 → Fin 2048 → ℝ) (rk : Fin 1 → Fin 2048 → ℝ) :
    L (mulf (mulf (DBN (up2 v) (D1 (up2 g) (up2 pa) (up2 dm))) (H (BR (up2 rk)))) (H (up2 k)))
      = up2 (oDr k v g (dd pa dm) rk) := by
  rw [D1_dd, DBN_up, BR_up, H_up, H_up, mulf3, mulf3, L_up]
  simp only [ch_hd_lo]
  rfl

theorem ref_dk (r v g pa dm : Fin 4352 → Fin 2048 → ℝ) (rk : Fin 1 → Fin 2048 → ℝ) :
    L (mulf (H (up2 r)) (mulf (DBN (up2 v) (D1 (up2 g) (up2 pa) (up2 dm))) (H (BR (up2 rk)))))
      = up2 (oDk r v g (dd pa dm) rk) := by
  rw [D1_dd, DBN_up, BR_up, H_up, H_up, mulf3, mulf3, L_up]
  simp only [ch_hd_lo]
  rfl

theorem ref_dv (r k g pa dm : Fin 4352 → Fin 2048 → ℝ) (rk : Fin 1 → Fin 2048 → ℝ) :
    L (mulf (BON (up2 r) (up2 k) (up2 rk)) (H (D1 (up2 g) (up2 pa) (up2 dm)))) = up2 (oDv r k g (dd pa dm) rk) := by
  rw [D1_dd, BON_up, H_up, mulf3, L_up]
  simp only [ch_hd_lo]
  rfl

theorem ref_dg (y r k v pa dm : Fin 4352 → Fin 2048 → ℝ) (gw gb rk : Fin 1 → Fin 2048 → ℝ) :
    mulf (ACT (up2 y) (up2 r) (up2 k) (up2 v) (up2 gw) (up2 gb) (up2 rk)) (mulf (SG (up2 pa)) (SC (up2 dm)))
      = up2 (oDg (oAct y r k v gw gb rk) (dd pa dm)) := by
  rw [ACT_up, SG_up, SC_up, mulf2, mulf2]
  rfl

theorem ref_pa (y r k v g pa dm : Fin 4352 → Fin 2048 → ℝ) (gw gb rk : Fin 1 → Fin 2048 → ℝ) :
    mulf (mulf (SC (up2 dm)) (mulf (ACT (up2 y) (up2 r) (up2 k) (up2 v) (up2 gw) (up2 gb) (up2 rk)) (up2 g)))
      (mulf (SG (up2 pa)) (subf one (SG (up2 pa)))) = up2 (oPa (oAct y r k v gw gb rk) g pa dm) := by
  rw [one_sub, ACT_up, SC_up, mulf2, mulf2, mulf2]
  rfl

theorem ref_pb (b pb dm : Fin 4352 → Fin 2048 → ℝ) :
    mulf (mulf (SC (up2 dm)) (up2 b)) (mulf (SG (up2 pb)) (subf one (SG (up2 pb)))) = up2 (oPb b pb dm) := by
  rw [one_sub, SC_up, mulf2, mulf2]
  rfl

theorem ref_yb (pb dm : Fin 4352 → Fin 2048 → ℝ) : mulf (SG (up2 pb)) (SC (up2 dm)) = up2 (dd pb dm) := by
  rw [SG_up, SC_up, mulf2]
  rfl

/-- The sum of the rows, as the reference forms it. -/
def RED (x : FVec Ideal S4352x2048 .f32) : FVec Ideal S2048 .f32 :=
  Host.reduceAdd x (constant S_ .f32 0x00000000#32) reducesTo_S4352x2048_S2048_d0 h_S_

theorem ref_gw (y g pa dm : Fin 4352 → Fin 2048 → ℝ) :
    shapeCast S1x2048 (RED (mulf (L (mulf (CEN (up2 y)) (B3 (RS (up2 y))))) (D1 (up2 g) (up2 pa) (up2 dm))))
      shapeCasts_S2048_S1x2048 = up2 (oGw y g (dd pa dm)) := by
  rw [D1_dd, CEN_up, RS_up, B3_up, mulf3, L_up, mulf2]
  refine ext2 (n := 1) (m := 2048) fun i c => ?_
  pointwise [RED, up2_at]
  have e : ∀ k, rst y k (ch (hd c) 0) = rst y k c := fun k => by rw [rst_ch y k (hd c) 0 (lo c), ch_hd_lo]
  simp only [l_zero, l_sum, zero_add, ch_hd_lo, e]
  rfl

theorem ref_gb (g pa dm : Fin 4352 → Fin 2048 → ℝ) :
    shapeCast S1x2048 (RED (D1 (up2 g) (up2 pa) (up2 dm))) shapeCasts_S2048_S1x2048 = up2 (oGb g (dd pa dm)) := by
  rw [D1_dd]
  refine ext2 (n := 1) (m := 2048) fun i c => ?_
  pointwise [RED, up2_at]
  simp only [l_zero, l_sum, zero_add]
  rfl

theorem ref_rk (r k v g pa dm : Fin 4352 → Fin 2048 → ℝ) :
    broadcastInDim S1x2048 ![1] bcast_S2048_S1x2048_1
      (RED (L (mulf (mulf (H (up2 r)) (H (up2 k))) (DBN (up2 v) (D1 (up2 g) (up2 pa) (up2 dm))))))
      = up2 (oRk r k v g (dd pa dm)) := by
  rw [D1_dd, DBN_up, H_up, H_up, mulf3, mulf3, L_up]
  refine ext2 (n := 1) (m := 2048) fun i c => ?_
  pointwise [RED, up2_at]
  simp only [l_zero, l_sum, zero_add, ch_hd_lo]
  rfl

end Cert.RefGate

end
-- ==== Proof.Finite.lean ====
/- The preconditions read at the ideal instance: arrays whose elements are finite are arrays of real numbers. -/
module

public import proofs.«01_k».proof.Defs
public import proofs.«01_k».proof.Proof.Reals
public import Idealize.ShloMosaic.Lib.KernelVsHost

@[expose] public section

noncomputable section

namespace Cert.Finite

open Idealize.ShloMosaic Cert.Reals

/-- The side conditions of the preconditions' operations. -/
instance facts : Cert.Pre_finite.Facts := ⟨by decide, by decide⟩

instance facts2 : Cert.Pre_finite2.Facts := ⟨by decide, by decide, by decide, by decide⟩

/-- An extended real whose absolute value compares below infinity is a real number. -/
theorem fin_at (x : Ideal .f32)
    (h : FloatOps.cmpf .olt (FloatOps.hostAbsf x) (FloatOps.ofBits (F := Ideal) .f32 0x7F800000#32) = 1#1) :
    (x : EReal) ≠ ⊥ ∧ (x : EReal) ≠ ⊤ := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  constructor <;> rintro rfl <;> simp at h'

/-- An array that meets the precondition is an array of real numbers. -/
theorem real2 {n k : ℕ} (x : FVec Ideal ⟨2, ![n, k]⟩ .f32)
    (hb : (⟨0, ![]⟩ : Shape).BroadcastsInDim ⟨2, ![n, k]⟩ (![] : Fin 0 → Fin 2))
    (h : cmpf .olt (Host.absf x) (broadcastInDim ⟨2, ![n, k]⟩ ![] hb (constant ⟨0, ![]⟩ .f32 0x7F800000#32 : FVec Ideal _ .f32))
      = fun _ => 1#1) : ∃ f : Fin n → Fin k → ℝ, x = up2 f :=
  ⟨_, eq_up2 fun i => fin_at (x i) (congrFun h i)⟩

/-- The same of an array whose elements are widened before the comparison. -/
theorem wide2 {n k : ℕ} (x : FVec Ideal ⟨2, ![n, k]⟩ .bf16) (hw : FTy.bits .bf16 < FTy.bits .f32)
    (hb : (⟨0, ![]⟩ : Shape).BroadcastsInDim ⟨2, ![n, k]⟩ (![] : Fin 0 → Fin 2))
    (h : cmpf .olt (Host.absf (extf .f32 x hw)) (broadcastInDim ⟨2, ![n, k]⟩ ![] hb (constant ⟨0, ![]⟩ .f32 0x7F800000#32 : FVec Ideal _ .f32))
      = fun _ => 1#1) : ∃ f : Fin n → Fin k → ℝ, x = up2 f :=
  ⟨_, eq_up2 fun i => fin_at (x i) (congrFun h i)⟩

/-- The side conditions of the precondition's program for call 39. -/
instance facts39 : Cert.Pre_finite39.Facts := ⟨by decide, by decide⟩

end Cert.Finite

end
-- ==== Proof.Half.lean ====
/- Halving over the extended reals: a sum times one half is the sum of the halves, infinities included. -/
module

public import proofs.«01_k».proof.Proof.Reals

@[expose] public section

noncomputable section

namespace Cert.Half

open Idealize.ShloMosaic

/-- The literal one half. -/
abbrev half : EReal := Ideal.ofBits .f32 0x3F000000#32

theorem half_eq : half = (((1 / 2 : ℝ)) : EReal) := by
  simp [half, Ideal.ofBits, Ideal.ieee, -EReal.coe_mul]; norm_num

/-- A finite sum of extended reals times one half. -/
theorem half_sum {ι : Type} (s : Finset ι) (f : ι → EReal) : half * ∑ k ∈ s, f k = ∑ k ∈ s, half * f k := by
  classical
  rw [half_eq]
  induction s using Finset.induction_on with
  | empty => simp
  | insert a s ha ih =>
    rw [Finset.sum_insert ha, Finset.sum_insert ha, ← ih, EReal.left_distrib_of_nonneg_of_ne_top (by norm_num) (by simp)]

end Cert.Half

end
-- ==== Proof.K2Val.lean ====
/- The gradient of a feed-forward layer's gated product: the cotangent of the layer's output, halved and taken through the
   last weights, is taken through the product and the gate in the same pass. -/
module

public import proofs.«01_k».proof.Proof.Gen.Kernel2Ideal.Frame
public import proofs.«01_k».proof.Proof.Gen.Reference2Ideal.Run
public import proofs.«01_k».proof.Proof.Half
public import Idealize.ShloMosaic.Lib.Pipeline.ValueKit
public import Idealize.ShloMosaic.Lib.Pipeline.ReadBack

@[expose] public section

set_option maxRecDepth 16384

noncomputable section

namespace Cert.K2Val

open Idealize.ShloMosaic Idealize.ShloMosaic.TcCoe Idealize.SL.Sem
open Idealize.ShloMosaic.Pipeline (Dat)
open Cert.Kernel2Ideal Cert.Kernel2Ideal.Gen Cert.Reals Cert.Half

variable (m : (ℓ : Loc nD τ sig) → Buf (Elt Ideal) ℓ)

/-- The logistic function. -/
def lg (x : ℝ) : ℝ := 1 / (1 + Real.exp (-x))

theorem lg_pos (x : ℝ) : 1 + Real.exp (-x) ≠ 0 := by positivity

/-- The cotangent of the gated product. -/
def da {n k : ℕ} (dh : Fin n → Fin 2048 → ℝ) (wd : Fin k → Fin 2048 → ℝ) (i : Fin n) (j : Fin k) : ℝ :=
  1 / 2 * ∑ l : Fin 2048, dh i l * wd j l

/-- The gradient by the gate's argument. -/
def oGate {n k : ℕ} (dh : Fin n → Fin 2048 → ℝ) (wd : Fin k → Fin 2048 → ℝ) (g u : Fin n → Fin k → ℝ) (i : Fin n) (j : Fin k) : ℝ :=
  da dh wd i j * u i j * (lg (g i j) * (1 + g i j * (1 - lg (g i j))))

/-- The gradient by the up product. -/
def oUp {n k : ℕ} (dh : Fin n → Fin 2048 → ℝ) (wd : Fin k → Fin 2048 → ℝ) (g u : Fin n → Fin k → ℝ) (i : Fin n) (j : Fin k) : ℝ :=
  da dh wd i j * (g i j * lg (g i j))

section Body

variable (dh : Fin 544 → Fin 2048 → ℝ) (wd : Fin 1408 → Fin 2048 → ℝ) (g u : Fin 544 → Fin 1408 → ℝ)

theorem pay1_up : k0_pay1 (F := Ideal) (up2 dh) (up2 wd) = up2 (da dh wd) := by
  refine ext2 (n := 544) (m := 1408) fun a b => ?_
  pointwise [k0_pay1, up2_at]
  rw [show Ideal.ofBits .f32 0x3F000000#32 = _ from half_eq]
  simp only [l_mul, l_sum]
  rfl

theorem pay3_up : k0_pay3 (F := Ideal) (up2 g) = up2 (fun i j => lg (g i j)) := by
  refine ext2 (n := 544) (m := 1408) fun a b => ?_
  pointwise [k0_pay3, k0_pay2, up2_at]
  simp only [zero_sub, l_neg, l_exp, l_one, l_add, l_div (lg_pos _)]
  rfl

theorem pay4_up : k0_pay4 (F := Ideal) (up2 dh) (up2 wd) (up2 g) (up2 u) = up2 (oGate dh wd g u) := by
  refine ext2 (n := 544) (m := 1408) fun a b => ?_
  pointwise [k0_pay4, pay1_up, k0_pay2, pay3_up, up2_at]
  simp only [l_one, l_sub, l_add, l_mul]
  rfl

theorem pay5_up : k0_pay5 (F := Ideal) (up2 dh) (up2 wd) (up2 g) = up2 (oUp dh wd g u) := by
  refine ext2 (n := 544) (m := 1408) fun a b => ?_
  pointwise [k0_pay5, pay1_up, k0_pay2, pay3_up, up2_at]
  simp only [l_mul]
  rfl

end Body

/-- Rows `544 (t / 4), …` of the cotangent. -/
def rows (x : Fin 4352 → Fin 2048 → ℝ) (t : Fin cfg0.N) (a : Fin 544) (b : Fin 2048) : ℝ :=
  x ⟨544 * (t.val / 4) + a.val, by have := lt_of_lt_of_eq t.isLt N_0; omega⟩ b

/-- Rows `1408 (t % 4), …` of the last weights. -/
def cols (x : Fin 5632 → Fin 2048 → ℝ) (t : Fin cfg0.N) (a : Fin 1408) (b : Fin 2048) : ℝ :=
  x ⟨1408 * (t.val % 4) + a.val, by have := lt_of_lt_of_eq t.isLt N_0; omega⟩ b

/-- The tile at `(t / 4, t % 4)` of an array of hidden channels. -/
def tile (x : Fin 4352 → Fin 5632 → ℝ) (t : Fin cfg0.N) (a : Fin 544) (b : Fin 1408) : ℝ :=
  x ⟨544 * (t.val / 4) + a.val, by have := lt_of_lt_of_eq t.isLt N_0; omega⟩ ⟨1408 * (t.val % 4) + b.val, by omega⟩

/-- The windows' block indices at a grid point. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4]
    ∧ win0_4.index t = ![t.val / 4, t.val % 4] ∧ win0_5.index t = ![t.val / 4, t.val % 4] :=
  (by decide +kernel : ∀ t : Fin grid0.N, _)

/-- The arguments are arrays of real numbers, on one device. -/
structure Ins (m : (ℓ : Loc nD τ sig) → Buf (Elt Ideal) ℓ) (c : Dev nD) (dh : Fin 4352 → Fin 2048 → ℝ)
    (wd : Fin 5632 → Fin 2048 → ℝ) (g u : Fin 4352 → Fin 5632 → ℝ) : Prop where
  h0 : m ((c : Thread nD τ).loc main_arg0) = up2 dh
  h1 : m ((c : Thread nD τ).loc main_arg1) = up2 wd
  h2 : m ((c : Thread nD τ).loc main_arg2) = up2 g
  h3 : m ((c : Thread nD τ).loc main_arg3) = up2 u

variable {m} {c : Dev nD} {dh : Fin 4352 → Fin 2048 → ℝ} {wd : Fin 5632 → Fin 2048 → ℝ} {g u : Fin 4352 → Fin 5632 → ℝ}

theorem blk0 (h : Ins m c dh wd g u) (t : Fin cfg0.N) : iblk m c 0 t = up2 (rows dh t) := by
  refine ext2 (n := 544) (m := 2048) fun a b => ?_
  have e : iblk m c 0 t (ix2 a b) = m ((c : Thread nD τ).loc main_arg0) (ix2 ⟨544 * (t.val / 4) + a.val, by have := lt_of_lt_of_eq t.isLt N_0; omega⟩ b) := by
    blk_point [iblk, V, idx t]
  rw [e, h.h0]
  rfl

theorem blk1 (h : Ins m c dh wd g u) (t : Fin cfg0.N) : iblk m c 1 t = up2 (cols wd t) := by
  refine ext2 (n := 1408) (m := 2048) fun a b => ?_
  have e : iblk m c 1 t (ix2 a b) = m ((c : Thread nD τ).loc main_arg1) (ix2 ⟨1408 * (t.val % 4) + a.val, by have := lt_of_lt_of_eq t.isLt N_0; omega⟩ b) := by
    blk_point [iblk, V, idx t]
  rw [e, h.h1]
  rfl

theorem blk2 (h : Ins m c dh wd g u) (t : Fin cfg0.N) : iblk m c 2 t = up2 (tile g t) := by
  refine ext2 (n := 544) (m := 1408) fun a b => ?_
  have e : iblk m c 2 t (ix2 a b) = m ((c : Thread nD τ).loc main_arg2) (ix2 ⟨544 * (t.val / 4) + a.val, by have := lt_of_lt_of_eq t.isLt N_0; omega⟩ ⟨1408 * (t.val % 4) + b.val, by omega⟩) := by
    blk_point [iblk, V, idx t]
  rw [e, h.h2]
  rfl

theorem blk3 (h : Ins m c dh wd g u) (t : Fin cfg0.N) : iblk m c 3 t = up2 (tile u t) := by
  refine ext2 (n := 544) (m := 1408) fun a b => ?_
  have e : iblk m c 3 t (ix2 a b) = m ((c : Thread nD τ).loc main_arg3) (ix2 ⟨544 * (t.val / 4) + a.val, by have := lt_of_lt_of_eq t.isLt N_0; omega⟩ ⟨1408 * (t.val % 4) + b.val, by omega⟩) := by
    blk_point [iblk, V, idx t]
  rw [e, h.h3]
  rfl

theorem emb4 (F : Fin 4352 → Fin 5632 → ℝ) (t : Fin cfg0.N) (z : ((cfg0.win 4).xblock (cfg0.grid.coords t)).Idx) :
    up2 (tile F t) z = up2 F (((View.whole main_v0_0).slice (win0_4.rect t)).emb z) := by
  have e : ((View.whole main_v0_0).slice (win0_4.rect t)).emb z
      = ix2 ⟨544 * (t.val / 4) + (z 0).val, by have := lt_of_lt_of_eq t.isLt N_0; have h : (z 0).val < 544 := (z 0).isLt; omega⟩
        ⟨1408 * (t.val % 4) + (z 1).val, by have h : (z 1).val < 1408 := (z 1).isLt; omega⟩ := by
    blk_ext [idx t]
  rw [e]
  rfl

/-- The kernel's gradient by the gate's argument. -/
theorem final4 (h : Ins m c dh wd g u) : (dats m 0 c).arrAt 4 (cfgs 0).N = up2 (oGate dh wd g u) := by
  refine (dats m 0 c).arrAt_eq_of_covers 4 _ (by decide +kernel) fun t hf z => ?_
  blk_simp
  rw [after0_4]
  frame_out
  simp only [blk0 h, blk1 h, blk2 h, blk3 h]
  exact (congrFun (pay4_up (rows dh t) (cols wd t) (tile g t) (tile u t)) z).trans (emb4 (oGate dh wd g u) t z)

theorem emb5 (F : Fin 4352 → Fin 5632 → ℝ) (t : Fin cfg0.N) (z : ((cfg0.win 5).xblock (cfg0.grid.coords t)).Idx) :
    up2 (tile F t) z = up2 F (((View.whole main_v0_1).slice (win0_5.rect t)).emb z) := by
  have e : ((View.whole main_v0_1).slice (win0_5.rect t)).emb z
      = ix2 ⟨544 * (t.val / 4) + (z 0).val, by have := lt_of_lt_of_eq t.isLt N_0; have h : (z 0).val < 544 := (z 0).isLt; omega⟩
        ⟨1408 * (t.val % 4) + (z 1).val, by have h : (z 1).val < 1408 := (z 1).isLt; omega⟩ := by
    blk_ext [idx t]
  rw [e]
  rfl

/-- The kernel's gradient by the up product. -/
theorem final5 (h : Ins m c dh wd g u) : (dats m 0 c).arrAt 5 (cfgs 0).N = up2 (oUp dh wd g u) := by
  refine (dats m 0 c).arrAt_eq_of_covers 5 _ (by decide +kernel) fun t hf z => ?_
  blk_simp
  rw [after0_5]
  frame_out
  simp only [blk0 h, blk1 h, blk2 h, blk3 h]
  exact (congrFun (pay5_up (rows dh t) (cols wd t) (tile g t) (tile u t)) z).trans (emb5 (oUp dh wd g u) t z)

/-- The reference's cotangent of the gated product. -/
abbrev DA (X : FVec Ideal S4352x2048 .bf16) (W : FVec Ideal S5632x2048 .bf16) : FVec Ideal S4352x5632 .f32 :=
  Host.dotGeneral Cert.Reference2Ideal.dot_S4352x2048_S5632x2048_S4352x5632_1_1_0_0_n_n none
    (mulf (broadcastInDim Cert.Reference2Ideal.S4352x2048 ![] Cert.Reference2Ideal.Gen.bcast_S_S4352x2048 (constant Cert.Reference2Ideal.S_ .f32 0x3F000000#32))
      (extf .f32 X Cert.Reference2Ideal.Gen.bitsLt_bf16_f32)) (extf .f32 W Cert.Reference2Ideal.Gen.bitsLt_bf16_f32)

/-- The constant one, spread over the array. -/
abbrev ONE : FVec Ideal S4352x5632 .f32 :=
  broadcastInDim Cert.Reference2Ideal.S4352x5632 ![] Cert.Reference2Ideal.Gen.bcast_S_S4352x5632 (constant Cert.Reference2Ideal.S_ .f32 0x3F800000#32)

/-- The reference's logistic function. -/
abbrev LG (A : FVec Ideal S4352x5632 .bf16) : FVec Ideal S4352x5632 .f32 :=
  Host.divf ONE (addf ONE (Host.exp (Host.negf (extf .f32 A Cert.Reference2Ideal.Gen.bitsLt_bf16_f32))))

/-- The reference's two results, as terms over the arguments. -/
abbrev REFG (X : FVec Ideal S4352x2048 .bf16) (W : FVec Ideal S5632x2048 .bf16) (A B : FVec Ideal S4352x5632 .bf16) :
    FVec Ideal S4352x5632 .bf16 :=
  truncf .bf16 (addf (mulf (mulf (DA X W) (extf .f32 B Cert.Reference2Ideal.Gen.bitsLt_bf16_f32)) (LG A))
    (mulf (mulf (extf .f32 A Cert.Reference2Ideal.Gen.bitsLt_bf16_f32) (mulf (DA X W) (extf .f32 B Cert.Reference2Ideal.Gen.bitsLt_bf16_f32)))
      (mulf (LG A) (subf ONE (LG A))))) Cert.Reference2Ideal.Gen.bitsLt_bf16_f32

abbrev REFU (X : FVec Ideal S4352x2048 .bf16) (W : FVec Ideal S5632x2048 .bf16) (A : FVec Ideal S4352x5632 .bf16) :
    FVec Ideal S4352x5632 .bf16 :=
  truncf .bf16 (mulf (mulf (extf .f32 A Cert.Reference2Ideal.Gen.bitsLt_bf16_f32) (LG A)) (DA X W)) Cert.Reference2Ideal.Gen.bitsLt_bf16_f32

theorem DA_up (dh : Fin 4352 → Fin 2048 → ℝ) (wd : Fin 5632 → Fin 2048 → ℝ) : DA (up2 dh) (up2 wd) = up2 (da dh wd) := by
  refine ext2 (n := 4352) (m := 5632) fun a b => ?_
  pointwise [DA, up2_at]
  rw [show Ideal.ofBits .f32 0x3F000000#32 = _ from half_eq]
  simp only [l_mul, l_sum]
  refine congrArg _ ?_
  unfold da
  rw [Finset.mul_sum]
  exact Finset.sum_congr rfl fun l _ => by ring

theorem LG_up (g : Fin 4352 → Fin 5632 → ℝ) : LG (up2 g) = up2 (fun i j => lg (g i j)) := by
  refine ext2 (n := 4352) (m := 5632) fun a b => ?_
  pointwise [LG, ONE, up2_at]
  simp only [l_neg, l_exp, l_one, l_add, l_div (lg_pos _)]
  rfl

/-- The reference's gradient by the gate's argument. -/
theorem ref_gate (dh : Fin 4352 → Fin 2048 → ℝ) (wd : Fin 5632 → Fin 2048 → ℝ) (g u : Fin 4352 → Fin 5632 → ℝ) :
    REFG (up2 dh) (up2 wd) (up2 g) (up2 u) = up2 (oGate dh wd g u) := by
  unfold REFG
  rw [DA_up, LG_up]
  refine ext2 (n := 4352) (m := 5632) fun a b => ?_
  pointwise [ONE, up2_at]
  simp only [l_one, l_sub, l_mul, l_add]
  refine congrArg _ ?_
  unfold oGate
  ring

/-- The reference's gradient by the up product. -/
theorem ref_up (dh : Fin 4352 → Fin 2048 → ℝ) (wd : Fin 5632 → Fin 2048 → ℝ) (g u : Fin 4352 → Fin 5632 → ℝ) :
    REFU (up2 dh) (up2 wd) (up2 g) = up2 (oUp dh wd g u) := by
  unfold REFU
  rw [DA_up, LG_up]
  refine ext2 (n := 4352) (m := 5632) fun a b => ?_
  pointwise [up2_at]
  simp only [l_mul]
  refine congrArg _ ?_
  unfold oUp
  ring

end Cert.K2Val

end
-- ==== Proof.K3Val.lean ====
/- The gradient of a feed-forward layer's normalised input: two products, which the kernel sums block by block of the hidden
   channels and the reference contracts at once, one after the other. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.K3Val

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's result, as a term over its arguments. -/
abbrev REF (X : FVec Ideal S4352x5632 .bf16) (W : FVec Ideal S5632x2048 .bf16) (X' : FVec Ideal S4352x5632 .bf16)
    (W' : FVec Ideal S5632x2048 .bf16) : FVec Ideal S4352x2048 .f32 :=
  addf (Host.dotGeneral Cert.Reference3Ideal.dot_S4352x5632_S2048x5632_S4352x2048_1_1_0_0_n_n none (extf .f32 X' Cert.Reference3Ideal.Gen.bitsLt_bf16_f32)
      (transpose Cert.Reference3Ideal.S2048x5632 [1, 0] (extf .f32 W' Cert.Reference3Ideal.Gen.bitsLt_bf16_f32) Cert.Reference3Ideal.Gen.transposes_S5632x2048_S2048x5632_1_0))
    (Host.dotGeneral Cert.Reference3Ideal.dot_S4352x5632_S2048x5632_S4352x2048_1_1_0_0_n_n none (extf .f32 X Cert.Reference3Ideal.Gen.bitsLt_bf16_f32)
      (transpose Cert.Reference3Ideal.S2048x5632 [1, 0] (extf .f32 W Cert.Reference3Ideal.Gen.bitsLt_bf16_f32) Cert.Reference3Ideal.Gen.transposes_S5632x2048_S2048x5632_1_0))

/-- The reference's result at an index: two contractions over the hidden channels. -/
theorem href (X : FVec Ideal S4352x5632 .bf16) (W : FVec Ideal S5632x2048 .bf16) (X' : FVec Ideal S4352x5632 .bf16)
    (W' : FVec Ideal S5632x2048 .bf16) (j : S4352x2048.Idx) :
    REF X W X' W' j = ((∑ l : Fin 5632, (X (ix2 (j 0) l) * W (ix2 l (j 1)) : EReal))
      + ∑ l : Fin 5632, (X' (ix2 (j 0) l) * W' (ix2 l (j 1)) : EReal) : EReal) := by
  rw [add_comm]
  pointwise [REF]

/-- The windows' block indices at a grid point. -/
theorem idx : ∀ t : Fin cfg0.N, win0_0.index t = ![t.val / 8, t.val % 4] ∧ win0_1.index t = ![t.val % 4, t.val / 4 % 2]
    ∧ win0_2.index t = ![t.val / 8, t.val % 4] ∧ win0_3.index t = ![t.val % 4, t.val / 4 % 2]
    ∧ win0_4.index t = ![t.val / 8, t.val / 4 % 2] :=
  (by decide +kernel : ∀ t : Fin grid0.N, _)

theorem hzero (j) : k0_pay1 (F := Ideal) j = 0 := by pointwise [k0_pay1]

/-- One grid step adds the two products of its four blocks. -/
theorem hpay (x : FVec Ideal S1088x1408 .bf16) (y : FVec Ideal S1408x1024 .bf16) (x' : FVec Ideal S1088x1408 .bf16)
    (y' : FVec Ideal S1408x1024 .bf16) (a : FVec Ideal S1088x1024 .f32) (j) :
    k0_pay2 (F := Ideal) x y x' y' a j
      = a j + ((∑ k : Fin 1408, x (ix2 (j 0) k) * y (ix2 k (j 1))) + ∑ k : Fin 1408, x' (ix2 (j 0) k) * y' (ix2 k (j 1))) := by
  pointwise [k0_pay2]

/-- What a grid step writes back is the accumulator it leaves. -/
theorem out_eq (c : Dev nD) (t : Fin cfg0.N) (h0 : ¬t.val % 4 = 0) (h1 : t.val % 4 = 3) (j : S1088x1024.Idx) :
    (outsAt0 m c t.val t.isLt).1 j = (outsAt0 m c t.val t.isLt).2 j := by
  rw [outsAt0_C m c t h0 h1]
  frame_out

/-- The result array after the grid is the reference's term. -/
theorem final (c : Dev nD) : (dats m 0 c).arrAt 4 (cfgs 0).N
    = REF (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  have h7 := (flush0_4 t).mp hf
  rw [after0_4, out_eq m c t (by omega) h7,
    Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h7 : t.val % 4 = 3
      · rw [outsAt0_C m c t h h7]; frame_out; rw [read_unread_whole, hpay]
      · rw [outsAt0_B m c t h h7]; frame_out; rw [read_unread_whole, hpay])
    t h7 _, zero_add]
  refine Eq.trans (Finset.sum_add_distrib (M := EReal)) ?_
  refine Eq.trans (congrArg₂ (fun u z : EReal => u + z) ?_ ?_) (href _ _ _ _ _).symm
  · refine Fin.sum_mul_add_congr fun s k hl => ?_
    blk_point [iblk, V, idx t, idx ⟨_, Pipeline.run_point_lt_of_flush t h7 s⟩]
  · refine Fin.sum_mul_add_congr fun s k hl => ?_
    blk_point [iblk, V, idx t, idx ⟨_, Pipeline.run_point_lt_of_flush t h7 s⟩]

end Cert.K3Val

end
-- ==== Proof.K4Val.lean ====
/- The gradient of a feed-forward layer's gate weights (and, the same program on other arguments, of its up weights):
   the kernel sums eight blocks of rows, the reference contracts all rows at once. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Cert.K4Val

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The reference's result, as a term over its arguments. -/
abbrev REF (X : FVec Ideal S4352x5632 .bf16) (Y : FVec Ideal S4352x2048 .bf16) : FVec Ideal S5632x2048 .bf16 :=
  truncf .bf16 (transpose Cert.Reference4Ideal.S5632x2048 [1, 0] (transpose Cert.Reference4Ideal.S2048x5632 [1, 0]
    (Host.dotGeneral Cert.Reference4Ideal.dot_S4352x5632_S4352x2048_S5632x2048_0_0_1_1_n_n none
      (extf .f32 X Cert.Reference4Ideal.Gen.bitsLt_bf16_f32) (extf .f32 Y Cert.Reference4Ideal.Gen.bitsLt_bf16_f32))
    Cert.Reference4Ideal.Gen.transposes_S5632x2048_S2048x5632_1_0)
    Cert.Reference4Ideal.Gen.transposes_S2048x5632_S5632x2048_1_0) Cert.Reference4Ideal.Gen.bitsLt_bf16_f32

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x1408 .bf16) (y : FVec Ideal S544x2048 .bf16) (a : FVec Ideal S1408x2048 .f32) (j) :
    k0_pay2 (F := Ideal) x y a j = a j + ∑ k : Fin 544, x (ix2 k (j 0)) * y (ix2 k (j 1)) := by
  pointwise [k0_pay2]

/-- What a grid step writes back is the accumulator it leaves. -/
theorem out_eq (c : Dev nD) (t : Fin cfg0.N) (h0 : ¬t.val % 8 = 0) (h1 : t.val % 8 = 7) (j : S1408x2048.Idx) :
    (outsAt0 m c t.val t.isLt).1 j = (outsAt0 m c t.val t.isLt).2 j := by
  rw [outsAt0_C m c t h0 h1]
  frame_out
  pointwise [k0_pay3]

/-- The result array after the grid is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  pointwise [REF]
  refine Fin.sum_mul_add_congr fun s k hl => ?_
  blk_point [iblk, V, idx t, idx ⟨_, Pipeline.run_point_lt_of_flush t h7 s⟩]

end Cert.K4Val

end
-- ==== Proof.K5Val.lean ====
/- The gradient of a feed-forward layer's down weights: the kernel sums eight blocks of rows and halves the sum, the
   reference halves the cotangent and contracts all rows at once. -/
module

public import proofs.«01_k».proof.Proof.Gen.Kernel5Ideal.Frame
public import proofs.«01_k».proof.Proof.Gen.Reference5Ideal.Run
public import proofs.«01_k».proof.Proof.Half
public import Idealize.ShloMosaic.Lib.Pipeline.ValueKit
public import Idealize.ShloMosaic.Lib.Pipeline.ReadBack

@[expose] public section

set_option maxRecDepth 16384

noncomputable section

namespace Cert.K5Val

open Idealize.ShloMosaic Idealize.ShloMosaic.TcCoe Idealize.SL.Sem
open Idealize.ShloMosaic.Pipeline (Dat)
open Cert.Kernel5Ideal Cert.Kernel5Ideal.Gen Cert.Half

variable (m : (ℓ : Loc nD τ sig) → Buf (Elt Ideal) ℓ)

/-- The reference's result, as a term over its arguments. -/
abbrev REF (X : FVec Ideal S4352x5632 .bf16) (Y : FVec Ideal S4352x2048 .bf16) : FVec Ideal S5632x2048 .bf16 :=
  truncf .bf16 (transpose Cert.Reference5Ideal.S5632x2048 [1, 0] (Host.dotGeneral Cert.Reference5Ideal.dot_S4352x2048_S4352x5632_S2048x5632_0_0_1_1_n_n none
    (mulf (broadcastInDim Cert.Reference5Ideal.S4352x2048 ![] Cert.Reference5Ideal.Gen.bcast_S_S4352x2048 (constant Cert.Reference5Ideal.S_ .f32 0x3F000000#32))
      (extf .f32 Y Cert.Reference5Ideal.Gen.bitsLt_bf16_f32)) (extf .f32 X Cert.Reference5Ideal.Gen.bitsLt_bf16_f32)) Cert.Reference5Ideal.Gen.transposes_S2048x5632_S5632x2048_1_0)
    Cert.Reference5Ideal.Gen.bitsLt_bf16_f32

/-- The reference's result at an index: half of one contraction over the rows. -/
theorem href (X : FVec Ideal S4352x5632 .bf16) (Y : FVec Ideal S4352x2048 .bf16) (j : S5632x2048.Idx) :
    REF X Y j = (∑ l : Fin 4352, (X (ix2 l (j 0)) * Y (ix2 l (j 1)) : EReal)) * half := by
  rw [mul_comm, half_sum]
  pointwise [REF]
  refine Fin.sum_fin_congr fun l => ?_
  rw [mul_assoc, mul_comm (Y _)]

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x1408 .bf16) (y : FVec Ideal S544x2048 .bf16) (a : FVec Ideal S1408x2048 .f32) (j) :
    k0_pay2 (F := Ideal) x y a j = a j + ∑ k : Fin 544, x (ix2 k (j 0)) * y (ix2 k (j 1)) := by
  pointwise [k0_pay2]

theorem hout (a : FVec Ideal S1408x2048 .f32) (j) : k0_pay3 (F := Ideal) a j = a j * half := by pointwise [k0_pay3]

/-- What a grid step writes back is half of the accumulator it leaves. -/
theorem out_eq (c : Dev nD) (t : Fin cfg0.N) (h0 : ¬t.val % 8 = 0) (h1 : t.val % 8 = 7) (j : S1408x2048.Idx) :
    (outsAt0 m c t.val t.isLt).1 j = ((outsAt0 m c t.val t.isLt).2 j * half : EReal) := by
  rw [outsAt0_C m c t h0 h1]
  frame_out
  rw [hout]

/-- The result array after the grid is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  refine Eq.trans (congrArg (fun z : EReal => z * half) ?_) (href _ _ _).symm
  refine Fin.sum_mul_add_congr fun s k hl => ?_
  blk_point [iblk, V, idx t, idx ⟨_, Pipeline.run_point_lt_of_flush t h7 s⟩]

end Cert.K5Val

end
-- ==== Proof.K6Val.lean ====
/- A feed-forward layer's two products with the narrow weights and their gated product, tile by tile against whole arrays. -/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

namespace Cert.K6Val

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The product of the normalised rows with a transposed weight, as the reference forms it. -/
abbrev PROD (X : FVec Ideal S4352x2048 .bf16) (W : FVec Ideal S5632x2048 .bf16) : FVec Ideal S4352x5632 .f32 :=
  Host.dotGeneral Cert.Reference6Ideal.dot_S4352x2048_S2048x5632_S4352x5632_1_0_0_1_n_n none (extf .f32 X Cert.Reference6Ideal.Gen.bitsLt_bf16_f32)
    (transpose Cert.Reference6Ideal.S2048x5632 [1, 0] (extf .f32 W Cert.Reference6Ideal.Gen.bitsLt_bf16_f32) Cert.Reference6Ideal.Gen.transposes_S5632x2048_S2048x5632_1_0)

/-- The reference's first two results, as terms over the arguments. -/
abbrev REFP (X : FVec Ideal S4352x2048 .bf16) (W : FVec Ideal S5632x2048 .bf16) : FVec Ideal S4352x5632 .bf16 :=
  truncf .bf16 (PROD X W) Cert.Reference6Ideal.Gen.bitsLt_bf16_f32

/-- The reference's third result, the gated product. -/
abbrev REFA (X : FVec Ideal S4352x2048 .bf16) (W W' : FVec Ideal S5632x2048 .bf16) : FVec Ideal S4352x5632 .bf16 :=
  truncf .bf16 (mulf (mulf (PROD X W) (Host.divf (broadcastInDim Cert.Reference6Ideal.S4352x5632 ![] Cert.Reference6Ideal.Gen.bcast_S_S4352x5632 (constant Cert.Reference6Ideal.S_ .f32 0x3F800000#32))
    (addf (broadcastInDim Cert.Reference6Ideal.S4352x5632 ![] Cert.Reference6Ideal.Gen.bcast_S_S4352x5632 (constant Cert.Reference6Ideal.S_ .f32 0x3F800000#32))
      (Host.exp (Host.negf (PROD X W)))))) (PROD X W')) Cert.Reference6Ideal.Gen.bitsLt_bf16_f32

/-- The windows' block indices at a grid point. -/
theorem idx : ∀ t : Fin cfg0.N, win0_0.index t = ![t.val / 4, 0] ∧ win0_1.index t = ![t.val % 4, 0]
    ∧ win0_2.index t = ![t.val % 4, 0] ∧ win0_3.index t = ![t.val / 4, t.val % 4]
    ∧ win0_4.index t = ![t.val / 4, t.val % 4] ∧ win0_5.index t = ![t.val / 4, t.val % 4] :=
  (by decide +kernel : ∀ t : Fin grid0.N, _)

/-- What a grid point writes of result 1 is the reference's term there. -/
theorem point3 (c : Dev nD) (t : Fin cfg0.N) (y) : k0_pay3 (F := Ideal) (iblk m c 0 t) (iblk m c 1 t) y
    = REFP (m ((c : Thread nD τ).loc main_arg0)) (m ((c : Thread nD τ).loc main_arg1)) (((cfg0.win 3).blk t).view.emb y) := by
  pointwise [k0_pay3, k0_pay1, REFP, PROD]
  blk_point [iblk, V, idx t]

/-- The result array after the grid is the reference's term. -/
theorem final3 (c : Dev nD) : (dats m 0 c).arrAt 3 (cfgs 0).N
    = REFP (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- What a grid point writes of result 2 is the reference's term there. -/
theorem point4 (c : Dev nD) (t : Fin cfg0.N) (y) : k0_pay4 (F := Ideal) (iblk m c 0 t) (iblk m c 2 t) y
    = REFP (m ((c : Thread nD τ).loc main_arg0)) (m ((c : Thread nD τ).loc main_arg2)) (((cfg0.win 4).blk t).view.emb y) := by
  pointwise [k0_pay4, k0_pay2, REFP, PROD]
  blk_point [iblk, V, idx t]

/-- The result array after the grid is the reference's term. -/
theorem final4 (c : Dev nD) : (dats m 0 c).arrAt 4 (cfgs 0).N
    = REFP (m ((c : Thread nD τ).loc main_arg0)) (m ((c : Thread nD τ).loc main_arg2)) := by
  refine (dats m 0 c).arrAt_eq_of_covers 4 _ (by decide +kernel) fun t _ y => ?_
  blk_simp
  rw [after0_4]; frame_out
  exact point4 m c t y

/-- What a grid point writes of result 3 is the reference's term there. -/
theorem point5 (c : Dev nD) (t : Fin cfg0.N) (y) : k0_pay5 (F := Ideal) (iblk m c 0 t) (iblk m c 1 t) (iblk m c 2 t) y
    = REFA (m ((c : Thread nD τ).loc main_arg0)) (m ((c : Thread nD τ).loc main_arg1)) (m ((c : Thread nD τ).loc main_arg2)) (((cfg0.win 5).blk t).view.emb y) := by
  pointwise [k0_pay5, k0_pay1, k0_pay2, REFA, PROD]
  simp only [zero_sub]
  blk_point [iblk, V, idx t]

/-- The result array after the grid is the reference's term. -/
theorem final5 (c : Dev nD) : (dats m 0 c).arrAt 5 (cfgs 0).N
    = REFA (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

end Cert.K6Val

end
-- ==== Proof.K7Val.lean ====
/- A feed-forward layer's last product: the kernel sums four blocks of the hidden channels, halves the sum and adds the row
   that entered the layer. -/
module

public import proofs.«01_k».proof.Proof.Gen.Kernel7Ideal.Frame
public import proofs.«01_k».proof.Proof.Gen.Reference7Ideal.Run
public import proofs.«01_k».proof.Proof.Half
public import Idealize.ShloMosaic.Lib.Pipeline.ValueKit
public import Idealize.ShloMosaic.Lib.Pipeline.ReadBack

@[expose] public section

set_option maxRecDepth 16384

noncomputable section

namespace Cert.K7Val

open Idealize.ShloMosaic Idealize.ShloMosaic.TcCoe Idealize.SL.Sem
open Idealize.ShloMosaic.Pipeline (Dat)
open Cert.Kernel7Ideal Cert.Kernel7Ideal.Gen Cert.Half

variable (m : (ℓ : Loc nD τ sig) → Buf (Elt Ideal) ℓ)

/-- The reference's result, as a term over its arguments. -/
abbrev REF (X : FVec Ideal S4352x5632 .bf16) (W : FVec Ideal S5632x2048 .bf16) (H : FVec Ideal S4352x2048 .f32) :
    FVec Ideal S4352x2048 .f32 :=
  addf H (mulf (broadcastInDim Cert.Reference7Ideal.S4352x2048 ![] Cert.Reference7Ideal.Gen.bcast_S_S4352x2048 (constant Cert.Reference7Ideal.S_ .f32 0x3F000000#32))
    (Host.dotGeneral Cert.Reference7Ideal.dot_S4352x5632_S5632x2048_S4352x2048_1_0_0_1_n_n none (extf .f32 X Cert.Reference7Ideal.Gen.bitsLt_bf16_f32)
      (extf .f32 W Cert.Reference7Ideal.Gen.bitsLt_bf16_f32)))

/-- The reference's result at an index: the row that entered and half of one contraction over the hidden channels. -/
theorem href (X : FVec Ideal S4352x5632 .bf16) (W : FVec Ideal S5632x2048 .bf16) (H : FVec Ideal S4352x2048 .f32)
    (j : S4352x2048.Idx) :
    REF X W H j = (H j + (∑ l : Fin 5632, (X (ix2 (j 0) l) * W (ix2 l (j 1)) : EReal)) * half : EReal) := by
  rw [mul_comm]
  pointwise [REF]

/-- The windows' block indices at a grid point. -/
theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

theorem hzero (j) : k0_pay1 (F := Ideal) j = 0 := by pointwise [k0_pay1]

/-- One grid step adds the product of its two blocks. -/
theorem hpay (x : FVec Ideal S1088x1408 .bf16) (y : FVec Ideal S1408x1024 .bf16) (a : FVec Ideal S1088x1024 .f32) (j) :
    k0_pay2 (F := Ideal) x y a j = a j + ∑ k : Fin 1408, x (ix2 (j 0) k) * y (ix2 k (j 1)) := by
  pointwise [k0_pay2]

theorem hout (a h : FVec Ideal S1088x1024 .f32) (j) :
    k0_pay3 (F := Ideal) a h j = (h j + a j * half : EReal) := by pointwise [k0_pay3]

/-- What a grid step writes back is the block that entered and half of the accumulator it leaves. -/
theorem out_eq (c : Dev nD) (t : Fin cfg0.N) (h0 : ¬t.val % 4 = 0) (h1 : t.val % 4 = 3) (j : S1088x1024.Idx) :
    (outsAt0 m c t.val t.isLt).1 j
      = ((show FVec Ideal S1088x1024 .f32 from iblk m c 2 t) j + (outsAt0 m c t.val t.isLt).2 j * half : EReal) := by
  rw [outsAt0_C m c t h0 h1]
  frame_out
  rw [hout]

/-- The result array after the grid is the reference's term. -/
theorem final (c : Dev nD) : (dats m 0 c).arrAt 3 (cfgs 0).N
    = REF (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  have h7 := (flush0_3 t).mp hf
  rw [after0_3, out_eq m c t (by omega) h7,
    Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h7 : t.val % 4 = 3
      · rw [outsAt0_C m c t h h7]; frame_out; rw [read_unread_whole, hpay]
      · rw [outsAt0_B m c t h h7]; frame_out; rw [read_unread_whole, hpay])
    t h7 _, zero_add]
  refine Eq.trans (congrArg₂ (fun u z : EReal => u + z * half) ?_ ?_) (href _ _ _ _).symm
  · blk_point [iblk, V, idx t]
  refine Fin.sum_mul_add_congr fun s k hl => ?_
  blk_point [iblk, V, idx t, idx ⟨_, Pipeline.run_point_lt_of_flush t h7 s⟩]

end Cert.K7Val

end
-- ==== Proof.Feed.lean ====
/- The feed-forward layers' calls: each runs to its end and leaves its arguments, and ends with the reference's results. The
   products hold at every array of extended reals; the gradient of the gated product at arrays of real numbers. -/
module

public import proofs.«01_k».proof.Defs
public import proofs.«01_k».proof.Proof.K2Val
public import proofs.«01_k».proof.Proof.K3Val
public import proofs.«01_k».proof.Proof.K4Val
public import proofs.«01_k».proof.Proof.K5Val
public import proofs.«01_k».proof.Proof.K6Val
public import proofs.«01_k».proof.Proof.K7Val
public import proofs.«01_k».proof.Proof.Finite
public import Idealize.ShloMosaic.Adequacy
public import Idealize.ShloMosaic.Init

@[expose] public section

set_option maxRecDepth 16384

noncomputable section

namespace Cert.Feed

open Idealize.ShloMosaic Idealize.ShloMosaic.TcCoe Idealize.SL.Sem
open Cert.Reals

/-- Under the precondition the arguments of the gated product's gradient are arrays of real numbers. -/
theorem ins (m : (ℓ : Loc Cert.Kernel2Ideal.nD Cert.Kernel2Ideal.τ Cert.Kernel2Ideal.sig) → Buf (Elt Ideal) ℓ)
    (hpre : Pre_Kernel2Ideal_finite2 m) (c : Dev Cert.Kernel2Ideal.nD) :
    ∃ (dh : Fin 4352 → Fin 2048 → ℝ) (wd : Fin 5632 → Fin 2048 → ℝ) (g u : Fin 4352 → Fin 5632 → ℝ), K2Val.Ins m c dh wd g u := by
  obtain ⟨h0, h1, h2, h3⟩ := hpre c
  obtain ⟨dh, e0⟩ := Finite.wide2 (n := 4352) (k := 2048) _ (by decide) (by decide) h0
  obtain ⟨wd, e1⟩ := Finite.wide2 (n := 5632) (k := 2048) _ (by decide) (by decide) h1
  obtain ⟨g, e2⟩ := Finite.wide2 (n := 4352) (k := 5632) _ (by decide) (by decide) h2
  obtain ⟨u, e3⟩ := Finite.wide2 (n := 4352) (k := 5632) _ (by decide) (by decide) h3
  exact ⟨dh, wd, g, u, ⟨e0, e1, e2, e3⟩⟩

/-- The reference's run leaves its arguments, and every counter at zero. -/
theorem frame2 : quiescent_Reference2Ideal := fun m ρ _ => (θ_run Cert.Reference2Ideal.defs _ _).mono
  (fun r h => And.intro (fun c => (h c).2.2) (sem_eq_zero_of_no_sems (by decide) r.2))
  (Cert.Reference2Ideal.Value.run (F := Ideal) m ρ)

/-- The kernel and the reference end with equal results. -/
theorem algebraic2 : algebraic_Kernel2Ideal_Reference2Ideal_pre_finite2 := by
  intro m g m' g' hpre hagree
  refine ⟨fun c => (Cert.Kernel2Ideal.Gen.dats m 0 c).arrAt 4 (Cert.Kernel2Ideal.cfgs 0).N, fun c => (Cert.Kernel2Ideal.Gen.dats m 0 c).arrAt 5 (Cert.Kernel2Ideal.cfgs 0).N, ?_, ?_⟩
  · exact θ_run_mono (θ_run_and (Cert.Kernel2Ideal.Gen.run_main m g) (Cert.Kernel2Ideal.Gen.unchanged m g)) fun r h c =>
      ⟨(h.1 c).1 4, (h.1 c).1 5, h.2 c⟩
  · refine (θ_run Cert.Reference2Ideal.defs _ _).mono (fun r hr c => ?_) (Cert.Reference2Ideal.Value.run (F := Ideal) m' g')
    obtain ⟨dh, wd, ga, up, hI⟩ := ins m hpre c
    obtain ⟨a0, a1, a2, a3⟩ := hagree c
    replace a0 := a0.trans hI.h0
    replace a1 := a1.trans hI.h1
    replace a2 := a2.trans hI.h2
    replace a3 := a3.trans hI.h3
    have h := hr c
    refine ⟨h.1.trans ?_, h.2.1.trans ?_, h.2.2⟩
    · refine Eq.trans ?_ (K2Val.final4 hI).symm
      simp only [a0, a1, a2, a3]
      exact K2Val.ref_gate dh wd ga up
    · refine Eq.trans ?_ (K2Val.final5 hI).symm
      simp only [a0, a1, a2, a3]
      exact K2Val.ref_up dh wd ga up

/-- The reference's run leaves its arguments, and every counter at zero. -/
theorem frame3 : quiescent_Reference3Ideal := fun m ρ _ => (θ_run Cert.Reference3Ideal.defs _ _).mono
  (fun r h => And.intro (fun c => (h c).2) (sem_eq_zero_of_no_sems (by decide) r.2))
  (Cert.Reference3Ideal.Value.run (F := Ideal) m ρ)

/-- The kernel and the reference end with equal results. -/
theorem algebraic3 : algebraic_Kernel3Ideal_Reference3Ideal := by
  intro m g m' g' hpre hagree
  refine ⟨fun c => (Cert.Kernel3Ideal.Gen.dats m 0 c).arrAt 4 (Cert.Kernel3Ideal.cfgs 0).N, ?_, ?_⟩
  · exact θ_run_mono (θ_run_and (Cert.Kernel3Ideal.Gen.run_main m g) (Cert.Kernel3Ideal.Gen.unchanged m g)) fun r h c =>
      ⟨(h.1 c).1 4, h.2 c⟩
  · refine (θ_run Cert.Reference3Ideal.defs _ _).mono (fun r hr c => ?_) (Cert.Reference3Ideal.Value.run (F := Ideal) m' g')
    obtain ⟨a0, a1, a2, a3⟩ := hagree c
    have h := hr c
    refine ⟨h.1.trans ?_, h.2⟩
    · refine Eq.trans ?_ (K3Val.final m c).symm
      simp only [a0, a1, a2, a3]

/-- The reference's run leaves its arguments, and every counter at zero. -/
theorem frame4 : quiescent_Reference4Ideal := fun m ρ _ => (θ_run Cert.Reference4Ideal.defs _ _).mono
  (fun r h => And.intro (fun c => (h c).2) (sem_eq_zero_of_no_sems (by decide) r.2))
  (Cert.Reference4Ideal.Value.run (F := Ideal) m ρ)

/-- The kernel and the reference end with equal results. -/
theorem algebraic4 : algebraic_Kernel4Ideal_Reference4Ideal := by
  intro m g m' g' hpre hagree
  refine ⟨fun c => (Cert.Kernel4Ideal.Gen.dats m 0 c).arrAt 2 (Cert.Kernel4Ideal.cfgs 0).N, ?_, ?_⟩
  · exact θ_run_mono (θ_run_and (Cert.Kernel4Ideal.Gen.run_main m g) (Cert.Kernel4Ideal.Gen.unchanged m g)) fun r h c =>
      ⟨(h.1 c).1 2, h.2 c⟩
  · refine (θ_run Cert.Reference4Ideal.defs _ _).mono (fun r hr c => ?_) (Cert.Reference4Ideal.Value.run (F := Ideal) m' g')
    obtain ⟨a0, a1⟩ := hagree c
    have h := hr c
    refine ⟨h.1.trans ?_, h.2⟩
    · refine Eq.trans ?_ (K4Val.final m c).symm
      simp only [a0, a1]

/-- The reference's run leaves its arguments, and every counter at zero. -/
theorem frame5 : quiescent_Reference5Ideal := fun m ρ _ => (θ_run Cert.Reference5Ideal.defs _ _).mono
  (fun r h => And.intro (fun c => (h c).2) (sem_eq_zero_of_no_sems (by decide) r.2))
  (Cert.Reference5Ideal.Value.run (F := Ideal) m ρ)

/-- The kernel and the reference end with equal results. -/
theorem algebraic5 : algebraic_Kernel5Ideal_Reference5Ideal := by
  intro m g m' g' hpre hagree
  refine ⟨fun c => (Cert.Kernel5Ideal.Gen.dats m 0 c).arrAt 2 (Cert.Kernel5Ideal.cfgs 0).N, ?_, ?_⟩
  · exact θ_run_mono (θ_run_and (Cert.Kernel5Ideal.Gen.run_main m g) (Cert.Kernel5Ideal.Gen.unchanged m g)) fun r h c =>
      ⟨(h.1 c).1 2, h.2 c⟩
  · refine (θ_run Cert.Reference5Ideal.defs _ _).mono (fun r hr c => ?_) (Cert.Reference5Ideal.Value.run (F := Ideal) m' g')
    obtain ⟨a0, a1⟩ := hagree c
    have h := hr c
    refine ⟨h.1.trans ?_, h.2⟩
    · refine Eq.trans ?_ (K5Val.final m c).symm
      simp only [a0, a1]

/-- The reference's run leaves its arguments, and every counter at zero. -/
theorem frame6 : quiescent_Reference6Ideal := fun m ρ _ => (θ_run Cert.Reference6Ideal.defs _ _).mono
  (fun r h => And.intro (fun c => (h c).2.2.2) (sem_eq_zero_of_no_sems (by decide) r.2))
  (Cert.Reference6Ideal.Value.run (F := Ideal) m ρ)

/-- The kernel and the reference end with equal results. -/
theorem algebraic6 : algebraic_Kernel6Ideal_Reference6Ideal := by
  intro m g m' g' hpre hagree
  refine ⟨fun c => (Cert.Kernel6Ideal.Gen.dats m 0 c).arrAt 3 (Cert.Kernel6Ideal.cfgs 0).N, fun c => (Cert.Kernel6Ideal.Gen.dats m 0 c).arrAt 4 (Cert.Kernel6Ideal.cfgs 0).N, fun c => (Cert.Kernel6Ideal.Gen.dats m 0 c).arrAt 5 (Cert.Kernel6Ideal.cfgs 0).N, ?_, ?_⟩
  · exact θ_run_mono (θ_run_and (Cert.Kernel6Ideal.Gen.run_main m g) (Cert.Kernel6Ideal.Gen.unchanged m g)) fun r h c =>
      ⟨(h.1 c).1 3, (h.1 c).1 4, (h.1 c).1 5, h.2 c⟩
  · refine (θ_run Cert.Reference6Ideal.defs _ _).mono (fun r hr c => ?_) (Cert.Reference6Ideal.Value.run (F := Ideal) m' g')
    obtain ⟨a0, a1, a2⟩ := hagree c
    have h := hr c
    refine ⟨h.1.trans ?_, h.2.1.trans ?_, h.2.2.1.trans ?_, h.2.2.2⟩
    · refine Eq.trans ?_ (K6Val.final3 m c).symm
      simp only [a0, a1, a2]
    · refine Eq.trans ?_ (K6Val.final4 m c).symm
      simp only [a0, a1, a2]
    · refine Eq.trans ?_ (K6Val.final5 m c).symm
      simp only [a0, a1, a2]

/-- The reference's run leaves its arguments, and every counter at zero. -/
theorem frame7 : quiescent_Reference7Ideal := fun m ρ _ => (θ_run Cert.Reference7Ideal.defs _ _).mono
  (fun r h => And.intro (fun c => (h c).2) (sem_eq_zero_of_no_sems (by decide) r.2))
  (Cert.Reference7Ideal.Value.run (F := Ideal) m ρ)

/-- The kernel and the reference end with equal results. -/
theorem algebraic7 : algebraic_Kernel7Ideal_Reference7Ideal := by
  intro m g m' g' hpre hagree
  refine ⟨fun c => (Cert.Kernel7Ideal.Gen.dats m 0 c).arrAt 3 (Cert.Kernel7Ideal.cfgs 0).N, ?_, ?_⟩
  · exact θ_run_mono (θ_run_and (Cert.Kernel7Ideal.Gen.run_main m g) (Cert.Kernel7Ideal.Gen.unchanged m g)) fun r h c =>
      ⟨(h.1 c).1 3, h.2 c⟩
  · refine (θ_run Cert.Reference7Ideal.defs _ _).mono (fun r hr c => ?_) (Cert.Reference7Ideal.Value.run (F := Ideal) m' g')
    obtain ⟨a0, a1, a2⟩ := hagree c
    have h := hr c
    refine ⟨h.1.trans ?_, h.2⟩
    · refine Eq.trans ?_ (K7Val.final m c).symm
      simp only [a0, a1, a2]

end Cert.Feed

end
-- ==== Proof.K8Val.lean ====
/- A product of rows with a transposed weight: each grid point clears the accumulator, adds its one product and writes it back. -/
module

public import proofs.«01_k».proof.Proof.Gen.Kernel8Ideal.Frame
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

namespace Cert.K8Val

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The reference's result, as a term over its arguments. -/
abbrev REF (X : FVec Ideal S4352x2048 .bf16) (W : FVec Ideal S2048x2048 .bf16) : FVec Ideal S4352x2048 .f32 :=
  Host.dotGeneral Cert.Reference8Ideal.dot_S4352x2048_S2048x2048_S4352x2048_1_0_0_1_n_n none (extf .f32 X Cert.Reference8Ideal.Gen.bitsLt_bf16_f32)
    (transpose Cert.Reference8Ideal.S2048x2048 [1, 0] (extf .f32 W Cert.Reference8Ideal.Gen.bitsLt_bf16_f32) Cert.Reference8Ideal.Gen.transposes_S2048x2048_S2048x2048_1_0)

/-- The windows' block indices at a grid point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem hzero (j) : k0_pay1 (F := Ideal) j = 0 := by pointwise [k0_pay1]

/-- One grid step adds the product of its two blocks. -/
theorem hpay (x : FVec Ideal S1088x2048 .bf16) (y : FVec Ideal S1024x2048 .bf16) (a : FVec Ideal S1088x1024 .f32) (j) :
    k0_pay2 (F := Ideal) x y a j = a j + ∑ k : Fin 2048, x (ix2 (j 0) k) * y (ix2 (j 1) k) := by
  pointwise [k0_pay2]

/-- What a grid point writes back is the reference's term there. -/
theorem point (c : Dev nD) (t : Fin cfg0.N) (y) : k0_pay2 (F := Ideal) (iblk m c 0 t) (iblk m c 1 t) (k0_pay1 (F := Ideal)) y
    = REF (m ((c : Thread nD τ).loc main_arg0)) (m ((c : Thread nD τ).loc main_arg1)) (((cfg0.win 2).blk t).view.emb y) := by
  refine Eq.trans (hpay _ _ _ _) ?_
  rw [hzero, zero_add]
  pointwise [REF]
  blk_point [iblk, V, idx t]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.K8Val

end
-- ==== Proof.K9Val.lean ====
/- The gradient of the mixed rows through five projections: the kernel sums four blocks of channels of the five products
   together, the reference adds five whole products. -/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

namespace Cert.K9Val

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- One projection's share, as the reference forms it. -/
abbrev PROD (X : FVec Ideal S4352x2048 .f32) (W : FVec Ideal S2048x2048 .bf16) : FVec Ideal S4352x2048 .f32 :=
  Host.dotGeneral Cert.Reference9Ideal.dot_S4352x2048_S2048x2048_S4352x2048_1_1_0_0_n_n none X
    (transpose Cert.Reference9Ideal.S2048x2048 [1, 0] (extf .f32 W Cert.Reference9Ideal.Gen.bitsLt_bf16_f32) Cert.Reference9Ideal.Gen.transposes_S2048x2048_S2048x2048_1_0)

/-- The reference's result, as a term over its arguments. -/
abbrev REF (X0 : FVec Ideal S4352x2048 .f32) (W0 : FVec Ideal S2048x2048 .bf16) (X1 : FVec Ideal S4352x2048 .f32) (W1 : FVec Ideal S2048x2048 .bf16) (X2 : FVec Ideal S4352x2048 .f32) (W2 : FVec Ideal S2048x2048 .bf16) (X3 : FVec Ideal S4352x2048 .f32) (W3 : FVec Ideal S2048x2048 .bf16) (X4 : FVec Ideal S4352x2048 .f32) (W4 : FVec Ideal S2048x2048 .bf16) :
    FVec Ideal S4352x2048 .f32 :=
  addf (addf (addf (addf (PROD X4 W4) (PROD X3 W3)) (PROD X2 W2)) (PROD X1 W1)) (PROD X0 W0)

theorem hprod (X : FVec Ideal S4352x2048 .f32) (W : FVec Ideal S2048x2048 .bf16) (j : S4352x2048.Idx) :
    PROD X W j = ∑ l : Fin 2048, (X (ix2 (j 0) l) * W (ix2 l (j 1)) : EReal) := by
  pointwise [PROD]

/-- Five terms added from the last to the first and from the first to the last. -/
theorem five (a b c d e : EReal) : (e + d + c + b + a : EReal) = a + b + c + d + e := by
  rw [add_comm e d, add_comm (d + e) c, add_comm (c + (d + e)) b, add_comm (b + (c + (d + e))) a, add_assoc, add_assoc, add_assoc]

/-- The reference's result at an index: five contractions over the channels. -/
theorem href (X0 : FVec Ideal S4352x2048 .f32) (W0 : FVec Ideal S2048x2048 .bf16) (X1 : FVec Ideal S4352x2048 .f32) (W1 : FVec Ideal S2048x2048 .bf16) (X2 : FVec Ideal S4352x2048 .f32) (W2 : FVec Ideal S2048x2048 .bf16) (X3 : FVec Ideal S4352x2048 .f32) (W3 : FVec Ideal S2048x2048 .bf16) (X4 : FVec Ideal S4352x2048 .f32) (W4 : FVec Ideal S2048x2048 .bf16)
    (j : S4352x2048.Idx) : REF X0 W0 X1 W1 X2 W2 X3 W3 X4 W4 j
      = (((((∑ l : Fin 2048, (X0 (ix2 (j 0) l) * W0 (ix2 l (j 1)) : EReal)) + (∑ l : Fin 2048, (X1 (ix2 (j 0) l) * W1 (ix2 l (j 1)) : EReal)) : EReal) + (∑ l : Fin 2048, (X2 (ix2 (j 0) l) * W2 (ix2 l (j 1)) : EReal)) : EReal) + (∑ l : Fin 2048, (X3 (ix2 (j 0) l) * W3 (ix2 l (j 1)) : EReal)) : EReal) + (∑ l : Fin 2048, (X4 (ix2 (j 0) l) * W4 (ix2 l (j 1)) : EReal)) : EReal) := by
  refine Eq.trans (five (PROD X0 W0 j) (PROD X1 W1 j) (PROD X2 W2 j) (PROD X3 W3 j) (PROD X4 W4 j)) ?_
  rw [hprod, hprod, hprod, hprod, hprod]

/-- The windows' block indices at a grid point. -/
theorem idx : ∀ t : Fin cfg0.N, win0_0.index t = ![t.val / 16, t.val % 4] ∧ win0_1.index t = ![t.val % 4, t.val / 4 % 4] ∧ win0_2.index t = ![t.val / 16, t.val % 4] ∧ win0_3.index t = ![t.val % 4, t.val / 4 % 4] ∧ win0_4.index t = ![t.val / 16, t.val % 4] ∧ win0_5.index t = ![t.val % 4, t.val / 4 % 4] ∧ win0_6.index t = ![t.val / 16, t.val % 4] ∧ win0_7.index t = ![t.val % 4, t.val / 4 % 4] ∧ win0_8.index t = ![t.val / 16, t.val % 4] ∧ win0_9.index t = ![t.val % 4, t.val / 4 % 4]
    ∧ win0_10.index t = ![t.val / 16, t.val / 4 % 4] :=
  (by decide +kernel : ∀ t : Fin grid0.N, _)

theorem hzero (j) : k0_pay2 (F := Ideal) j = 0 := by pointwise [k0_pay2]

/-- One grid step adds the five products of its ten blocks. -/
theorem hpay (x0 : FVec Ideal S1088x512 .f32) (y0 : FVec Ideal S512x512 .bf16) (x1 : FVec Ideal S1088x512 .f32) (y1 : FVec Ideal S512x512 .bf16) (x2 : FVec Ideal S1088x512 .f32) (y2 : FVec Ideal S512x512 .bf16) (x3 : FVec Ideal S1088x512 .f32) (y3 : FVec Ideal S512x512 .bf16) (x4 : FVec Ideal S1088x512 .f32) (y4 : FVec Ideal S512x512 .bf16)
    (a : FVec Ideal S1088x512 .f32) (j) :
    k0_pay1 (F := Ideal) (k0_pay3 x0 y0 x1 y1 x2 y2 x3 y3 x4 y4) a j
      = a j + (((((∑ k : Fin 512, (x0 (ix2 (j 0) k) * y0 (ix2 k (j 1)) : EReal)) + (∑ k : Fin 512, (x1 (ix2 (j 0) k) * y1 (ix2 k (j 1)) : EReal)) : EReal) + (∑ k : Fin 512, (x2 (ix2 (j 0) k) * y2 (ix2 k (j 1)) : EReal)) : EReal) + (∑ k : Fin 512, (x3 (ix2 (j 0) k) * y3 (ix2 k (j 1)) : EReal)) : EReal) + (∑ k : Fin 512, (x4 (ix2 (j 0) k) * y4 (ix2 k (j 1)) : EReal)) : EReal) := by
  pointwise [k0_pay1, k0_pay3]

/-- What a grid step writes back is the accumulator it leaves. -/
theorem out_eq (c : Dev nD) (t : Fin cfg0.N) (h0 : ¬t.val % 4 = 0) (h1 : t.val % 4 = 3) (j : S1088x512.Idx) :
    (outsAt0 m c t.val t.isLt).1 j = (outsAt0 m c t.val t.isLt).2 j := by
  rw [outsAt0_C m c t h0 h1]
  frame_out

/-- The result array after the grid is the reference's term. -/
theorem final (c : Dev nD) : (dats m 0 c).arrAt 10 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  have h7 := (flush0_10 t).mp hf
  rw [after0_10, out_eq m c t (by omega) h7,
    Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h7 : t.val % 4 = 3
      · rw [outsAt0_C m c t h h7]; frame_out; rw [read_unread_whole, hpay]
      · rw [outsAt0_B m c t h h7]; frame_out; rw [read_unread_whole, hpay])
    t h7 _, zero_add]
  refine Eq.trans ?_ (href _ _ _ _ _ _ _ _ _ _ _).symm
  refine Eq.trans (Finset.sum_add_distrib (M := EReal)) (congrArg₂ (fun u z : EReal => u + z)
    (Eq.trans (Finset.sum_add_distrib (M := EReal)) (congrArg₂ (fun u z : EReal => u + z)
    (Eq.trans (Finset.sum_add_distrib (M := EReal)) (congrArg₂ (fun u z : EReal => u + z)
    (Eq.trans (Finset.sum_add_distrib (M := EReal)) (congrArg₂ (fun u z : EReal => u + z) ?_ ?_)) ?_)) ?_)) ?_)
  · refine Fin.sum_mul_add_congr fun s k hl => ?_
    blk_point [iblk, V, idx t, idx ⟨_, Pipeline.run_point_lt_of_flush t h7 s⟩]
  · refine Fin.sum_mul_add_congr fun s k hl => ?_
    blk_point [iblk, V, idx t, idx ⟨_, Pipeline.run_point_lt_of_flush t h7 s⟩]
  · refine Fin.sum_mul_add_congr fun s k hl => ?_
    blk_point [iblk, V, idx t, idx ⟨_, Pipeline.run_point_lt_of_flush t h7 s⟩]
  · refine Fin.sum_mul_add_congr fun s k hl => ?_
    blk_point [iblk, V, idx t, idx ⟨_, Pipeline.run_point_lt_of_flush t h7 s⟩]
  · refine Fin.sum_mul_add_congr fun s k hl => ?_
    blk_point [iblk, V, idx t, idx ⟨_, Pipeline.run_point_lt_of_flush t h7 s⟩]

end Cert.K9Val

end
-- ==== Proof.K10Val.lean ====
/- The gradient of a projection weight: the kernel sums eight blocks of rows, the reference contracts all rows at once. -/
module

public import proofs.«01_k».proof.Proof.Gen.Kernel10Ideal.Frame
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

namespace Cert.K10Val

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- The reference's result, as a term over its arguments. -/
abbrev REF (X : FVec Ideal S4352x2048 .f32) (Y : FVec Ideal S4352x2048 .bf16) : FVec Ideal S2048x2048 .bf16 :=
  truncf .bf16 (transpose Cert.Reference10Ideal.S2048x2048 [1, 0] (transpose Cert.Reference10Ideal.S2048x2048 [1, 0]
    (Host.dotGeneral Cert.Reference10Ideal.dot_S4352x2048_S4352x2048_S2048x2048_0_0_1_1_n_n none X (extf .f32 Y Cert.Reference10Ideal.Gen.bitsLt_bf16_f32)) Cert.Reference10Ideal.Gen.transposes_S2048x2048_S2048x2048_1_0) Cert.Reference10Ideal.Gen.transposes_S2048x2048_S2048x2048_1_0) Cert.Reference10Ideal.Gen.bitsLt_bf16_f32

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x1024 .f32) (y : FVec Ideal S544x2048 .bf16) (a : FVec Ideal S1024x2048 .f32) (j) :
    k0_pay2 (F := Ideal) x y a j = a j + ∑ k : Fin 544, (x (ix2 k (j 0)) * y (ix2 k (j 1)) : EReal) := by
  pointwise [k0_pay2]

/-- What a grid step writes back is the accumulator it leaves. -/
theorem out_eq (c : Dev nD) (t : Fin cfg0.N) (h0 : ¬t.val % 8 = 0) (h1 : t.val % 8 = 7) (j : S1024x2048.Idx) :
    (outsAt0 m c t.val t.isLt).1 j = (outsAt0 m c t.val t.isLt).2 j := by
  rw [outsAt0_C m c t h0 h1]
  frame_out
  pointwise [k0_pay3]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  pointwise [REF]
  refine Fin.sum_mul_add_congr fun s k hl => ?_
  blk_point [iblk, V, idx t, idx ⟨_, Pipeline.run_point_lt_of_flush t h7 s⟩]

end Cert.K10Val

end
-- ==== Proof.K11Val.lean ====
/- The block's output product added to the rows that entered it, tile by tile against whole arrays. -/
module

public import proofs.«01_k».proof.Proof.Gen.Kernel11Ideal.Frame
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

namespace Cert.K11Val

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- The reference's result, as a term over its arguments. -/
abbrev REF (X : FVec Ideal S4352x2048 .bf16) (W : FVec Ideal S2048x2048 .bf16) (H : FVec Ideal S4352x2048 .f32) :
    FVec Ideal S4352x2048 .f32 :=
  addf H (Host.dotGeneral Cert.Reference11Ideal.dot_S4352x2048_S2048x2048_S4352x2048_1_0_0_1_n_n none (extf .f32 X Cert.Reference11Ideal.Gen.bitsLt_bf16_f32) (extf .f32 W Cert.Reference11Ideal.Gen.bitsLt_bf16_f32))

/-- The windows' block indices at a grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- One grid step: the block that entered and the product of its two blocks. -/
theorem hpay (x : FVec Ideal S1088x2048 .bf16) (y : FVec Ideal S2048x1024 .bf16) (h : FVec Ideal S1088x1024 .f32) (j) :
    k0_pay3 (F := Ideal) (k0_pay2 (F := Ideal) x y (k0_pay1 (F := Ideal))) h j = (h j + ∑ k : Fin 2048, (x (ix2 (j 0) k) * y (ix2 k (j 1)) : EReal) : EReal) := by
  pointwise [k0_pay3, k0_pay2, k0_pay1]

/-- What a grid point writes back is the reference's term there. -/
theorem point (c : Dev nD) (t : Fin cfg0.N) (y) :
    k0_pay3 (F := Ideal) (k0_pay2 (F := Ideal) (iblk m c 0 t) (iblk m c 1 t) (k0_pay1 (F := Ideal))) (iblk m c 2 t) y
    = REF (m ((c : Thread nD τ).loc main_arg0)) (m ((c : Thread nD τ).loc main_arg1)) (m ((c : Thread nD τ).loc main_arg2)) (((cfg0.win 3).blk t).view.emb y) := by
  refine Eq.trans (hpay _ _ _ _) ?_
  pointwise [REF]
  blk_point [iblk, V, idx t]

/-- The result array after the grid is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact point m c t y

end Cert.K11Val

end
-- ==== Proof.K12Val.lean ====
/- The gradient of the output projection's weight: the kernel sums eight blocks of rows, the reference contracts all rows at
   once. -/
module

public import proofs.«01_k».proof.Proof.Gen.Kernel12Ideal.Frame
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

namespace Cert.K12Val

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

/-- The reference's result, as a term over its arguments. -/
abbrev REF (X : FVec Ideal S4352x2048 .bf16) (Y : FVec Ideal S4352x2048 .bf16) : FVec Ideal S2048x2048 .bf16 :=
  truncf .bf16 (transpose Cert.Reference12Ideal.S2048x2048 [1, 0]
    (Host.dotGeneral Cert.Reference12Ideal.dot_S4352x2048_S4352x2048_S2048x2048_0_0_1_1_n_n none (extf .f32 Y Cert.Reference12Ideal.Gen.bitsLt_bf16_f32) (extf .f32 X Cert.Reference12Ideal.Gen.bitsLt_bf16_f32)) Cert.Reference12Ideal.Gen.transposes_S2048x2048_S2048x2048_1_0) Cert.Reference12Ideal.Gen.bitsLt_bf16_f32

/-- The reference's result at an index: one contraction over the rows. -/
theorem href (X Y : FVec Ideal S4352x2048 .bf16) (j : S2048x2048.Idx) :
    REF X Y j = ∑ l : Fin 4352, (X (ix2 l (j 0)) * Y (ix2 l (j 1)) : EReal) := by
  pointwise [REF]
  refine Fin.sum_fin_congr fun l => ?_
  rw [mul_comm]

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x1024 .bf16) (y : FVec Ideal S544x2048 .bf16) (a : FVec Ideal S1024x2048 .f32) (j) :
    k0_pay2 (F := Ideal) x y a j = a j + ∑ k : Fin 544, (x (ix2 k (j 0)) * y (ix2 k (j 1)) : EReal) := by
  pointwise [k0_pay2]

/-- What a grid step writes back is the accumulator it leaves. -/
theorem out_eq (c : Dev nD) (t : Fin cfg0.N) (h0 : ¬t.val % 8 = 0) (h1 : t.val % 8 = 7) (j : S1024x2048.Idx) :
    (outsAt0 m c t.val t.isLt).1 j = (outsAt0 m c t.val t.isLt).2 j := by
  rw [outsAt0_C m c t h0 h1]
  frame_out
  pointwise [k0_pay3]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  refine Eq.trans ?_ (href _ _ _).symm
  refine Fin.sum_mul_add_congr fun s k hl => ?_
  blk_point [iblk, V, idx t, idx ⟨_, Pipeline.run_point_lt_of_flush t h7 s⟩]

end Cert.K12Val

end
-- ==== Proof.K16Val.lean ====
/- A product of the mixed rows with a narrow transposed weight (512 channels), tile by tile against whole arrays. -/
module

public import proofs.«01_k».proof.Proof.Gen.Kernel16Ideal.Frame
public import proofs.«01_k».proof.Proof.Gen.Reference16Ideal.Run
public import Idealize.ShloMosaic.Lib.Pipeline.ValueKit
public import Idealize.ShloMosaic.Lib.Pipeline.ReadBack

@[expose] public section

set_option maxRecDepth 16384

noncomputable section

namespace Cert.K16Val

open Idealize.ShloMosaic Idealize.ShloMosaic.TcCoe Idealize.SL.Sem
open Idealize.ShloMosaic.Pipeline (Dat)
open Cert.Kernel16Ideal Cert.Kernel16Ideal.Gen

variable (m : (ℓ : Loc nD τ sig) → Buf (Elt Ideal) ℓ)

/-- The reference's result, as a term over its arguments. -/
abbrev REF (X : FVec Ideal S4352x2048 .bf16) (W : FVec Ideal S512x2048 .bf16) : FVec Ideal S4352x512 .f32 :=
  Host.dotGeneral Cert.Reference16Ideal.dot_S4352x2048_S2048x512_S4352x512_1_0_0_1_n_n none (extf .f32 X Cert.Reference16Ideal.Gen.bitsLt_bf16_f32)
    (transpose Cert.Reference16Ideal.S2048x512 [1, 0] (extf .f32 W Cert.Reference16Ideal.Gen.bitsLt_bf16_f32) Cert.Reference16Ideal.Gen.transposes_S512x2048_S2048x512_1_0)

/-- The windows' block indices at a grid point. -/
theorem idx : ∀ t : Fin cfg0.N, win0_0.index t = ![t.val, 0] ∧ win0_1.index t = ![0, 0]
    ∧ win0_2.index t = ![t.val, 0] :=
  (by decide +kernel : ∀ t : Fin grid0.N, _)

/-- One grid step: the product of its two blocks. -/
theorem hpay (x : FVec Ideal S1088x2048 .bf16) (y : FVec Ideal S512x2048 .bf16) (j) :
    k0_pay2 (F := Ideal) x y (k0_pay1 (F := Ideal)) j = (∑ k : Fin 2048, (x (ix2 (j 0) k) * y (ix2 (j 1) k) : EReal) : EReal) := by
  pointwise [k0_pay2, k0_pay1]

/-- What a grid point writes back is the reference's term there. -/
theorem point (c : Dev nD) (t : Fin cfg0.N) (y) :
    k0_pay2 (F := Ideal) (iblk m c 0 t) (iblk m c 1 t) (k0_pay1 (F := Ideal)) y
    = REF (m ((c : Thread nD τ).loc main_arg0)) (m ((c : Thread nD τ).loc main_arg1)) (((cfg0.win 2).blk t).view.emb y) := by
  refine Eq.trans (hpay _ _ _) ?_
  pointwise [REF]
  blk_point [iblk, V, idx t]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.K16Val

end
-- ==== Proof.K17Val.lean ====
/- A product of the mixed rows with a narrow transposed weight (1152 channels), tile by tile against whole arrays. -/
module

public import proofs.«01_k».proof.Proof.Gen.Kernel17Ideal.Frame
public import proofs.«01_k».proof.Proof.Gen.Reference17Ideal.Run
public import Idealize.ShloMosaic.Lib.Pipeline.ValueKit
public import Idealize.ShloMosaic.Lib.Pipeline.ReadBack

@[expose] public section

set_option maxRecDepth 16384

noncomputable section

namespace Cert.K17Val

open Idealize.ShloMosaic Idealize.ShloMosaic.TcCoe Idealize.SL.Sem
open Idealize.ShloMosaic.Pipeline (Dat)
open Cert.Kernel17Ideal Cert.Kernel17Ideal.Gen

variable (m : (ℓ : Loc nD τ sig) → Buf (Elt Ideal) ℓ)

/-- The reference's result, as a term over its arguments. -/
abbrev REF (X : FVec Ideal S4352x2048 .bf16) (W : FVec Ideal S1152x2048 .bf16) : FVec Ideal S4352x1152 .f32 :=
  Host.dotGeneral Cert.Reference17Ideal.dot_S4352x2048_S2048x1152_S4352x1152_1_0_0_1_n_n none (extf .f32 X Cert.Reference17Ideal.Gen.bitsLt_bf16_f32)
    (transpose Cert.Reference17Ideal.S2048x1152 [1, 0] (extf .f32 W Cert.Reference17Ideal.Gen.bitsLt_bf16_f32) Cert.Reference17Ideal.Gen.transposes_S1152x2048_S2048x1152_1_0)

/-- The windows' block indices at a grid point. -/
theorem idx : ∀ t : Fin cfg0.N, win0_0.index t = ![t.val / 3, 0] ∧ win0_1.index t = ![t.val % 3, 0]
    ∧ win0_2.index t = ![t.val / 3, t.val % 3] :=
  (by decide +kernel : ∀ t : Fin grid0.N, _)

/-- One grid step: the product of its two blocks. -/
theorem hpay (x : FVec Ideal S1088x2048 .bf16) (y : FVec Ideal S384x2048 .bf16) (j) :
    k0_pay2 (F := Ideal) x y (k0_pay1 (F := Ideal)) j = (∑ k : Fin 2048, (x (ix2 (j 0) k) * y (ix2 (j 1) k) : EReal) : EReal) := by
  pointwise [k0_pay2, k0_pay1]

/-- What a grid point writes back is the reference's term there. -/
theorem point (c : Dev nD) (t : Fin cfg0.N) (y) :
    k0_pay2 (F := Ideal) (iblk m c 0 t) (iblk m c 1 t) (k0_pay1 (F := Ideal)) y
    = REF (m ((c : Thread nD τ).loc main_arg0)) (m ((c : Thread nD τ).loc main_arg1)) (((cfg0.win 2).blk t).view.emb y) := by
  refine Eq.trans (hpay _ _ _) ?_
  pointwise [REF]
  blk_point [iblk, V, idx t]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.K17Val

end
-- ==== Proof.K18Val.lean ====
/- The mixed rows' gradient through a narrow projection (512 channels) added to the gradient that entered, tile by tile
   against whole arrays. -/
module

public import proofs.«01_k».proof.Proof.Gen.Kernel18Ideal.Frame
public import proofs.«01_k».proof.Proof.Gen.Reference18Ideal.Run
public import Idealize.ShloMosaic.Lib.Pipeline.ValueKit
public import Idealize.ShloMosaic.Lib.Pipeline.ReadBack

@[expose] public section

set_option maxRecDepth 16384

noncomputable section

namespace Cert.K18Val

open Idealize.ShloMosaic Idealize.ShloMosaic.TcCoe Idealize.SL.Sem
open Idealize.ShloMosaic.Pipeline (Dat)
open Cert.Kernel18Ideal Cert.Kernel18Ideal.Gen

variable (m : (ℓ : Loc nD τ sig) → Buf (Elt Ideal) ℓ)

/-- The reference's result, as a term over its arguments. -/
abbrev REF (X : FVec Ideal S4352x512 .f32) (W : FVec Ideal S512x2048 .bf16) (H : FVec Ideal S4352x2048 .f32) : FVec Ideal S4352x2048 .f32 :=
  addf H (Host.dotGeneral Cert.Reference18Ideal.dot_S4352x512_S2048x512_S4352x2048_1_1_0_0_n_n none X
    (transpose Cert.Reference18Ideal.S2048x512 [1, 0] (extf .f32 W Cert.Reference18Ideal.Gen.bitsLt_bf16_f32) Cert.Reference18Ideal.Gen.transposes_S512x2048_S2048x512_1_0))

/-- The windows' block indices at a grid point. -/
theorem idx : ∀ t : Fin cfg0.N, win0_0.index t = ![t.val / 2, 0] ∧ win0_1.index t = ![0, t.val % 2]
    ∧ win0_2.index t = ![t.val / 2, t.val % 2]
    ∧ win0_3.index t = ![t.val / 2, t.val % 2] :=
  (by decide +kernel : ∀ t : Fin grid0.N, _)

/-- One grid step: the product of its two blocks, added to the block that entered. -/
theorem hpay (x : FVec Ideal S1088x512 .f32) (y : FVec Ideal S512x1024 .bf16) (h : FVec Ideal S1088x1024 .f32) (j) :
    k0_pay3 (F := Ideal) (k0_pay2 (F := Ideal) x y (k0_pay1 (F := Ideal))) h j = (h j + ∑ k : Fin 512, (x (ix2 (j 0) k) * y (ix2 k (j 1)) : EReal) : EReal) := by
  pointwise [k0_pay3, k0_pay2, k0_pay1]

/-- What a grid point writes back is the reference's term there. -/
theorem point (c : Dev nD) (t : Fin cfg0.N) (y) :
    k0_pay3 (F := Ideal) (k0_pay2 (F := Ideal) (iblk m c 0 t) (iblk m c 1 t) (k0_pay1 (F := Ideal))) (iblk m c 2 t) y
    = REF (m ((c : Thread nD τ).loc main_arg0)) (m ((c : Thread nD τ).loc main_arg1)) (m ((c : Thread nD τ).loc main_arg2)) (((cfg0.win 3).blk t).view.emb y) := by
  refine Eq.trans (hpay _ _ _ _) ?_
  pointwise [REF]
  blk_point [iblk, V, idx t]

/-- The result array after the grid is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact point m c t y

end Cert.K18Val

end
-- ==== Proof.K19Val.lean ====
/- The mixed rows' gradient through a narrow projection (1152 channels) added to the gradient that entered, tile by tile
   against whole arrays. -/
module

public import proofs.«01_k».proof.Proof.Gen.Kernel19Ideal.Frame
public import proofs.«01_k».proof.Proof.Gen.Reference19Ideal.Run
public import Idealize.ShloMosaic.Lib.Pipeline.ValueKit
public import Idealize.ShloMosaic.Lib.Pipeline.ReadBack

@[expose] public section

set_option maxRecDepth 16384

noncomputable section

namespace Cert.K19Val

open Idealize.ShloMosaic Idealize.ShloMosaic.TcCoe Idealize.SL.Sem
open Idealize.ShloMosaic.Pipeline (Dat)
open Cert.Kernel19Ideal Cert.Kernel19Ideal.Gen

variable (m : (ℓ : Loc nD τ sig) → Buf (Elt Ideal) ℓ)

/-- The reference's result, as a term over its arguments. -/
abbrev REF (X : FVec Ideal S4352x1152 .f32) (W : FVec Ideal S1152x2048 .bf16) (H : FVec Ideal S4352x2048 .f32) : FVec Ideal S4352x2048 .f32 :=
  addf H (Host.dotGeneral Cert.Reference19Ideal.dot_S4352x1152_S2048x1152_S4352x2048_1_1_0_0_n_n none X
    (transpose Cert.Reference19Ideal.S2048x1152 [1, 0] (extf .f32 W Cert.Reference19Ideal.Gen.bitsLt_bf16_f32) Cert.Reference19Ideal.Gen.transposes_S1152x2048_S2048x1152_1_0))

/-- The windows' block indices at a grid point. -/
theorem idx : ∀ t : Fin cfg0.N, win0_0.index t = ![t.val / 2, 0] ∧ win0_1.index t = ![0, t.val % 2]
    ∧ win0_2.index t = ![t.val / 2, t.val % 2]
    ∧ win0_3.index t = ![t.val / 2, t.val % 2] :=
  (by decide +kernel : ∀ t : Fin grid0.N, _)

/-- One grid step: the product of its two blocks, added to the block that entered. -/
theorem hpay (x : FVec Ideal S1088x1152 .f32) (y : FVec Ideal S1152x1024 .bf16) (h : FVec Ideal S1088x1024 .f32) (j) :
    k0_pay3 (F := Ideal) (k0_pay2 (F := Ideal) x y (k0_pay1 (F := Ideal))) h j = (h j + ∑ k : Fin 1152, (x (ix2 (j 0) k) * y (ix2 k (j 1)) : EReal) : EReal) := by
  pointwise [k0_pay3, k0_pay2, k0_pay1]

/-- What a grid point writes back is the reference's term there. -/
theorem point (c : Dev nD) (t : Fin cfg0.N) (y) :
    k0_pay3 (F := Ideal) (k0_pay2 (F := Ideal) (iblk m c 0 t) (iblk m c 1 t) (k0_pay1 (F := Ideal))) (iblk m c 2 t) y
    = REF (m ((c : Thread nD τ).loc main_arg0)) (m ((c : Thread nD τ).loc main_arg1)) (m ((c : Thread nD τ).loc main_arg2)) (((cfg0.win 3).blk t).view.emb y) := by
  refine Eq.trans (hpay _ _ _ _) ?_
  pointwise [REF]
  blk_point [iblk, V, idx t]

/-- The result array after the grid is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact point m c t y

end Cert.K19Val

end
-- ==== Proof.K20Val.lean ====
/- The gradient of a narrow projection's weight (512 channels): the kernel sums eight blocks of rows, the reference contracts
   all rows at once. -/
module

public import proofs.«01_k».proof.Proof.Gen.Kernel20Ideal.Frame
public import proofs.«01_k».proof.Proof.Gen.Reference20Ideal.Run
public import Idealize.ShloMosaic.Lib.Pipeline.ValueKit
public import Idealize.ShloMosaic.Lib.Pipeline.ReadBack

@[expose] public section

set_option maxRecDepth 16384

noncomputable section

namespace Cert.K20Val

open Idealize.ShloMosaic Idealize.ShloMosaic.TcCoe Idealize.SL.Sem
open Idealize.ShloMosaic.Pipeline (Dat)
open Cert.Kernel20Ideal Cert.Kernel20Ideal.Gen

variable (m : (ℓ : Loc nD τ sig) → Buf (Elt Ideal) ℓ)

/-- The reference's result, as a term over its arguments. -/
abbrev REF (X : FVec Ideal S4352x512 .f32) (Y : FVec Ideal S4352x2048 .bf16) : FVec Ideal S512x2048 .bf16 :=
  truncf .bf16 (transpose Cert.Reference20Ideal.S512x2048 [1, 0] (transpose Cert.Reference20Ideal.S2048x512 [1, 0]
    (Host.dotGeneral Cert.Reference20Ideal.dot_S4352x512_S4352x2048_S512x2048_0_0_1_1_n_n none X (extf .f32 Y Cert.Reference20Ideal.Gen.bitsLt_bf16_f32)) Cert.Reference20Ideal.Gen.transposes_S512x2048_S2048x512_1_0) Cert.Reference20Ideal.Gen.transposes_S2048x512_S512x2048_1_0) Cert.Reference20Ideal.Gen.bitsLt_bf16_f32

/-- The reference's result at an index: one contraction over the rows. -/
theorem href (X : FVec Ideal S4352x512 .f32) (Y : FVec Ideal S4352x2048 .bf16) (j : S512x2048.Idx) :
    REF X Y j = ∑ l : Fin 4352, (X (ix2 l (j 0)) * Y (ix2 l (j 1)) : EReal) := by
  pointwise [REF]

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x512 .f32) (y : FVec Ideal S544x2048 .bf16) (a : FVec Ideal S512x2048 .f32) (j) :
    k0_pay2 (F := Ideal) x y a j = a j + ∑ k : Fin 544, (x (ix2 k (j 0)) * y (ix2 k (j 1)) : EReal) := by
  pointwise [k0_pay2]

/-- What a grid step writes back is the accumulator it leaves. -/
theorem out_eq (c : Dev nD) (t : Fin cfg0.N) (h0 : ¬t.val % 8 = 0) (h1 : t.val % 8 = 7) (j : S512x2048.Idx) :
    (outsAt0 m c t.val t.isLt).1 j = (outsAt0 m c t.val t.isLt).2 j := by
  rw [outsAt0_C m c t h0 h1]
  frame_out
  pointwise [k0_pay3]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  refine Eq.trans ?_ (href _ _ _).symm
  refine Fin.sum_mul_add_congr fun s k hl => ?_
  blk_point [iblk, V, idx t, idx ⟨_, Pipeline.run_point_lt_of_flush t h7 s⟩]

end Cert.K20Val

end
-- ==== Proof.K21Val.lean ====
/- The gradient of a narrow projection's weight (1152 channels): the kernel sums eight blocks of rows, the reference contracts
   all rows at once. -/
module

public import proofs.«01_k».proof.Proof.Gen.Kernel21Ideal.Frame
public import proofs.«01_k».proof.Proof.Gen.Reference21Ideal.Run
public import Idealize.ShloMosaic.Lib.Pipeline.ValueKit
public import Idealize.ShloMosaic.Lib.Pipeline.ReadBack

@[expose] public section

set_option maxRecDepth 16384

noncomputable section

namespace Cert.K21Val

open Idealize.ShloMosaic Idealize.ShloMosaic.TcCoe Idealize.SL.Sem
open Idealize.ShloMosaic.Pipeline (Dat)
open Cert.Kernel21Ideal Cert.Kernel21Ideal.Gen

variable (m : (ℓ : Loc nD τ sig) → Buf (Elt Ideal) ℓ)

/-- The reference's result, as a term over its arguments. -/
abbrev REF (X : FVec Ideal S4352x1152 .f32) (Y : FVec Ideal S4352x2048 .bf16) : FVec Ideal S1152x2048 .bf16 :=
  truncf .bf16 (transpose Cert.Reference21Ideal.S1152x2048 [1, 0] (transpose Cert.Reference21Ideal.S2048x1152 [1, 0]
    (Host.dotGeneral Cert.Reference21Ideal.dot_S4352x1152_S4352x2048_S1152x2048_0_0_1_1_n_n none X (extf .f32 Y Cert.Reference21Ideal.Gen.bitsLt_bf16_f32)) Cert.Reference21Ideal.Gen.transposes_S1152x2048_S2048x1152_1_0) Cert.Reference21Ideal.Gen.transposes_S2048x1152_S1152x2048_1_0) Cert.Reference21Ideal.Gen.bitsLt_bf16_f32

/-- The reference's result at an index: one contraction over the rows. -/
theorem href (X : FVec Ideal S4352x1152 .f32) (Y : FVec Ideal S4352x2048 .bf16) (j : S1152x2048.Idx) :
    REF X Y j = ∑ l : Fin 4352, (X (ix2 l (j 0)) * Y (ix2 l (j 1)) : EReal) := by
  pointwise [REF]

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x1152 .f32) (y : FVec Ideal S544x2048 .bf16) (a : FVec Ideal S1152x2048 .f32) (j) :
    k0_pay2 (F := Ideal) x y a j = a j + ∑ k : Fin 544, (x (ix2 k (j 0)) * y (ix2 k (j 1)) : EReal) := by
  pointwise [k0_pay2]

/-- What a grid step writes back is the accumulator it leaves. -/
theorem out_eq (c : Dev nD) (t : Fin cfg0.N) (h0 : ¬t.val % 8 = 0) (h1 : t.val % 8 = 7) (j : S1152x2048.Idx) :
    (outsAt0 m c t.val t.isLt).1 j = (outsAt0 m c t.val t.isLt).2 j := by
  rw [outsAt0_C m c t h0 h1]
  frame_out
  pointwise [k0_pay3]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  refine Eq.trans ?_ (href _ _ _).symm
  refine Fin.sum_mul_add_congr fun s k hl => ?_
  blk_point [iblk, V, idx t, idx ⟨_, Pipeline.run_point_lt_of_flush t h7 s⟩]

end Cert.K21Val

end
-- ==== Proof.Mixer.lean ====
/- The mixer's projections: each call runs to its end and leaves its arguments, and ends with the reference's results, at every
   array of extended reals. -/
module

public import proofs.«01_k».proof.Defs
public import proofs.«01_k».proof.Proof.K8Val
public import proofs.«01_k».proof.Proof.K9Val
public import proofs.«01_k».proof.Proof.K10Val
public import proofs.«01_k».proof.Proof.K11Val
public import proofs.«01_k».proof.Proof.K12Val
public import proofs.«01_k».proof.Proof.K16Val
public import proofs.«01_k».proof.Proof.K17Val
public import proofs.«01_k».proof.Proof.K18Val
public import proofs.«01_k».proof.Proof.K19Val
public import proofs.«01_k».proof.Proof.K20Val
public import proofs.«01_k».proof.Proof.K21Val
public import proofs.«01_k».proof.Proof.Finite
public import Idealize.ShloMosaic.Adequacy
public import Idealize.ShloMosaic.Init

@[expose] public section

set_option maxRecDepth 16384

noncomputable section

namespace Cert.Mixer

open Idealize.ShloMosaic Idealize.ShloMosaic.TcCoe Idealize.SL.Sem
open Cert.Reals

/-- The reference's run leaves its arguments, and every counter at zero. -/
theorem frame8 : quiescent_Reference8Ideal := fun m ρ _ => (θ_run Cert.Reference8Ideal.defs _ _).mono
  (fun r h => And.intro (fun c => (h c).2) (sem_eq_zero_of_no_sems (by decide) r.2))
  (Cert.Reference8Ideal.Value.run (F := Ideal) m ρ)

/-- The kernel and the reference end with equal results. -/
theorem algebraic8 : algebraic_Kernel8Ideal_Reference8Ideal := by
  intro m g m' g' hpre hagree
  refine ⟨fun c => (Cert.Kernel8Ideal.Gen.dats m 0 c).arrAt 2 (Cert.Kernel8Ideal.cfgs 0).N, ?_, ?_⟩
  · exact θ_run_mono (θ_run_and (Cert.Kernel8Ideal.Gen.run_main m g) (Cert.Kernel8Ideal.Gen.unchanged m g)) fun r h c =>
      ⟨(h.1 c).1 2, h.2 c⟩
  · refine (θ_run Cert.Reference8Ideal.defs _ _).mono (fun r hr c => ?_) (Cert.Reference8Ideal.Value.run (F := Ideal) m' g')
    obtain ⟨a0, a1⟩ := hagree c
    have h := hr c
    refine ⟨h.1.trans ?_, h.2⟩
    · refine Eq.trans ?_ (K8Val.final m c).symm
      simp only [a0, a1]

/-- The reference's run leaves its arguments, and every counter at zero. -/
theorem frame9 : quiescent_Reference9Ideal := fun m ρ _ => (θ_run Cert.Reference9Ideal.defs _ _).mono
  (fun r h => And.intro (fun c => (h c).2) (sem_eq_zero_of_no_sems (by decide) r.2))
  (Cert.Reference9Ideal.Value.run (F := Ideal) m ρ)

/-- The kernel and the reference end with equal results. -/
theorem algebraic9 : algebraic_Kernel9Ideal_Reference9Ideal := by
  intro m g m' g' hpre hagree
  refine ⟨fun c => (Cert.Kernel9Ideal.Gen.dats m 0 c).arrAt 10 (Cert.Kernel9Ideal.cfgs 0).N, ?_, ?_⟩
  · exact θ_run_mono (θ_run_and (Cert.Kernel9Ideal.Gen.run_main m g) (Cert.Kernel9Ideal.Gen.unchanged m g)) fun r h c =>
      ⟨(h.1 c).1 10, h.2 c⟩
  · refine (θ_run Cert.Reference9Ideal.defs _ _).mono (fun r hr c => ?_) (Cert.Reference9Ideal.Value.run (F := Ideal) m' g')
    obtain ⟨a0, a1, a2, a3, a4, a5, a6, a7, a8, a9⟩ := hagree c
    have h := hr c
    refine ⟨h.1.trans ?_, h.2⟩
    · refine Eq.trans ?_ (K9Val.final m c).symm
      simp only [a0, a1, a2, a3, a4, a5, a6, a7, a8, a9]

/-- The reference's run leaves its arguments, and every counter at zero. -/
theorem frame10 : quiescent_Reference10Ideal := fun m ρ _ => (θ_run Cert.Reference10Ideal.defs _ _).mono
  (fun r h => And.intro (fun c => (h c).2) (sem_eq_zero_of_no_sems (by decide) r.2))
  (Cert.Reference10Ideal.Value.run (F := Ideal) m ρ)

/-- The kernel and the reference end with equal results. -/
theorem algebraic10 : algebraic_Kernel10Ideal_Reference10Ideal := by
  intro m g m' g' hpre hagree
  refine ⟨fun c => (Cert.Kernel10Ideal.Gen.dats m 0 c).arrAt 2 (Cert.Kernel10Ideal.cfgs 0).N, ?_, ?_⟩
  · exact θ_run_mono (θ_run_and (Cert.Kernel10Ideal.Gen.run_main m g) (Cert.Kernel10Ideal.Gen.unchanged m g)) fun r h c =>
      ⟨(h.1 c).1 2, h.2 c⟩
  · refine (θ_run Cert.Reference10Ideal.defs _ _).mono (fun r hr c => ?_) (Cert.Reference10Ideal.Value.run (F := Ideal) m' g')
    obtain ⟨a0, a1⟩ := hagree c
    have h := hr c
    refine ⟨h.1.trans ?_, h.2⟩
    · refine Eq.trans ?_ (K10Val.final m c).symm
      simp only [a0, a1]

/-- The reference's run leaves its arguments, and every counter at zero. -/
theorem frame11 : quiescent_Reference11Ideal := fun m ρ _ => (θ_run Cert.Reference11Ideal.defs _ _).mono
  (fun r h => And.intro (fun c => (h c).2) (sem_eq_zero_of_no_sems (by decide) r.2))
  (Cert.Reference11Ideal.Value.run (F := Ideal) m ρ)

/-- The kernel and the reference end with equal results. -/
theorem algebraic11 : algebraic_Kernel11Ideal_Reference11Ideal := by
  intro m g m' g' hpre hagree
  refine ⟨fun c => (Cert.Kernel11Ideal.Gen.dats m 0 c).arrAt 3 (Cert.Kernel11Ideal.cfgs 0).N, ?_, ?_⟩
  · exact θ_run_mono (θ_run_and (Cert.Kernel11Ideal.Gen.run_main m g) (Cert.Kernel11Ideal.Gen.unchanged m g)) fun r h c =>
      ⟨(h.1 c).1 3, h.2 c⟩
  · refine (θ_run Cert.Reference11Ideal.defs _ _).mono (fun r hr c => ?_) (Cert.Reference11Ideal.Value.run (F := Ideal) m' g')
    obtain ⟨a0, a1, a2⟩ := hagree c
    have h := hr c
    refine ⟨h.1.trans ?_, h.2⟩
    · refine Eq.trans ?_ (K11Val.final m c).symm
      simp only [a0, a1, a2]

/-- The reference's run leaves its arguments, and every counter at zero. -/
theorem frame12 : quiescent_Reference12Ideal := fun m ρ _ => (θ_run Cert.Reference12Ideal.defs _ _).mono
  (fun r h => And.intro (fun c => (h c).2) (sem_eq_zero_of_no_sems (by decide) r.2))
  (Cert.Reference12Ideal.Value.run (F := Ideal) m ρ)

/-- The kernel and the reference end with equal results. -/
theorem algebraic12 : algebraic_Kernel12Ideal_Reference12Ideal := by
  intro m g m' g' hpre hagree
  refine ⟨fun c => (Cert.Kernel12Ideal.Gen.dats m 0 c).arrAt 2 (Cert.Kernel12Ideal.cfgs 0).N, ?_, ?_⟩
  · exact θ_run_mono (θ_run_and (Cert.Kernel12Ideal.Gen.run_main m g) (Cert.Kernel12Ideal.Gen.unchanged m g)) fun r h c =>
      ⟨(h.1 c).1 2, h.2 c⟩
  · refine (θ_run Cert.Reference12Ideal.defs _ _).mono (fun r hr c => ?_) (Cert.Reference12Ideal.Value.run (F := Ideal) m' g')
    obtain ⟨a0, a1⟩ := hagree c
    have h := hr c
    refine ⟨h.1.trans ?_, h.2⟩
    · refine Eq.trans ?_ (K12Val.final m c).symm
      simp only [a0, a1]

/-- The reference's run leaves its arguments, and every counter at zero. -/
theorem frame16 : quiescent_Reference16Ideal := fun m ρ _ => (θ_run Cert.Reference16Ideal.defs _ _).mono
  (fun r h => And.intro (fun c => (h c).2) (sem_eq_zero_of_no_sems (by decide) r.2))
  (Cert.Reference16Ideal.Value.run (F := Ideal) m ρ)

/-- The kernel and the reference end with equal results. -/
theorem algebraic16 : algebraic_Kernel16Ideal_Reference16Ideal := by
  intro m g m' g' hpre hagree
  refine ⟨fun c => (Cert.Kernel16Ideal.Gen.dats m 0 c).arrAt 2 (Cert.Kernel16Ideal.cfgs 0).N, ?_, ?_⟩
  · exact θ_run_mono (θ_run_and (Cert.Kernel16Ideal.Gen.run_main m g) (Cert.Kernel16Ideal.Gen.unchanged m g)) fun r h c =>
      ⟨(h.1 c).1 2, h.2 c⟩
  · refine (θ_run Cert.Reference16Ideal.defs _ _).mono (fun r hr c => ?_) (Cert.Reference16Ideal.Value.run (F := Ideal) m' g')
    obtain ⟨a0, a1⟩ := hagree c
    have h := hr c
    refine ⟨h.1.trans ?_, h.2⟩
    · refine Eq.trans ?_ (K16Val.final m c).symm
      simp only [a0, a1]

/-- The reference's run leaves its arguments, and every counter at zero. -/
theorem frame17 : quiescent_Reference17Ideal := fun m ρ _ => (θ_run Cert.Reference17Ideal.defs _ _).mono
  (fun r h => And.intro (fun c => (h c).2) (sem_eq_zero_of_no_sems (by decide) r.2))
  (Cert.Reference17Ideal.Value.run (F := Ideal) m ρ)

/-- The kernel and the reference end with equal results. -/
theorem algebraic17 : algebraic_Kernel17Ideal_Reference17Ideal := by
  intro m g m' g' hpre hagree
  refine ⟨fun c => (Cert.Kernel17Ideal.Gen.dats m 0 c).arrAt 2 (Cert.Kernel17Ideal.cfgs 0).N, ?_, ?_⟩
  · exact θ_run_mono (θ_run_and (Cert.Kernel17Ideal.Gen.run_main m g) (Cert.Kernel17Ideal.Gen.unchanged m g)) fun r h c =>
      ⟨(h.1 c).1 2, h.2 c⟩
  · refine (θ_run Cert.Reference17Ideal.defs _ _).mono (fun r hr c => ?_) (Cert.Reference17Ideal.Value.run (F := Ideal) m' g')
    obtain ⟨a0, a1⟩ := hagree c
    have h := hr c
    refine ⟨h.1.trans ?_, h.2⟩
    · refine Eq.trans ?_ (K17Val.final m c).symm
      simp only [a0, a1]

/-- The reference's run leaves its arguments, and every counter at zero. -/
theorem frame18 : quiescent_Reference18Ideal := fun m ρ _ => (θ_run Cert.Reference18Ideal.defs _ _).mono
  (fun r h => And.intro (fun c => (h c).2) (sem_eq_zero_of_no_sems (by decide) r.2))
  (Cert.Reference18Ideal.Value.run (F := Ideal) m ρ)

/-- The kernel and the reference end with equal results. -/
theorem algebraic18 : algebraic_Kernel18Ideal_Reference18Ideal := by
  intro m g m' g' hpre hagree
  refine ⟨fun c => (Cert.Kernel18Ideal.Gen.dats m 0 c).arrAt 3 (Cert.Kernel18Ideal.cfgs 0).N, ?_, ?_⟩
  · exact θ_run_mono (θ_run_and (Cert.Kernel18Ideal.Gen.run_main m g) (Cert.Kernel18Ideal.Gen.unchanged m g)) fun r h c =>
      ⟨(h.1 c).1 3, h.2 c⟩
  · refine (θ_run Cert.Reference18Ideal.defs _ _).mono (fun r hr c => ?_) (Cert.Reference18Ideal.Value.run (F := Ideal) m' g')
    obtain ⟨a0, a1, a2⟩ := hagree c
    have h := hr c
    refine ⟨h.1.trans ?_, h.2⟩
    · refine Eq.trans ?_ (K18Val.final m c).symm
      simp only [a0, a1, a2]

/-- The reference's run leaves its arguments, and every counter at zero. -/
theorem frame19 : quiescent_Reference19Ideal := fun m ρ _ => (θ_run Cert.Reference19Ideal.defs _ _).mono
  (fun r h => And.intro (fun c => (h c).2) (sem_eq_zero_of_no_sems (by decide) r.2))
  (Cert.Reference19Ideal.Value.run (F := Ideal) m ρ)

/-- The kernel and the reference end with equal results. -/
theorem algebraic19 : algebraic_Kernel19Ideal_Reference19Ideal := by
  intro m g m' g' hpre hagree
  refine ⟨fun c => (Cert.Kernel19Ideal.Gen.dats m 0 c).arrAt 3 (Cert.Kernel19Ideal.cfgs 0).N, ?_, ?_⟩
  · exact θ_run_mono (θ_run_and (Cert.Kernel19Ideal.Gen.run_main m g) (Cert.Kernel19Ideal.Gen.unchanged m g)) fun r h c =>
      ⟨(h.1 c).1 3, h.2 c⟩
  · refine (θ_run Cert.Reference19Ideal.defs _ _).mono (fun r hr c => ?_) (Cert.Reference19Ideal.Value.run (F := Ideal) m' g')
    obtain ⟨a0, a1, a2⟩ := hagree c
    have h := hr c
    refine ⟨h.1.trans ?_, h.2⟩
    · refine Eq.trans ?_ (K19Val.final m c).symm
      simp only [a0, a1, a2]

/-- The reference's run leaves its arguments, and every counter at zero. -/
theorem frame20 : quiescent_Reference20Ideal := fun m ρ _ => (θ_run Cert.Reference20Ideal.defs _ _).mono
  (fun r h => And.intro (fun c => (h c).2) (sem_eq_zero_of_no_sems (by decide) r.2))
  (Cert.Reference20Ideal.Value.run (F := Ideal) m ρ)

/-- The kernel and the reference end with equal results. -/
theorem algebraic20 : algebraic_Kernel20Ideal_Reference20Ideal := by
  intro m g m' g' hpre hagree
  refine ⟨fun c => (Cert.Kernel20Ideal.Gen.dats m 0 c).arrAt 2 (Cert.Kernel20Ideal.cfgs 0).N, ?_, ?_⟩
  · exact θ_run_mono (θ_run_and (Cert.Kernel20Ideal.Gen.run_main m g) (Cert.Kernel20Ideal.Gen.unchanged m g)) fun r h c =>
      ⟨(h.1 c).1 2, h.2 c⟩
  · refine (θ_run Cert.Reference20Ideal.defs _ _).mono (fun r hr c => ?_) (Cert.Reference20Ideal.Value.run (F := Ideal) m' g')
    obtain ⟨a0, a1⟩ := hagree c
    have h := hr c
    refine ⟨h.1.trans ?_, h.2⟩
    · refine Eq.trans ?_ (K20Val.final m c).symm
      simp only [a0, a1]

/-- The reference's run leaves its arguments, and every counter at zero. -/
theorem frame21 : quiescent_Reference21Ideal := fun m ρ _ => (θ_run Cert.Reference21Ideal.defs _ _).mono
  (fun r h => And.intro (fun c => (h c).2) (sem_eq_zero_of_no_sems (by decide) r.2))
  (Cert.Reference21Ideal.Value.run (F := Ideal) m ρ)

/-- The kernel and the reference end with equal results. -/
theorem algebraic21 : algebraic_Kernel21Ideal_Reference21Ideal := by
  intro m g m' g' hpre hagree
  refine ⟨fun c => (Cert.Kernel21Ideal.Gen.dats m 0 c).arrAt 2 (Cert.Kernel21Ideal.cfgs 0).N, ?_, ?_⟩
  · exact θ_run_mono (θ_run_and (Cert.Kernel21Ideal.Gen.run_main m g) (Cert.Kernel21Ideal.Gen.unchanged m g)) fun r h c =>
      ⟨(h.1 c).1 2, h.2 c⟩
  · refine (θ_run Cert.Reference21Ideal.defs _ _).mono (fun r hr c => ?_) (Cert.Reference21Ideal.Value.run (F := Ideal) m' g')
    obtain ⟨a0, a1⟩ := hagree c
    have h := hr c
    refine ⟨h.1.trans ?_, h.2⟩
    · refine Eq.trans ?_ (K21Val.final m c).symm
      simp only [a0, a1]

end Cert.Mixer

end
-- ==== Proof.K22Val.lean ====
/- A product of the latent rows with a weight of 3072 columns, tile by tile against whole arrays. -/
module

public import proofs.«01_k».proof.Proof.Gen.Kernel22Ideal.Frame
public import proofs.«01_k».proof.Proof.Gen.Reference22Ideal.Run
public import Idealize.ShloMosaic.Lib.Pipeline.ValueKit
public import Idealize.ShloMosaic.Lib.Pipeline.ReadBack

@[expose] public section

set_option maxRecDepth 16384

noncomputable section

namespace Cert.K22Val

open Idealize.ShloMosaic Idealize.ShloMosaic.TcCoe Idealize.SL.Sem
open Idealize.ShloMosaic.Pipeline (Dat)
open Cert.Kernel22Ideal Cert.Kernel22Ideal.Gen

variable (m : (ℓ : Loc nD τ sig) → Buf (Elt Ideal) ℓ)

/-- The reference's result, as a term over its arguments. -/
abbrev REF (X : FVec Ideal S4352x512 .bf16) (W : FVec Ideal S512x3072 .bf16) : FVec Ideal S4352x3072 .f32 :=
  Host.dotGeneral Cert.Reference22Ideal.dot_S4352x512_S512x3072_S4352x3072_1_0_0_1_n_n none (extf .f32 X Cert.Reference22Ideal.Gen.bitsLt_bf16_f32) (extf .f32 W Cert.Reference22Ideal.Gen.bitsLt_bf16_f32)

/-- The windows' block indices at a grid point. -/
theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- One grid step: the product of its two blocks. -/
theorem hpay (x : FVec Ideal S1088x512 .bf16) (y : FVec Ideal S512x1024 .bf16) (j) :
    k0_pay2 (F := Ideal) x y (k0_pay1 (F := Ideal)) j = (∑ k : Fin 512, (x (ix2 (j 0) k) * y (ix2 k (j 1)) : EReal) : EReal) := by
  pointwise [k0_pay2, k0_pay1]

/-- What a grid point writes back is the reference's term there. -/
theorem point (c : Dev nD) (t : Fin cfg0.N) (y) :
    k0_pay2 (F := Ideal) (iblk m c 0 t) (iblk m c 1 t) (k0_pay1 (F := Ideal)) y
    = REF (m ((c : Thread nD τ).loc main_arg0)) (m ((c : Thread nD τ).loc main_arg1)) (((cfg0.win 2).blk t).view.emb y) := by
  refine Eq.trans (hpay _ _ _) ?_
  pointwise [REF]
  blk_point [iblk, V, idx t]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.K22Val

end
-- ==== Proof.K23Val.lean ====
/- A product of the latent rows with a weight of 4096 columns, tile by tile against whole arrays. -/
module

public import proofs.«01_k».proof.Proof.Gen.Kernel23Ideal.Frame
public import proofs.«01_k».proof.Proof.Gen.Reference23Ideal.Run
public import Idealize.ShloMosaic.Lib.Pipeline.ValueKit
public import Idealize.ShloMosaic.Lib.Pipeline.ReadBack

@[expose] public section

set_option maxRecDepth 16384

noncomputable section

namespace Cert.K23Val

open Idealize.ShloMosaic Idealize.ShloMosaic.TcCoe Idealize.SL.Sem
open Idealize.ShloMosaic.Pipeline (Dat)
open Cert.Kernel23Ideal Cert.Kernel23Ideal.Gen

variable (m : (ℓ : Loc nD τ sig) → Buf (Elt Ideal) ℓ)

/-- The reference's result, as a term over its arguments. -/
abbrev REF (X : FVec Ideal S4352x512 .bf16) (W : FVec Ideal S512x4096 .bf16) : FVec Ideal S4352x4096 .f32 :=
  Host.dotGeneral Cert.Reference23Ideal.dot_S4352x512_S512x4096_S4352x4096_1_0_0_1_n_n none (extf .f32 X Cert.Reference23Ideal.Gen.bitsLt_bf16_f32) (extf .f32 W Cert.Reference23Ideal.Gen.bitsLt_bf16_f32)

/-- The windows' block indices at a grid point. -/
theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- One grid step: the product of its two blocks. -/
theorem hpay (x : FVec Ideal S1088x512 .bf16) (y : FVec Ideal S512x1024 .bf16) (j) :
    k0_pay2 (F := Ideal) x y (k0_pay1 (F := Ideal)) j = (∑ k : Fin 512, (x (ix2 (j 0) k) * y (ix2 k (j 1)) : EReal) : EReal) := by
  pointwise [k0_pay2, k0_pay1]

/-- What a grid point writes back is the reference's term there. -/
theorem point (c : Dev nD) (t : Fin cfg0.N) (y) :
    k0_pay2 (F := Ideal) (iblk m c 0 t) (iblk m c 1 t) (k0_pay1 (F := Ideal)) y
    = REF (m ((c : Thread nD τ).loc main_arg0)) (m ((c : Thread nD τ).loc main_arg1)) (((cfg0.win 2).blk t).view.emb y) := by
  refine Eq.trans (hpay _ _ _) ?_
  pointwise [REF]
  blk_point [iblk, V, idx t]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.K23Val

end
-- ==== Proof.K24Val.lean ====
/- The latent rows' gradient through the first part of the query weight, tile by tile against whole arrays. -/
module

public import proofs.«01_k».proof.Proof.Gen.Kernel24Ideal.Frame
public import proofs.«01_k».proof.Proof.Gen.Reference24Ideal.Run
public import Idealize.ShloMosaic.Lib.Pipeline.ValueKit
public import Idealize.ShloMosaic.Lib.Pipeline.ReadBack

@[expose] public section

set_option maxRecDepth 16384

noncomputable section

namespace Cert.K24Val

open Idealize.ShloMosaic Idealize.ShloMosaic.TcCoe Idealize.SL.Sem
open Idealize.ShloMosaic.Pipeline (Dat)
open Cert.Kernel24Ideal Cert.Kernel24Ideal.Gen

variable (m : (ℓ : Loc nD τ sig) → Buf (Elt Ideal) ℓ)

/-- The reference's result, as a term over its arguments. -/
abbrev REF (X : FVec Ideal S4352x2048 .f32) (W : FVec Ideal S512x2048 .bf16) : FVec Ideal S4352x512 .f32 :=
  Host.dotGeneral Cert.Reference24Ideal.dot_S4352x2048_S512x2048_S4352x512_1_1_0_0_n_n none X (extf .f32 W Cert.Reference24Ideal.Gen.bitsLt_bf16_f32)

/-- The windows' block indices at a grid point. -/
theorem idx : ∀ t : Fin cfg0.N, win0_0.index t = ![t.val, 0] ∧ win0_1.index t = ![0, 0]
    ∧ win0_2.index t = ![t.val, 0] :=
  (by decide +kernel : ∀ t : Fin grid0.N, _)

/-- One grid step: the product of its two blocks. -/
theorem hpay (x : FVec Ideal S1088x2048 .f32) (y : FVec Ideal S512x2048 .bf16) (j) :
    k0_pay2 (F := Ideal) x y (k0_pay1 (F := Ideal)) j = (∑ k : Fin 2048, (x (ix2 (j 0) k) * y (ix2 (j 1) k) : EReal) : EReal) := by
  pointwise [k0_pay2, k0_pay1]

/-- What a grid point writes back is the reference's term there. -/
theorem point (c : Dev nD) (t : Fin cfg0.N) (y) :
    k0_pay2 (F := Ideal) (iblk m c 0 t) (iblk m c 1 t) (k0_pay1 (F := Ideal)) y
    = REF (m ((c : Thread nD τ).loc main_arg0)) (m ((c : Thread nD τ).loc main_arg1)) (((cfg0.win 2).blk t).view.emb y) := by
  refine Eq.trans (hpay _ _ _) ?_
  pointwise [REF]
  blk_point [iblk, V, idx t]

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.K24Val

end
-- ==== Proof.K25Val.lean ====
/- The latent rows' gradient through the second part of the query weight added to the first part's, tile by tile against
   whole arrays. -/
module

public import proofs.«01_k».proof.Proof.Gen.Kernel25Ideal.Frame
public import proofs.«01_k».proof.Proof.Gen.Reference25Ideal.Run
public import Idealize.ShloMosaic.Lib.Pipeline.ValueKit
public import Idealize.ShloMosaic.Lib.Pipeline.ReadBack

@[expose] public section

set_option maxRecDepth 16384

noncomputable section

namespace Cert.K25Val

open Idealize.ShloMosaic Idealize.ShloMosaic.TcCoe Idealize.SL.Sem
open Idealize.ShloMosaic.Pipeline (Dat)
open Cert.Kernel25Ideal Cert.Kernel25Ideal.Gen

variable (m : (ℓ : Loc nD τ sig) → Buf (Elt Ideal) ℓ)

/-- The reference's result, as a term over its arguments. -/
abbrev REF (X : FVec Ideal S4352x1024 .f32) (W : FVec Ideal S512x1024 .bf16) (H : FVec Ideal S4352x512 .f32) : FVec Ideal S4352x512 .f32 :=
  addf H (Host.dotGeneral Cert.Reference25Ideal.dot_S4352x1024_S512x1024_S4352x512_1_1_0_0_n_n none X (extf .f32 W Cert.Reference25Ideal.Gen.bitsLt_bf16_f32))

/-- The windows' block indices at a grid point. -/
theorem idx : ∀ t : Fin cfg0.N, win0_0.index t = ![t.val, 0] ∧ win0_1.index t = ![0, 0]
    ∧ win0_2.index t = ![t.val, 0]
    ∧ win0_3.index t = ![t.val, 0] :=
  (by decide +kernel : ∀ t : Fin grid0.N, _)

/-- One grid step: the product of its two blocks, added to the block that entered. -/
theorem hpay (x : FVec Ideal S1088x1024 .f32) (y : FVec Ideal S512x1024 .bf16) (h : FVec Ideal S1088x512 .f32) (j) :
    k0_pay3 (F := Ideal) (k0_pay2 (F := Ideal) x y (k0_pay1 (F := Ideal))) h j = (h j + ∑ k : Fin 1024, (x (ix2 (j 0) k) * y (ix2 (j 1) k) : EReal) : EReal) := by
  pointwise [k0_pay3, k0_pay2, k0_pay1]

/-- What a grid point writes back is the reference's term there. -/
theorem point (c : Dev nD) (t : Fin cfg0.N) (y) :
    k0_pay3 (F := Ideal) (k0_pay2 (F := Ideal) (iblk m c 0 t) (iblk m c 1 t) (k0_pay1 (F := Ideal))) (iblk m c 2 t) y
    = REF (m ((c : Thread nD τ).loc main_arg0)) (m ((c : Thread nD τ).loc main_arg1)) (m ((c : Thread nD τ).loc main_arg2)) (((cfg0.win 3).blk t).view.emb y) := by
  refine Eq.trans (hpay _ _ _ _) ?_
  pointwise [REF]
  blk_point [iblk, V, idx t]

/-- The result array after the grid is the reference's term. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  exact point m c t y

end Cert.K25Val

end
-- ==== Proof.K26Val.lean ====
/- The latent rows' gradient through the two parts of the key and value weight: the kernel sums two blocks of channels of the
   two products together, the reference adds two whole products. -/
module

public import proofs.«01_k».proof.Proof.Gen.Kernel26Ideal.Frame
public import proofs.«01_k».proof.Proof.Gen.Reference26Ideal.Run
public import Idealize.ShloMosaic.Lib.Pipeline.ValueKit
public import Idealize.ShloMosaic.Lib.Pipeline.ReadBack

@[expose] public section

set_option maxRecDepth 16384

noncomputable section

namespace Cert.K26Val

open Idealize.ShloMosaic Idealize.ShloMosaic.TcCoe Idealize.SL.Sem
open Idealize.ShloMosaic.Pipeline (Dat)
open Cert.Kernel26Ideal Cert.Kernel26Ideal.Gen

variable (m : (ℓ : Loc nD τ sig) → Buf (Elt Ideal) ℓ)

/-- One part's share, as the reference forms it. -/
abbrev PROD (X : FVec Ideal S4352x2048 .f32) (W : FVec Ideal S512x2048 .bf16) : FVec Ideal S4352x512 .f32 :=
  Host.dotGeneral Cert.Reference26Ideal.dot_S4352x2048_S512x2048_S4352x512_1_1_0_0_n_n none X (extf .f32 W Cert.Reference26Ideal.Gen.bitsLt_bf16_f32)

/-- The reference's result, as a term over its arguments. -/
abbrev REF (X0 : FVec Ideal S4352x2048 .f32) (W0 : FVec Ideal S512x2048 .bf16) (X1 : FVec Ideal S4352x2048 .f32)
    (W1 : FVec Ideal S512x2048 .bf16) : FVec Ideal S4352x512 .f32 :=
  addf (PROD X1 W1) (PROD X0 W0)

theorem hprod (X : FVec Ideal S4352x2048 .f32) (W : FVec Ideal S512x2048 .bf16) (j : S4352x512.Idx) :
    PROD X W j = ∑ l : Fin 2048, (X (ix2 (j 0) l) * W (ix2 (j 1) l) : EReal) := by
  pointwise [PROD]

/-- The reference's result at an index: two contractions over the channels. -/
theorem href (X0 : FVec Ideal S4352x2048 .f32) (W0 : FVec Ideal S512x2048 .bf16) (X1 : FVec Ideal S4352x2048 .f32)
    (W1 : FVec Ideal S512x2048 .bf16) (j : S4352x512.Idx) : REF X0 W0 X1 W1 j
      = ((∑ l : Fin 2048, (X0 (ix2 (j 0) l) * W0 (ix2 (j 1) l) : EReal)) + (∑ l : Fin 2048, (X1 (ix2 (j 0) l) * W1 (ix2 (j 1) l) : EReal)) : EReal) := by
  refine Eq.trans (add_comm (PROD X1 W1 j : EReal) (PROD X0 W0 j)) ?_
  rw [hprod, hprod]

/-- The windows' block indices at a grid point. -/
theorem idx : ∀ t : Fin cfg0.N, win0_0.index t = ![t.val / 2, t.val % 2] ∧ win0_1.index t = ![0, t.val % 2]
    ∧ win0_2.index t = ![t.val / 2, t.val % 2] ∧ win0_3.index t = ![0, t.val % 2] ∧ win0_4.index t = ![t.val / 2, 0] :=
  (by decide +kernel : ∀ t : Fin grid0.N, _)

theorem hzero (j) : k0_pay1 (F := Ideal) j = 0 := by pointwise [k0_pay1]

/-- One grid step adds the two products of its four blocks. -/
theorem hpay (x0 : FVec Ideal S1088x1024 .f32) (y0 : FVec Ideal S512x1024 .bf16) (x1 : FVec Ideal S1088x1024 .f32)
    (y1 : FVec Ideal S512x1024 .bf16) (a : FVec Ideal S1088x512 .f32) (j) :
    k0_pay2 (F := Ideal) x0 y0 x1 y1 a j = a j + ((∑ k : Fin 1024, (x0 (ix2 (j 0) k) * y0 (ix2 (j 1) k) : EReal)) + (∑ k : Fin 1024, (x1 (ix2 (j 0) k) * y1 (ix2 (j 1) k) : EReal)) : EReal) := by
  pointwise [k0_pay2]

/-- What a grid step writes back is the accumulator it leaves. -/
theorem out_eq (c : Dev nD) (t : Fin cfg0.N) (h0 : ¬t.val % 2 = 0) (h1 : t.val % 2 = 1) (j : S1088x512.Idx) :
    (outsAt0 m c t.val t.isLt).1 j = (outsAt0 m c t.val t.isLt).2 j := by
  rw [outsAt0_B m c t h0 h1]
  frame_out

/-- The result array after the grid is the reference's term. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have h7 := (flush0_4 t).mp hf
  rw [after0_4, out_eq m c t (by omega) h7,
    Pipeline.eq_sum_fin_of_reset_step_apply_of_flush (fun n h => (outsAt0 m c n h).2) 2 (fun _ => 0) _
    (fun t h j => by rw [outsAt0_A m c t h (by omega)]; frame_out; rw [hpay, hzero])
    (fun t h j => by rw [outsAt0_B m c t h (by omega)]; frame_out; rw [read_unread_whole, hpay])
    t h7 _, zero_add]
  refine Eq.trans ?_ (href _ _ _ _ _).symm
  refine Eq.trans (Finset.sum_add_distrib (M := EReal)) (congrArg₂ (fun u z : EReal => u + z) ?_ ?_)
  · refine Fin.sum_mul_add_congr fun s k hl => ?_
    blk_point [iblk, V, idx t, idx ⟨_, Pipeline.run_point_lt_of_flush t h7 s⟩]
  · refine Fin.sum_mul_add_congr fun s k hl => ?_
    blk_point [iblk, V, idx t, idx ⟨_, Pipeline.run_point_lt_of_flush t h7 s⟩]

end Cert.K26Val

end
-- ==== Proof.K27Val.lean ====
/- The gradient of a latent weight's 2048 columns: the kernel sums eight blocks of rows, the reference contracts all rows at
   once. -/
module

public import proofs.«01_k».proof.Proof.Gen.Kernel27Ideal.Frame
public import proofs.«01_k».proof.Proof.Gen.Reference27Ideal.Run
public import Idealize.ShloMosaic.Lib.Pipeline.ValueKit
public import Idealize.ShloMosaic.Lib.Pipeline.ReadBack

@[expose] public section

set_option maxRecDepth 16384

noncomputable section

namespace Cert.K27Val

open Idealize.ShloMosaic Idealize.ShloMosaic.TcCoe Idealize.SL.Sem
open Idealize.ShloMosaic.Pipeline (Dat)
open Cert.Kernel27Ideal Cert.Kernel27Ideal.Gen

variable (m : (ℓ : Loc nD τ sig) → Buf (Elt Ideal) ℓ)

/-- The reference's result, as a term over its arguments. -/
abbrev REF (X : FVec Ideal S4352x512 .bf16) (Y : FVec Ideal S4352x2048 .f32) : FVec Ideal S512x2048 .f32 :=
  transpose Cert.Reference27Ideal.S512x2048 [1, 0] (Host.dotGeneral Cert.Reference27Ideal.dot_S4352x2048_S4352x512_S2048x512_0_0_1_1_n_n none Y (extf .f32 X Cert.Reference27Ideal.Gen.bitsLt_bf16_f32)) Cert.Reference27Ideal.Gen.transposes_S2048x512_S512x2048_1_0

/-- The reference's result at an index: one contraction over the rows. -/
theorem href (X : FVec Ideal S4352x512 .bf16) (Y : FVec Ideal S4352x2048 .f32) (j : S512x2048.Idx) :
    REF X Y j = ∑ l : Fin 4352, (X (ix2 l (j 0)) * Y (ix2 l (j 1)) : EReal) := by
  pointwise [REF]
  refine Fin.sum_fin_congr fun l => ?_
  rw [mul_comm]

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x512 .bf16) (y : FVec Ideal S544x2048 .f32) (a : FVec Ideal S512x2048 .f32) (j) :
    k0_pay2 (F := Ideal) x y a j = a j + ∑ k : Fin 544, (x (ix2 k (j 0)) * y (ix2 k (j 1)) : EReal) := by
  pointwise [k0_pay2]

/-- What a grid step writes back is the accumulator it leaves. -/
theorem out_eq (c : Dev nD) (t : Fin cfg0.N) (h0 : ¬t.val % 8 = 0) (h1 : t.val % 8 = 7) (j : S512x2048.Idx) :
    (outsAt0 m c t.val t.isLt).1 j = (outsAt0 m c t.val t.isLt).2 j := by
  rw [outsAt0_C m c t h0 h1]
  frame_out

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  refine Eq.trans ?_ (href _ _ _).symm
  refine Fin.sum_mul_add_congr fun s k hl => ?_
  blk_point [iblk, V, idx t, idx ⟨_, Pipeline.run_point_lt_of_flush t h7 s⟩]

end Cert.K27Val

end
-- ==== Proof.K28Val.lean ====
/- The gradient of a latent weight's 1024 columns: the kernel sums eight blocks of rows, the reference contracts all rows at
   once. -/
module

public import proofs.«01_k».proof.Proof.Gen.Kernel28Ideal.Frame
public import proofs.«01_k».proof.Proof.Gen.Reference28Ideal.Run
public import Idealize.ShloMosaic.Lib.Pipeline.ValueKit
public import Idealize.ShloMosaic.Lib.Pipeline.ReadBack

@[expose] public section

set_option maxRecDepth 16384

noncomputable section

namespace Cert.K28Val

open Idealize.ShloMosaic Idealize.ShloMosaic.TcCoe Idealize.SL.Sem
open Idealize.ShloMosaic.Pipeline (Dat)
open Cert.Kernel28Ideal Cert.Kernel28Ideal.Gen

variable (m : (ℓ : Loc nD τ sig) → Buf (Elt Ideal) ℓ)

/-- The reference's result, as a term over its arguments. -/
abbrev REF (X : FVec Ideal S4352x512 .bf16) (Y : FVec Ideal S4352x1024 .f32) : FVec Ideal S512x1024 .f32 :=
  transpose Cert.Reference28Ideal.S512x1024 [1, 0] (Host.dotGeneral Cert.Reference28Ideal.dot_S4352x1024_S4352x512_S1024x512_0_0_1_1_n_n none Y (extf .f32 X Cert.Reference28Ideal.Gen.bitsLt_bf16_f32)) Cert.Reference28Ideal.Gen.transposes_S1024x512_S512x1024_1_0

/-- The reference's result at an index: one contraction over the rows. -/
theorem href (X : FVec Ideal S4352x512 .bf16) (Y : FVec Ideal S4352x1024 .f32) (j : S512x1024.Idx) :
    REF X Y j = ∑ l : Fin 4352, (X (ix2 l (j 0)) * Y (ix2 l (j 1)) : EReal) := by
  pointwise [REF]
  refine Fin.sum_fin_congr fun l => ?_
  rw [mul_comm]

/-- The windows' block indices at a grid point. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

theorem hzero (j) : k0_pay1 (F := Ideal) j = 0 := by pointwise [k0_pay1]

/-- One grid step adds the product of its two blocks. -/
theorem hpay (x : FVec Ideal S544x512 .bf16) (y : FVec Ideal S544x1024 .f32) (a : FVec Ideal S512x1024 .f32) (j) :
    k0_pay2 (F := Ideal) x y a j = a j + ∑ k : Fin 544, (x (ix2 k (j 0)) * y (ix2 k (j 1)) : EReal) := by
  pointwise [k0_pay2]

/-- What a grid step writes back is the accumulator it leaves. -/
theorem out_eq (c : Dev nD) (t : Fin cfg0.N) (h0 : ¬t.val % 8 = 0) (h1 : t.val % 8 = 7) (j : S512x1024.Idx) :
    (outsAt0 m c t.val t.isLt).1 j = (outsAt0 m c t.val t.isLt).2 j := by
  rw [outsAt0_C m c t h0 h1]
  frame_out

/-- The result array after the grid is the reference's term. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h7 := (flush0_2 t).mp hf
  rw [after0_2, out_eq m c t (by omega) h7,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h7 : t.val % 8 = 7
      · rw [outsAt0_C m c t h h7]; frame_out; rw [read_unread_whole, hpay]
      · rw [outsAt0_B m c t h h7]; frame_out; rw [read_unread_whole, hpay])
    t h7 _, zero_add]
  refine Eq.trans ?_ (href _ _ _).symm
  refine Fin.sum_mul_add_congr fun s k hl => ?_
  blk_point [iblk, V, idx t, idx ⟨_, Pipeline.run_point_lt_of_flush t h7 s⟩]

end Cert.K28Val

end
-- ==== Proof.Latent.lean ====
/- The attention's projections out of its latents: each call runs to its end and leaves its arguments, and ends with the
   reference's results, at every array of extended reals. -/
module

public import proofs.«01_k».proof.Defs
public import proofs.«01_k».proof.Proof.K22Val
public import proofs.«01_k».proof.Proof.K23Val
public import proofs.«01_k».proof.Proof.K24Val
public import proofs.«01_k».proof.Proof.K25Val
public import proofs.«01_k».proof.Proof.K26Val
public import proofs.«01_k».proof.Proof.K27Val
public import proofs.«01_k».proof.Proof.K28Val
public import proofs.«01_k».proof.Proof.Finite
public import Idealize.ShloMosaic.Adequacy
public import Idealize.ShloMosaic.Init

@[expose] public section

set_option maxRecDepth 16384

noncomputable section

namespace Cert.Latent

open Idealize.ShloMosaic Idealize.ShloMosaic.TcCoe Idealize.SL.Sem
open Cert.Reals

/-- The reference's run leaves its arguments, and every counter at zero. -/
theorem frame22 : quiescent_Reference22Ideal := fun m ρ _ => (θ_run Cert.Reference22Ideal.defs _ _).mono
  (fun r h => And.intro (fun c => (h c).2) (sem_eq_zero_of_no_sems (by decide) r.2))
  (Cert.Reference22Ideal.Value.run (F := Ideal) m ρ)

/-- The kernel and the reference end with equal results. -/
theorem algebraic22 : algebraic_Kernel22Ideal_Reference22Ideal := by
  intro m g m' g' hpre hagree
  refine ⟨fun c => (Cert.Kernel22Ideal.Gen.dats m 0 c).arrAt 2 (Cert.Kernel22Ideal.cfgs 0).N, ?_, ?_⟩
  · exact θ_run_mono (θ_run_and (Cert.Kernel22Ideal.Gen.run_main m g) (Cert.Kernel22Ideal.Gen.unchanged m g)) fun r h c =>
      ⟨(h.1 c).1 2, h.2 c⟩
  · refine (θ_run Cert.Reference22Ideal.defs _ _).mono (fun r hr c => ?_) (Cert.Reference22Ideal.Value.run (F := Ideal) m' g')
    obtain ⟨a0, a1⟩ := hagree c
    have h := hr c
    refine ⟨h.1.trans ?_, h.2⟩
    · refine Eq.trans ?_ (K22Val.final m c).symm
      simp only [a0, a1]

/-- The reference's run leaves its arguments, and every counter at zero. -/
theorem frame23 : quiescent_Reference23Ideal := fun m ρ _ => (θ_run Cert.Reference23Ideal.defs _ _).mono
  (fun r h => And.intro (fun c => (h c).2) (sem_eq_zero_of_no_sems (by decide) r.2))
  (Cert.Reference23Ideal.Value.run (F := Ideal) m ρ)

/-- The kernel and the reference end with equal results. -/
theorem algebraic23 : algebraic_Kernel23Ideal_Reference23Ideal := by
  intro m g m' g' hpre hagree
  refine ⟨fun c => (Cert.Kernel23Ideal.Gen.dats m 0 c).arrAt 2 (Cert.Kernel23Ideal.cfgs 0).N, ?_, ?_⟩
  · exact θ_run_mono (θ_run_and (Cert.Kernel23Ideal.Gen.run_main m g) (Cert.Kernel23Ideal.Gen.unchanged m g)) fun r h c =>
      ⟨(h.1 c).1 2, h.2 c⟩
  · refine (θ_run Cert.Reference23Ideal.defs _ _).mono (fun r hr c => ?_) (Cert.Reference23Ideal.Value.run (F := Ideal) m' g')
    obtain ⟨a0, a1⟩ := hagree c
    have h := hr c
    refine ⟨h.1.trans ?_, h.2⟩
    · refine Eq.trans ?_ (K23Val.final m c).symm
      simp only [a0, a1]

/-- The reference's run leaves its arguments, and every counter at zero. -/
theorem frame24 : quiescent_Reference24Ideal := fun m ρ _ => (θ_run Cert.Reference24Ideal.defs _ _).mono
  (fun r h => And.intro (fun c => (h c).2) (sem_eq_zero_of_no_sems (by decide) r.2))
  (Cert.Reference24Ideal.Value.run (F := Ideal) m ρ)

/-- The kernel and the reference end with equal results. -/
theorem algebraic24 : algebraic_Kernel24Ideal_Reference24Ideal := by
  intro m g m' g' hpre hagree
  refine ⟨fun c => (Cert.Kernel24Ideal.Gen.dats m 0 c).arrAt 2 (Cert.Kernel24Ideal.cfgs 0).N, ?_, ?_⟩
  · exact θ_run_mono (θ_run_and (Cert.Kernel24Ideal.Gen.run_main m g) (Cert.Kernel24Ideal.Gen.unchanged m g)) fun r h c =>
      ⟨(h.1 c).1 2, h.2 c⟩
  · refine (θ_run Cert.Reference24Ideal.defs _ _).mono (fun r hr c => ?_) (Cert.Reference24Ideal.Value.run (F := Ideal) m' g')
    obtain ⟨a0, a1⟩ := hagree c
    have h := hr c
    refine ⟨h.1.trans ?_, h.2⟩
    · refine Eq.trans ?_ (K24Val.final m c).symm
      simp only [a0, a1]

/-- The reference's run leaves its arguments, and every counter at zero. -/
theorem frame25 : quiescent_Reference25Ideal := fun m ρ _ => (θ_run Cert.Reference25Ideal.defs _ _).mono
  (fun r h => And.intro (fun c => (h c).2) (sem_eq_zero_of_no_sems (by decide) r.2))
  (Cert.Reference25Ideal.Value.run (F := Ideal) m ρ)

/-- The kernel and the reference end with equal results. -/
theorem algebraic25 : algebraic_Kernel25Ideal_Reference25Ideal := by
  intro m g m' g' hpre hagree
  refine ⟨fun c => (Cert.Kernel25Ideal.Gen.dats m 0 c).arrAt 3 (Cert.Kernel25Ideal.cfgs 0).N, ?_, ?_⟩
  · exact θ_run_mono (θ_run_and (Cert.Kernel25Ideal.Gen.run_main m g) (Cert.Kernel25Ideal.Gen.unchanged m g)) fun r h c =>
      ⟨(h.1 c).1 3, h.2 c⟩
  · refine (θ_run Cert.Reference25Ideal.defs _ _).mono (fun r hr c => ?_) (Cert.Reference25Ideal.Value.run (F := Ideal) m' g')
    obtain ⟨a0, a1, a2⟩ := hagree c
    have h := hr c
    refine ⟨h.1.trans ?_, h.2⟩
    · refine Eq.trans ?_ (K25Val.final m c).symm
      simp only [a0, a1, a2]

/-- The reference's run leaves its arguments, and every counter at zero. -/
theorem frame26 : quiescent_Reference26Ideal := fun m ρ _ => (θ_run Cert.Reference26Ideal.defs _ _).mono
  (fun r h => And.intro (fun c => (h c).2) (sem_eq_zero_of_no_sems (by decide) r.2))
  (Cert.Reference26Ideal.Value.run (F := Ideal) m ρ)

/-- The kernel and the reference end with equal results. -/
theorem algebraic26 : algebraic_Kernel26Ideal_Reference26Ideal := by
  intro m g m' g' hpre hagree
  refine ⟨fun c => (Cert.Kernel26Ideal.Gen.dats m 0 c).arrAt 4 (Cert.Kernel26Ideal.cfgs 0).N, ?_, ?_⟩
  · exact θ_run_mono (θ_run_and (Cert.Kernel26Ideal.Gen.run_main m g) (Cert.Kernel26Ideal.Gen.unchanged m g)) fun r h c =>
      ⟨(h.1 c).1 4, h.2 c⟩
  · refine (θ_run Cert.Reference26Ideal.defs _ _).mono (fun r hr c => ?_) (Cert.Reference26Ideal.Value.run (F := Ideal) m' g')
    obtain ⟨a0, a1, a2, a3⟩ := hagree c
    have h := hr c
    refine ⟨h.1.trans ?_, h.2⟩
    · refine Eq.trans ?_ (K26Val.final m c).symm
      simp only [a0, a1, a2, a3]

/-- The reference's run leaves its arguments, and every counter at zero. -/
theorem frame27 : quiescent_Reference27Ideal := fun m ρ _ => (θ_run Cert.Reference27Ideal.defs _ _).mono
  (fun r h => And.intro (fun c => (h c).2) (sem_eq_zero_of_no_sems (by decide) r.2))
  (Cert.Reference27Ideal.Value.run (F := Ideal) m ρ)

/-- The kernel and the reference end with equal results. -/
theorem algebraic27 : algebraic_Kernel27Ideal_Reference27Ideal := by
  intro m g m' g' hpre hagree
  refine ⟨fun c => (Cert.Kernel27Ideal.Gen.dats m 0 c).arrAt 2 (Cert.Kernel27Ideal.cfgs 0).N, ?_, ?_⟩
  · exact θ_run_mono (θ_run_and (Cert.Kernel27Ideal.Gen.run_main m g) (Cert.Kernel27Ideal.Gen.unchanged m g)) fun r h c =>
      ⟨(h.1 c).1 2, h.2 c⟩
  · refine (θ_run Cert.Reference27Ideal.defs _ _).mono (fun r hr c => ?_) (Cert.Reference27Ideal.Value.run (F := Ideal) m' g')
    obtain ⟨a0, a1⟩ := hagree c
    have h := hr c
    refine ⟨h.1.trans ?_, h.2⟩
    · refine Eq.trans ?_ (K27Val.final m c).symm
      simp only [a0, a1]

/-- The reference's run leaves its arguments, and every counter at zero. -/
theorem frame28 : quiescent_Reference28Ideal := fun m ρ _ => (θ_run Cert.Reference28Ideal.defs _ _).mono
  (fun r h => And.intro (fun c => (h c).2) (sem_eq_zero_of_no_sems (by decide) r.2))
  (Cert.Reference28Ideal.Value.run (F := Ideal) m ρ)

/-- The kernel and the reference end with equal results. -/
theorem algebraic28 : algebraic_Kernel28Ideal_Reference28Ideal := by
  intro m g m' g' hpre hagree
  refine ⟨fun c => (Cert.Kernel28Ideal.Gen.dats m 0 c).arrAt 2 (Cert.Kernel28Ideal.cfgs 0).N, ?_, ?_⟩
  · exact θ_run_mono (θ_run_and (Cert.Kernel28Ideal.Gen.run_main m g) (Cert.Kernel28Ideal.Gen.unchanged m g)) fun r h c =>
      ⟨(h.1 c).1 2, h.2 c⟩
  · refine (θ_run Cert.Reference28Ideal.defs _ _).mono (fun r hr c => ?_) (Cert.Reference28Ideal.Value.run (F := Ideal) m' g')
    obtain ⟨a0, a1⟩ := hagree c
    have h := hr c
    refine ⟨h.1.trans ?_, h.2⟩
    · refine Eq.trans ?_ (K28Val.final m c).symm
      simp only [a0, a1]

end Cert.Latent

end
-- ==== Proof.K13Val.lean ====
/- The gradient of a row norm added to the row's own cotangent, at every array of extended reals: the rows' gradient in f32 and
   rounded, and the scale's gradient summed over 34 blocks of rows. -/
module

public import proofs.«01_k».proof.Proof.Gen.Kernel13Ideal.Frame
public import proofs.«01_k».proof.Proof.Gen.Reference13Ideal.Run
public import Idealize.ShloMosaic.Lib.Pipeline.ValueKit
public import Idealize.ShloMosaic.Lib.Pipeline.ReadBack

@[expose] public section

set_option maxRecDepth 16384

noncomputable section

namespace Cert.K13Val

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

/-- The reference's mean square of each row plus the small number. -/
abbrev VR (X : FVec Ideal S4352x2048 .f32) : FVec Ideal Cert.Reference13Ideal.S4352x1 .f32 :=
  addf (Host.divf (broadcastInDim Cert.Reference13Ideal.S4352x1 ![0] Cert.Reference13Ideal.Gen.bcast_S4352_S4352x1_0 (Host.reduceAdd (mulf X X)
    (constant Cert.Reference13Ideal.S_ .f32 0x00000000#32) Cert.Reference13Ideal.Gen.reducesTo_S4352x2048_S4352_d1 Cert.Reference13Ideal.Gen.h_S_))
    (broadcastInDim Cert.Reference13Ideal.S4352x1 ![] Cert.Reference13Ideal.Gen.bcast_S_S4352x1 (constant Cert.Reference13Ideal.S_ .f32 0x45000000#32)))
    (broadcastInDim Cert.Reference13Ideal.S4352x1 ![] Cert.Reference13Ideal.Gen.bcast_S_S4352x1 (constant Cert.Reference13Ideal.S_ .f32 0x358637BD#32))

/-- The reference's cotangent of a row's squares. -/
abbrev CC (X DY : FVec Ideal S4352x2048 .f32) (W : FVec Ideal S1x2048 .f32) : FVec Ideal Cert.Reference13Ideal.S4352 .f32 :=
  Host.reduceAdd (Host.divf (mulf (shapeCast _ (Host.reduceAdd (mulf X (mulf DY (broadcastInDim Cert.Reference13Ideal.S4352x2048 ![0, 1] Cert.Reference13Ideal.Gen.bcast_S1x2048_S4352x2048_0_1 W)))
    (constant Cert.Reference13Ideal.S_ .f32 0x00000000#32) Cert.Reference13Ideal.Gen.reducesTo_S4352x2048_S4352_d1 Cert.Reference13Ideal.Gen.h_S_) Cert.Reference13Ideal.Gen.shapeCasts_S4352_S4352x1)
    (mulf (broadcastInDim Cert.Reference13Ideal.S4352x1 ![] Cert.Reference13Ideal.Gen.bcast_S_S4352x1 (constant Cert.Reference13Ideal.S_ .f32 0xBF000000#32)) (Host.divf (Host.rsqrt (VR X)) (VR X))))
    (broadcastInDim Cert.Reference13Ideal.S4352x1 ![] Cert.Reference13Ideal.Gen.bcast_S_S4352x1 (constant Cert.Reference13Ideal.S_ .f32 0x45000000#32)))
    (constant Cert.Reference13Ideal.S_ .f32 0x00000000#32) Cert.Reference13Ideal.Gen.reducesTo_S4352x1_S4352_d1 Cert.Reference13Ideal.Gen.h_S_

/-- The reference's rows' gradient. -/
abbrev REFH (X : FVec Ideal S4352x2048 .f32) (W : FVec Ideal S1x2048 .f32) (DY DR : FVec Ideal S4352x2048 .f32) : FVec Ideal S4352x2048 .f32 :=
  addf DR (addf (addf (mulf (mulf DY (broadcastInDim Cert.Reference13Ideal.S4352x2048 ![0, 1] Cert.Reference13Ideal.Gen.bcast_S1x2048_S4352x2048_0_1 W))
      (broadcastInDim Cert.Reference13Ideal.S4352x2048 ![0, 1] Cert.Reference13Ideal.Gen.bcast_S4352x1_S4352x2048_0_1 (Host.rsqrt (VR X))))
    (mulf X (broadcastInDim Cert.Reference13Ideal.S4352x2048 ![0] Cert.Reference13Ideal.Gen.bcast_S4352_S4352x2048_0 (CC X DY W))))
    (mulf (broadcastInDim Cert.Reference13Ideal.S4352x2048 ![0] Cert.Reference13Ideal.Gen.bcast_S4352_S4352x2048_0 (CC X DY W)) X))

/-- The reference's scale gradient. -/
abbrev REFG (X DY : FVec Ideal S4352x2048 .f32) : FVec Ideal S1x2048 .f32 :=
  shapeCast _ (Host.reduceAdd (mulf (mulf X (broadcastInDim Cert.Reference13Ideal.S4352x2048 ![0, 1] Cert.Reference13Ideal.Gen.bcast_S4352x1_S4352x2048_0_1 (Host.rsqrt (VR X)))) DY)
    (constant Cert.Reference13Ideal.S_ .f32 0x00000000#32) Cert.Reference13Ideal.Gen.reducesTo_S4352x2048_S2048_d0 Cert.Reference13Ideal.Gen.h_S_) Cert.Reference13Ideal.Gen.shapeCasts_S2048_S1x2048

/-- The windows' block indices at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- Row `a` of the block of a grid point. -/
def row (t : Fin cfg0.N) (a : Fin 128) : Fin 4352 := ⟨t.val * 128 + a.val, by have := lt_of_lt_of_eq t.isLt N_0; omega⟩

section Body

variable (xb : FVec Ideal S128x2048 .f32) (wb : FVec Ideal S1x2048 .f32) (yb rb : FVec Ideal S128x2048 .f32)
  (X : FVec Ideal S4352x2048 .f32) (W : FVec Ideal S1x2048 .f32) (DY DR : FVec Ideal S4352x2048 .f32) (r : Fin 128 → Fin 4352)

/-- A block's rows' gradient is the whole array's at the block's rows. -/
theorem point (hx : ∀ a b, xb (ix2 a b) = X (ix2 (r a) b)) (hw : ∀ b, wb (ix2 0 b) = W (ix2 0 b))
    (hy : ∀ a b, yb (ix2 a b) = DY (ix2 (r a) b)) (hr : ∀ a b, rb (ix2 a b) = DR (ix2 (r a) b)) (a : Fin 128) (b : Fin 2048) :
    k0_pay8 (F := Ideal) xb wb yb rb (ix2 a b) = REFH X W DY DR (ix2 (r a) b) := by
  pointwise [k0_pay8, k0_pay7, k0_pay5, k0_pay4, REFH, CC, VR]
  simp only [hx, hw, hy, hr]

theorem point' (hx : ∀ a b, xb (ix2 a b) = X (ix2 (r a) b)) (hw : ∀ b, wb (ix2 0 b) = W (ix2 0 b))
    (hy : ∀ a b, yb (ix2 a b) = DY (ix2 (r a) b)) (hr : ∀ a b, rb (ix2 a b) = DR (ix2 (r a) b)) (a : Fin 128) (b : Fin 2048) :
    k0_pay1 (F := Ideal) (k0_pay9 (F := Ideal) xb wb yb rb) (ix2 a b) = truncf .bf16 (REFH X W DY DR) Cert.Reference13Ideal.Gen.bitsLt_bf16_f32 (ix2 (r a) b) :=
  point xb wb yb rb X W DY DR r hx hw hy hr a b

/-- A block's share of the scale's gradient. -/
theorem part (a : FVec Ideal S1x2048 .f32) (j : S1x2048.Idx) : k0_pay3 (F := Ideal) (k0_pay6 (F := Ideal) xb yb) a j
    = (a j + ∑ k : Fin 128, (xb (ix2 k (j 1)) * Ideal.rsqrt (Ideal.div (∑ l : Fin 2048, (xb (ix2 k l) * xb (ix2 k l) : EReal)) (Ideal.ofBits .f32 0x45000000#32) + Ideal.ofBits .f32 0x358637BD#32) * yb (ix2 k (j 1)) : EReal) : EReal) := by
  pointwise [k0_pay3, k0_pay6, k0_pay5, k0_pay4]

/-- The reference's scale gradient: one sum over all rows. -/
theorem hrefg (j : S1x2048.Idx) : REFG X DY j
    = ∑ k : Fin 4352, (X (ix2 k (j 1)) * Ideal.rsqrt (Ideal.div (∑ l : Fin 2048, (X (ix2 k l) * X (ix2 k l) : EReal)) (Ideal.ofBits .f32 0x45000000#32) + Ideal.ofBits .f32 0x358637BD#32) * DY (ix2 k (j 1)) : EReal) := by
  pointwise [REFG, VR]

/-- The 34 blocks' sums are the whole array's. -/
theorem sum_blocks (t : Fin cfg0.N) (ht : t.val % 34 = 34 - 1) (xs ys : Fin cfg0.N → FVec Ideal S128x2048 .f32)
    (hx : ∀ t a b, xs t (ix2 a b) = X (ix2 (row t a) b)) (hy : ∀ t a b, ys t (ix2 a b) = DY (ix2 (row t a) b)) (b : Fin 2048) :
    (∑ s : Fin 34, ∑ k : Fin 128, (xs ⟨34 * (t.val / 34) + s.val, Pipeline.run_point_lt_of_flush t ht s⟩ (ix2 k b)
      * Ideal.rsqrt (Ideal.div (∑ l : Fin 2048, (xs ⟨34 * (t.val / 34) + s.val, Pipeline.run_point_lt_of_flush t ht s⟩ (ix2 k l)
        * xs ⟨34 * (t.val / 34) + s.val, Pipeline.run_point_lt_of_flush t ht s⟩ (ix2 k l) : EReal)) (Ideal.ofBits .f32 0x45000000#32) + Ideal.ofBits .f32 0x358637BD#32)
      * ys ⟨34 * (t.val / 34) + s.val, Pipeline.run_point_lt_of_flush t ht s⟩ (ix2 k b) : EReal)) = REFG X DY (ix2 0 b) := by
  refine Eq.trans ?_ (hrefg X DY _).symm
  refine Fin.sum_mul_add_congr fun s k hl => ?_
  have ht' := lt_of_lt_of_eq t.isLt N_0
  have er : row ⟨34 * (t.val / 34) + s.val, Pipeline.run_point_lt_of_flush t ht s⟩ k = ⟨s.val * 128 + k.val, hl⟩ :=
    Fin.ext (by show (34 * (t.val / 34) + s.val) * 128 + k.val = s.val * 128 + k.val; omega)
  simp only [hx, hy, er]
  rfl

end Body

variable {m} {c : Dev nD}

theorem blk0 (t : Fin cfg0.N) (a : Fin 128) (b : Fin 2048) : iblk m c 0 t (ix2 a b) = m ((c : Thread nD τ).loc main_arg0) (ix2 (row t a) b) := by
  unfold row
  blk_point [iblk, V, idx t]

theorem blk1 (t : Fin cfg0.N) (b : Fin 2048) : iblk m c 1 t (ix2 0 b) = m ((c : Thread nD τ).loc main_arg1) (ix2 0 b) := by
  blk_point [iblk, V, idx t]

theorem blk2 (t : Fin cfg0.N) (a : Fin 128) (b : Fin 2048) : iblk m c 2 t (ix2 a b) = m ((c : Thread nD τ).loc main_arg2) (ix2 (row t a) b) := by
  unfold row
  blk_point [iblk, V, idx t]

theorem blk3 (t : Fin cfg0.N) (a : Fin 128) (b : Fin 2048) : iblk m c 3 t (ix2 a b) = m ((c : Thread nD τ).loc main_arg3) (ix2 (row t a) b) := by
  unfold row
  blk_point [iblk, V, idx t]

variable (m) (c)

/-- The rows' gradient in f32. -/
theorem final4 : (dats m 0 c).arrAt 4 (cfgs 0).N = REFH (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf z => ?_
  blk_simp
  have ez : ((View.whole main_v0_0).slice (win0_4.rect t)).emb z = ix2 (row t (z 0)) (z 1) := by
    unfold row
    blk_ext [idx t]
  rw [after0_4, ez]
  by_cases h0 : t.val % 34 = 0
  · rw [outsAt0_A m c t h0]
    frame_out
    exact (congrArg _ (ix2_eta z).symm).trans (point _ _ _ _ _ _ _ _ (row t) (blk0 t) (blk1 t) (blk2 t) (blk3 t) (z 0) (z 1))
  · rw [outsAt0_B m c t h0]
    frame_out
    exact (congrArg _ (ix2_eta z).symm).trans (point _ _ _ _ _ _ _ _ (row t) (blk0 t) (blk1 t) (blk2 t) (blk3 t) (z 0) (z 1))

/-- The rows' gradient, rounded. -/
theorem final5 : (dats m 0 c).arrAt 5 (cfgs 0).N = truncf .bf16 (REFH (m ((c : Thread nD τ).loc main_arg0)) (m ((c : Thread nD τ).loc main_arg1))
    (m ((c : Thread nD τ).loc main_arg2)) (m ((c : Thread nD τ).loc main_arg3))) Cert.Reference13Ideal.Gen.bitsLt_bf16_f32 := by
  refine (dats m 0 c).arrAt_eq_of_covers 5 _ (by decide +kernel) fun t hf z => ?_
  blk_simp
  have ez : ((View.whole main_v0_1).slice (win0_5.rect t)).emb z = ix2 (row t (z 0)) (z 1) := by
    unfold row
    blk_ext [idx t]
  rw [after0_5, ez]
  by_cases h0 : t.val % 34 = 0
  · rw [outsAt0_A m c t h0]
    frame_out
    exact (congrArg _ (ix2_eta z).symm).trans (point' _ _ _ _ _ _ _ _ (row t) (blk0 t) (blk1 t) (blk2 t) (blk3 t) (z 0) (z 1))
  · rw [outsAt0_B m c t h0]
    frame_out
    exact (congrArg _ (ix2_eta z).symm).trans (point' _ _ _ _ _ _ _ _ (row t) (blk0 t) (blk1 t) (blk2 t) (blk3 t) (z 0) (z 1))

/-- The scale's gradient. -/
theorem final6 : (dats m 0 c).arrAt 6 (cfgs 0).N = REFG (m ((c : Thread nD τ).loc main_arg0)) (m ((c : Thread nD τ).loc main_arg2)) := by
  refine (dats m 0 c).arrAt_eq_of_covers 6 _ (by decide +kernel) fun t hf z => ?_
  blk_simp
  have hzero : ∀ j, k0_pay2 (F := Ideal) j = 0 := by
    intro j
    pointwise [k0_pay2]
  have ht := (flush0_6 t).mp hf
  have ez : ((View.whole main_v0_2).slice (win0_6.rect t)).emb z = ix2 0 (z 1) := by
    blk_ext [idx t]
  rw [ez, after0_6, Pipeline.eq_sum_fin_of_reset_step_apply_of_flush (fun n h => (outsAt0 m c n h).2.2) 34
    (fun _ => 0) _
    (fun t h j => by rw [outsAt0_A m c t h]; frame_out; rw [part, hzero])
    (fun t h j => by rw [outsAt0_B m c t h]; frame_out; rw [part]) t ht _, zero_add]
  exact sum_blocks _ _ t ht (iblk m c 0) (iblk m c 2) blk0 blk2 (z 1)

end Cert.K13Val

end
-- ==== Proof.K32Val.lean ====
/- The gradient of the two latents' norms, at every array of extended reals: the joined array's gradient block by block, and the
   two scales' gradients summed over 34 blocks of rows. -/
module

public import proofs.«01_k».proof.Proof.Gen.Kernel32Ideal.Frame
public import proofs.«01_k».proof.Proof.Gen.Reference32Ideal.Run
public import Idealize.ShloMosaic.Lib.Pipeline.ValueKit
public import Idealize.ShloMosaic.Lib.Pipeline.ReadBack

@[expose] public section

set_option maxRecDepth 16384

noncomputable section

namespace Cert.K32Val

open Idealize.ShloMosaic Idealize.ShloMosaic.TcCoe Idealize.SL.Sem
open Idealize.ShloMosaic.Pipeline (Dat)
open Cert.Kernel32Ideal Cert.Kernel32Ideal.Gen

variable (m : (ℓ : Loc nD τ sig) → Buf (Elt Ideal) ℓ)

/-- The reference's mean square of each row plus the small number. -/
abbrev VR (X : FVec Ideal Cert.Reference32Ideal.S4352x512 .f32) : FVec Ideal Cert.Reference32Ideal.S4352x1 .f32 :=
  addf (Host.divf (broadcastInDim Cert.Reference32Ideal.S4352x1 ![0] Cert.Reference32Ideal.Gen.bcast_S4352_S4352x1_0 (Host.reduceAdd (mulf X X)
    (constant Cert.Reference32Ideal.S_ .f32 0x00000000#32) Cert.Reference32Ideal.Gen.reducesTo_S4352x512_S4352_d1 Cert.Reference32Ideal.Gen.h_S_))
    (broadcastInDim Cert.Reference32Ideal.S4352x1 ![] Cert.Reference32Ideal.Gen.bcast_S_S4352x1 (constant Cert.Reference32Ideal.S_ .f32 0x44000000#32)))
    (broadcastInDim Cert.Reference32Ideal.S4352x1 ![] Cert.Reference32Ideal.Gen.bcast_S_S4352x1 (constant Cert.Reference32Ideal.S_ .f32 0x358637BD#32))

/-- The reference's cotangent of a row's squares. -/
abbrev CC (X DY : FVec Ideal Cert.Reference32Ideal.S4352x512 .f32) (W : FVec Ideal S1x512 .f32) : FVec Ideal Cert.Reference32Ideal.S4352 .f32 :=
  Host.reduceAdd (Host.divf (mulf (shapeCast _ (Host.reduceAdd (mulf X (mulf DY (broadcastInDim Cert.Reference32Ideal.S4352x512 ![0, 1] Cert.Reference32Ideal.Gen.bcast_S1x512_S4352x512_0_1 W)))
    (constant Cert.Reference32Ideal.S_ .f32 0x00000000#32) Cert.Reference32Ideal.Gen.reducesTo_S4352x512_S4352_d1 Cert.Reference32Ideal.Gen.h_S_) Cert.Reference32Ideal.Gen.shapeCasts_S4352_S4352x1)
    (mulf (broadcastInDim Cert.Reference32Ideal.S4352x1 ![] Cert.Reference32Ideal.Gen.bcast_S_S4352x1 (constant Cert.Reference32Ideal.S_ .f32 0xBF000000#32)) (Host.divf (Host.rsqrt (VR X)) (VR X))))
    (broadcastInDim Cert.Reference32Ideal.S4352x1 ![] Cert.Reference32Ideal.Gen.bcast_S_S4352x1 (constant Cert.Reference32Ideal.S_ .f32 0x44000000#32)))
    (constant Cert.Reference32Ideal.S_ .f32 0x00000000#32) Cert.Reference32Ideal.Gen.reducesTo_S4352x1_S4352_d1 Cert.Reference32Ideal.Gen.h_S_

/-- The reference's gradient of one latent. -/
abbrev DX (X : FVec Ideal Cert.Reference32Ideal.S4352x512 .f32) (W : FVec Ideal S1x512 .f32) (DY : FVec Ideal Cert.Reference32Ideal.S4352x512 .f32) : FVec Ideal Cert.Reference32Ideal.S4352x512 .f32 :=
  addf (addf (mulf (mulf DY (broadcastInDim Cert.Reference32Ideal.S4352x512 ![0, 1] Cert.Reference32Ideal.Gen.bcast_S1x512_S4352x512_0_1 W))
      (broadcastInDim Cert.Reference32Ideal.S4352x512 ![0, 1] Cert.Reference32Ideal.Gen.bcast_S4352x1_S4352x512_0_1 (Host.rsqrt (VR X))))
    (mulf X (broadcastInDim Cert.Reference32Ideal.S4352x512 ![0] Cert.Reference32Ideal.Gen.bcast_S4352_S4352x512_0 (CC X DY W))))
    (mulf (broadcastInDim Cert.Reference32Ideal.S4352x512 ![0] Cert.Reference32Ideal.Gen.bcast_S4352_S4352x512_0 (CC X DY W)) X)

/-- The first and the second latent. -/
abbrev XQ (P : FVec Ideal S4352x1152 .f32) : FVec Ideal Cert.Reference32Ideal.S4352x512 .f32 := extractStridedSlice Cert.Reference32Ideal.S4352x512 ![0, 0] P Cert.Reference32Ideal.Gen.slices_S4352x1152_S4352x512_0_0

abbrev XK (P : FVec Ideal S4352x1152 .f32) : FVec Ideal Cert.Reference32Ideal.S4352x512 .f32 := extractStridedSlice Cert.Reference32Ideal.S4352x512 ![0, 512] P Cert.Reference32Ideal.Gen.slices_S4352x1152_S4352x512_0_512

/-- The reference's gradient of the joined array: the three parts, each put at its own columns. -/
abbrev REFP (P : FVec Ideal S4352x1152 .f32) (WQ WK : FVec Ideal S1x512 .f32) (DQ DK : FVec Ideal S4352x512 .f32) (DE : FVec Ideal S4352x128 .f32) : FVec Ideal S4352x1152 .f32 :=
  addf (addf (pad Cert.Reference32Ideal.S4352x1152 ![0, 1024] ![0, 0] ![0, 0] DE (constant Cert.Reference32Ideal.S_ .f32 0x00000000#32) Cert.Reference32Ideal.Gen.pads_S4352x128_S4352x1152_000_102400 Cert.Reference32Ideal.Gen.h_S_)
    (pad Cert.Reference32Ideal.S4352x1152 ![0, 512] ![0, 128] ![0, 0] (DX (XK P) WK DK) (constant Cert.Reference32Ideal.S_ .f32 0x00000000#32) Cert.Reference32Ideal.Gen.pads_S4352x512_S4352x1152_000_5121280 Cert.Reference32Ideal.Gen.h_S_))
    (pad Cert.Reference32Ideal.S4352x1152 ![0, 0] ![0, 640] ![0, 0] (DX (XQ P) WQ DQ) (constant Cert.Reference32Ideal.S_ .f32 0x00000000#32) Cert.Reference32Ideal.Gen.pads_S4352x512_S4352x1152_000_06400 Cert.Reference32Ideal.Gen.h_S_)

/-- The reference's scale gradient of one latent. -/
abbrev REFG (X DY : FVec Ideal Cert.Reference32Ideal.S4352x512 .f32) : FVec Ideal S1x512 .f32 :=
  shapeCast _ (Host.reduceAdd (mulf (mulf X (broadcastInDim Cert.Reference32Ideal.S4352x512 ![0, 1] Cert.Reference32Ideal.Gen.bcast_S4352x1_S4352x512_0_1 (Host.rsqrt (VR X)))) DY)
    (constant Cert.Reference32Ideal.S_ .f32 0x00000000#32) Cert.Reference32Ideal.Gen.reducesTo_S4352x512_S512_d0 Cert.Reference32Ideal.Gen.h_S_) Cert.Reference32Ideal.Gen.shapeCasts_S512_S1x512

/-- The windows' block indices at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)

/-- Row `a` of the block of a grid point. -/
def row (t : Fin cfg0.N) (a : Fin 128) : Fin 4352 := ⟨t.val * 128 + a.val, by have := lt_of_lt_of_eq t.isLt N_0; omega⟩

section Body

variable (pb : FVec Ideal S128x1152 .f32) (wq wk : FVec Ideal S1x512 .f32) (qb kb : FVec Ideal S128x512 .f32) (eb : FVec Ideal S128x128 .f32)
  (P : FVec Ideal S4352x1152 .f32) (WQ WK : FVec Ideal S1x512 .f32) (DQ DK : FVec Ideal S4352x512 .f32) (DE : FVec Ideal S4352x128 .f32) (r : Fin 128 → Fin 4352)

/-- What a grid point writes of the joined array's gradient. -/
abbrev PAY : FVec Ideal S128x1152 .f32 := k0_pay15 (F := Ideal) wk qb kb eb (k0_pay3 (F := Ideal) pb) (k0_pay5 (F := Ideal) pb) (k0_pay6 (F := Ideal) pb) (k0_pay7 (F := Ideal) pb) (k0_pay9 (F := Ideal) pb) (k0_pay10 (F := Ideal) pb) (k0_pay13 (F := Ideal) wq)

set_option maxHeartbeats 4000000 in
/-- A block's gradient of the joined array is the whole array's at the block's rows. -/
theorem point (hp : ∀ a b, pb (ix2 a b) = P (ix2 (r a) b)) (hwq : ∀ b, wq (ix2 0 b) = WQ (ix2 0 b)) (hwk : ∀ b, wk (ix2 0 b) = WK (ix2 0 b))
    (hq : ∀ a b, qb (ix2 a b) = DQ (ix2 (r a) b)) (hk : ∀ a b, kb (ix2 a b) = DK (ix2 (r a) b)) (he : ∀ a b, eb (ix2 a b) = DE (ix2 (r a) b)) (a : Fin 128) (b : Fin 1152) :
    PAY pb wq wk qb kb eb (ix2 a b) = REFP P WQ WK DQ DK DE (ix2 (r a) b) := by
  have hb := b.isLt
  pointwise [PAY, k0_pay15, k0_pay3, k0_pay4, k0_pay5, k0_pay6, k0_pay7, k0_pay8, k0_pay9, k0_pay10, k0_pay13, REFP, DX, CC, VR, XQ, XK]
  simp only [hp, hwq, hwk, hq, hk, he]
  by_cases h1 : b.val < 512
  · have h2 : ¬ (1024 ≤ b.val ∧ b.val - 1024 < 128) := by omega
    have h3 : ¬ (512 ≤ b.val ∧ b.val - 512 < 512) := by omega
    simp only [dif_pos h1, dif_neg h2, dif_neg h3, zero_add]
  · by_cases h2 : b.val - 512 < 512
    · have h3 : ¬ (1024 ≤ b.val ∧ b.val - 1024 < 128) := by omega
      have h4 : 512 ≤ b.val ∧ b.val - 512 < 512 := by omega
      simp only [dif_neg h1, dif_pos h2, dif_neg h3, dif_pos h4, zero_add, add_zero]
    · have h3 : 1024 ≤ b.val ∧ b.val - 1024 < 128 := by omega
      have h4 : ¬ (512 ≤ b.val ∧ b.val - 512 < 512) := by omega
      simp only [dif_neg h1, dif_neg h2, dif_pos h3, dif_neg h4, add_zero]
      exact congrArg (fun z => DE (ix2 (r a) z)) (Fin.ext (by show b.val - 512 - 512 = b.val - 1024; omega))

/-- A block's share of the first scale's gradient. -/
theorem partq (a : FVec Ideal S1x512 .f32) (j : S1x512.Idx) : k0_pay17 (F := Ideal) (k0_pay12 (F := Ideal) pb qb) a j
    = (a j + ∑ k : Fin 128, (pb (ix2 k ⟨(j 1).val, by have : (j 1).val < 512 := (j 1).isLt; omega⟩) * Ideal.rsqrt (Ideal.div (∑ l : Fin 512, (pb (ix2 k ⟨l.val, by omega⟩) * pb (ix2 k ⟨l.val, by omega⟩) : EReal)) (Ideal.ofBits .f32 0x44000000#32) + Ideal.ofBits .f32 0x358637BD#32) * qb (ix2 k (j 1)) : EReal) : EReal) := by
  pointwise [k0_pay17, k0_pay12, k0_pay5, k0_pay4, k0_pay3]

/-- A block's share of the second scale's gradient. -/
theorem partk (a : FVec Ideal S1x512 .f32) (j : S1x512.Idx) : k0_pay2 (F := Ideal) (k0_pay14 (F := Ideal) kb (k0_pay11 (F := Ideal) pb)) a j
    = (a j + ∑ k : Fin 128, (pb (ix2 k ⟨512 + (j 1).val, by have : (j 1).val < 512 := (j 1).isLt; omega⟩) * Ideal.rsqrt (Ideal.div (∑ l : Fin 512, (pb (ix2 k ⟨512 + l.val, by omega⟩) * pb (ix2 k ⟨512 + l.val, by omega⟩) : EReal)) (Ideal.ofBits .f32 0x44000000#32) + Ideal.ofBits .f32 0x358637BD#32) * kb (ix2 k (j 1)) : EReal) : EReal) := by
  pointwise [k0_pay2, k0_pay14, k0_pay11, k0_pay9, k0_pay8, k0_pay7]

/-- The reference's first scale gradient: one sum over all rows. -/
theorem hrefq (j : S1x512.Idx) : REFG (XQ P) DQ j
    = ∑ k : Fin 4352, (P (ix2 k ⟨(j 1).val, by have : (j 1).val < 512 := (j 1).isLt; omega⟩) * Ideal.rsqrt (Ideal.div (∑ l : Fin 512, (P (ix2 k ⟨l.val, by omega⟩) * P (ix2 k ⟨l.val, by omega⟩) : EReal)) (Ideal.ofBits .f32 0x44000000#32) + Ideal.ofBits .f32 0x358637BD#32) * DQ (ix2 k (j 1)) : EReal) := by
  pointwise [REFG, VR, XQ]

/-- The reference's second scale gradient: one sum over all rows. -/
theorem hrefk (j : S1x512.Idx) : REFG (XK P) DK j
    = ∑ k : Fin 4352, (P (ix2 k ⟨512 + (j 1).val, by have : (j 1).val < 512 := (j 1).isLt; omega⟩) * Ideal.rsqrt (Ideal.div (∑ l : Fin 512, (P (ix2 k ⟨512 + l.val, by omega⟩) * P (ix2 k ⟨512 + l.val, by omega⟩) : EReal)) (Ideal.ofBits .f32 0x44000000#32) + Ideal.ofBits .f32 0x358637BD#32) * DK (ix2 k (j 1)) : EReal) := by
  pointwise [REFG, VR, XK]

/-- The 34 blocks' sums are the whole array's, at any choice of 512 columns. -/
theorem sum_blocks (t : Fin cfg0.N) (ht : t.val % 34 = 34 - 1) (xs : Fin cfg0.N → FVec Ideal S128x1152 .f32) (ys : Fin cfg0.N → FVec Ideal S128x512 .f32)
    (hx : ∀ t a b, xs t (ix2 a b) = P (ix2 (row t a) b)) (hy : ∀ t a b, ys t (ix2 a b) = DQ (ix2 (row t a) b)) (f : Fin 512 → Fin 1152) (b : Fin 512) :
    (∑ s : Fin 34, ∑ k : Fin 128, (xs ⟨34 * (t.val / 34) + s.val, Pipeline.run_point_lt_of_flush t ht s⟩ (ix2 k (f b))
      * Ideal.rsqrt (Ideal.div (∑ l : Fin 512, (xs ⟨34 * (t.val / 34) + s.val, Pipeline.run_point_lt_of_flush t ht s⟩ (ix2 k (f l))
        * xs ⟨34 * (t.val / 34) + s.val, Pipeline.run_point_lt_of_flush t ht s⟩ (ix2 k (f l)) : EReal)) (Ideal.ofBits .f32 0x44000000#32) + Ideal.ofBits .f32 0x358637BD#32)
      * ys ⟨34 * (t.val / 34) + s.val, Pipeline.run_point_lt_of_flush t ht s⟩ (ix2 k b) : EReal))
    = ∑ k : Fin 4352, (P (ix2 k (f b)) * Ideal.rsqrt (Ideal.div (∑ l : Fin 512, (P (ix2 k (f l)) * P (ix2 k (f l)) : EReal)) (Ideal.ofBits .f32 0x44000000#32) + Ideal.ofBits .f32 0x358637BD#32) * DQ (ix2 k b) : EReal) := by
  refine Fin.sum_mul_add_congr fun s k hl => ?_
  have ht' := lt_of_lt_of_eq t.isLt N_0
  have er : row ⟨34 * (t.val / 34) + s.val, Pipeline.run_point_lt_of_flush t ht s⟩ k = ⟨s.val * 128 + k.val, hl⟩ :=
    Fin.ext (by show (34 * (t.val / 34) + s.val) * 128 + k.val = s.val * 128 + k.val; omega)
  simp only [hx, hy, er]

end Body

variable {m} {c : Dev nD}

theorem blk0 (t : Fin cfg0.N) (a : Fin 128) (b : Fin 1152) : iblk m c 0 t (ix2 a b) = m ((c : Thread nD τ).loc main_arg0) (ix2 (row t a) b) := by
  unfold row
  blk_point [iblk, V, idx t]

theorem blk1 (t : Fin cfg0.N) (b : Fin 512) : iblk m c 1 t (ix2 0 b) = m ((c : Thread nD τ).loc main_arg1) (ix2 0 b) := by
  blk_point [iblk, V, idx t]

theorem blk2 (t : Fin cfg0.N) (b : Fin 512) : iblk m c 2 t (ix2 0 b) = m ((c : Thread nD τ).loc main_arg2) (ix2 0 b) := by
  blk_point [iblk, V, idx t]

theorem blk3 (t : Fin cfg0.N) (a : Fin 128) (b : Fin 512) : iblk m c 3 t (ix2 a b) = m ((c : Thread nD τ).loc main_arg3) (ix2 (row t a) b) := by
  unfold row
  blk_point [iblk, V, idx t]

theorem blk4 (t : Fin cfg0.N) (a : Fin 128) (b : Fin 512) : iblk m c 4 t (ix2 a b) = m ((c : Thread nD τ).loc main_arg4) (ix2 (row t a) b) := by
  unfold row
  blk_point [iblk, V, idx t]

theorem blk5 (t : Fin cfg0.N) (a : Fin 128) (b : Fin 128) : iblk m c 5 t (ix2 a b) = m ((c : Thread nD τ).loc main_arg5) (ix2 (row t a) b) := by
  unfold row
  blk_point [iblk, V, idx t]

variable (m) (c)

/-- The gradient of the joined array. -/
theorem final6 : (dats m 0 c).arrAt 6 (cfgs 0).N = REFP (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf z => ?_
  blk_simp
  have ez : ((View.whole main_v0_0).slice (win0_6.rect t)).emb z = ix2 (row t (z 0)) (z 1) := by
    unfold row
    blk_ext [idx t]
  rw [after0_6, ez]
  by_cases h0 : t.val % 34 = 0
  · rw [outsAt0_A m c t h0 h0]
    frame_out
    exact (congrArg _ (ix2_eta z).symm).trans (point _ _ _ _ _ _ _ _ _ _ _ _ (row t) (blk0 t) (blk1 t) (blk2 t) (blk3 t) (blk4 t) (blk5 t) (z 0) (z 1))
  · rw [outsAt0_B m c t h0 h0]
    frame_out
    exact (congrArg _ (ix2_eta z).symm).trans (point _ _ _ _ _ _ _ _ _ _ _ _ (row t) (blk0 t) (blk1 t) (blk2 t) (blk3 t) (blk4 t) (blk5 t) (z 0) (z 1))

/-- The first scale's gradient. -/
theorem final7 : (dats m 0 c).arrAt 7 (cfgs 0).N = REFG (XQ (m ((c : Thread nD τ).loc main_arg0))) (m ((c : Thread nD τ).loc main_arg3)) := by
  refine (dats m 0 c).arrAt_eq_of_covers 7 _ (by decide +kernel) fun t hf z => ?_
  blk_simp
  have hzero : ∀ j, k0_pay16 (F := Ideal) j = 0 := by
    intro j
    pointwise [k0_pay16]
  have ht := (flush0_7 t).mp hf
  have ez : ((View.whole main_v0_1).slice (win0_7.rect t)).emb z = ix2 0 (z 1) := by
    blk_ext [idx t]
  rw [ez, after0_7, Pipeline.eq_sum_fin_of_reset_step_apply_of_flush (fun n h => (outsAt0 m c n h).2.1) 34
    (fun _ => 0) _
    (fun t h j => by rw [outsAt0_A m c t h h]; frame_out; rw [partq, hzero])
    (fun t h j => by rw [outsAt0_B m c t h h]; frame_out; rw [partq]) t ht _, zero_add]
  refine Eq.trans ?_ (hrefq _ _ _).symm
  exact sum_blocks _ _ t ht (iblk m c 0) (iblk m c 3) blk0 blk3 (fun l => ⟨l.val, by omega⟩) (z 1)

/-- The second scale's gradient. -/
theorem final8 : (dats m 0 c).arrAt 8 (cfgs 0).N = REFG (XK (m ((c : Thread nD τ).loc main_arg0))) (m ((c : Thread nD τ).loc main_arg4)) := by
  refine (dats m 0 c).arrAt_eq_of_covers 8 _ (by decide +kernel) fun t hf z => ?_
  blk_simp
  have hzero : ∀ j, k0_pay1 (F := Ideal) j = 0 := by
    intro j
    pointwise [k0_pay1]
  have ht := (flush0_8 t).mp hf
  have ez : ((View.whole main_v0_2).slice (win0_8.rect t)).emb z = ix2 0 (z 1) := by
    blk_ext [idx t]
  rw [ez, after0_8, Pipeline.eq_sum_fin_of_reset_step_apply_of_flush (fun n h => (outsAt0 m c n h).2.2) 34
    (fun _ => 0) _
    (fun t h j => by rw [outsAt0_A m c t h h]; frame_out; rw [partk, hzero])
    (fun t h j => by rw [outsAt0_B m c t h h]; frame_out; rw [partk]) t ht _, zero_add]
  refine Eq.trans ?_ (hrefk _ _ _).symm
  exact sum_blocks _ _ t ht (iblk m c 0) (iblk m c 4) blk0 blk4 (fun l => ⟨512 + l.val, by omega⟩) (z 1)

end Cert.K32Val

end
-- ==== Proof.K33Val.lean ====
/- The last norm and the loss, at every array of extended reals: the rows' gradient in f32 and rounded, and the scale's gradient and
   the loss, both summed over 34 blocks of rows. -/
module

public import proofs.«01_k».proof.Proof.Gen.Kernel33Ideal.Frame
public import proofs.«01_k».proof.Proof.Gen.Reference33Ideal.Run
public import Idealize.ShloMosaic.Lib.Pipeline.ValueKit
public import Idealize.ShloMosaic.Lib.Pipeline.ReadBack
public import proofs.«01_k».proof.Proof.Half

@[expose] public section

set_option maxRecDepth 16384

noncomputable section

namespace Cert.K33Val

open Idealize.ShloMosaic Idealize.ShloMosaic.TcCoe Idealize.SL.Sem
open Idealize.ShloMosaic.Pipeline (Dat)
open Cert.Kernel33Ideal Cert.Kernel33Ideal.Gen

variable (m : (ℓ : Loc nD τ sig) → Buf (Elt Ideal) ℓ)

/-- The reference's mean square of each row plus the small number. -/
abbrev VR (X : FVec Ideal S4352x2048 .f32) : FVec Ideal Cert.Reference33Ideal.S4352x1 .f32 :=
  addf (Host.divf (broadcastInDim Cert.Reference33Ideal.S4352x1 ![0] Cert.Reference33Ideal.Gen.bcast_S4352_S4352x1_0 (Host.reduceAdd (mulf X X)
    (constant Cert.Reference33Ideal.S_ .f32 0x00000000#32) Cert.Reference33Ideal.Gen.reducesTo_S4352x2048_S4352_d1 Cert.Reference33Ideal.Gen.h_S_))
    (broadcastInDim Cert.Reference33Ideal.S4352x1 ![] Cert.Reference33Ideal.Gen.bcast_S_S4352x1 (constant Cert.Reference33Ideal.S_ .f32 0x45000000#32)))
    (broadcastInDim Cert.Reference33Ideal.S4352x1 ![] Cert.Reference33Ideal.Gen.bcast_S_S4352x1 (constant Cert.Reference33Ideal.S_ .f32 0x358637BD#32))

/-- The reference's error, times the mask. -/
abbrev ER (X T : FVec Ideal S4352x2048 .f32) (M : FVec Ideal S4352x1 .f32) (W : FVec Ideal S1x2048 .f32) : FVec Ideal S4352x2048 .f32 :=
  mulf (subf (mulf (mulf X (broadcastInDim Cert.Reference33Ideal.S4352x2048 ![0, 1] Cert.Reference33Ideal.Gen.bcast_S4352x1_S4352x2048_0_1 (Host.rsqrt (VR X))))
    (broadcastInDim Cert.Reference33Ideal.S4352x2048 ![0, 1] Cert.Reference33Ideal.Gen.bcast_S1x2048_S4352x2048_0_1 W)) T) (broadcastInDim Cert.Reference33Ideal.S4352x2048 ![0, 1] Cert.Reference33Ideal.Gen.bcast_S4352x1_S4352x2048_0_1 M)

/-- The reference's cotangent of the normalised rows. -/
abbrev DN (X T : FVec Ideal S4352x2048 .f32) (M : FVec Ideal S4352x1 .f32) (W : FVec Ideal S1x2048 .f32) : FVec Ideal S4352x2048 .f32 :=
  mulf (mulf (broadcastInDim Cert.Reference33Ideal.S4352x2048 ![0] Cert.Reference33Ideal.Gen.bcast_S4352_S4352x2048_0 (Host.divf (broadcastInDim Cert.Reference33Ideal.S4352 ![] Cert.Reference33Ideal.Gen.bcast_S_S4352 (mulf (constant Cert.Reference33Ideal.S_ .f32 0x3F000000#32) (constant Cert.Reference33Ideal.S_ .f32 0x3F800000#32)))
    (broadcastInDim Cert.Reference33Ideal.S4352 ![] Cert.Reference33Ideal.Gen.bcast_S_S4352 (constant Cert.Reference33Ideal.S_ .f32 0x45000000#32))))
    (mulf (broadcastInDim Cert.Reference33Ideal.S4352x2048 ![] Cert.Reference33Ideal.Gen.bcast_S_S4352x2048 (constant Cert.Reference33Ideal.S_ .f32 0x40000000#32)) (ER X T M W)))
    (broadcastInDim Cert.Reference33Ideal.S4352x2048 ![0, 1] Cert.Reference33Ideal.Gen.bcast_S4352x1_S4352x2048_0_1 M)

/-- The reference's cotangent of a row's squares. -/
abbrev CC (X T : FVec Ideal S4352x2048 .f32) (M : FVec Ideal S4352x1 .f32) (W : FVec Ideal S1x2048 .f32) : FVec Ideal Cert.Reference33Ideal.S4352 .f32 :=
  Host.reduceAdd (Host.divf (mulf (shapeCast _ (Host.reduceAdd (mulf X (mulf (DN X T M W) (broadcastInDim Cert.Reference33Ideal.S4352x2048 ![0, 1] Cert.Reference33Ideal.Gen.bcast_S1x2048_S4352x2048_0_1 W))) (constant Cert.Reference33Ideal.S_ .f32 0x00000000#32) Cert.Reference33Ideal.Gen.reducesTo_S4352x2048_S4352_d1 Cert.Reference33Ideal.Gen.h_S_) Cert.Reference33Ideal.Gen.shapeCasts_S4352_S4352x1)
    (mulf (broadcastInDim Cert.Reference33Ideal.S4352x1 ![] Cert.Reference33Ideal.Gen.bcast_S_S4352x1 (constant Cert.Reference33Ideal.S_ .f32 0xBF000000#32)) (Host.divf (Host.rsqrt (VR X)) (VR X))))
    (broadcastInDim Cert.Reference33Ideal.S4352x1 ![] Cert.Reference33Ideal.Gen.bcast_S_S4352x1 (constant Cert.Reference33Ideal.S_ .f32 0x45000000#32)))
    (constant Cert.Reference33Ideal.S_ .f32 0x00000000#32) Cert.Reference33Ideal.Gen.reducesTo_S4352x1_S4352_d1 Cert.Reference33Ideal.Gen.h_S_

/-- The reference's rows' gradient. -/
abbrev REFH (X T : FVec Ideal S4352x2048 .f32) (M : FVec Ideal S4352x1 .f32) (W : FVec Ideal S1x2048 .f32) : FVec Ideal S4352x2048 .f32 :=
  addf (addf (mulf (mulf (DN X T M W) (broadcastInDim Cert.Reference33Ideal.S4352x2048 ![0, 1] Cert.Reference33Ideal.Gen.bcast_S1x2048_S4352x2048_0_1 W))
      (broadcastInDim Cert.Reference33Ideal.S4352x2048 ![0, 1] Cert.Reference33Ideal.Gen.bcast_S4352x1_S4352x2048_0_1 (Host.rsqrt (VR X))))
    (mulf X (broadcastInDim Cert.Reference33Ideal.S4352x2048 ![0] Cert.Reference33Ideal.Gen.bcast_S4352_S4352x2048_0 (CC X T M W))))
    (mulf (broadcastInDim Cert.Reference33Ideal.S4352x2048 ![0] Cert.Reference33Ideal.Gen.bcast_S4352_S4352x2048_0 (CC X T M W)) X)

/-- The reference's scale gradient. -/
abbrev REFG (X T : FVec Ideal S4352x2048 .f32) (M : FVec Ideal S4352x1 .f32) (W : FVec Ideal S1x2048 .f32) : FVec Ideal S1x2048 .f32 :=
  shapeCast _ (Host.reduceAdd (mulf (mulf X (broadcastInDim Cert.Reference33Ideal.S4352x2048 ![0, 1] Cert.Reference33Ideal.Gen.bcast_S4352x1_S4352x2048_0_1 (Host.rsqrt (VR X)))) (DN X T M W))
    (constant Cert.Reference33Ideal.S_ .f32 0x00000000#32) Cert.Reference33Ideal.Gen.reducesTo_S4352x2048_S2048_d0 Cert.Reference33Ideal.Gen.h_S_) Cert.Reference33Ideal.Gen.shapeCasts_S2048_S1x2048

/-- The reference's loss, along a row of 128. -/
abbrev REFL (X T : FVec Ideal S4352x2048 .f32) (M : FVec Ideal S4352x1 .f32) (W : FVec Ideal S1x2048 .f32) : FVec Ideal S1x128 .f32 :=
  (broadcastInDim Cert.Reference33Ideal.S1x128 ![] Cert.Reference33Ideal.Gen.bcast_S_S1x128 (mulf (constant Cert.Reference33Ideal.S_ .f32 0x3F000000#32) (Host.reduceAdd (Host.divf (Host.reduceAdd (mulf (ER X T M W) (ER X T M W)) (constant Cert.Reference33Ideal.S_ .f32 0x00000000#32) Cert.Reference33Ideal.Gen.reducesTo_S4352x2048_S4352_d1 Cert.Reference33Ideal.Gen.h_S_)
    (broadcastInDim Cert.Reference33Ideal.S4352 ![] Cert.Reference33Ideal.Gen.bcast_S_S4352 (constant Cert.Reference33Ideal.S_ .f32 0x45000000#32))) (constant Cert.Reference33Ideal.S_ .f32 0x00000000#32) Cert.Reference33Ideal.Gen.reducesTo_S4352_S_d0 Cert.Reference33Ideal.Gen.h_S_)))

/-- The factor of the kernel's cotangent: one half over the number of columns. -/
abbrev fac : EReal := Ideal.ofBits .f32 0x39800000#32

theorem fac_eq : fac = (((1 / 4096 : ℝ)) : EReal) := by
  simp [fac, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem cols_eq : Ideal.ofBits .f32 0x45000000#32 = ((2048 : ℝ) : EReal) := by
  simp [Ideal.ofBits, Ideal.ieee, -EReal.coe_mul]; norm_num

/-- The kernel adds the cotangent of a square's two factors; the reference doubles one. -/
theorem twice (p : EReal) : (p * fac + fac * p : EReal)
    = (Ideal.div (Ideal.ofBits .f32 0x3F000000#32) (Ideal.ofBits .f32 0x45000000#32)
      * (Ideal.ofBits .f32 0x40000000#32 * p) : EReal) := by
  rw [fac_eq, cols_eq, two_eq, show Ideal.ofBits .f32 0x3F000000#32 = _ from Half.half_eq, Reals.l_div (by norm_num)]
  induction p with
  | bot => rw [EReal.coe_mul_bot_of_pos (by norm_num), EReal.coe_mul_bot_of_pos (by norm_num), EReal.coe_mul_bot_of_pos (by norm_num), mul_comm, EReal.coe_mul_bot_of_pos (by norm_num)]; rfl
  | coe x => simp only [Reals.l_mul, Reals.l_add]; congr 1; ring
  | top => rw [EReal.coe_mul_top_of_pos (by norm_num), EReal.coe_mul_top_of_pos (by norm_num), EReal.coe_mul_top_of_pos (by norm_num), mul_comm, EReal.coe_mul_top_of_pos (by norm_num)]; rfl

/-- A finite sum times the factor. -/
theorem fac_sum {ι : Type} (s : Finset ι) (f : ι → EReal) : (∑ k ∈ s, f k) * fac = ∑ k ∈ s, f k * fac := by
  classical
  rw [fac_eq]
  induction s using Finset.induction_on with
  | empty => simp
  | insert a s ha ih =>
    rw [Finset.sum_insert ha, Finset.sum_insert ha, ← ih, mul_comm, EReal.left_distrib_of_nonneg_of_ne_top (by norm_num) (by simp), mul_comm, mul_comm (∑ k ∈ s, f k)]

/-- Half a mean is the sum times the factor. -/
theorem mean (y : EReal) : (Half.half * Ideal.div y (Ideal.ofBits .f32 0x45000000#32) : EReal) = y * fac := by
  rw [fac_eq, cols_eq, Half.half_eq, Ideal.div_coe (by norm_num), mul_comm y, ← mul_assoc, Reals.l_mul, mul_comm y]
  norm_num

/-- The windows' block indices at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

/-- Row `a` of the block of a grid point. -/
def row (t : Fin cfg0.N) (a : Fin 128) : Fin 4352 := ⟨t.val * 128 + a.val, by have := lt_of_lt_of_eq t.isLt N_0; omega⟩

section Body

variable (xb tb : FVec Ideal S128x2048 .f32) (mb : FVec Ideal S128x1 .f32) (wb : FVec Ideal S1x2048 .f32)
  (X T : FVec Ideal S4352x2048 .f32) (M : FVec Ideal S4352x1 .f32) (W : FVec Ideal S1x2048 .f32) (r : Fin 128 → Fin 4352)

/-- The factor, at every row. -/
theorem facs (j : S128.Idx) : k0_pay9 (F := Ideal) j = fac := by
  pointwise [k0_pay9]
  simp

/-- A block's cotangent of the normalised rows. -/
theorem cot (hx : ∀ a b, xb (ix2 a b) = X (ix2 (r a) b)) (ht : ∀ a b, tb (ix2 a b) = T (ix2 (r a) b))
    (hm : ∀ a, mb (ix2 a 0) = M (ix2 (r a) 0)) (hw : ∀ b, wb (ix2 0 b) = W (ix2 0 b)) (a : Fin 128) (b : Fin 2048) :
    k0_pay10 (F := Ideal) mb (k0_pay7 (F := Ideal) xb tb mb wb) (k0_pay9 (F := Ideal)) (ix2 a b) = DN X T M W (ix2 (r a) b) := by
  pointwise [k0_pay10, k0_pay7, k0_pay6, k0_pay4, k0_pay3, DN, ER, VR]
  simp only [facs, twice, hx, hw, ht, hm]

/-- A block's rows' gradient is the whole array's at the block's rows. -/
theorem point (hx : ∀ a b, xb (ix2 a b) = X (ix2 (r a) b)) (ht : ∀ a b, tb (ix2 a b) = T (ix2 (r a) b))
    (hm : ∀ a, mb (ix2 a 0) = M (ix2 (r a) 0)) (hw : ∀ b, wb (ix2 0 b) = W (ix2 0 b)) (a : Fin 128) (b : Fin 2048) :
    k0_pay11 (F := Ideal) xb mb wb (k0_pay4 (F := Ideal) xb) (k0_pay5 (F := Ideal) xb) (k0_pay7 (F := Ideal) xb tb mb wb) (k0_pay9 (F := Ideal)) (ix2 a b)
      = REFH X T M W (ix2 (r a) b) := by
  have hc := cot xb tb mb wb X T M W r hx ht hm hw
  generalize k0_pay7 (F := Ideal) xb tb mb wb = p at hc ⊢
  unfold REFH CC
  generalize DN X T M W = d at hc ⊢
  pointwise [k0_pay11, k0_pay5, k0_pay4, k0_pay3, VR]
  simp only [hx, hw, hc]

theorem point' (hx : ∀ a b, xb (ix2 a b) = X (ix2 (r a) b)) (ht : ∀ a b, tb (ix2 a b) = T (ix2 (r a) b))
    (hm : ∀ a, mb (ix2 a 0) = M (ix2 (r a) 0)) (hw : ∀ b, wb (ix2 0 b) = W (ix2 0 b)) (a : Fin 128) (b : Fin 2048) :
    k0_pay13 (F := Ideal) xb mb wb (k0_pay4 (F := Ideal) xb) (k0_pay5 (F := Ideal) xb) (k0_pay7 (F := Ideal) xb tb mb wb) (k0_pay9 (F := Ideal)) (ix2 a b)
      = truncf .bf16 (REFH X T M W) Cert.Reference33Ideal.Gen.bitsLt_bf16_f32 (ix2 (r a) b) :=
  point xb tb mb wb X T M W r hx ht hm hw a b

/-- A row's share of the scale's gradient. -/
def gp (X T : FVec Ideal S4352x2048 .f32) (M : FVec Ideal S4352x1 .f32) (W : FVec Ideal S1x2048 .f32) (b : Fin 2048) (k : Fin 4352) : EReal :=
  X (ix2 k b) * Ideal.rsqrt (Ideal.div (∑ l : Fin 2048, (X (ix2 k l) * X (ix2 k l) : EReal)) (Ideal.ofBits .f32 0x45000000#32) + Ideal.ofBits .f32 0x358637BD#32) * DN X T M W (ix2 k b)

/-- A block's share of the scale's gradient. -/
theorem part (hx : ∀ a b, xb (ix2 a b) = X (ix2 (r a) b)) (ht : ∀ a b, tb (ix2 a b) = T (ix2 (r a) b))
    (hm : ∀ a, mb (ix2 a 0) = M (ix2 (r a) 0)) (hw : ∀ b, wb (ix2 0 b) = W (ix2 0 b)) (v : FVec Ideal S1x2048 .f32) (j : S1x2048.Idx) :
    k0_pay15 (F := Ideal) mb (k0_pay6 (F := Ideal) xb) (k0_pay7 (F := Ideal) xb tb mb wb) (k0_pay9 (F := Ideal)) v j
      = (v j + ∑ k : Fin 128, gp X T M W (j 1) (r k) : EReal) := by
  have hc := cot xb tb mb wb X T M W r hx ht hm hw
  generalize k0_pay7 (F := Ideal) xb tb mb wb = p at hc ⊢
  unfold gp
  generalize DN X T M W = d at hc ⊢
  pointwise [k0_pay15, k0_pay6, k0_pay4, k0_pay3]
  refine congrArg (fun z : EReal => v j + z) (Finset.sum_congr rfl fun k _ => ?_)
  rw [hx k (j 1), hc k (j 1)]
  simp only [hx]

/-- The reference's scale gradient: one sum over all rows. -/
theorem hrefg (j : S1x2048.Idx) : REFG X T M W j = ∑ k : Fin 4352, gp X T M W (j 1) k := by
  unfold REFG gp
  generalize DN X T M W = d
  pointwise [VR]

/-- A row's share of the loss. -/
def lp (X T : FVec Ideal S4352x2048 .f32) (M : FVec Ideal S4352x1 .f32) (W : FVec Ideal S1x2048 .f32) (k : Fin 4352) : EReal :=
  (∑ l : Fin 2048, (ER X T M W (ix2 k l) * ER X T M W (ix2 k l) : EReal)) * fac

/-- A block's error. -/
theorem err (hx : ∀ a b, xb (ix2 a b) = X (ix2 (r a) b)) (ht : ∀ a b, tb (ix2 a b) = T (ix2 (r a) b))
    (hm : ∀ a, mb (ix2 a 0) = M (ix2 (r a) 0)) (hw : ∀ b, wb (ix2 0 b) = W (ix2 0 b)) (a : Fin 128) (b : Fin 2048) :
    k0_pay7 (F := Ideal) xb tb mb wb (ix2 a b) = ER X T M W (ix2 (r a) b) := by
  pointwise [k0_pay7, k0_pay6, k0_pay4, k0_pay3, ER, VR]
  simp only [hx, hw, ht, hm]

/-- A block's share of the loss. -/
theorem lpart (hx : ∀ a b, xb (ix2 a b) = X (ix2 (r a) b)) (ht : ∀ a b, tb (ix2 a b) = T (ix2 (r a) b))
    (hm : ∀ a, mb (ix2 a 0) = M (ix2 (r a) 0)) (hw : ∀ b, wb (ix2 0 b) = W (ix2 0 b)) (v : FVec Ideal S1x128 .f32) (j : S1x128.Idx) :
    k0_pay2 (F := Ideal) (k0_pay12 (F := Ideal) (k0_pay8 (F := Ideal) xb tb mb wb)) v j = (v j + ∑ k : Fin 128, lp X T M W (r k) : EReal) := by
  have he := err xb tb mb wb X T M W r hx ht hm hw
  unfold lp
  rw [← fac_sum]
  unfold k0_pay8
  generalize k0_pay7 (F := Ideal) xb tb mb wb = p at he ⊢
  generalize ER X T M W = e at he ⊢
  pointwise [k0_pay2, k0_pay12]
  simp only [he]

/-- The reference's loss: one sum over all rows. -/
theorem hrefl (j : S1x128.Idx) : REFL X T M W j = ∑ k : Fin 4352, lp X T M W k := by
  unfold REFL lp
  generalize ER X T M W = e
  simp only [← mean]
  rw [← Half.half_sum]
  pointwise []

/-- The blocks' sums are the whole array's. -/
theorem sum_blocks (t : Fin cfg0.N) (ht : t.val % 34 = 34 - 1) (f : Fin 4352 → EReal) :
    (∑ s : Fin 34, ∑ k : Fin 128, f (row ⟨34 * (t.val / 34) + s.val, Pipeline.run_point_lt_of_flush t ht s⟩ k)) = ∑ k : Fin 4352, f k := by
  refine Fin.sum_mul_add_congr fun s k hl => ?_
  have ht' := lt_of_lt_of_eq t.isLt N_0
  have er : row ⟨34 * (t.val / 34) + s.val, Pipeline.run_point_lt_of_flush t ht s⟩ k = ⟨s.val * 128 + k.val, hl⟩ :=
    Fin.ext (by show (34 * (t.val / 34) + s.val) * 128 + k.val = s.val * 128 + k.val; omega)
  rw [er]

end Body

variable {m} {c : Dev nD}

theorem blk0 (t : Fin cfg0.N) (a : Fin 128) (b : Fin 2048) : iblk m c 0 t (ix2 a b) = m ((c : Thread nD τ).loc main_arg0) (ix2 (row t a) b) := by
  unfold row
  blk_point [iblk, V, idx t]

theorem blk1 (t : Fin cfg0.N) (a : Fin 128) (b : Fin 2048) : iblk m c 1 t (ix2 a b) = m ((c : Thread nD τ).loc main_arg1) (ix2 (row t a) b) := by
  unfold row
  blk_point [iblk, V, idx t]

theorem blk2 (t : Fin cfg0.N) (a : Fin 128) : iblk m c 2 t (ix2 a 0) = m ((c : Thread nD τ).loc main_arg2) (ix2 (row t a) 0) := by
  unfold row
  blk_point [iblk, V, idx t]

theorem blk3 (t : Fin cfg0.N) (b : Fin 2048) : iblk m c 3 t (ix2 0 b) = m ((c : Thread nD τ).loc main_arg3) (ix2 0 b) := by
  blk_point [iblk, V, idx t]

variable (m) (c)

/-- The rows' gradient in f32. -/
theorem final4 : (dats m 0 c).arrAt 4 (cfgs 0).N = REFH (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf z => ?_
  blk_simp
  have ez : ((View.whole main_v0_0).slice (win0_4.rect t)).emb z = ix2 (row t (z 0)) (z 1) := by
    unfold row
    blk_ext [idx t]
  rw [after0_4, ez]
  by_cases h0 : t.val % 34 = 0
  · rw [outsAt0_A m c t h0 h0]
    frame_out
    exact (congrArg _ (ix2_eta z).symm).trans (point _ _ _ _ _ _ _ _ (row t) (blk0 t) (blk1 t) (blk2 t) (blk3 t) (z 0) (z 1))
  · rw [outsAt0_B m c t h0 h0]
    frame_out
    exact (congrArg _ (ix2_eta z).symm).trans (point _ _ _ _ _ _ _ _ (row t) (blk0 t) (blk1 t) (blk2 t) (blk3 t) (z 0) (z 1))

/-- The rows' gradient, rounded. -/
theorem final5 : (dats m 0 c).arrAt 5 (cfgs 0).N = truncf .bf16 (REFH (m ((c : Thread nD τ).loc main_arg0)) (m ((c : Thread nD τ).loc main_arg1))
    (m ((c : Thread nD τ).loc main_arg2)) (m ((c : Thread nD τ).loc main_arg3))) Cert.Reference33Ideal.Gen.bitsLt_bf16_f32 := by
  refine (dats m 0 c).arrAt_eq_of_covers 5 _ (by decide +kernel) fun t hf z => ?_
  blk_simp
  have ez : ((View.whole main_v0_1).slice (win0_5.rect t)).emb z = ix2 (row t (z 0)) (z 1) := by
    unfold row
    blk_ext [idx t]
  rw [after0_5, ez]
  by_cases h0 : t.val % 34 = 0
  · rw [outsAt0_A m c t h0 h0]
    frame_out
    exact (congrArg _ (ix2_eta z).symm).trans (point' _ _ _ _ _ _ _ _ (row t) (blk0 t) (blk1 t) (blk2 t) (blk3 t) (z 0) (z 1))
  · rw [outsAt0_B m c t h0 h0]
    frame_out
    exact (congrArg _ (ix2_eta z).symm).trans (point' _ _ _ _ _ _ _ _ (row t) (blk0 t) (blk1 t) (blk2 t) (blk3 t) (z 0) (z 1))

/-- The scale's gradient. -/
theorem final6 : (dats m 0 c).arrAt 6 (cfgs 0).N = REFG (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf z => ?_
  blk_simp
  have hzero : ∀ j, k0_pay14 (F := Ideal) j = 0 := by
    intro j
    pointwise [k0_pay14]
  have ht := (flush0_6 t).mp hf
  have ez : ((View.whole main_v0_2).slice (win0_6.rect t)).emb z = ix2 0 (z 1) := by
    blk_ext [idx t]
  rw [ez, after0_6, Pipeline.eq_sum_fin_of_reset_step_apply_of_flush (fun n h => (outsAt0 m c n h).2.2.1) 34
    (fun _ => 0) (fun t j => ∑ k : Fin 128, gp (m ((c : Thread nD τ).loc main_arg0)) (m ((c : Thread nD τ).loc main_arg1)) (m ((c : Thread nD τ).loc main_arg2)) (m ((c : Thread nD τ).loc main_arg3)) (j 1) (row t k))
    (fun t h j => by rw [outsAt0_A m c t h h]; frame_out; refine (part _ _ _ _ (m ((c : Thread nD τ).loc main_arg0)) (m ((c : Thread nD τ).loc main_arg1)) (m ((c : Thread nD τ).loc main_arg2)) (m ((c : Thread nD τ).loc main_arg3)) (row t) (blk0 _) (blk1 _) (blk2 _) (blk3 _) _ _).trans ?_; rw [hzero])
    (fun t h j => by rw [outsAt0_B m c t h h]; frame_out; exact part _ _ _ _ (m ((c : Thread nD τ).loc main_arg0)) (m ((c : Thread nD τ).loc main_arg1)) (m ((c : Thread nD τ).loc main_arg2)) (m ((c : Thread nD τ).loc main_arg3)) (row t) (blk0 _) (blk1 _) (blk2 _) (blk3 _) _ _) t ht _, zero_add]
  exact (sum_blocks t ht (gp (m ((c : Thread nD τ).loc main_arg0)) (m ((c : Thread nD τ).loc main_arg1)) (m ((c : Thread nD τ).loc main_arg2)) (m ((c : Thread nD τ).loc main_arg3)) (z 1))).trans (hrefg (m ((c : Thread nD τ).loc main_arg0)) (m ((c : Thread nD τ).loc main_arg1)) (m ((c : Thread nD τ).loc main_arg2)) (m ((c : Thread nD τ).loc main_arg3)) (ix2 0 (z 1))).symm

/-- The loss. -/
theorem final7 : (dats m 0 c).arrAt 7 (cfgs 0).N = REFL (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf z => ?_
  blk_simp
  have hzero : ∀ j, k0_pay1 (F := Ideal) j = 0 := by
    intro j
    pointwise [k0_pay1]
  have ht := (flush0_7 t).mp hf
  have ez : ((View.whole main_v0_3).slice (win0_7.rect t)).emb z = ix2 0 (z 1) := by
    blk_ext [idx t]
  rw [ez, after0_7, Pipeline.eq_sum_fin_of_reset_step_apply_of_flush (fun n h => (outsAt0 m c n h).2.2.2) 34
    (fun _ => 0) (fun t _ => ∑ k : Fin 128, lp (m ((c : Thread nD τ).loc main_arg0)) (m ((c : Thread nD τ).loc main_arg1)) (m ((c : Thread nD τ).loc main_arg2)) (m ((c : Thread nD τ).loc main_arg3)) (row t k))
    (fun t h j => by rw [outsAt0_A m c t h h]; frame_out; refine (lpart _ _ _ _ (m ((c : Thread nD τ).loc main_arg0)) (m ((c : Thread nD τ).loc main_arg1)) (m ((c : Thread nD τ).loc main_arg2)) (m ((c : Thread nD τ).loc main_arg3)) (row t) (blk0 _) (blk1 _) (blk2 _) (blk3 _) _ _).trans ?_; rw [hzero])
    (fun t h j => by rw [outsAt0_B m c t h h]; frame_out; exact lpart _ _ _ _ (m ((c : Thread nD τ).loc main_arg0)) (m ((c : Thread nD τ).loc main_arg1)) (m ((c : Thread nD τ).loc main_arg2)) (m ((c : Thread nD τ).loc main_arg3)) (row t) (blk0 _) (blk1 _) (blk2 _) (blk3 _) _ _) t ht _, zero_add]
  exact (sum_blocks t ht (lp (m ((c : Thread nD τ).loc main_arg0)) (m ((c : Thread nD τ).loc main_arg1)) (m ((c : Thread nD τ).loc main_arg2)) (m ((c : Thread nD τ).loc main_arg3)))).trans (hrefl (m ((c : Thread nD τ).loc main_arg0)) (m ((c : Thread nD τ).loc main_arg1)) (m ((c : Thread nD τ).loc main_arg2)) (m ((c : Thread nD τ).loc main_arg3)) (ix2 0 (z 1))).symm

end Cert.K33Val

end
-- ==== Proof.K29Val.lean ====
/- The norm of each row, rounded, at every array of extended reals. -/
module

public import proofs.«01_k».proof.Proof.Gen.Kernel29Ideal.Frame
public import proofs.«01_k».proof.Proof.Gen.Reference29Ideal.Run
public import Idealize.ShloMosaic.Lib.Pipeline.ValueKit
public import Idealize.ShloMosaic.Lib.Pipeline.ReadBack

@[expose] public section

set_option maxRecDepth 16384

noncomputable section

namespace Cert.K29Val

open Idealize.ShloMosaic Idealize.ShloMosaic.TcCoe Idealize.SL.Sem
open Idealize.ShloMosaic.Pipeline (Dat)
open Cert.Kernel29Ideal Cert.Kernel29Ideal.Gen

variable (m : (ℓ : Loc nD τ sig) → Buf (Elt Ideal) ℓ)

/-- The reference's result, as a term over its arguments. -/
abbrev REF (X : FVec Ideal S4352x2048 .f32) (W : FVec Ideal S1x2048 .f32) : FVec Ideal S4352x2048 .bf16 :=
  truncf .bf16 (mulf (mulf X (broadcastInDim Cert.Reference29Ideal.S4352x2048 ![0, 1] Cert.Reference29Ideal.Gen.bcast_S4352x1_S4352x2048_0_1 (Host.rsqrt (addf (Host.divf (broadcastInDim Cert.Reference29Ideal.S4352x1 ![0] Cert.Reference29Ideal.Gen.bcast_S4352_S4352x1_0
    (Host.reduceAdd (mulf X X) (constant Cert.Reference29Ideal.S_ .f32 0x00000000#32) Cert.Reference29Ideal.Gen.reducesTo_S4352x2048_S4352_d1 Cert.Reference29Ideal.Gen.h_S_)) (broadcastInDim Cert.Reference29Ideal.S4352x1 ![] Cert.Reference29Ideal.Gen.bcast_S_S4352x1 (constant Cert.Reference29Ideal.S_ .f32 0x45000000#32)))
    (broadcastInDim Cert.Reference29Ideal.S4352x1 ![] Cert.Reference29Ideal.Gen.bcast_S_S4352x1 (constant Cert.Reference29Ideal.S_ .f32 0x358637BD#32)))))) (broadcastInDim Cert.Reference29Ideal.S4352x2048 ![0, 1] Cert.Reference29Ideal.Gen.bcast_S1x2048_S4352x2048_0_1 W)) Cert.Reference29Ideal.Gen.bitsLt_bf16_f32

/-- The windows' block indices at a grid point. -/
theorem idx : ∀ t : Fin cfg0.N, win0_0.index t = ![t.val, 0] ∧ win0_1.index t = ![0, 0] ∧ win0_2.index t = ![t.val, 0] :=
  (by decide +kernel : ∀ t : Fin grid0.N, _)

/-- Row `a` of the block of a grid point. -/
def row (t : Fin cfg0.N) (a : Fin 256) : Fin 4352 := ⟨t.val * 256 + a.val, by have := lt_of_lt_of_eq t.isLt N_0; omega⟩

/-- A block's normed rows are the whole array's at the block's rows. -/
theorem point (xb : FVec Ideal S256x2048 .f32) (wb : FVec Ideal S1x2048 .f32) (X : FVec Ideal S4352x2048 .f32) (W : FVec Ideal S1x2048 .f32) (r : Fin 256 → Fin 4352)
    (hx : ∀ a b, xb (ix2 a b) = X (ix2 (r a) b)) (hw : ∀ b, wb (ix2 0 b) = W (ix2 0 b)) (a : Fin 256) (b : Fin 2048) :
    k0_pay1 (F := Ideal) xb wb (ix2 a b) = REF X W (ix2 (r a) b) := by
  pointwise [k0_pay1, REF]
  simp only [hx, hw]

variable {m} {c : Dev nD}

theorem blk0 (t : Fin cfg0.N) (a : Fin 256) (b : Fin 2048) : iblk m c 0 t (ix2 a b) = m ((c : Thread nD τ).loc main_arg0) (ix2 (row t a) b) := by
  unfold row
  blk_point [iblk, V, idx t]

theorem blk1 (t : Fin cfg0.N) (b : Fin 2048) : iblk m c 1 t (ix2 0 b) = m ((c : Thread nD τ).loc main_arg1) (ix2 0 b) := by
  blk_point [iblk, V, idx t]

variable (m) (c) in
/-- The result array after the grid is the reference's term. -/
theorem final : (dats m 0 c).arrAt 2 (cfgs 0).N = REF (m ((c : Thread nD τ).loc main_arg0)) (m ((c : Thread nD τ).loc main_arg1)) := by
  refine (dats m 0 c).arrAt_eq_of_covers 2 _ (by decide +kernel) fun t hf z => ?_
  blk_simp
  have ez : ((View.whole main_v0).slice (win0_2.rect t)).emb z = ix2 (row t (z 0)) (z 1) := by
    unfold row
    blk_ext [idx t]
  rw [after0_2, ez]
  unfold out0_2
  frame_out
  exact (congrArg _ (ix2_eta z).symm).trans (point _ _ _ _ (row t) (blk0 t) (blk1 t) (z 0) (z 1))

end Cert.K29Val

end
-- ==== Proof.K31Val.lean ====
/- The norms of the two latents, each rounded, at every array of extended reals. -/
module

public import proofs.«01_k».proof.Proof.Gen.Kernel31Ideal.Frame
public import proofs.«01_k».proof.Proof.Gen.Reference31Ideal.Run
public import Idealize.ShloMosaic.Lib.Pipeline.ValueKit
public import Idealize.ShloMosaic.Lib.Pipeline.ReadBack

@[expose] public section

set_option maxRecDepth 16384

noncomputable section

namespace Cert.K31Val

open Idealize.ShloMosaic Idealize.ShloMosaic.TcCoe Idealize.SL.Sem
open Idealize.ShloMosaic.Pipeline (Dat)
open Cert.Kernel31Ideal Cert.Kernel31Ideal.Gen

variable (m : (ℓ : Loc nD τ sig) → Buf (Elt Ideal) ℓ)

/-- The reference's norm of an array's rows times a scale, rounded. -/
abbrev NRM (X : FVec Ideal Cert.Reference31Ideal.S4352x512 .f32) (W : FVec Ideal S1x512 .f32) : FVec Ideal Cert.Reference31Ideal.S4352x512 .bf16 :=
  truncf .bf16 (mulf (mulf X (broadcastInDim Cert.Reference31Ideal.S4352x512 ![0, 1] Cert.Reference31Ideal.Gen.bcast_S4352x1_S4352x512_0_1 (Host.rsqrt (addf (Host.divf (broadcastInDim Cert.Reference31Ideal.S4352x1 ![0] Cert.Reference31Ideal.Gen.bcast_S4352_S4352x1_0
    (Host.reduceAdd (mulf X X) (constant Cert.Reference31Ideal.S_ .f32 0x00000000#32) Cert.Reference31Ideal.Gen.reducesTo_S4352x512_S4352_d1 Cert.Reference31Ideal.Gen.h_S_)) (broadcastInDim Cert.Reference31Ideal.S4352x1 ![] Cert.Reference31Ideal.Gen.bcast_S_S4352x1 (constant Cert.Reference31Ideal.S_ .f32 0x44000000#32)))
    (broadcastInDim Cert.Reference31Ideal.S4352x1 ![] Cert.Reference31Ideal.Gen.bcast_S_S4352x1 (constant Cert.Reference31Ideal.S_ .f32 0x358637BD#32)))))) (broadcastInDim Cert.Reference31Ideal.S4352x512 ![0, 1] Cert.Reference31Ideal.Gen.bcast_S1x512_S4352x512_0_1 W)) Cert.Reference31Ideal.Gen.bitsLt_bf16_f32

/-- The reference's first result: the norm of the first 512 columns. -/
abbrev REFQ (P : FVec Ideal S4352x1152 .f32) (W : FVec Ideal S1x512 .f32) : FVec Ideal Cert.Reference31Ideal.S4352x512 .bf16 :=
  NRM (extractStridedSlice Cert.Reference31Ideal.S4352x512 ![0, 0] P Cert.Reference31Ideal.Gen.slices_S4352x1152_S4352x512_0_0) W

/-- The reference's second result: the norm of the next 512 columns. -/
abbrev REFK (P : FVec Ideal S4352x1152 .f32) (W : FVec Ideal S1x512 .f32) : FVec Ideal Cert.Reference31Ideal.S4352x512 .bf16 :=
  NRM (extractStridedSlice Cert.Reference31Ideal.S4352x512 ![0, 512] P Cert.Reference31Ideal.Gen.slices_S4352x1152_S4352x512_0_512) W

/-- The windows' block indices at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Row `a` of the block of a grid point. -/
def row (t : Fin cfg0.N) (a : Fin 256) : Fin 4352 := ⟨t.val * 256 + a.val, by have := lt_of_lt_of_eq t.isLt N_0; omega⟩

section Body

variable (pb : FVec Ideal S256x1152 .f32) (wb : FVec Ideal S1x512 .f32) (P : FVec Ideal S4352x1152 .f32) (W : FVec Ideal S1x512 .f32) (r : Fin 256 → Fin 4352)

/-- A block's first normed columns are the whole array's at the block's rows. -/
theorem pointq (hp : ∀ a b, pb (ix2 a b) = P (ix2 (r a) b)) (hw : ∀ b, wb (ix2 0 b) = W (ix2 0 b)) (a : Fin 256) (b : Fin 512) :
    k0_pay1 (F := Ideal) pb wb (ix2 a b) = REFQ P W (ix2 (r a) b) := by
  pointwise [k0_pay1, REFQ, NRM]
  simp only [hp, hw]

/-- A block's second normed columns are the whole array's at the block's rows. -/
theorem pointk (hp : ∀ a b, pb (ix2 a b) = P (ix2 (r a) b)) (hw : ∀ b, wb (ix2 0 b) = W (ix2 0 b)) (a : Fin 256) (b : Fin 512) :
    k0_pay2 (F := Ideal) pb wb (ix2 a b) = REFK P W (ix2 (r a) b) := by
  pointwise [k0_pay2, REFK, NRM]
  simp only [hp, hw]

end Body

variable {m} {c : Dev nD}

theorem blk0 (t : Fin cfg0.N) (a : Fin 256) (b : Fin 1152) : iblk m c 0 t (ix2 a b) = m ((c : Thread nD τ).loc main_arg0) (ix2 (row t a) b) := by
  unfold row
  blk_point [iblk, V, idx t]

theorem blk1 (t : Fin cfg0.N) (b : Fin 512) : iblk m c 1 t (ix2 0 b) = m ((c : Thread nD τ).loc main_arg1) (ix2 0 b) := by
  blk_point [iblk, V, idx t]

theorem blk2 (t : Fin cfg0.N) (b : Fin 512) : iblk m c 2 t (ix2 0 b) = m ((c : Thread nD τ).loc main_arg2) (ix2 0 b) := by
  blk_point [iblk, V, idx t]

variable (m) (c)

/-- The first result array after the grid is the reference's term. -/
theorem final3 : (dats m 0 c).arrAt 3 (cfgs 0).N = REFQ (m ((c : Thread nD τ).loc main_arg0)) (m ((c : Thread nD τ).loc main_arg1)) := by
  refine (dats m 0 c).arrAt_eq_of_covers 3 _ (by decide +kernel) fun t hf z => ?_
  blk_simp
  have ez : ((View.whole main_v0_0).slice (win0_3.rect t)).emb z = ix2 (row t (z 0)) (z 1) := by
    unfold row
    blk_ext [idx t]
  rw [after0_3, ez]
  unfold out0_3
  frame_out
  exact (congrArg _ (ix2_eta z).symm).trans (pointq _ _ _ _ (row t) (blk0 t) (blk1 t) (z 0) (z 1))

/-- The second result array after the grid is the reference's term. -/
theorem final4 : (dats m 0 c).arrAt 4 (cfgs 0).N = REFK (m ((c : Thread nD τ).loc main_arg0)) (m ((c : Thread nD τ).loc main_arg2)) := by
  refine (dats m 0 c).arrAt_eq_of_covers 4 _ (by decide +kernel) fun t hf z => ?_
  blk_simp
  have ez : ((View.whole main_v0_1).slice (win0_4.rect t)).emb z = ix2 (row t (z 0)) (z 1) := by
    unfold row
    blk_ext [idx t]
  rw [after0_4, ez]
  unfold out0_4
  frame_out
  exact (congrArg _ (ix2_eta z).symm).trans (pointk _ _ _ _ (row t) (blk0 t) (blk2 t) (z 0) (z 1))

end Cert.K31Val

end
-- ==== Proof.Norms.lean ====
/- The row norms' calls: each runs to its end and leaves its arguments, and ends with the reference's results, at every array
   of extended reals. -/
module

public import proofs.«01_k».proof.Defs
public import proofs.«01_k».proof.Proof.K13Val
public import proofs.«01_k».proof.Proof.K32Val
public import proofs.«01_k».proof.Proof.K33Val
public import proofs.«01_k».proof.Proof.K29Val
public import proofs.«01_k».proof.Proof.K31Val
public import proofs.«01_k».proof.Proof.Finite
public import Idealize.ShloMosaic.Adequacy
public import Idealize.ShloMosaic.Init

@[expose] public section

set_option maxRecDepth 16384

noncomputable section

namespace Cert.Norms

open Idealize.ShloMosaic Idealize.ShloMosaic.TcCoe Idealize.SL.Sem
open Cert.Reals

/-- The reference's run leaves its arguments, and every counter at zero. -/
theorem frame13 : quiescent_Reference13Ideal := fun m ρ _ => (θ_run Cert.Reference13Ideal.defs _ _).mono
  (fun r h => And.intro (fun c => (h c).2.2.2) (sem_eq_zero_of_no_sems (by decide) r.2))
  (Cert.Reference13Ideal.Value.run (F := Ideal) m ρ)

/-- The kernel and the reference end with equal results. -/
theorem algebraic13 : algebraic_Kernel13Ideal_Reference13Ideal := by
  intro m g m' g' hpre hagree
  refine ⟨fun c => (Cert.Kernel13Ideal.Gen.dats m 0 c).arrAt 4 (Cert.Kernel13Ideal.cfgs 0).N, fun c => (Cert.Kernel13Ideal.Gen.dats m 0 c).arrAt 5 (Cert.Kernel13Ideal.cfgs 0).N, fun c => (Cert.Kernel13Ideal.Gen.dats m 0 c).arrAt 6 (Cert.Kernel13Ideal.cfgs 0).N, ?_, ?_⟩
  · exact θ_run_mono (θ_run_and (Cert.Kernel13Ideal.Gen.run_main m g) (Cert.Kernel13Ideal.Gen.unchanged m g)) fun r h c =>
      ⟨(h.1 c).1 4, (h.1 c).1 5, (h.1 c).1 6, h.2 c⟩
  · refine (θ_run Cert.Reference13Ideal.defs _ _).mono (fun r hr c => ?_) (Cert.Reference13Ideal.Value.run (F := Ideal) m' g')
    obtain ⟨a0, a1, a2, a3⟩ := hagree c
    have h := hr c
    refine ⟨h.1.trans ?_, h.2.1.trans ?_, h.2.2.1.trans ?_, h.2.2.2⟩
    · refine Eq.trans ?_ (K13Val.final4 m c).symm
      simp only [a0, a1, a2, a3]
    · refine Eq.trans ?_ (K13Val.final5 m c).symm
      simp only [a0, a1, a2, a3]
    · refine Eq.trans ?_ (K13Val.final6 m c).symm
      simp only [a0, a1, a2, a3]

/-- The reference's run leaves its arguments, and every counter at zero. -/
theorem frame32 : quiescent_Reference32Ideal := fun m ρ _ => (θ_run Cert.Reference32Ideal.defs _ _).mono
  (fun r h => And.intro (fun c => (h c).2.2.2) (sem_eq_zero_of_no_sems (by decide) r.2))
  (Cert.Reference32Ideal.Value.run (F := Ideal) m ρ)

/-- The kernel and the reference end with equal results. -/
theorem algebraic32 : algebraic_Kernel32Ideal_Reference32Ideal := by
  intro m g m' g' hpre hagree
  refine ⟨fun c => (Cert.Kernel32Ideal.Gen.dats m 0 c).arrAt 6 (Cert.Kernel32Ideal.cfgs 0).N, fun c => (Cert.Kernel32Ideal.Gen.dats m 0 c).arrAt 7 (Cert.Kernel32Ideal.cfgs 0).N, fun c => (Cert.Kernel32Ideal.Gen.dats m 0 c).arrAt 8 (Cert.Kernel32Ideal.cfgs 0).N, ?_, ?_⟩
  · exact θ_run_mono (θ_run_and (Cert.Kernel32Ideal.Gen.run_main m g) (Cert.Kernel32Ideal.Gen.unchanged m g)) fun r h c =>
      ⟨(h.1 c).1 6, (h.1 c).1 7, (h.1 c).1 8, h.2 c⟩
  · refine (θ_run Cert.Reference32Ideal.defs _ _).mono (fun r hr c => ?_) (Cert.Reference32Ideal.Value.run (F := Ideal) m' g')
    obtain ⟨a0, a1, a2, a3, a4, a5⟩ := hagree c
    have h := hr c
    refine ⟨h.1.trans ?_, h.2.1.trans ?_, h.2.2.1.trans ?_, h.2.2.2⟩
    · refine Eq.trans ?_ (K32Val.final6 m c).symm
      unfold Cert.Reference32Ideal.Value.res_main_v75
      simp only [a0, a1, a2, a3, a4, a5]
    · refine Eq.trans ?_ (K32Val.final7 m c).symm
      simp only [a0, a1, a2, a3, a4, a5]
    · refine Eq.trans ?_ (K32Val.final8 m c).symm
      simp only [a0, a1, a2, a3, a4, a5]

/-- The reference's run leaves its arguments, and every counter at zero. -/
theorem frame33 : quiescent_Reference33Ideal := fun m ρ _ => (θ_run Cert.Reference33Ideal.defs _ _).mono
  (fun r h => And.intro (fun c => (h c).2.2.2.2) (sem_eq_zero_of_no_sems (by decide) r.2))
  (Cert.Reference33Ideal.Value.run (F := Ideal) m ρ)

/-- The kernel and the reference end with equal results. -/
theorem algebraic33 : algebraic_Kernel33Ideal_Reference33Ideal := by
  intro m g m' g' hpre hagree
  refine ⟨fun c => (Cert.Kernel33Ideal.Gen.dats m 0 c).arrAt 4 (Cert.Kernel33Ideal.cfgs 0).N, fun c => (Cert.Kernel33Ideal.Gen.dats m 0 c).arrAt 5 (Cert.Kernel33Ideal.cfgs 0).N, fun c => (Cert.Kernel33Ideal.Gen.dats m 0 c).arrAt 6 (Cert.Kernel33Ideal.cfgs 0).N, fun c => (Cert.Kernel33Ideal.Gen.dats m 0 c).arrAt 7 (Cert.Kernel33Ideal.cfgs 0).N, ?_, ?_⟩
  · exact θ_run_mono (θ_run_and (Cert.Kernel33Ideal.Gen.run_main m g) (Cert.Kernel33Ideal.Gen.unchanged m g)) fun r h c =>
      ⟨(h.1 c).1 4, (h.1 c).1 5, (h.1 c).1 6, (h.1 c).1 7, h.2 c⟩
  · refine (θ_run Cert.Reference33Ideal.defs _ _).mono (fun r hr c => ?_) (Cert.Reference33Ideal.Value.run (F := Ideal) m' g')
    obtain ⟨a0, a1, a2, a3⟩ := hagree c
    have h := hr c
    refine ⟨h.1.trans ?_, h.2.1.trans ?_, h.2.2.1.trans ?_, h.2.2.2.1.trans ?_, h.2.2.2.2⟩
    · refine Eq.trans ?_ (K33Val.final4 m c).symm
      unfold Cert.Reference33Ideal.Value.res_main_v52
      simp only [a0, a1, a2, a3]
    · refine Eq.trans ?_ (K33Val.final5 m c).symm
      unfold Cert.Reference33Ideal.Value.res_main_v53
      simp only [a0, a1, a2, a3]
    · refine Eq.trans ?_ (K33Val.final6 m c).symm
      simp only [a0, a1, a2, a3]
    · refine Eq.trans ?_ (K33Val.final7 m c).symm
      simp only [a0, a1, a2, a3]

/-- The reference's run leaves its arguments, and every counter at zero. -/
theorem frame29 : quiescent_Reference29Ideal := fun m ρ _ => (θ_run Cert.Reference29Ideal.defs _ _).mono
  (fun r h => And.intro (fun c => (h c).2) (sem_eq_zero_of_no_sems (by decide) r.2))
  (Cert.Reference29Ideal.Value.run (F := Ideal) m ρ)

/-- The kernel and the reference end with equal results. -/
theorem algebraic29 : algebraic_Kernel29Ideal_Reference29Ideal := by
  intro m g m' g' hpre hagree
  refine ⟨fun c => (Cert.Kernel29Ideal.Gen.dats m 0 c).arrAt 2 (Cert.Kernel29Ideal.cfgs 0).N, ?_, ?_⟩
  · exact θ_run_mono (θ_run_and (Cert.Kernel29Ideal.Gen.run_main m g) (Cert.Kernel29Ideal.Gen.unchanged m g)) fun r h c =>
      ⟨(h.1 c).1 2, h.2 c⟩
  · refine (θ_run Cert.Reference29Ideal.defs _ _).mono (fun r hr c => ?_) (Cert.Reference29Ideal.Value.run (F := Ideal) m' g')
    obtain ⟨a0, a1⟩ := hagree c
    have h := hr c
    refine ⟨h.1.trans ?_, h.2⟩
    · refine Eq.trans ?_ (K29Val.final m c).symm
      simp only [a0, a1]

/-- The reference's run leaves its arguments, and every counter at zero. -/
theorem frame31 : quiescent_Reference31Ideal := fun m ρ _ => (θ_run Cert.Reference31Ideal.defs _ _).mono
  (fun r h => And.intro (fun c => (h c).2.2) (sem_eq_zero_of_no_sems (by decide) r.2))
  (Cert.Reference31Ideal.Value.run (F := Ideal) m ρ)

/-- The kernel and the reference end with equal results. -/
theorem algebraic31 : algebraic_Kernel31Ideal_Reference31Ideal := by
  intro m g m' g' hpre hagree
  refine ⟨fun c => (Cert.Kernel31Ideal.Gen.dats m 0 c).arrAt 3 (Cert.Kernel31Ideal.cfgs 0).N, fun c => (Cert.Kernel31Ideal.Gen.dats m 0 c).arrAt 4 (Cert.Kernel31Ideal.cfgs 0).N, ?_, ?_⟩
  · exact θ_run_mono (θ_run_and (Cert.Kernel31Ideal.Gen.run_main m g) (Cert.Kernel31Ideal.Gen.unchanged m g)) fun r h c =>
      ⟨(h.1 c).1 3, (h.1 c).1 4, h.2 c⟩
  · refine (θ_run Cert.Reference31Ideal.defs _ _).mono (fun r hr c => ?_) (Cert.Reference31Ideal.Value.run (F := Ideal) m' g')
    obtain ⟨a0, a1, a2⟩ := hagree c
    have h := hr c
    refine ⟨h.1.trans ?_, h.2.1.trans ?_, h.2.2⟩
    · refine Eq.trans ?_ (K31Val.final3 m c).symm
      simp only [a0, a1, a2]
    · refine Eq.trans ?_ (K31Val.final4 m c).symm
      simp only [a0, a1, a2]

end Cert.Norms

end
-- ==== Proof.Lead.lean ====
/- A sum over the two leading axes of a rank 3 array: the sum over both coordinates, the last one kept. -/
module

public import Idealize.ShloMosaic.Lib.Pointwise.Reduce
public import Idealize.ShloMosaic.Lib.Pipeline.ValueKit
public import Idealize.ShloMosaic.Lib.WordCmp

@[expose] public section

namespace Cert.Lead

open Idealize.ShloMosaic

/-- The host's sum over the axes `[0, 1]` of a rank 3 array, ideally. -/
theorem hostReduceAdd_lead {a b c : Nat} (h : (⟨3, ![a, b, c]⟩ : Shape).ReducesTo [0, 1] ⟨1, ![c]⟩) (v : (⟨3, ![a, b, c]⟩ : Shape).Idx → EReal)
    (init : EReal) (k : Fin c) : Ideal.hostReduceAdd h v init (ix1 k) = init + ∑ i : Fin a, ∑ j : Fin b, v (ix3 i j k) := by
  refine congrArg (init + ·) ((Finset.sum_filter_eq_sum_of_fiber _ (fun q : Fin a × Fin b => ix3 q.1 q.2 k)
    (fun _ _ e => Prod.ext (congrFun e 0) (congrFun e 1)) (fun i => ?_) v).trans ?_)
  · constructor
    · intro e
      refine ⟨(i 0, i 1), ?_⟩
      funext l; apply Fin.ext
      match l with
      | ⟨0, _⟩ => rfl
      | ⟨1, _⟩ => rfl
      | ⟨2, _⟩ => exact (congrArg Fin.val (congrFun e 0)).symm
    · rintro ⟨q, rfl⟩
      funext l
      apply Fin.ext
      match l with
      | ⟨0, _⟩ => rfl
  · simp only [Fintype.sum_prod_type]

open Idealize.ShloMosaic.WordCmp in
theorem sel_last (i : Fin 2176) (x y : EReal) : Scalar.select (IntOp.cmpi CmpIPredicate.eq (BitVec.ofNat 32 i.val) 2175#32) x y = if i.val + 1 < 2176 then y else x := by
  have := i.isLt
  rw [cmpi_eq_eq_toNat, select_ofBool]
  have e : (BitVec.ofNat 32 i.val).toNat = i.val := by rw [BitVec.toNat_ofNat]; exact Nat.mod_eq_of_lt (by omega)
  by_cases h : i.val + 1 < 2176
  · rw [if_pos h, if_neg]; simp only [e, decide_eq_true_eq]; show ¬ i.val = 2175; omega
  · rw [if_neg h, if_pos]; simp only [e, decide_eq_true_eq]; show i.val = 2175; omega

open Idealize.ShloMosaic.WordCmp in
theorem sel_first (i : Fin 2176) (x y : EReal) : Scalar.select (IntOp.cmpi CmpIPredicate.eq (BitVec.ofNat 32 i.val) 0#32) x y = if 0 < i.val then y else x := by
  have := i.isLt
  rw [cmpi_eq_eq_toNat, select_ofBool]
  have e : (BitVec.ofNat 32 i.val).toNat = i.val := by rw [BitVec.toNat_ofNat]; exact Nat.mod_eq_of_lt (by omega)
  by_cases h : 0 < i.val
  · rw [if_pos h, if_neg]; simp only [e, decide_eq_true_eq]; show ¬ i.val = 0; omega
  · rw [if_neg h, if_pos]; simp only [e, decide_eq_true_eq]; show i.val = 0; omega

theorem at_row {n : Nat} (f : FVec Ideal (⟨2, ![n, 256]⟩ : Shape) .f32) (a b : Fin n) (c : Fin 256) (h : a.val = b.val) : f (ix2 a c) = f (ix2 b c) := by
  rw [Fin.ext h]

theorem at_row' {n : Nat} (f : FVec Ideal (⟨2, ![n, 2048]⟩ : Shape) .f32) (a b : Fin n) (c : Fin 2048) (h : a.val = b.val) : f (ix2 a c) = f (ix2 b c) := by
  rw [Fin.ext h]

theorem at_row512 {n : Nat} (f : FVec Ideal (⟨2, ![n, 512]⟩ : Shape) .f32) (a b : Fin n) (c : Fin 512) (h : a.val = b.val) : f (ix2 a c) = f (ix2 b c) := by
  rw [Fin.ext h]

end Cert.Lead
-- ==== Proof.K14Val.lean ====
/- The gradient of the mix of each row with the row before it: the rows' gradient block by block, and the mixing weights' gradient
   summed over the two batches. The cotangent is a sum of two arrays. -/
module

public import proofs.«01_k».proof.Proof.Gen.Kernel14Ideal.Frame
public import proofs.«01_k».proof.Proof.Gen.Reference14Ideal.Run
public import proofs.«01_k».proof.Proof.Lead
public import Idealize.ShloMosaic.Lib.Pipeline.ValueKit
public import Idealize.ShloMosaic.Lib.Pipeline.ReadBack

@[expose] public section

set_option maxRecDepth 16384

noncomputable section

namespace Cert.K14Val

open Idealize.ShloMosaic Idealize.ShloMosaic.TcCoe Idealize.SL.Sem
open Idealize.ShloMosaic.Pipeline (Dat)
open Cert.Kernel14Ideal Cert.Kernel14Ideal.Gen

variable (m : (ℓ : Loc nD τ sig) → Buf (Elt Ideal) ℓ)

open Cert.Lead

theorem hdp (mu : FVec Ideal S1x256 .f32) (d1 d2 : FVec Ideal S2176x256 .f32) (j : S2176x256.Idx) :
    k0_pay2 (F := Ideal) mu d1 d2 j = ((addf d1 d2 j - addf d1 d2 j * mu (ix2 0 (j 1)) : EReal)
      + (if h : (j 0).val + 1 < 2176 then (addf d1 d2 (ix2 ⟨(j 0).val + 1, h⟩ (j 1)) * mu (ix2 0 (j 1)) : EReal) else 0) : EReal) := by
  pointwise [k0_pay2, k0_pay1]
  refine congrArg _ ((sel_last (j 0) _ _).trans ?_)
  have hj : (j 0).val < 2176 := (j 0).isLt
  by_cases h : (j 0).val + 1 < 2176
  · rw [if_pos h, dif_pos h]
    exact congrArg (· * _) (at_row (addf d1 d2) _ _ _ (by show ((j 0).val + 2176 - 2175) % 2176 = (j 0).val + 1; omega))
  · rw [if_neg h, dif_neg h]

theorem hdmu (p d1 d2 : FVec Ideal S2176x256 .f32) (a : FVec Ideal S1x256 .f32) (j : S1x256.Idx) :
    k0_pay4 (F := Ideal) p d1 d2 a j = (a j + ∑ k : Fin 2176, (addf d1 d2 (ix2 k (j 1)) * ((if h : 0 < k.val then p (ix2 ⟨k.val - 1, by omega⟩ (j 1)) else 0)
      - p (ix2 k (j 1)) : EReal) : EReal) : EReal) := by
  pointwise [k0_pay4, k0_pay1]
  refine congrArg _ (Finset.sum_congr rfl fun k _ => ?_)
  refine congrArg _ (congrArg (· - p (ix2 k (j 1))) ((sel_first k _ _).trans ?_))
  by_cases h : 0 < k.val
  · rw [if_pos h, dif_pos h]
    exact at_row p _ _ _ (by show (k.val + 2176 - 1) % 2176 = k.val - 1; omega)
  · rw [if_neg h, dif_neg h]

abbrev MUD (mu : FVec Ideal S1x2048 .f32) (d : FVec Ideal S4352x2048 .f32) : FVec Ideal Cert.Reference14Ideal.S2x2176x2048 .f32 :=
  mulf (broadcastInDim Cert.Reference14Ideal.S2x2176x2048 ![0, 1, 2] Cert.Reference14Ideal.Gen.bcast_S1x1x2048_S2x2176x2048_0_1_2 (broadcastInDim Cert.Reference14Ideal.S1x1x2048 ![1, 2] Cert.Reference14Ideal.Gen.bcast_S1x2048_S1x1x2048_1_2 mu)) (shapeCast _ d Cert.Reference14Ideal.Gen.shapeCasts_S4352x2048_S2x2176x2048)

abbrev REFP (mu : FVec Ideal S1x2048 .f32) (d : FVec Ideal S4352x2048 .f32) : FVec Ideal S4352x2048 .f32 :=
  shapeCast _ (addf (addf (shapeCast _ d Cert.Reference14Ideal.Gen.shapeCasts_S4352x2048_S2x2176x2048) (Host.negf (MUD mu d)))
    (pad Cert.Reference14Ideal.S2x2176x2048 ![0, 0, 0] ![0, 1, 0] ![0, 0, 0] (extractStridedSlice Cert.Reference14Ideal.S2x2175x2048 ![0, 1, 0] (MUD mu d) Cert.Reference14Ideal.Gen.slices_S2x2176x2048_S2x2175x2048_0_1_0) (constant Cert.Reference14Ideal.S_ .f32 0x00000000#32) Cert.Reference14Ideal.Gen.pads_S2x2175x2048_S2x2176x2048_000_010_000 Cert.Reference14Ideal.Gen.h_S_)) Cert.Reference14Ideal.Gen.shapeCasts_S2x2176x2048_S4352x2048

theorem row_lt (j : S4352x2048.Idx) : (j 0).val < 4352 := (j 0).isLt

theorem next_row (d : FVec Ideal (⟨2, ![4352, 2048]⟩ : Shape) .f32) (a : Fin 4352) (b : Fin 2048) (u : EReal) :
    ((if h : a.val / 2176 < 2 ∧ a.val % 2176 < 2175 then u * d (ix2 ⟨a.val / 2176 * 2176 + (1 + a.val % 2176), by omega⟩ b) else 0 : EReal) : EReal)
    = (if h : a.val % 2176 + 1 < 2176 then d (ix2 ⟨a.val + 1, by omega⟩ b) * u else 0 : EReal) := by
  have ha := a.isLt
  by_cases h : a.val % 2176 + 1 < 2176
  · rw [dif_pos h, dif_pos ⟨by omega, by omega⟩, mul_comm]
    exact congrArg (· * u) (at_row' d _ _ _ (by show a.val / 2176 * 2176 + (1 + a.val % 2176) = a.val + 1; omega))
  · rw [dif_neg h, dif_neg (by omega)]

set_option maxHeartbeats 4000000 in
theorem hrefp (mu : FVec Ideal S1x2048 .f32) (d : FVec Ideal S4352x2048 .f32) (j : S4352x2048.Idx) :
    REFP mu d j = ((d j - d j * mu (ix2 0 (j 1)) : EReal)
      + (if h : (j 0).val % 2176 + 1 < 2176 then (d (ix2 ⟨(j 0).val + 1, by have := row_lt j; omega⟩ (j 1)) * mu (ix2 0 (j 1)) : EReal) else 0) : EReal) := by
  have hj := row_lt j
  pointwise [REFP]
  rw [mul_comm (mu (ix2 0 (j 1))) (d j), ← sub_eq_add_neg]
  exact congrArg (fun z : EReal => (d j - d j * mu (ix2 0 (j 1)) : EReal) + z) (next_row d (j 0) (j 1) (mu (ix2 0 (j 1))))

abbrev REFM (p d : FVec Ideal S4352x2048 .f32) : FVec Ideal S1x2048 .f32 :=
  broadcastInDim Cert.Reference14Ideal.S1x2048 ![1] Cert.Reference14Ideal.Gen.bcast_S2048_S1x2048_1 (Host.reduceAdd (shapeCast _ (Host.reduceAdd (mulf (shapeCast _ d Cert.Reference14Ideal.Gen.shapeCasts_S4352x2048_S2x2176x2048) (subf (concatenate Cert.Reference14Ideal.S2x2176x2048 1 [⟨Cert.Reference14Ideal.S2x1x2048, (broadcastInDim Cert.Reference14Ideal.S2x1x2048 ![] Cert.Reference14Ideal.Gen.bcast_S_S2x1x2048 (constant Cert.Reference14Ideal.S_ .f32 0x00000000#32))⟩, ⟨Cert.Reference14Ideal.S2x2175x2048, (extractStridedSlice Cert.Reference14Ideal.S2x2175x2048 ![0, 0, 0] (shapeCast _ p Cert.Reference14Ideal.Gen.shapeCasts_S4352x2048_S2x2176x2048) Cert.Reference14Ideal.Gen.slices_S2x2176x2048_S2x2175x2048_0_0_0)⟩] Cert.Reference14Ideal.Gen.concatenates_S2x1x2048_S2x2175x2048_S2x2176x2048_d1) (shapeCast _ p Cert.Reference14Ideal.Gen.shapeCasts_S4352x2048_S2x2176x2048))) (constant Cert.Reference14Ideal.S_ .f32 0x00000000#32) Cert.Reference14Ideal.Gen.reducesTo_S2x2176x2048_S2048_d0_1 Cert.Reference14Ideal.Gen.h_S_) Cert.Reference14Ideal.Gen.shapeCasts_S2048_S1x1x2048) (constant Cert.Reference14Ideal.S_ .f32 0x00000000#32) Cert.Reference14Ideal.Gen.reducesTo_S1x1x2048_S2048_d0_1 Cert.Reference14Ideal.Gen.h_S_)

theorem hrefm (p d : FVec Ideal S4352x2048 .f32) (j : S1x2048.Idx) :
    REFM p d j = ∑ b : Fin 2, ∑ k : Fin 2176, (d (ix2 ⟨b.val * 2176 + k.val, by omega⟩ (j 1))
      * ((if h : 0 < k.val then p (ix2 ⟨b.val * 2176 + (k.val - 1), by omega⟩ (j 1)) else 0) - p (ix2 ⟨b.val * 2176 + k.val, by omega⟩ (j 1)) : EReal) : EReal) := by
  pointwise [REFM]
  refine (hostReduceAdd_lead _ _ _ _).trans ?_
  rw [zero_add, Fin.sum_univ_one, Fin.sum_univ_one]
  pointwise
  refine (hostReduceAdd_lead _ _ _ _).trans ?_
  rw [zero_add]
  refine Finset.sum_congr rfl fun b _ => Finset.sum_congr rfl fun k _ => ?_
  pointwise
  refine congrArg _ (congrArg (· - p (ix2 ⟨b.val * 2176 + k.val, by omega⟩ (j 1))) ?_)
  by_cases h : 0 < k.val
  · rw [dif_pos h, dif_neg (by omega)]
  · rw [dif_neg h, dif_pos (by omega)]

/-- The windows' block indices at a grid point. -/
theorem idx : ∀ t : Fin cfg0.N, win0_0.index t = ![t.val % 2, t.val / 2] ∧ win0_1.index t = ![0, t.val / 2]
    ∧ win0_2.index t = ![t.val % 2, t.val / 2] ∧ win0_3.index t = ![t.val % 2, t.val / 2]
    ∧ win0_4.index t = ![t.val % 2, t.val / 2] ∧ win0_5.index t = ![0, t.val / 2] :=
  (by decide +kernel : ∀ t : Fin grid0.N, _)

/-- Row `a` of the batch of a grid point. -/
def row (t : Fin cfg0.N) (a : Fin 2176) : Fin 4352 := ⟨t.val % 2 * 2176 + a.val, by omega⟩

/-- Channel `b` of the column block of a grid point. -/
def col (t : Fin cfg0.N) (b : Fin 256) : Fin 2048 := ⟨t.val / 2 * 256 + b.val, by have := lt_of_lt_of_eq t.isLt N_0; omega⟩

variable {m} {c : Dev nD}

theorem blk0 (t : Fin cfg0.N) (a : Fin 2176) (b : Fin 256) : iblk m c 0 t (ix2 a b) = m ((c : Thread nD τ).loc main_arg0) (ix2 (row t a) (col t b)) := by
  unfold row col
  blk_point [iblk, V, idx t]

theorem blk1 (t : Fin cfg0.N) (a : Fin 1) (b : Fin 256) : iblk m c 1 t (ix2 a b) = m ((c : Thread nD τ).loc main_arg1) (ix2 0 (col t b)) := by
  unfold col
  blk_point [iblk, V, idx t]

theorem blk2 (t : Fin cfg0.N) (a : Fin 2176) (b : Fin 256) : iblk m c 2 t (ix2 a b) = m ((c : Thread nD τ).loc main_arg2) (ix2 (row t a) (col t b)) := by
  unfold row col
  blk_point [iblk, V, idx t]

theorem blk3 (t : Fin cfg0.N) (a : Fin 2176) (b : Fin 256) : iblk m c 3 t (ix2 a b) = m ((c : Thread nD τ).loc main_arg3) (ix2 (row t a) (col t b)) := by
  unfold row col
  blk_point [iblk, V, idx t]

theorem blk23 (t : Fin cfg0.N) (a : Fin 2176) (b : Fin 256) : addf (F := Ideal) (φ := .f32) (iblk m c 2 t) (iblk m c 3 t) (ix2 a b)
    = addf (F := Ideal) (φ := .f32) (m ((c : Thread nD τ).loc main_arg2)) (m ((c : Thread nD τ).loc main_arg3)) (ix2 (row t a) (col t b)) :=
  congrArg₂ (fun x y : EReal => x + y) (blk2 t a b) (blk3 t a b)

/-- The rows' gradient of a block is the whole array's at that block's rows and channels. -/
theorem point (t : Fin cfg0.N) (mub : FVec Ideal S1x256 .f32) (d1 d2 : FVec Ideal S2176x256 .f32) (mu : FVec Ideal S1x2048 .f32) (d : FVec Ideal S4352x2048 .f32)
    (hmu : ∀ b, mub (ix2 0 b) = mu (ix2 0 (col t b))) (hd : ∀ a b, addf (F := Ideal) d1 d2 (ix2 a b) = d (ix2 (row t a) (col t b))) (a : Fin 2176) (b : Fin 256) :
    k0_pay2 (F := Ideal) mub d1 d2 (ix2 a b) = REFP mu d (ix2 (row t a) (col t b)) := by
  refine (hdp _ _ _ _).trans (Eq.trans ?_ (hrefp _ _ _).symm)
  show ((addf (F := Ideal) d1 d2 (ix2 a b) - addf (F := Ideal) d1 d2 (ix2 a b) * mub (ix2 0 b) : EReal)
      + (if h : a.val + 1 < 2176 then (addf (F := Ideal) d1 d2 (ix2 ⟨a.val + 1, h⟩ b) * mub (ix2 0 b) : EReal) else 0) : EReal)
    = ((d (ix2 (row t a) (col t b)) - d (ix2 (row t a) (col t b)) * mu (ix2 0 (col t b)) : EReal)
    + (if h : (row t a).val % 2176 + 1 < 2176 then (d (ix2 ⟨(row t a).val + 1, _⟩ (col t b)) * mu (ix2 0 (col t b)) : EReal) else 0) : EReal)
  rw [hmu, hd]
  refine congrArg₂ (· + ·) rfl ?_
  have e : (row t a).val = t.val % 2 * 2176 + a.val := rfl
  have ha := a.isLt
  by_cases h : a.val + 1 < 2176
  · rw [dif_pos h, dif_pos (by omega), hd]
    exact congrArg (· * _) (at_row' _ _ _ _ (by show t.val % 2 * 2176 + (a.val + 1) = (row t a).val + 1; omega))
  · rw [dif_neg h, dif_neg (by omega)]

/-- The two batches' sums are the whole array's. -/
theorem sum_batches (t : Fin cfg0.N) (ht : t.val % 2 = 2 - 1) (pb db : Fin cfg0.N → FVec Ideal S2176x256 .f32) (p d : FVec Ideal S4352x2048 .f32)
    (hp : ∀ t a b, pb t (ix2 a b) = p (ix2 (row t a) (col t b))) (hd : ∀ t a b, db t (ix2 a b) = d (ix2 (row t a) (col t b))) (b : Fin 256) :
    (∑ s : Fin 2, ∑ k : Fin 2176, (db ⟨2 * (t.val / 2) + s.val, Pipeline.run_point_lt_of_flush t ht s⟩ (ix2 k b)
      * ((if h : 0 < k.val then pb ⟨2 * (t.val / 2) + s.val, Pipeline.run_point_lt_of_flush t ht s⟩ (ix2 ⟨k.val - 1, by omega⟩ b) else 0)
        - pb ⟨2 * (t.val / 2) + s.val, Pipeline.run_point_lt_of_flush t ht s⟩ (ix2 k b) : EReal) : EReal)) = REFM p d (ix2 0 (col t b)) := by
  refine Eq.trans ?_ (hrefm _ _ _).symm
  refine Finset.sum_congr rfl fun s _ => Finset.sum_congr rfl fun k _ => ?_
  have hs := s.isLt
  have hk := k.isLt
  have er : ∀ i : Fin 2176, row ⟨2 * (t.val / 2) + s.val, Pipeline.run_point_lt_of_flush t ht s⟩ i = ⟨s.val * 2176 + i.val, by omega⟩ := fun i =>
    Fin.ext (by show (2 * (t.val / 2) + s.val) % 2 * 2176 + i.val = s.val * 2176 + i.val; omega)
  have ec : ∀ b, col ⟨2 * (t.val / 2) + s.val, Pipeline.run_point_lt_of_flush t ht s⟩ b = col t b := fun b =>
    Fin.ext (by show (2 * (t.val / 2) + s.val) / 2 * 256 + b.val = t.val / 2 * 256 + b.val; omega)
  simp only [hp, hd, er, ec]
  rfl

variable (m) (c) in
/-- The rows' gradient. -/
theorem final4 : (dats m 0 c).arrAt 4 (cfgs 0).N = REFP (m ((c : Thread nD τ).loc main_arg1)) (addf (F := Ideal) (φ := .f32) (m ((c : Thread nD τ).loc main_arg2)) (m ((c : Thread nD τ).loc main_arg3))) := by
  refine (dats m 0 c).arrAt_eq_of_covers 4 _ (by decide +kernel) fun t hf z => ?_
  blk_simp
  have ez : ((View.whole main_v0_0).slice (win0_4.rect t)).emb z = ix2 (row t (z 0)) (col t (z 1)) := by
    unfold row col
    blk_ext [idx t]
  rw [after0_4, ez]
  by_cases h0 : t.val % 2 = 0
  · rw [outsAt0_A m c t h0]
    frame_out
    exact (congrArg _ (ix2_eta z).symm).trans (point t _ _ _ _ _ (blk1 t 0) (blk23 t) (z 0) (z 1))
  · rw [outsAt0_B m c t h0]
    frame_out
    exact (congrArg _ (ix2_eta z).symm).trans (point t _ _ _ _ _ (blk1 t 0) (blk23 t) (z 0) (z 1))

variable (m) (c) in
/-- The gradient of the mixing weights. -/
theorem final5 : (dats m 0 c).arrAt 5 (cfgs 0).N = REFM (m ((c : Thread nD τ).loc main_arg0)) (addf (F := Ideal) (φ := .f32) (m ((c : Thread nD τ).loc main_arg2)) (m ((c : Thread nD τ).loc main_arg3))) := by
  refine (dats m 0 c).arrAt_eq_of_covers 5 _ (by decide +kernel) fun t hf z => ?_
  blk_simp
  have hzero : ∀ j, k0_pay3 (F := Ideal) j = 0 := by
    intro j
    pointwise [k0_pay3]
  have ht := (flush0_5 t).mp hf
  have ez : ((View.whole main_v0_1).slice (win0_5.rect t)).emb z = ix2 0 (col t (z 1)) := by
    unfold col
    blk_ext [idx t]
  rw [ez, after0_5, Pipeline.eq_sum_fin_of_reset_step_apply_of_flush (fun n h => (outsAt0 m c n h).2) 2
    (fun _ => 0) _
    (fun t h j => by rw [outsAt0_A m c t h]; frame_out; rw [hdmu, hzero])
    (fun t h j => by rw [outsAt0_B m c t h]; frame_out; rw [hdmu]) t ht _, zero_add]
  exact sum_batches t ht (iblk m c 0) (fun t => addf (F := Ideal) (φ := .f32) (iblk m c 2 t) (iblk m c 3 t)) _ _ blk0 blk23 (z 1)

end Cert.K14Val

end
-- ==== Proof.K15Val.lean ====
/- The gradient of the mix of each row with the row before it: the rows' gradient block by block, and the mixing weights' gradient
   summed over the two batches. -/
module

public import proofs.«01_k».proof.Proof.Gen.Kernel15Ideal.Frame
public import proofs.«01_k».proof.Proof.Gen.Reference15Ideal.Run
public import proofs.«01_k».proof.Proof.Lead
public import Idealize.ShloMosaic.Lib.Pipeline.ValueKit
public import Idealize.ShloMosaic.Lib.Pipeline.ReadBack

@[expose] public section

set_option maxRecDepth 16384

noncomputable section

namespace Cert.K15Val

open Idealize.ShloMosaic Idealize.ShloMosaic.TcCoe Idealize.SL.Sem
open Idealize.ShloMosaic.Pipeline (Dat)
open Cert.Kernel15Ideal Cert.Kernel15Ideal.Gen

variable (m : (ℓ : Loc nD τ sig) → Buf (Elt Ideal) ℓ)

open Cert.Lead

theorem hdp (mu : FVec Ideal S1x256 .f32) (d : FVec Ideal S2176x256 .f32) (j : S2176x256.Idx) :
    k0_pay1 (F := Ideal) mu d j = ((d j - d j * mu (ix2 0 (j 1)) : EReal)
      + (if h : (j 0).val + 1 < 2176 then (d (ix2 ⟨(j 0).val + 1, h⟩ (j 1)) * mu (ix2 0 (j 1)) : EReal) else 0) : EReal) := by
  pointwise [k0_pay1]
  refine congrArg _ ((sel_last (j 0) _ _).trans ?_)
  have hj : (j 0).val < 2176 := (j 0).isLt
  by_cases h : (j 0).val + 1 < 2176
  · rw [if_pos h, dif_pos h]
    exact congrArg (· * _) (at_row d _ _ _ (by show ((j 0).val + 2176 - 2175) % 2176 = (j 0).val + 1; omega))
  · rw [if_neg h, dif_neg h]

theorem hdmu (p d : FVec Ideal S2176x256 .f32) (a : FVec Ideal S1x256 .f32) (j : S1x256.Idx) :
    k0_pay3 (F := Ideal) p d a j = (a j + ∑ k : Fin 2176, (d (ix2 k (j 1)) * ((if h : 0 < k.val then p (ix2 ⟨k.val - 1, by omega⟩ (j 1)) else 0)
      - p (ix2 k (j 1)) : EReal) : EReal) : EReal) := by
  pointwise [k0_pay3]
  refine congrArg _ (Finset.sum_congr rfl fun k _ => ?_)
  refine congrArg _ (congrArg (· - p (ix2 k (j 1))) ((sel_first k _ _).trans ?_))
  by_cases h : 0 < k.val
  · rw [if_pos h, dif_pos h]
    exact at_row p _ _ _ (by show (k.val + 2176 - 1) % 2176 = k.val - 1; omega)
  · rw [if_neg h, dif_neg h]

abbrev MUD (mu : FVec Ideal S1x2048 .f32) (d : FVec Ideal S4352x2048 .f32) : FVec Ideal Cert.Reference15Ideal.S2x2176x2048 .f32 :=
  mulf (broadcastInDim Cert.Reference15Ideal.S2x2176x2048 ![0, 1, 2] Cert.Reference15Ideal.Gen.bcast_S1x1x2048_S2x2176x2048_0_1_2 (broadcastInDim Cert.Reference15Ideal.S1x1x2048 ![1, 2] Cert.Reference15Ideal.Gen.bcast_S1x2048_S1x1x2048_1_2 mu)) (shapeCast _ d Cert.Reference15Ideal.Gen.shapeCasts_S4352x2048_S2x2176x2048)

abbrev REFP (mu : FVec Ideal S1x2048 .f32) (d : FVec Ideal S4352x2048 .f32) : FVec Ideal S4352x2048 .f32 :=
  shapeCast _ (addf (addf (shapeCast _ d Cert.Reference15Ideal.Gen.shapeCasts_S4352x2048_S2x2176x2048) (Host.negf (MUD mu d)))
    (pad Cert.Reference15Ideal.S2x2176x2048 ![0, 0, 0] ![0, 1, 0] ![0, 0, 0] (extractStridedSlice Cert.Reference15Ideal.S2x2175x2048 ![0, 1, 0] (MUD mu d) Cert.Reference15Ideal.Gen.slices_S2x2176x2048_S2x2175x2048_0_1_0) (constant Cert.Reference15Ideal.S_ .f32 0x00000000#32) Cert.Reference15Ideal.Gen.pads_S2x2175x2048_S2x2176x2048_000_010_000 Cert.Reference15Ideal.Gen.h_S_)) Cert.Reference15Ideal.Gen.shapeCasts_S2x2176x2048_S4352x2048

theorem row_lt (j : S4352x2048.Idx) : (j 0).val < 4352 := (j 0).isLt

theorem next_row (d : FVec Ideal (⟨2, ![4352, 2048]⟩ : Shape) .f32) (a : Fin 4352) (b : Fin 2048) (u : EReal) :
    ((if h : a.val / 2176 < 2 ∧ a.val % 2176 < 2175 then u * d (ix2 ⟨a.val / 2176 * 2176 + (1 + a.val % 2176), by omega⟩ b) else 0 : EReal) : EReal)
    = (if h : a.val % 2176 + 1 < 2176 then d (ix2 ⟨a.val + 1, by omega⟩ b) * u else 0 : EReal) := by
  have ha := a.isLt
  by_cases h : a.val % 2176 + 1 < 2176
  · rw [dif_pos h, dif_pos ⟨by omega, by omega⟩, mul_comm]
    exact congrArg (· * u) (at_row' d _ _ _ (by show a.val / 2176 * 2176 + (1 + a.val % 2176) = a.val + 1; omega))
  · rw [dif_neg h, dif_neg (by omega)]

set_option maxHeartbeats 4000000 in
theorem hrefp (mu : FVec Ideal S1x2048 .f32) (d : FVec Ideal S4352x2048 .f32) (j : S4352x2048.Idx) :
    REFP mu d j = ((d j - d j * mu (ix2 0 (j 1)) : EReal)
      + (if h : (j 0).val % 2176 + 1 < 2176 then (d (ix2 ⟨(j 0).val + 1, by have := row_lt j; omega⟩ (j 1)) * mu (ix2 0 (j 1)) : EReal) else 0) : EReal) := by
  have hj := row_lt j
  pointwise [REFP]
  rw [mul_comm (mu (ix2 0 (j 1))) (d j), ← sub_eq_add_neg]
  exact congrArg (fun z : EReal => (d j - d j * mu (ix2 0 (j 1)) : EReal) + z) (next_row d (j 0) (j 1) (mu (ix2 0 (j 1))))

abbrev REFM (p d : FVec Ideal S4352x2048 .f32) : FVec Ideal S1x2048 .f32 :=
  broadcastInDim Cert.Reference15Ideal.S1x2048 ![1] Cert.Reference15Ideal.Gen.bcast_S2048_S1x2048_1 (Host.reduceAdd (shapeCast _ (Host.reduceAdd (mulf (shapeCast _ d Cert.Reference15Ideal.Gen.shapeCasts_S4352x2048_S2x2176x2048) (subf (concatenate Cert.Reference15Ideal.S2x2176x2048 1 [⟨Cert.Reference15Ideal.S2x1x2048, (broadcastInDim Cert.Reference15Ideal.S2x1x2048 ![] Cert.Reference15Ideal.Gen.bcast_S_S2x1x2048 (constant Cert.Reference15Ideal.S_ .f32 0x00000000#32))⟩, ⟨Cert.Reference15Ideal.S2x2175x2048, (extractStridedSlice Cert.Reference15Ideal.S2x2175x2048 ![0, 0, 0] (shapeCast _ p Cert.Reference15Ideal.Gen.shapeCasts_S4352x2048_S2x2176x2048) Cert.Reference15Ideal.Gen.slices_S2x2176x2048_S2x2175x2048_0_0_0)⟩] Cert.Reference15Ideal.Gen.concatenates_S2x1x2048_S2x2175x2048_S2x2176x2048_d1) (shapeCast _ p Cert.Reference15Ideal.Gen.shapeCasts_S4352x2048_S2x2176x2048))) (constant Cert.Reference15Ideal.S_ .f32 0x00000000#32) Cert.Reference15Ideal.Gen.reducesTo_S2x2176x2048_S2048_d0_1 Cert.Reference15Ideal.Gen.h_S_) Cert.Reference15Ideal.Gen.shapeCasts_S2048_S1x1x2048) (constant Cert.Reference15Ideal.S_ .f32 0x00000000#32) Cert.Reference15Ideal.Gen.reducesTo_S1x1x2048_S2048_d0_1 Cert.Reference15Ideal.Gen.h_S_)

theorem hrefm (p d : FVec Ideal S4352x2048 .f32) (j : S1x2048.Idx) :
    REFM p d j = ∑ b : Fin 2, ∑ k : Fin 2176, (d (ix2 ⟨b.val * 2176 + k.val, by omega⟩ (j 1))
      * ((if h : 0 < k.val then p (ix2 ⟨b.val * 2176 + (k.val - 1), by omega⟩ (j 1)) else 0) - p (ix2 ⟨b.val * 2176 + k.val, by omega⟩ (j 1)) : EReal) : EReal) := by
  pointwise [REFM]
  refine (hostReduceAdd_lead _ _ _ _).trans ?_
  rw [zero_add, Fin.sum_univ_one, Fin.sum_univ_one]
  pointwise
  refine (hostReduceAdd_lead _ _ _ _).trans ?_
  rw [zero_add]
  refine Finset.sum_congr rfl fun b _ => Finset.sum_congr rfl fun k _ => ?_
  pointwise
  refine congrArg _ (congrArg (· - p (ix2 ⟨b.val * 2176 + k.val, by omega⟩ (j 1))) ?_)
  by_cases h : 0 < k.val
  · rw [dif_pos h, dif_neg (by omega)]
  · rw [dif_neg h, dif_pos (by omega)]

/-- The windows' block indices at a grid point. -/
theorem idx : ∀ t : Fin cfg0.N, win0_0.index t = ![t.val % 2, t.val / 2] ∧ win0_1.index t = ![0, t.val / 2]
    ∧ win0_2.index t = ![t.val % 2, t.val / 2] ∧ win0_3.index t = ![t.val % 2, t.val / 2] ∧ win0_4.index t = ![0, t.val / 2] :=
  (by decide +kernel : ∀ t : Fin grid0.N, _)

/-- Row `a` of the batch of a grid point. -/
def row (t : Fin cfg0.N) (a : Fin 2176) : Fin 4352 := ⟨t.val % 2 * 2176 + a.val, by omega⟩

/-- Channel `b` of the column block of a grid point. -/
def col (t : Fin cfg0.N) (b : Fin 256) : Fin 2048 := ⟨t.val / 2 * 256 + b.val, by have := lt_of_lt_of_eq t.isLt N_0; omega⟩

variable {m} {c : Dev nD}

theorem blk0 (t : Fin cfg0.N) (a : Fin 2176) (b : Fin 256) : iblk m c 0 t (ix2 a b) = m ((c : Thread nD τ).loc main_arg0) (ix2 (row t a) (col t b)) := by
  unfold row col
  blk_point [iblk, V, idx t]

theorem blk1 (t : Fin cfg0.N) (a : Fin 1) (b : Fin 256) : iblk m c 1 t (ix2 a b) = m ((c : Thread nD τ).loc main_arg1) (ix2 0 (col t b)) := by
  unfold col
  blk_point [iblk, V, idx t]

theorem blk2 (t : Fin cfg0.N) (a : Fin 2176) (b : Fin 256) : iblk m c 2 t (ix2 a b) = m ((c : Thread nD τ).loc main_arg2) (ix2 (row t a) (col t b)) := by
  unfold row col
  blk_point [iblk, V, idx t]

/-- The rows' gradient of a block is the whole array's at that block's rows and channels. -/
theorem point (t : Fin cfg0.N) (mub : FVec Ideal S1x256 .f32) (db : FVec Ideal S2176x256 .f32) (mu : FVec Ideal S1x2048 .f32) (d : FVec Ideal S4352x2048 .f32)
    (hmu : ∀ b, mub (ix2 0 b) = mu (ix2 0 (col t b))) (hd : ∀ a b, db (ix2 a b) = d (ix2 (row t a) (col t b))) (a : Fin 2176) (b : Fin 256) :
    k0_pay1 (F := Ideal) mub db (ix2 a b) = REFP mu d (ix2 (row t a) (col t b)) := by
  refine (hdp _ _ _).trans (Eq.trans ?_ (hrefp _ _ _).symm)
  show ((db (ix2 a b) - db (ix2 a b) * mub (ix2 0 b) : EReal)
      + (if h : a.val + 1 < 2176 then (db (ix2 ⟨a.val + 1, h⟩ b) * mub (ix2 0 b) : EReal) else 0) : EReal)
    = ((d (ix2 (row t a) (col t b)) - d (ix2 (row t a) (col t b)) * mu (ix2 0 (col t b)) : EReal)
    + (if h : (row t a).val % 2176 + 1 < 2176 then (d (ix2 ⟨(row t a).val + 1, _⟩ (col t b)) * mu (ix2 0 (col t b)) : EReal) else 0) : EReal)
  rw [hmu, hd]
  refine congrArg₂ (· + ·) rfl ?_
  have e : (row t a).val = t.val % 2 * 2176 + a.val := rfl
  have ha := a.isLt
  by_cases h : a.val + 1 < 2176
  · rw [dif_pos h, dif_pos (by omega), hd]
    exact congrArg (· * _) (at_row' _ _ _ _ (by show t.val % 2 * 2176 + (a.val + 1) = (row t a).val + 1; omega))
  · rw [dif_neg h, dif_neg (by omega)]

/-- The two batches' sums are the whole array's. -/
theorem sum_batches (t : Fin cfg0.N) (ht : t.val % 2 = 2 - 1) (pb db : Fin cfg0.N → FVec Ideal S2176x256 .f32) (p d : FVec Ideal S4352x2048 .f32)
    (hp : ∀ t a b, pb t (ix2 a b) = p (ix2 (row t a) (col t b))) (hd : ∀ t a b, db t (ix2 a b) = d (ix2 (row t a) (col t b))) (b : Fin 256) :
    (∑ s : Fin 2, ∑ k : Fin 2176, (db ⟨2 * (t.val / 2) + s.val, Pipeline.run_point_lt_of_flush t ht s⟩ (ix2 k b)
      * ((if h : 0 < k.val then pb ⟨2 * (t.val / 2) + s.val, Pipeline.run_point_lt_of_flush t ht s⟩ (ix2 ⟨k.val - 1, by omega⟩ b) else 0)
        - pb ⟨2 * (t.val / 2) + s.val, Pipeline.run_point_lt_of_flush t ht s⟩ (ix2 k b) : EReal) : EReal)) = REFM p d (ix2 0 (col t b)) := by
  refine Eq.trans ?_ (hrefm _ _ _).symm
  refine Finset.sum_congr rfl fun s _ => Finset.sum_congr rfl fun k _ => ?_
  have hs := s.isLt
  have hk := k.isLt
  have er : ∀ i : Fin 2176, row ⟨2 * (t.val / 2) + s.val, Pipeline.run_point_lt_of_flush t ht s⟩ i = ⟨s.val * 2176 + i.val, by omega⟩ := fun i =>
    Fin.ext (by show (2 * (t.val / 2) + s.val) % 2 * 2176 + i.val = s.val * 2176 + i.val; omega)
  have ec : ∀ b, col ⟨2 * (t.val / 2) + s.val, Pipeline.run_point_lt_of_flush t ht s⟩ b = col t b := fun b =>
    Fin.ext (by show (2 * (t.val / 2) + s.val) / 2 * 256 + b.val = t.val / 2 * 256 + b.val; omega)
  simp only [hp, hd, er, ec]
  rfl

variable (m) (c) in
/-- The rows' gradient. -/
theorem final3 : (dats m 0 c).arrAt 3 (cfgs 0).N = REFP (m ((c : Thread nD τ).loc main_arg1)) (m ((c : Thread nD τ).loc main_arg2)) := by
  refine (dats m 0 c).arrAt_eq_of_covers 3 _ (by decide +kernel) fun t hf z => ?_
  blk_simp
  have ez : ((View.whole main_v0_0).slice (win0_3.rect t)).emb z = ix2 (row t (z 0)) (col t (z 1)) := by
    unfold row col
    blk_ext [idx t]
  rw [after0_3, ez]
  by_cases h0 : t.val % 2 = 0
  · rw [outsAt0_A m c t h0]
    frame_out
    exact (congrArg _ (ix2_eta z).symm).trans (point t _ _ _ _ (blk1 t 0) (blk2 t) (z 0) (z 1))
  · rw [outsAt0_B m c t h0]
    frame_out
    exact (congrArg _ (ix2_eta z).symm).trans (point t _ _ _ _ (blk1 t 0) (blk2 t) (z 0) (z 1))

variable (m) (c) in
/-- The gradient of the mixing weights. -/
theorem final4 : (dats m 0 c).arrAt 4 (cfgs 0).N = REFM (m ((c : Thread nD τ).loc main_arg0)) (m ((c : Thread nD τ).loc main_arg2)) := by
  refine (dats m 0 c).arrAt_eq_of_covers 4 _ (by decide +kernel) fun t hf z => ?_
  blk_simp
  have hzero : ∀ j, k0_pay2 (F := Ideal) j = 0 := by
    intro j
    pointwise [k0_pay2]
  have ht := (flush0_4 t).mp hf
  have ez : ((View.whole main_v0_1).slice (win0_4.rect t)).emb z = ix2 0 (col t (z 1)) := by
    unfold col
    blk_ext [idx t]
  rw [ez, after0_4, Pipeline.eq_sum_fin_of_reset_step_apply_of_flush (fun n h => (outsAt0 m c n h).2) 2
    (fun _ => 0) _
    (fun t h j => by rw [outsAt0_A m c t h]; frame_out; rw [hdmu, hzero])
    (fun t h j => by rw [outsAt0_B m c t h]; frame_out; rw [hdmu]) t ht _, zero_add]
  exact sum_batches t ht (iblk m c 0) (iblk m c 2) _ _ blk0 blk2 (z 1)

end Cert.K15Val

end
-- ==== Proof.K34Val.lean ====
/- The gradient of the mix of each row of 512 channels with the row before it: the rows' gradient block by block, and the mixing
   weights' gradient summed over the two batches. -/
module

public import proofs.«01_k».proof.Proof.Gen.Kernel34Ideal.Frame
public import proofs.«01_k».proof.Proof.Gen.Reference34Ideal.Run
public import proofs.«01_k».proof.Proof.Lead
public import Idealize.ShloMosaic.Lib.Pipeline.ValueKit
public import Idealize.ShloMosaic.Lib.Pipeline.ReadBack

@[expose] public section

set_option maxRecDepth 16384

noncomputable section

namespace Cert.K34Val

open Idealize.ShloMosaic Idealize.ShloMosaic.TcCoe Idealize.SL.Sem
open Idealize.ShloMosaic.Pipeline (Dat)
open Cert.Kernel34Ideal Cert.Kernel34Ideal.Gen

variable (m : (ℓ : Loc nD τ sig) → Buf (Elt Ideal) ℓ)

open Cert.Lead

theorem hdp (mu : FVec Ideal S1x256 .f32) (d : FVec Ideal S2176x256 .f32) (j : S2176x256.Idx) :
    k0_pay1 (F := Ideal) mu d j = ((d j - d j * mu (ix2 0 (j 1)) : EReal)
      + (if h : (j 0).val + 1 < 2176 then (d (ix2 ⟨(j 0).val + 1, h⟩ (j 1)) * mu (ix2 0 (j 1)) : EReal) else 0) : EReal) := by
  pointwise [k0_pay1]
  refine congrArg _ ((sel_last (j 0) _ _).trans ?_)
  have hj : (j 0).val < 2176 := (j 0).isLt
  by_cases h : (j 0).val + 1 < 2176
  · rw [if_pos h, dif_pos h]
    exact congrArg (· * _) (at_row d _ _ _ (by show ((j 0).val + 2176 - 2175) % 2176 = (j 0).val + 1; omega))
  · rw [if_neg h, dif_neg h]

theorem hdmu (p d : FVec Ideal S2176x256 .f32) (a : FVec Ideal S1x256 .f32) (j : S1x256.Idx) :
    k0_pay3 (F := Ideal) p d a j = (a j + ∑ k : Fin 2176, (d (ix2 k (j 1)) * ((if h : 0 < k.val then p (ix2 ⟨k.val - 1, by omega⟩ (j 1)) else 0)
      - p (ix2 k (j 1)) : EReal) : EReal) : EReal) := by
  pointwise [k0_pay3]
  refine congrArg _ (Finset.sum_congr rfl fun k _ => ?_)
  refine congrArg _ (congrArg (· - p (ix2 k (j 1))) ((sel_first k _ _).trans ?_))
  by_cases h : 0 < k.val
  · rw [if_pos h, dif_pos h]
    exact at_row p _ _ _ (by show (k.val + 2176 - 1) % 2176 = k.val - 1; omega)
  · rw [if_neg h, dif_neg h]

abbrev MUD (mu : FVec Ideal S1x512 .f32) (d : FVec Ideal S4352x512 .f32) : FVec Ideal Cert.Reference34Ideal.S2x2176x512 .f32 :=
  mulf (broadcastInDim Cert.Reference34Ideal.S2x2176x512 ![0, 1, 2] Cert.Reference34Ideal.Gen.bcast_S1x1x512_S2x2176x512_0_1_2 (broadcastInDim Cert.Reference34Ideal.S1x1x512 ![1, 2] Cert.Reference34Ideal.Gen.bcast_S1x512_S1x1x512_1_2 mu)) (shapeCast _ d Cert.Reference34Ideal.Gen.shapeCasts_S4352x512_S2x2176x512)

abbrev REFP (mu : FVec Ideal S1x512 .f32) (d : FVec Ideal S4352x512 .f32) : FVec Ideal S4352x512 .f32 :=
  shapeCast _ (addf (addf (shapeCast _ d Cert.Reference34Ideal.Gen.shapeCasts_S4352x512_S2x2176x512) (Host.negf (MUD mu d)))
    (pad Cert.Reference34Ideal.S2x2176x512 ![0, 0, 0] ![0, 1, 0] ![0, 0, 0] (extractStridedSlice Cert.Reference34Ideal.S2x2175x512 ![0, 1, 0] (MUD mu d) Cert.Reference34Ideal.Gen.slices_S2x2176x512_S2x2175x512_0_1_0) (constant Cert.Reference34Ideal.S_ .f32 0x00000000#32) Cert.Reference34Ideal.Gen.pads_S2x2175x512_S2x2176x512_000_010_000 Cert.Reference34Ideal.Gen.h_S_)) Cert.Reference34Ideal.Gen.shapeCasts_S2x2176x512_S4352x512

theorem row_lt (j : S4352x512.Idx) : (j 0).val < 4352 := (j 0).isLt

theorem next_row (d : FVec Ideal (⟨2, ![4352, 512]⟩ : Shape) .f32) (a : Fin 4352) (b : Fin 512) (u : EReal) :
    ((if h : a.val / 2176 < 2 ∧ a.val % 2176 < 2175 then u * d (ix2 ⟨a.val / 2176 * 2176 + (1 + a.val % 2176), by omega⟩ b) else 0 : EReal) : EReal)
    = (if h : a.val % 2176 + 1 < 2176 then d (ix2 ⟨a.val + 1, by omega⟩ b) * u else 0 : EReal) := by
  have ha := a.isLt
  by_cases h : a.val % 2176 + 1 < 2176
  · rw [dif_pos h, dif_pos ⟨by omega, by omega⟩, mul_comm]
    exact congrArg (· * u) (at_row512 d _ _ _ (by show a.val / 2176 * 2176 + (1 + a.val % 2176) = a.val + 1; omega))
  · rw [dif_neg h, dif_neg (by omega)]

set_option maxHeartbeats 4000000 in
theorem hrefp (mu : FVec Ideal S1x512 .f32) (d : FVec Ideal S4352x512 .f32) (j : S4352x512.Idx) :
    REFP mu d j = ((d j - d j * mu (ix2 0 (j 1)) : EReal)
      + (if h : (j 0).val % 2176 + 1 < 2176 then (d (ix2 ⟨(j 0).val + 1, by have := row_lt j; omega⟩ (j 1)) * mu (ix2 0 (j 1)) : EReal) else 0) : EReal) := by
  have hj := row_lt j
  pointwise [REFP]
  rw [mul_comm (mu (ix2 0 (j 1))) (d j), ← sub_eq_add_neg]
  exact congrArg (fun z : EReal => (d j - d j * mu (ix2 0 (j 1)) : EReal) + z) (next_row d (j 0) (j 1) (mu (ix2 0 (j 1))))

abbrev REFM (p d : FVec Ideal S4352x512 .f32) : FVec Ideal S1x512 .f32 :=
  broadcastInDim Cert.Reference34Ideal.S1x512 ![1] Cert.Reference34Ideal.Gen.bcast_S512_S1x512_1 (Host.reduceAdd (shapeCast _ (Host.reduceAdd (mulf (shapeCast _ d Cert.Reference34Ideal.Gen.shapeCasts_S4352x512_S2x2176x512) (subf (concatenate Cert.Reference34Ideal.S2x2176x512 1 [⟨Cert.Reference34Ideal.S2x1x512, (broadcastInDim Cert.Reference34Ideal.S2x1x512 ![] Cert.Reference34Ideal.Gen.bcast_S_S2x1x512 (constant Cert.Reference34Ideal.S_ .f32 0x00000000#32))⟩, ⟨Cert.Reference34Ideal.S2x2175x512, (extractStridedSlice Cert.Reference34Ideal.S2x2175x512 ![0, 0, 0] (shapeCast _ p Cert.Reference34Ideal.Gen.shapeCasts_S4352x512_S2x2176x512) Cert.Reference34Ideal.Gen.slices_S2x2176x512_S2x2175x512_0_0_0)⟩] Cert.Reference34Ideal.Gen.concatenates_S2x1x512_S2x2175x512_S2x2176x512_d1) (shapeCast _ p Cert.Reference34Ideal.Gen.shapeCasts_S4352x512_S2x2176x512))) (constant Cert.Reference34Ideal.S_ .f32 0x00000000#32) Cert.Reference34Ideal.Gen.reducesTo_S2x2176x512_S512_d0_1 Cert.Reference34Ideal.Gen.h_S_) Cert.Reference34Ideal.Gen.shapeCasts_S512_S1x1x512) (constant Cert.Reference34Ideal.S_ .f32 0x00000000#32) Cert.Reference34Ideal.Gen.reducesTo_S1x1x512_S512_d0_1 Cert.Reference34Ideal.Gen.h_S_)

theorem hrefm (p d : FVec Ideal S4352x512 .f32) (j : S1x512.Idx) :
    REFM p d j = ∑ b : Fin 2, ∑ k : Fin 2176, (d (ix2 ⟨b.val * 2176 + k.val, by omega⟩ (j 1))
      * ((if h : 0 < k.val then p (ix2 ⟨b.val * 2176 + (k.val - 1), by omega⟩ (j 1)) else 0) - p (ix2 ⟨b.val * 2176 + k.val, by omega⟩ (j 1)) : EReal) : EReal) := by
  pointwise [REFM]
  refine (hostReduceAdd_lead _ _ _ _).trans ?_
  rw [zero_add, Fin.sum_univ_one, Fin.sum_univ_one]
  pointwise
  refine (hostReduceAdd_lead _ _ _ _).trans ?_
  rw [zero_add]
  refine Finset.sum_congr rfl fun b _ => Finset.sum_congr rfl fun k _ => ?_
  pointwise
  refine congrArg _ (congrArg (· - p (ix2 ⟨b.val * 2176 + k.val, by omega⟩ (j 1))) ?_)
  by_cases h : 0 < k.val
  · rw [dif_pos h, dif_neg (by omega)]
  · rw [dif_neg h, dif_pos (by omega)]

/-- The windows' block indices at a grid point. -/
theorem idx : ∀ t : Fin cfg0.N, win0_0.index t = ![t.val % 2, t.val / 2] ∧ win0_1.index t = ![0, t.val / 2]
    ∧ win0_2.index t = ![t.val % 2, t.val / 2] ∧ win0_3.index t = ![t.val % 2, t.val / 2] ∧ win0_4.index t = ![0, t.val / 2] :=
  (by decide +kernel : ∀ t : Fin grid0.N, _)

/-- Row `a` of the batch of a grid point. -/
def row (t : Fin cfg0.N) (a : Fin 2176) : Fin 4352 := ⟨t.val % 2 * 2176 + a.val, by omega⟩

/-- Channel `b` of the column block of a grid point. -/
def col (t : Fin cfg0.N) (b : Fin 256) : Fin 512 := ⟨t.val / 2 * 256 + b.val, by have := lt_of_lt_of_eq t.isLt N_0; omega⟩

variable {m} {c : Dev nD}

theorem blk0 (t : Fin cfg0.N) (a : Fin 2176) (b : Fin 256) : iblk m c 0 t (ix2 a b) = m ((c : Thread nD τ).loc main_arg0) (ix2 (row t a) (col t b)) := by
  unfold row col
  blk_point [iblk, V, idx t]

theorem blk1 (t : Fin cfg0.N) (a : Fin 1) (b : Fin 256) : iblk m c 1 t (ix2 a b) = m ((c : Thread nD τ).loc main_arg1) (ix2 0 (col t b)) := by
  unfold col
  blk_point [iblk, V, idx t]

theorem blk2 (t : Fin cfg0.N) (a : Fin 2176) (b : Fin 256) : iblk m c 2 t (ix2 a b) = m ((c : Thread nD τ).loc main_arg2) (ix2 (row t a) (col t b)) := by
  unfold row col
  blk_point [iblk, V, idx t]

/-- The rows' gradient of a block is the whole array's at that block's rows and channels. -/
theorem point (t : Fin cfg0.N) (mub : FVec Ideal S1x256 .f32) (db : FVec Ideal S2176x256 .f32) (mu : FVec Ideal S1x512 .f32) (d : FVec Ideal S4352x512 .f32)
    (hmu : ∀ b, mub (ix2 0 b) = mu (ix2 0 (col t b))) (hd : ∀ a b, db (ix2 a b) = d (ix2 (row t a) (col t b))) (a : Fin 2176) (b : Fin 256) :
    k0_pay1 (F := Ideal) mub db (ix2 a b) = REFP mu d (ix2 (row t a) (col t b)) := by
  refine (hdp _ _ _).trans (Eq.trans ?_ (hrefp _ _ _).symm)
  show ((db (ix2 a b) - db (ix2 a b) * mub (ix2 0 b) : EReal)
      + (if h : a.val + 1 < 2176 then (db (ix2 ⟨a.val + 1, h⟩ b) * mub (ix2 0 b) : EReal) else 0) : EReal)
    = ((d (ix2 (row t a) (col t b)) - d (ix2 (row t a) (col t b)) * mu (ix2 0 (col t b)) : EReal)
    + (if h : (row t a).val % 2176 + 1 < 2176 then (d (ix2 ⟨(row t a).val + 1, _⟩ (col t b)) * mu (ix2 0 (col t b)) : EReal) else 0) : EReal)
  rw [hmu, hd]
  refine congrArg₂ (· + ·) rfl ?_
  have e : (row t a).val = t.val % 2 * 2176 + a.val := rfl
  have ha := a.isLt
  by_cases h : a.val + 1 < 2176
  · rw [dif_pos h, dif_pos (by omega), hd]
    exact congrArg (· * _) (at_row512 _ _ _ _ (by show t.val % 2 * 2176 + (a.val + 1) = (row t a).val + 1; omega))
  · rw [dif_neg h, dif_neg (by omega)]

/-- The two batches' sums are the whole array's. -/
theorem sum_batches (t : Fin cfg0.N) (ht : t.val % 2 = 2 - 1) (pb db : Fin cfg0.N → FVec Ideal S2176x256 .f32) (p d : FVec Ideal S4352x512 .f32)
    (hp : ∀ t a b, pb t (ix2 a b) = p (ix2 (row t a) (col t b))) (hd : ∀ t a b, db t (ix2 a b) = d (ix2 (row t a) (col t b))) (b : Fin 256) :
    (∑ s : Fin 2, ∑ k : Fin 2176, (db ⟨2 * (t.val / 2) + s.val, Pipeline.run_point_lt_of_flush t ht s⟩ (ix2 k b)
      * ((if h : 0 < k.val then pb ⟨2 * (t.val / 2) + s.val, Pipeline.run_point_lt_of_flush t ht s⟩ (ix2 ⟨k.val - 1, by omega⟩ b) else 0)
        - pb ⟨2 * (t.val / 2) + s.val, Pipeline.run_point_lt_of_flush t ht s⟩ (ix2 k b) : EReal) : EReal)) = REFM p d (ix2 0 (col t b)) := by
  refine Eq.trans ?_ (hrefm _ _ _).symm
  refine Finset.sum_congr rfl fun s _ => Finset.sum_congr rfl fun k _ => ?_
  have hs := s.isLt
  have hk := k.isLt
  have er : ∀ i : Fin 2176, row ⟨2 * (t.val / 2) + s.val, Pipeline.run_point_lt_of_flush t ht s⟩ i = ⟨s.val * 2176 + i.val, by omega⟩ := fun i =>
    Fin.ext (by show (2 * (t.val / 2) + s.val) % 2 * 2176 + i.val = s.val * 2176 + i.val; omega)
  have ec : ∀ b, col ⟨2 * (t.val / 2) + s.val, Pipeline.run_point_lt_of_flush t ht s⟩ b = col t b := fun b =>
    Fin.ext (by show (2 * (t.val / 2) + s.val) / 2 * 256 + b.val = t.val / 2 * 256 + b.val; omega)
  simp only [hp, hd, er, ec]
  rfl

variable (m) (c) in
/-- The rows' gradient. -/
theorem final3 : (dats m 0 c).arrAt 3 (cfgs 0).N = REFP (m ((c : Thread nD τ).loc main_arg1)) (m ((c : Thread nD τ).loc main_arg2)) := by
  refine (dats m 0 c).arrAt_eq_of_covers 3 _ (by decide +kernel) fun t hf z => ?_
  blk_simp
  have ez : ((View.whole main_v0_0).slice (win0_3.rect t)).emb z = ix2 (row t (z 0)) (col t (z 1)) := by
    unfold row col
    blk_ext [idx t]
  rw [after0_3, ez]
  by_cases h0 : t.val % 2 = 0
  · rw [outsAt0_A m c t h0]
    frame_out
    exact (congrArg _ (ix2_eta z).symm).trans (point t _ _ _ _ (blk1 t 0) (blk2 t) (z 0) (z 1))
  · rw [outsAt0_B m c t h0]
    frame_out
    exact (congrArg _ (ix2_eta z).symm).trans (point t _ _ _ _ (blk1 t 0) (blk2 t) (z 0) (z 1))

variable (m) (c) in
/-- The gradient of the mixing weights. -/
theorem final4 : (dats m 0 c).arrAt 4 (cfgs 0).N = REFM (m ((c : Thread nD τ).loc main_arg0)) (m ((c : Thread nD τ).loc main_arg2)) := by
  refine (dats m 0 c).arrAt_eq_of_covers 4 _ (by decide +kernel) fun t hf z => ?_
  blk_simp
  have hzero : ∀ j, k0_pay2 (F := Ideal) j = 0 := by
    intro j
    pointwise [k0_pay2]
  have ht := (flush0_4 t).mp hf
  have ez : ((View.whole main_v0_1).slice (win0_4.rect t)).emb z = ix2 0 (col t (z 1)) := by
    unfold col
    blk_ext [idx t]
  rw [ez, after0_4, Pipeline.eq_sum_fin_of_reset_step_apply_of_flush (fun n h => (outsAt0 m c n h).2) 2
    (fun _ => 0) _
    (fun t h j => by rw [outsAt0_A m c t h]; frame_out; rw [hdmu, hzero])
    (fun t h j => by rw [outsAt0_B m c t h]; frame_out; rw [hdmu]) t ht _, zero_add]
  exact sum_batches t ht (iblk m c 0) (iblk m c 2) _ _ blk0 blk2 (z 1)

end Cert.K34Val

end
-- ==== Proof.K30Val.lean ====
/- Each row of 2048 channels mixed with the row before it in its sequence, the first with zero. -/
module

public import proofs.«01_k».proof.Proof.Gen.Kernel30Ideal.Frame
public import proofs.«01_k».proof.Proof.Gen.Reference30Ideal.Run
public import proofs.«01_k».proof.Proof.Lead
public import Idealize.ShloMosaic.Lib.Pipeline.ValueKit
public import Idealize.ShloMosaic.Lib.Pipeline.ReadBack

@[expose] public section

set_option maxRecDepth 16384

noncomputable section

namespace Cert.K30Val

open Idealize.ShloMosaic Idealize.ShloMosaic.TcCoe Idealize.SL.Sem
open Idealize.ShloMosaic.Pipeline (Dat)
open Cert.Kernel30Ideal Cert.Kernel30Ideal.Gen

variable (m : (ℓ : Loc nD τ sig) → Buf (Elt Ideal) ℓ)

open Cert.Lead

/-- A block's rows mixed with the rows before them. -/
theorem hpay (p : FVec Ideal S2176x256 .f32) (mu : FVec Ideal S1x256 .f32) (j : S2176x256.Idx) :
    k0_pay1 (F := Ideal) p mu j = (p j + mu (ix2 0 (j 1)) * ((if h : 0 < (j 0).val then p (ix2 ⟨(j 0).val - 1, by have : (j 0).val < 2176 := (j 0).isLt; omega⟩ (j 1)) else 0) - p j : EReal) : EReal) := by
  pointwise [k0_pay1]
  have hj : (j 0).val < 2176 := (j 0).isLt
  refine congrArg (fun z : EReal => p j + mu (ix2 0 (j 1)) * (z - p j)) ((sel_first (j 0) _ _).trans ?_)
  by_cases h : 0 < (j 0).val
  · rw [if_pos h, dif_pos h]
    exact at_row p _ _ _ (by show ((j 0).val + 2176 - 1) % 2176 = (j 0).val - 1; omega)
  · rw [if_neg h, dif_neg h]

/-- The reference's result, as a term over its arguments. -/
abbrev REF (p : FVec Ideal S4352x2048 .f32) (mu : FVec Ideal S1x2048 .f32) : FVec Ideal S4352x2048 .f32 :=
  shapeCast _ (addf (shapeCast _ p Cert.Reference30Ideal.Gen.shapeCasts_S4352x2048_S2x2176x2048) (mulf (broadcastInDim Cert.Reference30Ideal.S2x2176x2048 ![0, 1, 2] Cert.Reference30Ideal.Gen.bcast_S1x1x2048_S2x2176x2048_0_1_2
    (broadcastInDim Cert.Reference30Ideal.S1x1x2048 ![1, 2] Cert.Reference30Ideal.Gen.bcast_S1x2048_S1x1x2048_1_2 mu)) (subf (concatenate Cert.Reference30Ideal.S2x2176x2048 1 [⟨Cert.Reference30Ideal.S2x1x2048, (broadcastInDim Cert.Reference30Ideal.S2x1x2048 ![] Cert.Reference30Ideal.Gen.bcast_S_S2x1x2048 (constant Cert.Reference30Ideal.S_ .f32 0x00000000#32))⟩,
      ⟨Cert.Reference30Ideal.S2x2175x2048, (extractStridedSlice Cert.Reference30Ideal.S2x2175x2048 ![0, 0, 0] (shapeCast _ p Cert.Reference30Ideal.Gen.shapeCasts_S4352x2048_S2x2176x2048) Cert.Reference30Ideal.Gen.slices_S2x2176x2048_S2x2175x2048_0_0_0)⟩]
      Cert.Reference30Ideal.Gen.concatenates_S2x1x2048_S2x2175x2048_S2x2176x2048_d1) (shapeCast _ p Cert.Reference30Ideal.Gen.shapeCasts_S4352x2048_S2x2176x2048)))) Cert.Reference30Ideal.Gen.shapeCasts_S2x2176x2048_S4352x2048

set_option maxHeartbeats 4000000 in
/-- The reference's result at a row and a channel. -/
theorem href (p : FVec Ideal S4352x2048 .f32) (mu : FVec Ideal S1x2048 .f32) (a : Fin 4352) (b : Fin 2048) :
    REF p mu (ix2 a b) = (p (ix2 a b) + mu (ix2 0 b) * ((if h : 0 < a.val % 2176 then p (ix2 ⟨a.val - 1, by omega⟩ b) else 0) - p (ix2 a b) : EReal) : EReal) := by
  pointwise [REF]
  have ha := a.isLt
  refine congrArg (fun z : EReal => p (ix2 a b) + mu (ix2 0 b) * (z - p (ix2 a b))) ?_
  by_cases h : 0 < a.val % 2176
  · rw [dif_pos h, dif_neg (by omega)]
    exact at_row' p _ _ _ (by show a.val / 2176 * 2176 + (a.val % 2176 - 1) = a.val - 1; omega)
  · rw [dif_neg h, dif_pos (by omega)]

/-- The windows' block indices at a grid point. -/
theorem idx : ∀ t : Fin cfg0.N, win0_0.index t = ![t.val / 8, t.val % 8] ∧ win0_1.index t = ![0, t.val % 8] ∧ win0_2.index t = ![t.val / 8, t.val % 8] :=
  (by decide +kernel : ∀ t : Fin grid0.N, _)

/-- Row `a` of the batch of a grid point. -/
def row (t : Fin cfg0.N) (a : Fin 2176) : Fin 4352 := ⟨t.val / 8 * 2176 + a.val, by have := lt_of_lt_of_eq t.isLt N_0; omega⟩

/-- Channel `b` of the column block of a grid point. -/
def col (t : Fin cfg0.N) (b : Fin 256) : Fin 2048 := ⟨t.val % 8 * 256 + b.val, by omega⟩

variable {m} {c : Dev nD}

theorem blk0 (t : Fin cfg0.N) (a : Fin 2176) (b : Fin 256) : iblk m c 0 t (ix2 a b) = m ((c : Thread nD τ).loc main_arg0) (ix2 (row t a) (col t b)) := by
  unfold row col
  blk_point [iblk, V, idx t]

theorem blk1 (t : Fin cfg0.N) (a : Fin 1) (b : Fin 256) : iblk m c 1 t (ix2 a b) = m ((c : Thread nD τ).loc main_arg1) (ix2 0 (col t b)) := by
  unfold col
  blk_point [iblk, V, idx t]

/-- The mix of a block is the whole array's at that block's rows and channels. -/
theorem point (t : Fin cfg0.N) (pb : FVec Ideal S2176x256 .f32) (mub : FVec Ideal S1x256 .f32) (p : FVec Ideal S4352x2048 .f32) (mu : FVec Ideal S1x2048 .f32)
    (hp : ∀ a b, pb (ix2 a b) = p (ix2 (row t a) (col t b))) (hmu : ∀ b, mub (ix2 0 b) = mu (ix2 0 (col t b))) (a : Fin 2176) (b : Fin 256) :
    k0_pay1 (F := Ideal) pb mub (ix2 a b) = REF p mu (ix2 (row t a) (col t b)) := by
  refine (hpay _ _ _).trans (Eq.trans ?_ (href _ _ _ _).symm)
  show (pb (ix2 a b) + mub (ix2 0 b) * ((if h : 0 < a.val then pb (ix2 ⟨a.val - 1, _⟩ b) else 0) - pb (ix2 a b) : EReal) : EReal) = _
  rw [hmu, hp]
  refine congrArg (fun z : EReal => p (ix2 (row t a) (col t b)) + mu (ix2 0 (col t b)) * (z - p (ix2 (row t a) (col t b)))) ?_
  have e : (row t a).val = t.val / 8 * 2176 + a.val := rfl
  have ha := a.isLt
  by_cases h : 0 < a.val
  · rw [dif_pos h, dif_pos (by omega), hp]
    exact at_row' _ _ _ _ (by show t.val / 8 * 2176 + (a.val - 1) = (row t a).val - 1; omega)
  · rw [dif_neg h, dif_neg (by omega)]

variable (m) (c) in
/-- The result array after the grid is the reference's term. -/
theorem final : (dats m 0 c).arrAt 2 (cfgs 0).N = REF (m ((c : Thread nD τ).loc main_arg0)) (m ((c : Thread nD τ).loc main_arg1)) := by
  refine (dats m 0 c).arrAt_eq_of_covers 2 _ (by decide +kernel) fun t hf z => ?_
  blk_simp
  have ez : ((View.whole main_v0).slice (win0_2.rect t)).emb z = ix2 (row t (z 0)) (col t (z 1)) := by
    unfold row col
    blk_ext [idx t]
  rw [after0_2, ez]
  unfold out0_2
  frame_out
  exact (congrArg _ (ix2_eta z).symm).trans (point t _ _ _ _ (blk0 t) (blk1 t 0) (z 0) (z 1))

end Cert.K30Val

end
-- ==== Proof.K35Val.lean ====
/- Each row of 512 channels mixed with the row before it in its sequence, the first with zero. -/
module

public import proofs.«01_k».proof.Proof.Gen.Kernel35Ideal.Frame
public import proofs.«01_k».proof.Proof.Gen.Reference35Ideal.Run
public import proofs.«01_k».proof.Proof.Lead
public import Idealize.ShloMosaic.Lib.Pipeline.ValueKit
public import Idealize.ShloMosaic.Lib.Pipeline.ReadBack

@[expose] public section

set_option maxRecDepth 16384

noncomputable section

namespace Cert.K35Val

open Idealize.ShloMosaic Idealize.ShloMosaic.TcCoe Idealize.SL.Sem
open Idealize.ShloMosaic.Pipeline (Dat)
open Cert.Kernel35Ideal Cert.Kernel35Ideal.Gen

variable (m : (ℓ : Loc nD τ sig) → Buf (Elt Ideal) ℓ)

open Cert.Lead

/-- A block's rows mixed with the rows before them. -/
theorem hpay (p : FVec Ideal S2176x256 .f32) (mu : FVec Ideal S1x256 .f32) (j : S2176x256.Idx) :
    k0_pay1 (F := Ideal) p mu j = (p j + mu (ix2 0 (j 1)) * ((if h : 0 < (j 0).val then p (ix2 ⟨(j 0).val - 1, by have : (j 0).val < 2176 := (j 0).isLt; omega⟩ (j 1)) else 0) - p j : EReal) : EReal) := by
  pointwise [k0_pay1]
  have hj : (j 0).val < 2176 := (j 0).isLt
  refine congrArg (fun z : EReal => p j + mu (ix2 0 (j 1)) * (z - p j)) ((sel_first (j 0) _ _).trans ?_)
  by_cases h : 0 < (j 0).val
  · rw [if_pos h, dif_pos h]
    exact at_row p _ _ _ (by show ((j 0).val + 2176 - 1) % 2176 = (j 0).val - 1; omega)
  · rw [if_neg h, dif_neg h]

/-- The reference's result, as a term over its arguments. -/
abbrev REF (p : FVec Ideal S4352x512 .f32) (mu : FVec Ideal S1x512 .f32) : FVec Ideal S4352x512 .f32 :=
  shapeCast _ (addf (shapeCast _ p Cert.Reference35Ideal.Gen.shapeCasts_S4352x512_S2x2176x512) (mulf (broadcastInDim Cert.Reference35Ideal.S2x2176x512 ![0, 1, 2] Cert.Reference35Ideal.Gen.bcast_S1x1x512_S2x2176x512_0_1_2
    (broadcastInDim Cert.Reference35Ideal.S1x1x512 ![1, 2] Cert.Reference35Ideal.Gen.bcast_S1x512_S1x1x512_1_2 mu)) (subf (concatenate Cert.Reference35Ideal.S2x2176x512 1 [⟨Cert.Reference35Ideal.S2x1x512, (broadcastInDim Cert.Reference35Ideal.S2x1x512 ![] Cert.Reference35Ideal.Gen.bcast_S_S2x1x512 (constant Cert.Reference35Ideal.S_ .f32 0x00000000#32))⟩,
      ⟨Cert.Reference35Ideal.S2x2175x512, (extractStridedSlice Cert.Reference35Ideal.S2x2175x512 ![0, 0, 0] (shapeCast _ p Cert.Reference35Ideal.Gen.shapeCasts_S4352x512_S2x2176x512) Cert.Reference35Ideal.Gen.slices_S2x2176x512_S2x2175x512_0_0_0)⟩]
      Cert.Reference35Ideal.Gen.concatenates_S2x1x512_S2x2175x512_S2x2176x512_d1) (shapeCast _ p Cert.Reference35Ideal.Gen.shapeCasts_S4352x512_S2x2176x512)))) Cert.Reference35Ideal.Gen.shapeCasts_S2x2176x512_S4352x512

set_option maxHeartbeats 4000000 in
/-- The reference's result at a row and a channel. -/
theorem href (p : FVec Ideal S4352x512 .f32) (mu : FVec Ideal S1x512 .f32) (a : Fin 4352) (b : Fin 512) :
    REF p mu (ix2 a b) = (p (ix2 a b) + mu (ix2 0 b) * ((if h : 0 < a.val % 2176 then p (ix2 ⟨a.val - 1, by omega⟩ b) else 0) - p (ix2 a b) : EReal) : EReal) := by
  pointwise [REF]
  have ha := a.isLt
  refine congrArg (fun z : EReal => p (ix2 a b) + mu (ix2 0 b) * (z - p (ix2 a b))) ?_
  by_cases h : 0 < a.val % 2176
  · rw [dif_pos h, dif_neg (by omega)]
    exact at_row512 p _ _ _ (by show a.val / 2176 * 2176 + (a.val % 2176 - 1) = a.val - 1; omega)
  · rw [dif_neg h, dif_pos (by omega)]

/-- The windows' block indices at a grid point. -/
theorem idx : ∀ t : Fin cfg0.N, win0_0.index t = ![t.val / 2, t.val % 2] ∧ win0_1.index t = ![0, t.val % 2] ∧ win0_2.index t = ![t.val / 2, t.val % 2] :=
  (by decide +kernel : ∀ t : Fin grid0.N, _)

/-- Row `a` of the batch of a grid point. -/
def row (t : Fin cfg0.N) (a : Fin 2176) : Fin 4352 := ⟨t.val / 2 * 2176 + a.val, by have := lt_of_lt_of_eq t.isLt N_0; omega⟩

/-- Channel `b` of the column block of a grid point. -/
def col (t : Fin cfg0.N) (b : Fin 256) : Fin 512 := ⟨t.val % 2 * 256 + b.val, by omega⟩

variable {m} {c : Dev nD}

theorem blk0 (t : Fin cfg0.N) (a : Fin 2176) (b : Fin 256) : iblk m c 0 t (ix2 a b) = m ((c : Thread nD τ).loc main_arg0) (ix2 (row t a) (col t b)) := by
  unfold row col
  blk_point [iblk, V, idx t]

theorem blk1 (t : Fin cfg0.N) (a : Fin 1) (b : Fin 256) : iblk m c 1 t (ix2 a b) = m ((c : Thread nD τ).loc main_arg1) (ix2 0 (col t b)) := by
  unfold col
  blk_point [iblk, V, idx t]

/-- The mix of a block is the whole array's at that block's rows and channels. -/
theorem point (t : Fin cfg0.N) (pb : FVec Ideal S2176x256 .f32) (mub : FVec Ideal S1x256 .f32) (p : FVec Ideal S4352x512 .f32) (mu : FVec Ideal S1x512 .f32)
    (hp : ∀ a b, pb (ix2 a b) = p (ix2 (row t a) (col t b))) (hmu : ∀ b, mub (ix2 0 b) = mu (ix2 0 (col t b))) (a : Fin 2176) (b : Fin 256) :
    k0_pay1 (F := Ideal) pb mub (ix2 a b) = REF p mu (ix2 (row t a) (col t b)) := by
  refine (hpay _ _ _).trans (Eq.trans ?_ (href _ _ _ _).symm)
  show (pb (ix2 a b) + mub (ix2 0 b) * ((if h : 0 < a.val then pb (ix2 ⟨a.val - 1, _⟩ b) else 0) - pb (ix2 a b) : EReal) : EReal) = _
  rw [hmu, hp]
  refine congrArg (fun z : EReal => p (ix2 (row t a) (col t b)) + mu (ix2 0 (col t b)) * (z - p (ix2 (row t a) (col t b)))) ?_
  have e : (row t a).val = t.val / 2 * 2176 + a.val := rfl
  have ha := a.isLt
  by_cases h : 0 < a.val
  · rw [dif_pos h, dif_pos (by omega), hp]
    exact at_row512 _ _ _ _ (by show t.val / 2 * 2176 + (a.val - 1) = (row t a).val - 1; omega)
  · rw [dif_neg h, dif_neg (by omega)]

variable (m) (c) in
/-- The result array after the grid is the reference's term. -/
theorem final : (dats m 0 c).arrAt 2 (cfgs 0).N = REF (m ((c : Thread nD τ).loc main_arg0)) (m ((c : Thread nD τ).loc main_arg1)) := by
  refine (dats m 0 c).arrAt_eq_of_covers 2 _ (by decide +kernel) fun t hf z => ?_
  blk_simp
  have ez : ((View.whole main_v0).slice (win0_2.rect t)).emb z = ix2 (row t (z 0)) (col t (z 1)) := by
    unfold row col
    blk_ext [idx t]
  rw [after0_2, ez]
  unfold out0_2
  frame_out
  exact (congrArg _ (ix2_eta z).symm).trans (point t _ _ _ _ (blk0 t) (blk1 t 0) (z 0) (z 1))

end Cert.K35Val

end
-- ==== Proof.Shift.lean ====
/- The token shift's calls: each runs to its end and leaves its arguments, and ends with the reference's results, at every
   array of extended reals. -/
module

public import proofs.«01_k».proof.Defs
public import proofs.«01_k».proof.Proof.K14Val
public import proofs.«01_k».proof.Proof.K15Val
public import proofs.«01_k».proof.Proof.K34Val
public import proofs.«01_k».proof.Proof.K30Val
public import proofs.«01_k».proof.Proof.K35Val
public import proofs.«01_k».proof.Proof.Finite
public import Idealize.ShloMosaic.Adequacy
public import Idealize.ShloMosaic.Init

@[expose] public section

set_option maxRecDepth 16384

noncomputable section

namespace Cert.Shift

open Idealize.ShloMosaic Idealize.ShloMosaic.TcCoe Idealize.SL.Sem
open Cert.Reals

/-- The reference's run leaves its arguments, and every counter at zero. -/
theorem frame14 : quiescent_Reference14Ideal := fun m ρ _ => (θ_run Cert.Reference14Ideal.defs _ _).mono
  (fun r h => And.intro (fun c => (h c).2.2) (sem_eq_zero_of_no_sems (by decide) r.2))
  (Cert.Reference14Ideal.Value.run (F := Ideal) m ρ)

/-- The kernel and the reference end with equal results. -/
theorem algebraic14 : algebraic_Kernel14Ideal_Reference14Ideal := by
  intro m g m' g' hpre hagree
  refine ⟨fun c => (Cert.Kernel14Ideal.Gen.dats m 0 c).arrAt 4 (Cert.Kernel14Ideal.cfgs 0).N, fun c => (Cert.Kernel14Ideal.Gen.dats m 0 c).arrAt 5 (Cert.Kernel14Ideal.cfgs 0).N, ?_, ?_⟩
  · exact θ_run_mono (θ_run_and (Cert.Kernel14Ideal.Gen.run_main m g) (Cert.Kernel14Ideal.Gen.unchanged m g)) fun r h c =>
      ⟨(h.1 c).1 4, (h.1 c).1 5, h.2 c⟩
  · refine (θ_run Cert.Reference14Ideal.defs _ _).mono (fun r hr c => ?_) (Cert.Reference14Ideal.Value.run (F := Ideal) m' g')
    obtain ⟨a0, a1, a2, a3⟩ := hagree c
    have h := hr c
    refine ⟨h.1.trans ?_, h.2.1.trans ?_, h.2.2⟩
    · refine Eq.trans ?_ (K14Val.final4 m c).symm
      simp only [a0, a1, a2, a3]
    · refine Eq.trans ?_ (K14Val.final5 m c).symm
      rw [← a0, ← a2, ← a3]

/-- The reference's run leaves its arguments, and every counter at zero. -/
theorem frame15 : quiescent_Reference15Ideal := fun m ρ _ => (θ_run Cert.Reference15Ideal.defs _ _).mono
  (fun r h => And.intro (fun c => (h c).2.2) (sem_eq_zero_of_no_sems (by decide) r.2))
  (Cert.Reference15Ideal.Value.run (F := Ideal) m ρ)

/-- The kernel and the reference end with equal results. -/
theorem algebraic15 : algebraic_Kernel15Ideal_Reference15Ideal := by
  intro m g m' g' hpre hagree
  refine ⟨fun c => (Cert.Kernel15Ideal.Gen.dats m 0 c).arrAt 3 (Cert.Kernel15Ideal.cfgs 0).N, fun c => (Cert.Kernel15Ideal.Gen.dats m 0 c).arrAt 4 (Cert.Kernel15Ideal.cfgs 0).N, ?_, ?_⟩
  · exact θ_run_mono (θ_run_and (Cert.Kernel15Ideal.Gen.run_main m g) (Cert.Kernel15Ideal.Gen.unchanged m g)) fun r h c =>
      ⟨(h.1 c).1 3, (h.1 c).1 4, h.2 c⟩
  · refine (θ_run Cert.Reference15Ideal.defs _ _).mono (fun r hr c => ?_) (Cert.Reference15Ideal.Value.run (F := Ideal) m' g')
    obtain ⟨a0, a1, a2⟩ := hagree c
    have h := hr c
    refine ⟨h.1.trans ?_, h.2.1.trans ?_, h.2.2⟩
    · refine Eq.trans ?_ (K15Val.final3 m c).symm
      simp only [a0, a1, a2]
    · refine Eq.trans ?_ (K15Val.final4 m c).symm
      rw [← a0, ← a2]

/-- The reference's run leaves its arguments, and every counter at zero. -/
theorem frame34 : quiescent_Reference34Ideal := fun m ρ _ => (θ_run Cert.Reference34Ideal.defs _ _).mono
  (fun r h => And.intro (fun c => (h c).2.2) (sem_eq_zero_of_no_sems (by decide) r.2))
  (Cert.Reference34Ideal.Value.run (F := Ideal) m ρ)

/-- The kernel and the reference end with equal results. -/
theorem algebraic34 : algebraic_Kernel34Ideal_Reference34Ideal := by
  intro m g m' g' hpre hagree
  refine ⟨fun c => (Cert.Kernel34Ideal.Gen.dats m 0 c).arrAt 3 (Cert.Kernel34Ideal.cfgs 0).N, fun c => (Cert.Kernel34Ideal.Gen.dats m 0 c).arrAt 4 (Cert.Kernel34Ideal.cfgs 0).N, ?_, ?_⟩
  · exact θ_run_mono (θ_run_and (Cert.Kernel34Ideal.Gen.run_main m g) (Cert.Kernel34Ideal.Gen.unchanged m g)) fun r h c =>
      ⟨(h.1 c).1 3, (h.1 c).1 4, h.2 c⟩
  · refine (θ_run Cert.Reference34Ideal.defs _ _).mono (fun r hr c => ?_) (Cert.Reference34Ideal.Value.run (F := Ideal) m' g')
    obtain ⟨a0, a1, a2⟩ := hagree c
    have h := hr c
    refine ⟨h.1.trans ?_, h.2.1.trans ?_, h.2.2⟩
    · refine Eq.trans ?_ (K34Val.final3 m c).symm
      simp only [a0, a1, a2]
    · refine Eq.trans ?_ (K34Val.final4 m c).symm
      rw [← a0, ← a2]

/-- The reference's run leaves its arguments, and every counter at zero. -/
theorem frame30 : quiescent_Reference30Ideal := fun m ρ _ => (θ_run Cert.Reference30Ideal.defs _ _).mono
  (fun r h => And.intro (fun c => (h c).2) (sem_eq_zero_of_no_sems (by decide) r.2))
  (Cert.Reference30Ideal.Value.run (F := Ideal) m ρ)

/-- The kernel and the reference end with equal results. -/
theorem algebraic30 : algebraic_Kernel30Ideal_Reference30Ideal := by
  intro m g m' g' hpre hagree
  refine ⟨fun c => (Cert.Kernel30Ideal.Gen.dats m 0 c).arrAt 2 (Cert.Kernel30Ideal.cfgs 0).N, ?_, ?_⟩
  · exact θ_run_mono (θ_run_and (Cert.Kernel30Ideal.Gen.run_main m g) (Cert.Kernel30Ideal.Gen.unchanged m g)) fun r h c =>
      ⟨(h.1 c).1 2, h.2 c⟩
  · refine (θ_run Cert.Reference30Ideal.defs _ _).mono (fun r hr c => ?_) (Cert.Reference30Ideal.Value.run (F := Ideal) m' g')
    obtain ⟨a0, a1⟩ := hagree c
    have h := hr c
    refine ⟨h.1.trans ?_, h.2⟩
    · refine Eq.trans ?_ (K30Val.final m c).symm
      rw [← a0, ← a1]

/-- The reference's run leaves its arguments, and every counter at zero. -/
theorem frame35 : quiescent_Reference35Ideal := fun m ρ _ => (θ_run Cert.Reference35Ideal.defs _ _).mono
  (fun r h => And.intro (fun c => (h c).2) (sem_eq_zero_of_no_sems (by decide) r.2))
  (Cert.Reference35Ideal.Value.run (F := Ideal) m ρ)

/-- The kernel and the reference end with equal results. -/
theorem algebraic35 : algebraic_Kernel35Ideal_Reference35Ideal := by
  intro m g m' g' hpre hagree
  refine ⟨fun c => (Cert.Kernel35Ideal.Gen.dats m 0 c).arrAt 2 (Cert.Kernel35Ideal.cfgs 0).N, ?_, ?_⟩
  · exact θ_run_mono (θ_run_and (Cert.Kernel35Ideal.Gen.run_main m g) (Cert.Kernel35Ideal.Gen.unchanged m g)) fun r h c =>
      ⟨(h.1 c).1 2, h.2 c⟩
  · refine (θ_run Cert.Reference35Ideal.defs _ _).mono (fun r hr c => ?_) (Cert.Reference35Ideal.Value.run (F := Ideal) m' g')
    obtain ⟨a0, a1⟩ := hagree c
    have h := hr c
    refine ⟨h.1.trans ?_, h.2⟩
    · refine Eq.trans ?_ (K35Val.final m c).symm
      rw [← a0, ← a1]

end Cert.Shift

end
-- ==== Proof.K36Val.lean ====
/- The gradient of the learned first tokens: the sum over the batch of each sequence's first rows, at every array of extended reals. -/
module

public import proofs.«01_k».proof.Proof.Gen.Kernel36Ideal.Frame
public import proofs.«01_k».proof.Proof.Gen.Reference36Ideal.Run
public import Idealize.ShloMosaic.Lib.Pipeline.ValueKit
public import Idealize.ShloMosaic.Lib.Pipeline.ReadBack

@[expose] public section

set_option maxRecDepth 16384

noncomputable section

namespace Cert.K36Val

open Idealize.ShloMosaic Idealize.ShloMosaic.TcCoe Idealize.SL.Sem
open Idealize.ShloMosaic.Pipeline (Dat)
open Cert.Kernel36Ideal Cert.Kernel36Ideal.Gen

variable (m : (ℓ : Loc nD τ sig) → Buf (Elt Ideal) ℓ)

/-- The reference's result, as a term over its argument. -/
abbrev REF (X : FVec Ideal S4352x2048 .f32) : FVec Ideal S16x2048 .f32 :=
  Host.reduceAdd (broadcastInDim Cert.Reference36Ideal.S1x16x2048 ![1, 2] Cert.Reference36Ideal.Gen.bcast_S16x2048_S1x16x2048_1_2 (Host.reduceAdd
    (extractStridedSlice Cert.Reference36Ideal.S2x16x2048 ![0, 0, 0] (shapeCast _ X Cert.Reference36Ideal.Gen.shapeCasts_S4352x2048_S2x2176x2048) Cert.Reference36Ideal.Gen.slices_S2x2176x2048_S2x16x2048_0_0_0)
    (constant Cert.Reference36Ideal.S_ .f32 0x00000000#32) Cert.Reference36Ideal.Gen.reducesTo_S2x16x2048_S16x2048_d0 Cert.Reference36Ideal.Gen.h_S_))
    (constant Cert.Reference36Ideal.S_ .f32 0x00000000#32) Cert.Reference36Ideal.Gen.reducesTo_S1x16x2048_S16x2048_d0 Cert.Reference36Ideal.Gen.h_S_

/-- The windows' block indices at a grid point. -/
theorem idx : ∀ t : Fin cfg0.N, win0_0.index t = ![t.val * 136, 0] ∧ win0_1.index t = ![0, 0] :=
  (by decide +kernel : ∀ t : Fin grid0.N, _)

/-- Row `a` of sequence `s`. -/
def row (s : Fin 2) (a : Fin 16) : Fin 4352 := ⟨s.val * 2176 + a.val, by omega⟩

/-- A sequence's share. -/
theorem part (xb a : FVec Ideal S16x2048 .f32) (j : S16x2048.Idx) : k0_pay2 (F := Ideal) a xb j = (a j + xb j : EReal) := by
  pointwise [k0_pay2]

/-- The reference's result: the sum over the sequences. -/
theorem href (X : FVec Ideal S4352x2048 .f32) (a : Fin 16) (b : Fin 2048) : REF X (ix2 a b) = (∑ s : Fin 2, X (ix2 (row s a) b) : EReal) := by
  pointwise [REF, row]
  exact Fin.sum_univ_one _

/-- The two blocks' sum is the reference's result. -/
theorem sum_blocks (X : FVec Ideal S4352x2048 .f32) (t : Fin cfg0.N) (ht : t.val % 2 = 2 - 1) (xs : Fin cfg0.N → FVec Ideal S16x2048 .f32)
    (hx : ∀ t s, t.val = s.val → ∀ a b, xs t (ix2 a b) = X (ix2 (row s a) b)) (z : S16x2048.Idx) :
    (∑ s : Fin 2, xs ⟨2 * (t.val / 2) + s.val, Pipeline.run_point_lt_of_flush t ht s⟩ z : EReal) = REF X (ix2 (z 0) (z 1)) := by
  refine Eq.trans ?_ (href X (z 0) (z 1)).symm
  refine Finset.sum_congr rfl fun s _ => ?_
  have ht' := lt_of_lt_of_eq t.isLt N_0
  exact (congrArg _ (ix2_eta z).symm).trans (hx _ s (by show 2 * (t.val / 2) + s.val = s.val; omega) (z 0) (z 1))

variable {m} {c : Dev nD}

theorem blk0 (t : Fin cfg0.N) (s : Fin 2) (h : t.val = s.val) (a : Fin 16) (b : Fin 2048) :
    iblk m c 0 t (ix2 a b) = m ((c : Thread nD τ).loc main_arg0) (ix2 (row s a) b) := by
  unfold row
  simp only [← h]
  blk_point [iblk, V, idx t]

variable (m) (c) in
/-- The result array after the grid is the reference's term. -/
theorem final : (dats m 0 c).arrAt 1 (cfgs 0).N = REF (m ((c : Thread nD τ).loc main_arg0)) := by
  refine (dats m 0 c).arrAt_eq_of_covers 1 _ (by decide +kernel) fun t hf z => ?_
  blk_simp
  have hzero : ∀ j, k0_pay1 (F := Ideal) j = 0 := by
    intro j
    pointwise [k0_pay1]
  have ht := (flush0_1 t).mp hf
  have ez : ((View.whole main_v0).slice (win0_1.rect t)).emb z = ix2 (z 0) (z 1) := by
    blk_ext [idx t]
  rw [ez, after0_1, Pipeline.eq_sum_fin_of_reset_step_apply_of_flush (fun n h => outsAt0 m c n h) 2
    (fun _ => 0) (fun t j => (iblk m c 0 t j : EReal))
    (fun t h j => by rw [outsAt0_A m c t h]; frame_out; rw [part, hzero])
    (fun t h j => by rw [outsAt0_B m c t h]; frame_out; rw [part]) t ht _, zero_add]
  exact sum_blocks _ t ht (iblk m c 0) blk0 z

end Cert.K36Val

end
-- ==== Proof.K37Val.lean ====
/- The optimiser's step of a 2048 × 704 shard, at every array of extended reals. -/
module

public import proofs.«01_k».proof.Proof.Gen.Kernel37Ideal.Frame
public import proofs.«01_k».proof.Proof.Gen.Reference37Ideal.Run
public import Idealize.ShloMosaic.Lib.Pipeline.ValueKit
public import Idealize.ShloMosaic.Lib.Pipeline.ReadBack

@[expose] public section

set_option maxRecDepth 16384

noncomputable section

namespace Cert.K37Val

open Idealize.ShloMosaic Idealize.ShloMosaic.TcCoe Idealize.SL.Sem
open Idealize.ShloMosaic.Pipeline (Dat)
open Cert.Kernel37Ideal Cert.Kernel37Ideal.Gen

variable (m : (ℓ : Loc nD τ sig) → Buf (Elt Ideal) ℓ)

/-- The reference's running mean of the gradient. -/
abbrev REFM (G M : FVec Ideal S2048x704 .f32) : FVec Ideal S2048x704 .f32 := addf (mulf (broadcastInDim Cert.Reference37Ideal.S2048x704 ![] Cert.Reference37Ideal.Gen.bcast_S_S2048x704 (constant Cert.Reference37Ideal.S_ .f32 0x3F666666#32)) M) (mulf (broadcastInDim Cert.Reference37Ideal.S2048x704 ![] Cert.Reference37Ideal.Gen.bcast_S_S2048x704 (constant Cert.Reference37Ideal.S_ .f32 0x3DCCCCCD#32)) G)

/-- The reference's running mean of the gradient's square. -/
abbrev REFV (G V : FVec Ideal S2048x704 .f32) : FVec Ideal S2048x704 .f32 := addf (mulf (broadcastInDim Cert.Reference37Ideal.S2048x704 ![] Cert.Reference37Ideal.Gen.bcast_S_S2048x704 (constant Cert.Reference37Ideal.S_ .f32 0x3F7FBE77#32)) V) (mulf (broadcastInDim Cert.Reference37Ideal.S2048x704 ![] Cert.Reference37Ideal.Gen.bcast_S_S2048x704 (constant Cert.Reference37Ideal.S_ .f32 0x3A83126F#32)) (mulf G G))

/-- The reference's change of the weights. -/
abbrev REFD (W G M V : FVec Ideal S2048x704 .f32) : FVec Ideal S2048x704 .f32 := mulf (broadcastInDim Cert.Reference37Ideal.S2048x704 ![] Cert.Reference37Ideal.Gen.bcast_S_S2048x704 (constant Cert.Reference37Ideal.S_ .f32 0xBA83126F#32)) (addf (Host.divf (Host.divf (REFM G M) (broadcastInDim Cert.Reference37Ideal.S2048x704 ![] Cert.Reference37Ideal.Gen.bcast_S_S2048x704 (constant Cert.Reference37Ideal.S_ .f32 0x3F26BD02#32)))
    (addf (Host.sqrt (Host.divf (REFV G V) (broadcastInDim Cert.Reference37Ideal.S2048x704 ![] Cert.Reference37Ideal.Gen.bcast_S_S2048x704 (constant Cert.Reference37Ideal.S_ .f32 0x3C231ACC#32)))) (broadcastInDim Cert.Reference37Ideal.S2048x704 ![] Cert.Reference37Ideal.Gen.bcast_S_S2048x704 (constant Cert.Reference37Ideal.S_ .f32 0x322BCC77#32)))) (mulf (broadcastInDim Cert.Reference37Ideal.S2048x704 ![] Cert.Reference37Ideal.Gen.bcast_S_S2048x704 (constant Cert.Reference37Ideal.S_ .f32 0x3C23D70A#32)) W))

/-- The windows' block indices at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Row `a` of the block of a grid point. -/
def row (t : Fin cfg0.N) (a : Fin 256) : Fin 2048 := ⟨t.val * 256 + a.val, by have := lt_of_lt_of_eq t.isLt N_0; omega⟩

section Body

variable (wb gb mb vb : FVec Ideal S256x704 .f32) (W G M V : FVec Ideal S2048x704 .f32) (r : Fin 256 → Fin 2048)

/-- A block's running mean is the whole array's at the block's rows. -/
theorem pointM (hg : ∀ a b, gb (ix2 a b) = G (ix2 (r a) b)) (hm : ∀ a b, mb (ix2 a b) = M (ix2 (r a) b)) (a : Fin 256) (b : Fin 704) :
    k0_pay1 (F := Ideal) gb mb (ix2 a b) = REFM G M (ix2 (r a) b) := by
  pointwise [k0_pay1, REFM]
  simp only [hg, hm]

/-- The same of the square's. -/
theorem pointV (hg : ∀ a b, gb (ix2 a b) = G (ix2 (r a) b)) (hv : ∀ a b, vb (ix2 a b) = V (ix2 (r a) b)) (a : Fin 256) (b : Fin 704) :
    k0_pay2 (F := Ideal) gb vb (ix2 a b) = REFV G V (ix2 (r a) b) := by
  pointwise [k0_pay2, REFV]
  simp only [hg, hv]

/-- The same of the weights' change. -/
theorem pointD (hw : ∀ a b, wb (ix2 a b) = W (ix2 (r a) b)) (hg : ∀ a b, gb (ix2 a b) = G (ix2 (r a) b))
    (hm : ∀ a b, mb (ix2 a b) = M (ix2 (r a) b)) (hv : ∀ a b, vb (ix2 a b) = V (ix2 (r a) b)) (a : Fin 256) (b : Fin 704) :
    k0_pay3 (F := Ideal) wb gb mb vb (ix2 a b) = REFD W G M V (ix2 (r a) b) := by
  pointwise [k0_pay3, k0_pay1, k0_pay2, REFD, REFM, REFV]
  simp only [hw, hg, hm, hv]

end Body

variable {m} {c : Dev nD}

theorem blk0 (t : Fin cfg0.N) (a : Fin 256) (b : Fin 704) : iblk m c 0 t (ix2 a b) = m ((c : Thread nD τ).loc main_arg0) (ix2 (row t a) b) := by
  unfold row
  blk_point [iblk, V, idx t]

theorem blk1 (t : Fin cfg0.N) (a : Fin 256) (b : Fin 704) : iblk m c 1 t (ix2 a b) = m ((c : Thread nD τ).loc main_arg1) (ix2 (row t a) b) := by
  unfold row
  blk_point [iblk, V, idx t]

theorem blk2 (t : Fin cfg0.N) (a : Fin 256) (b : Fin 704) : iblk m c 2 t (ix2 a b) = m ((c : Thread nD τ).loc main_arg2) (ix2 (row t a) b) := by
  unfold row
  blk_point [iblk, V, idx t]

theorem blk3 (t : Fin cfg0.N) (a : Fin 256) (b : Fin 704) : iblk m c 3 t (ix2 a b) = m ((c : Thread nD τ).loc main_arg3) (ix2 (row t a) b) := by
  unfold row
  blk_point [iblk, V, idx t]

variable (m) (c)

/-- The weights' change. -/
theorem final4 : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf z => ?_
  blk_simp
  have ez : ((View.whole main_v0_0).slice (win0_4.rect t)).emb z = ix2 (row t (z 0)) (z 1) := by
    unfold row
    blk_ext [idx t]
  rw [after0_4, ez]
  unfold out0_4
  frame_out
  exact (congrArg _ (ix2_eta z).symm).trans (pointD _ _ _ _ _ _ _ _ (row t) (blk0 t) (blk1 t) (blk2 t) (blk3 t) (z 0) (z 1))

/-- The gradient's running mean. -/
theorem final5 : (dats m 0 c).arrAt 5 (cfgs 0).N = REFM (m ((c : Thread nD τ).loc main_arg1)) (m ((c : Thread nD τ).loc main_arg2)) := by
  refine (dats m 0 c).arrAt_eq_of_covers 5 _ (by decide +kernel) fun t hf z => ?_
  blk_simp
  have ez : ((View.whole main_v0_1).slice (win0_5.rect t)).emb z = ix2 (row t (z 0)) (z 1) := by
    unfold row
    blk_ext [idx t]
  rw [after0_5, ez]
  unfold out0_5
  frame_out
  exact (congrArg _ (ix2_eta z).symm).trans (pointM _ _ _ _ (row t) (blk1 t) (blk2 t) (z 0) (z 1))

/-- The square's running mean. -/
theorem final6 : (dats m 0 c).arrAt 6 (cfgs 0).N = REFV (m ((c : Thread nD τ).loc main_arg1)) (m ((c : Thread nD τ).loc main_arg3)) := by
  refine (dats m 0 c).arrAt_eq_of_covers 6 _ (by decide +kernel) fun t hf z => ?_
  blk_simp
  have ez : ((View.whole main_v0_2).slice (win0_6.rect t)).emb z = ix2 (row t (z 0)) (z 1) := by
    unfold row
    blk_ext [idx t]
  rw [after0_6, ez]
  unfold out0_6
  frame_out
  exact (congrArg _ (ix2_eta z).symm).trans (pointV _ _ _ _ (row t) (blk1 t) (blk3 t) (z 0) (z 1))

end Cert.K37Val

end
-- ==== Proof.K38Val.lean ====
/- The optimiser's step of a 704 × 2048 shard, at every array of extended reals. -/
module

public import proofs.«01_k».proof.Proof.Gen.Kernel38Ideal.Frame
public import proofs.«01_k».proof.Proof.Gen.Reference38Ideal.Run
public import Idealize.ShloMosaic.Lib.Pipeline.ValueKit
public import Idealize.ShloMosaic.Lib.Pipeline.ReadBack

@[expose] public section

set_option maxRecDepth 16384

noncomputable section

namespace Cert.K38Val

open Idealize.ShloMosaic Idealize.ShloMosaic.TcCoe Idealize.SL.Sem
open Idealize.ShloMosaic.Pipeline (Dat)
open Cert.Kernel38Ideal Cert.Kernel38Ideal.Gen

variable (m : (ℓ : Loc nD τ sig) → Buf (Elt Ideal) ℓ)

/-- The reference's running mean of the gradient. -/
abbrev REFM (G M : FVec Ideal S704x2048 .f32) : FVec Ideal S704x2048 .f32 := addf (mulf (broadcastInDim Cert.Reference38Ideal.S704x2048 ![] Cert.Reference38Ideal.Gen.bcast_S_S704x2048 (constant Cert.Reference38Ideal.S_ .f32 0x3F666666#32)) M) (mulf (broadcastInDim Cert.Reference38Ideal.S704x2048 ![] Cert.Reference38Ideal.Gen.bcast_S_S704x2048 (constant Cert.Reference38Ideal.S_ .f32 0x3DCCCCCD#32)) G)

/-- The reference's running mean of the gradient's square. -/
abbrev REFV (G V : FVec Ideal S704x2048 .f32) : FVec Ideal S704x2048 .f32 := addf (mulf (broadcastInDim Cert.Reference38Ideal.S704x2048 ![] Cert.Reference38Ideal.Gen.bcast_S_S704x2048 (constant Cert.Reference38Ideal.S_ .f32 0x3F7FBE77#32)) V) (mulf (broadcastInDim Cert.Reference38Ideal.S704x2048 ![] Cert.Reference38Ideal.Gen.bcast_S_S704x2048 (constant Cert.Reference38Ideal.S_ .f32 0x3A83126F#32)) (mulf G G))

/-- The reference's change of the weights. -/
abbrev REFD (W G M V : FVec Ideal S704x2048 .f32) : FVec Ideal S704x2048 .f32 := mulf (broadcastInDim Cert.Reference38Ideal.S704x2048 ![] Cert.Reference38Ideal.Gen.bcast_S_S704x2048 (constant Cert.Reference38Ideal.S_ .f32 0xBA83126F#32)) (addf (Host.divf (Host.divf (REFM G M) (broadcastInDim Cert.Reference38Ideal.S704x2048 ![] Cert.Reference38Ideal.Gen.bcast_S_S704x2048 (constant Cert.Reference38Ideal.S_ .f32 0x3F26BD02#32)))
    (addf (Host.sqrt (Host.divf (REFV G V) (broadcastInDim Cert.Reference38Ideal.S704x2048 ![] Cert.Reference38Ideal.Gen.bcast_S_S704x2048 (constant Cert.Reference38Ideal.S_ .f32 0x3C231ACC#32)))) (broadcastInDim Cert.Reference38Ideal.S704x2048 ![] Cert.Reference38Ideal.Gen.bcast_S_S704x2048 (constant Cert.Reference38Ideal.S_ .f32 0x322BCC77#32)))) (mulf (broadcastInDim Cert.Reference38Ideal.S704x2048 ![] Cert.Reference38Ideal.Gen.bcast_S_S704x2048 (constant Cert.Reference38Ideal.S_ .f32 0x3C23D70A#32)) W))

/-- The windows' block indices at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Row `a` of the block of a grid point. -/
def row (t : Fin cfg0.N) (a : Fin 176) : Fin 704 := ⟨t.val * 176 + a.val, by have := lt_of_lt_of_eq t.isLt N_0; omega⟩

section Body

variable (wb gb mb vb : FVec Ideal S176x2048 .f32) (W G M V : FVec Ideal S704x2048 .f32) (r : Fin 176 → Fin 704)

/-- A block's running mean is the whole array's at the block's rows. -/
theorem pointM (hg : ∀ a b, gb (ix2 a b) = G (ix2 (r a) b)) (hm : ∀ a b, mb (ix2 a b) = M (ix2 (r a) b)) (a : Fin 176) (b : Fin 2048) :
    k0_pay1 (F := Ideal) gb mb (ix2 a b) = REFM G M (ix2 (r a) b) := by
  pointwise [k0_pay1, REFM]
  simp only [hg, hm]

/-- The same of the square's. -/
theorem pointV (hg : ∀ a b, gb (ix2 a b) = G (ix2 (r a) b)) (hv : ∀ a b, vb (ix2 a b) = V (ix2 (r a) b)) (a : Fin 176) (b : Fin 2048) :
    k0_pay2 (F := Ideal) gb vb (ix2 a b) = REFV G V (ix2 (r a) b) := by
  pointwise [k0_pay2, REFV]
  simp only [hg, hv]

/-- The same of the weights' change. -/
theorem pointD (hw : ∀ a b, wb (ix2 a b) = W (ix2 (r a) b)) (hg : ∀ a b, gb (ix2 a b) = G (ix2 (r a) b))
    (hm : ∀ a b, mb (ix2 a b) = M (ix2 (r a) b)) (hv : ∀ a b, vb (ix2 a b) = V (ix2 (r a) b)) (a : Fin 176) (b : Fin 2048) :
    k0_pay3 (F := Ideal) wb gb mb vb (ix2 a b) = REFD W G M V (ix2 (r a) b) := by
  pointwise [k0_pay3, k0_pay1, k0_pay2, REFD, REFM, REFV]
  simp only [hw, hg, hm, hv]

end Body

variable {m} {c : Dev nD}

theorem blk0 (t : Fin cfg0.N) (a : Fin 176) (b : Fin 2048) : iblk m c 0 t (ix2 a b) = m ((c : Thread nD τ).loc main_arg0) (ix2 (row t a) b) := by
  unfold row
  blk_point [iblk, V, idx t]

theorem blk1 (t : Fin cfg0.N) (a : Fin 176) (b : Fin 2048) : iblk m c 1 t (ix2 a b) = m ((c : Thread nD τ).loc main_arg1) (ix2 (row t a) b) := by
  unfold row
  blk_point [iblk, V, idx t]

theorem blk2 (t : Fin cfg0.N) (a : Fin 176) (b : Fin 2048) : iblk m c 2 t (ix2 a b) = m ((c : Thread nD τ).loc main_arg2) (ix2 (row t a) b) := by
  unfold row
  blk_point [iblk, V, idx t]

theorem blk3 (t : Fin cfg0.N) (a : Fin 176) (b : Fin 2048) : iblk m c 3 t (ix2 a b) = m ((c : Thread nD τ).loc main_arg3) (ix2 (row t a) b) := by
  unfold row
  blk_point [iblk, V, idx t]

variable (m) (c)

/-- The weights' change. -/
theorem final4 : (dats m 0 c).arrAt 4 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf z => ?_
  blk_simp
  have ez : ((View.whole main_v0_0).slice (win0_4.rect t)).emb z = ix2 (row t (z 0)) (z 1) := by
    unfold row
    blk_ext [idx t]
  rw [after0_4, ez]
  unfold out0_4
  frame_out
  exact (congrArg _ (ix2_eta z).symm).trans (pointD _ _ _ _ _ _ _ _ (row t) (blk0 t) (blk1 t) (blk2 t) (blk3 t) (z 0) (z 1))

/-- The gradient's running mean. -/
theorem final5 : (dats m 0 c).arrAt 5 (cfgs 0).N = REFM (m ((c : Thread nD τ).loc main_arg1)) (m ((c : Thread nD τ).loc main_arg2)) := by
  refine (dats m 0 c).arrAt_eq_of_covers 5 _ (by decide +kernel) fun t hf z => ?_
  blk_simp
  have ez : ((View.whole main_v0_1).slice (win0_5.rect t)).emb z = ix2 (row t (z 0)) (z 1) := by
    unfold row
    blk_ext [idx t]
  rw [after0_5, ez]
  unfold out0_5
  frame_out
  exact (congrArg _ (ix2_eta z).symm).trans (pointM _ _ _ _ (row t) (blk1 t) (blk2 t) (z 0) (z 1))

/-- The square's running mean. -/
theorem final6 : (dats m 0 c).arrAt 6 (cfgs 0).N = REFV (m ((c : Thread nD τ).loc main_arg1)) (m ((c : Thread nD τ).loc main_arg3)) := by
  refine (dats m 0 c).arrAt_eq_of_covers 6 _ (by decide +kernel) fun t hf z => ?_
  blk_simp
  have ez : ((View.whole main_v0_2).slice (win0_6.rect t)).emb z = ix2 (row t (z 0)) (z 1) := by
    unfold row
    blk_ext [idx t]
  rw [after0_6, ez]
  unfold out0_6
  frame_out
  exact (congrArg _ (ix2_eta z).symm).trans (pointV _ _ _ _ (row t) (blk1 t) (blk3 t) (z 0) (z 1))

end Cert.K38Val

end
-- ==== Proof.Optim.lean ====
/- The first tokens' gradient and the optimiser's step: each call runs to its end and leaves its arguments, and ends with the
   reference's results, at every array of extended reals. -/
module

public import proofs.«01_k».proof.Defs
public import proofs.«01_k».proof.Proof.K36Val
public import proofs.«01_k».proof.Proof.K37Val
public import proofs.«01_k».proof.Proof.K38Val
public import proofs.«01_k».proof.Proof.Finite
public import Idealize.ShloMosaic.Adequacy
public import Idealize.ShloMosaic.Init

@[expose] public section

set_option maxRecDepth 16384

noncomputable section

namespace Cert.Optim

open Idealize.ShloMosaic Idealize.ShloMosaic.TcCoe Idealize.SL.Sem
open Cert.Reals

/-- The reference's run leaves its arguments, and every counter at zero. -/
theorem frame36 : quiescent_Reference36Ideal := fun m ρ _ => (θ_run Cert.Reference36Ideal.defs _ _).mono
  (fun r h => And.intro (fun c => (h c).2) (sem_eq_zero_of_no_sems (by decide) r.2))
  (Cert.Reference36Ideal.Value.run (F := Ideal) m ρ)

/-- The kernel and the reference end with equal results. -/
theorem algebraic36 : algebraic_Kernel36Ideal_Reference36Ideal := by
  intro m g m' g' hpre hagree
  refine ⟨fun c => (Cert.Kernel36Ideal.Gen.dats m 0 c).arrAt 1 (Cert.Kernel36Ideal.cfgs 0).N, ?_, ?_⟩
  · exact θ_run_mono (θ_run_and (Cert.Kernel36Ideal.Gen.run_main m g) (Cert.Kernel36Ideal.Gen.unchanged m g)) fun r h c =>
      ⟨(h.1 c).1 1, h.2 c⟩
  · refine (θ_run Cert.Reference36Ideal.defs _ _).mono (fun r hr c => ?_) (Cert.Reference36Ideal.Value.run (F := Ideal) m' g')
    have a0 := hagree c
    have h := hr c
    refine ⟨h.1.trans ?_, h.2⟩
    · refine Eq.trans ?_ (K36Val.final m c).symm
      simp only [a0]

/-- The reference's run leaves its arguments, and every counter at zero. -/
theorem frame37 : quiescent_Reference37Ideal := fun m ρ _ => (θ_run Cert.Reference37Ideal.defs _ _).mono
  (fun r h => And.intro (fun c => (h c).2.2.2) (sem_eq_zero_of_no_sems (by decide) r.2))
  (Cert.Reference37Ideal.Value.run (F := Ideal) m ρ)

/-- The kernel and the reference end with equal results. -/
theorem algebraic37 : algebraic_Kernel37Ideal_Reference37Ideal := by
  intro m g m' g' hpre hagree
  refine ⟨fun c => (Cert.Kernel37Ideal.Gen.dats m 0 c).arrAt 4 (Cert.Kernel37Ideal.cfgs 0).N, fun c => (Cert.Kernel37Ideal.Gen.dats m 0 c).arrAt 5 (Cert.Kernel37Ideal.cfgs 0).N, fun c => (Cert.Kernel37Ideal.Gen.dats m 0 c).arrAt 6 (Cert.Kernel37Ideal.cfgs 0).N, ?_, ?_⟩
  · exact θ_run_mono (θ_run_and (Cert.Kernel37Ideal.Gen.run_main m g) (Cert.Kernel37Ideal.Gen.unchanged m g)) fun r h c =>
      ⟨(h.1 c).1 4, (h.1 c).1 5, (h.1 c).1 6, h.2 c⟩
  · refine (θ_run Cert.Reference37Ideal.defs _ _).mono (fun r hr c => ?_) (Cert.Reference37Ideal.Value.run (F := Ideal) m' g')
    obtain ⟨a0, a1, a2, a3⟩ := hagree c
    have h := hr c
    refine ⟨h.1.trans ?_, h.2.1.trans ?_, h.2.2.1.trans ?_, h.2.2.2⟩
    · refine Eq.trans ?_ (K37Val.final4 m c).symm
      simp only [a0, a1, a2, a3]
    · refine Eq.trans ?_ (K37Val.final5 m c).symm
      simp only [a0, a1, a2, a3]
    · refine Eq.trans ?_ (K37Val.final6 m c).symm
      simp only [a0, a1, a2, a3]

/-- The reference's run leaves its arguments, and every counter at zero. -/
theorem frame38 : quiescent_Reference38Ideal := fun m ρ _ => (θ_run Cert.Reference38Ideal.defs _ _).mono
  (fun r h => And.intro (fun c => (h c).2.2.2) (sem_eq_zero_of_no_sems (by decide) r.2))
  (Cert.Reference38Ideal.Value.run (F := Ideal) m ρ)

/-- The kernel and the reference end with equal results. -/
theorem algebraic38 : algebraic_Kernel38Ideal_Reference38Ideal := by
  intro m g m' g' hpre hagree
  refine ⟨fun c => (Cert.Kernel38Ideal.Gen.dats m 0 c).arrAt 4 (Cert.Kernel38Ideal.cfgs 0).N, fun c => (Cert.Kernel38Ideal.Gen.dats m 0 c).arrAt 5 (Cert.Kernel38Ideal.cfgs 0).N, fun c => (Cert.Kernel38Ideal.Gen.dats m 0 c).arrAt 6 (Cert.Kernel38Ideal.cfgs 0).N, ?_, ?_⟩
  · exact θ_run_mono (θ_run_and (Cert.Kernel38Ideal.Gen.run_main m g) (Cert.Kernel38Ideal.Gen.unchanged m g)) fun r h c =>
      ⟨(h.1 c).1 4, (h.1 c).1 5, (h.1 c).1 6, h.2 c⟩
  · refine (θ_run Cert.Reference38Ideal.defs _ _).mono (fun r hr c => ?_) (Cert.Reference38Ideal.Value.run (F := Ideal) m' g')
    obtain ⟨a0, a1, a2, a3⟩ := hagree c
    have h := hr c
    refine ⟨h.1.trans ?_, h.2.1.trans ?_, h.2.2.1.trans ?_, h.2.2.2⟩
    · refine Eq.trans ?_ (K38Val.final4 m c).symm
      simp only [a0, a1, a2, a3]
    · refine Eq.trans ?_ (K38Val.final5 m c).symm
      simp only [a0, a1, a2, a3]
    · refine Eq.trans ?_ (K38Val.final6 m c).symm
      simp only [a0, a1, a2, a3]

end Cert.Optim

end
-- ==== Proof.K39Val.lean ====
/- The forward merge: the kernel's and the reference's result as one function of arrays of real numbers. -/
module

public import proofs.«01_k».proof.Proof.Gen.Kernel39Ideal.Frame
public import proofs.«01_k».proof.Proof.Gen.Reference39Ideal.Run
public import proofs.«01_k».proof.Proof.RefGate
public import Idealize.ShloMosaic.Lib.Pipeline.ValueKit
public import Idealize.ShloMosaic.Lib.Pipeline.ReadBack
public import Idealize.ShloMosaic.Lib.WordCmp

@[expose] public section

set_option maxRecDepth 16384

noncomputable section

namespace Cert.K39Val

open Idealize.ShloMosaic Idealize.ShloMosaic.TcCoe Idealize.SL.Sem
open Idealize.ShloMosaic.Pipeline (Dat)
open Cert.Reals Cert.Gate Cert.Kernel39Ideal Cert.Kernel39Ideal.Gen

/-- The merged row. -/
def mrg {n : ℕ} (y r k v g pa pb yb : Fin n → Fin 2048 → ℝ) (gw gb rk : Fin 1 → Fin 2048 → ℝ) (i : Fin n) (c : Fin 2048) : ℝ :=
  sg (pa i c) * (oAct y r k v gw gb rk i c * g i c) + sg (pb i c) * yb i c

section Ref

open Cert.RefGate

/-- The reference's result on arrays of real numbers. -/
theorem ref (y r k v g pa pb yb : Fin 4352 → Fin 2048 → ℝ) (gw gb rk : Fin 1 → Fin 2048 → ℝ) :
    (truncf .bf16 (addf (mulf (SG (up2 pa)) (mulf (ACT (up2 y) (up2 r) (up2 k) (up2 v) (up2 gw) (up2 gb) (up2 rk)) (up2 g))) (mulf (SG (up2 pb)) (up2 yb)))
      Cert.Reference39Ideal.Gen.bitsLt_bf16_f32 : FVec Ideal S4352x2048 .bf16) = up2 (mrg y r k v g pa pb yb gw gb rk) := by
  rw [SG_up, SG_up, ACT_up, mulf2, mulf2, mulf2, addf2]
  refine ext2 (n := 4352) (m := 2048) fun i c => ?_
  pointwise [up2_at]
  rfl

end Ref

section Body

/-- Head sums of an array, as the kernel forms them: the array and what rounding leaves of it, each times the matrix of heads. -/
def headSums (x : FVec Ideal S128x2048 .f32) (e : FVec Ideal S2048x128 .bf16) : FVec Ideal S128x128 .f32 :=
  addf (matmul dot_S128x2048_S2048x128_S128x128_1_0_0_1_n_n none (truncf .bf16 x bitsLt_bf16_f32) e
      (constant S128x128 .f32 0x00000000#32))
    (matmul dot_S128x2048_S2048x128_S128x128_1_0_0_1_n_n none
      (truncf .bf16 (subf x (extf .f32 (truncf .bf16 x bitsLt_bf16_f32) bitsLt_bf16_f32)) bitsLt_bf16_f32) e
      (constant S128x128 .f32 0x00000000#32))

/-- Head sums spread back over the channels, the same way with the transposed matrix. -/
def spread (z : FVec Ideal S128x128 .f32) (t : FVec Ideal S128x2048 .bf16) : FVec Ideal S128x2048 .f32 :=
  addf (matmul dot_S128x128_S128x2048_S128x2048_1_0_0_1_n_n none (truncf .bf16 z bitsLt_bf16_f32) t
      (constant S128x2048 .f32 0x00000000#32))
    (matmul dot_S128x128_S128x2048_S128x2048_1_0_0_1_n_n none
      (truncf .bf16 (subf z (extf .f32 (truncf .bf16 z bitsLt_bf16_f32) bitsLt_bf16_f32)) bitsLt_bf16_f32) t
      (constant S128x2048 .f32 0x00000000#32))

theorem headSums_up (x : Fin 128 → Fin 2048 → ℝ) : headSums (up2 x) (up2 Em) = up2 (sums x) := by
  refine ext2 (n := 128) (m := 128) fun r c => ?_
  pointwise [headSums, up2_at]
  simp only [l_zero, l_add, l_mul, l_sub, l_sum, sub_self, zero_mul, mul_zero, Finset.sum_const_zero, add_zero, zero_add]
  rfl

theorem spread_up (x : Fin 128 → Fin 2048 → ℝ) : spread (up2 (sums x)) (up2 Et) = up2 (seg x) := by
  refine ext2 (n := 128) (m := 2048) fun r c => ?_
  pointwise [spread, up2_at]
  simp only [l_zero, l_add, l_mul, l_sub, l_sum, sub_self, zero_mul, mul_zero, Finset.sum_const_zero, add_zero, zero_add]
  rw [← seg_eq]
  rfl

theorem pay2_up : k0_pay2 (F := Ideal) (up2 Em) = up2 Em := by
  refine ext2 (n := 2048) (m := 128) fun r c => ?_
  pointwise [k0_pay2]

theorem pay3_up : k0_pay3 (F := Ideal) (up2 Et) = up2 Et := by
  refine ext2 (n := 128) (m := 2048) fun r c => ?_
  pointwise [k0_pay3]

theorem pay4_up (y : Fin 128 → Fin 2048 → ℝ) : k0_pay4 (F := Ideal) (up2 y) (up2 Em) (up2 Et) = up2 (seg y) := by
  show spread (headSums (up2 y) (k0_pay2 (F := Ideal) (up2 Em))) (k0_pay3 (F := Ideal) (up2 Et)) = _
  rw [pay2_up, pay3_up, headSums_up, spread_up]

theorem cen_up (y : Fin 128 → Fin 2048 → ℝ) : (subf (up2 y) (mulf (up2 (seg y)) (broadcast S128x2048 (Scalar.ofBits .f32 0x3C800000#32)))
    : FVec Ideal S128x2048 .f32) = up2 (cen y) := by
  refine ext2 (n := 128) (m := 2048) fun r c => ?_
  pointwise [up2_at, lit_64]
  simp only [l_mul, l_sub]
  rfl

theorem var_up (y : Fin 128 → Fin 2048 → ℝ) : (addf (mulf (up2 (seg fun r c => cen y r c * cen y r c)) (broadcast S128x2048 (Scalar.ofBits .f32 0x3C800000#32)))
    (broadcast S128x2048 (Scalar.ofBits .f32 0x3A27C5AC#32)) : FVec Ideal S128x2048 .f32) = up2 (var y) := by
  refine ext2 (n := 128) (m := 2048) fun r c => ?_
  pointwise [up2_at, lit_64, lit_eps]
  simp only [l_add, l_mul]
  rfl

theorem sq_up (x : Fin 128 → Fin 2048 → ℝ) : (mulf (up2 x) (up2 x) : FVec Ideal S128x2048 .f32) = up2 (fun r c => x r c * x r c) := by
  refine ext2 (n := 128) (m := 2048) fun r c => ?_
  pointwise [up2_at]
  rw [l_mul]

theorem tri_up (r k : Fin 128 → Fin 2048 → ℝ) (rk : Fin 1 → Fin 2048 → ℝ) : (mulf (mulf (up2 r) (up2 k)) (broadcastTo S128x2048 (up2 rk : FVec Ideal S1x2048 .f32)
    broadcasts_S1x2048_S128x2048) : FVec Ideal S128x2048 .f32) = up2 (tri r k rk) := by
  refine ext2 (n := 128) (m := 2048) fun i c => ?_
  pointwise [up2_at]
  simp only [l_mul]
  rfl

theorem pay5_up (y r k v g : Fin 128 → Fin 2048 → ℝ) (gw gb rk : Fin 1 → Fin 2048 → ℝ) :
    k0_pay5 (F := Ideal) (up2 y) (up2 r) (up2 k) (up2 v) (up2 g) (up2 gw) (up2 gb) (up2 rk) (up2 Em) (up2 Et) (up2 (seg y))
      = up2 (fun i c => oAct y r k v gw gb rk i c * g i c) := by
  show (mulf (addf (addf (mulf (mulf (subf (up2 y) (mulf (up2 (seg y)) (broadcast S128x2048 (Scalar.ofBits .f32 0x3C800000#32))))
      (rsqrt (addf (mulf (spread (headSums (mulf (subf (up2 y) (mulf (up2 (seg y)) (broadcast S128x2048 (Scalar.ofBits .f32 0x3C800000#32))))
        (subf (up2 y) (mulf (up2 (seg y)) (broadcast S128x2048 (Scalar.ofBits .f32 0x3C800000#32))))) (up2 Em)) (up2 Et))
        (broadcast S128x2048 (Scalar.ofBits .f32 0x3C800000#32))) (broadcast S128x2048 (Scalar.ofBits .f32 0x3A27C5AC#32)))))
      (broadcastTo S128x2048 (up2 gw : FVec Ideal S1x2048 .f32) broadcasts_S1x2048_S128x2048))
      (broadcastTo S128x2048 (up2 gb : FVec Ideal S1x2048 .f32) broadcasts_S1x2048_S128x2048))
      (mulf (spread (headSums (mulf (mulf (up2 r) (up2 k)) (broadcastTo S128x2048 (up2 rk : FVec Ideal S1x2048 .f32) broadcasts_S1x2048_S128x2048))
        (up2 Em)) (up2 Et)) (up2 v))) (up2 g) : FVec Ideal S128x2048 .f32) = _
  rw [cen_up, sq_up, headSums_up, spread_up, var_up, tri_up, headSums_up, spread_up]
  refine ext2 (n := 128) (m := 2048) fun i c => ?_
  pointwise [up2_at]
  rw [l_rsqrt (var_pos y i c)]
  simp only [l_mul, l_add]
  rfl

/-- The kernel's body on blocks of real numbers. -/
theorem body (y r k v g pa pb yb : Fin 128 → Fin 2048 → ℝ) (gw gb rk : Fin 1 → Fin 2048 → ℝ) :
    k0_pay1 (F := Ideal) (up2 pa) (up2 pb) (up2 yb) (k0_pay5 (F := Ideal) (up2 y) (up2 r) (up2 k) (up2 v) (up2 g) (up2 gw) (up2 gb) (up2 rk)
      (k0_pay2 (F := Ideal) (up2 Em)) (k0_pay3 (F := Ideal) (up2 Et)) (k0_pay4 (F := Ideal) (up2 y) (up2 Em) (up2 Et))) (Scalar.ofBits .f32 0x00000000#32)
      = up2 (mrg y r k v g pa pb yb gw gb rk) := by
  rw [pay2_up, pay3_up, pay4_up, pay5_up]
  refine ext2 (n := 128) (m := 2048) fun i c => ?_
  pointwise [k0_pay1, up2_at]
  simp only [l_zero, l_one, l_sub, l_exp, l_add, l_div (exp_pos1 _), l_mul]
  rfl

end Body

/-- Block indices: row block `t` of the row arrays, the whole of the small ones. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, _)

/-- Rows `128 t, …, 128 t + 127` of an array. -/
def rows (x : Fin 4352 → Fin 2048 → ℝ) (t : Fin cfg0.N) (r : Fin 128) (c : Fin 2048) : ℝ :=
  x ⟨128 * t.val + r.val, by have := lt_of_lt_of_eq t.isLt N_0; omega⟩ c

/-- The arguments are arrays of real numbers, on one device. -/
structure Ins (m : (ℓ : Loc nD τ sig) → Buf (Elt Ideal) ℓ) (c : Dev nD)
    (y r k v g pa pb yb : Fin 4352 → Fin 2048 → ℝ) (gw gb rk : Fin 1 → Fin 2048 → ℝ) : Prop where
  h0 : m ((c : Thread nD τ).loc main_arg0) = up2 y
  h1 : m ((c : Thread nD τ).loc main_arg1) = up2 r
  h2 : m ((c : Thread nD τ).loc main_arg2) = up2 k
  h3 : m ((c : Thread nD τ).loc main_arg3) = up2 v
  h4 : m ((c : Thread nD τ).loc main_arg4) = up2 g
  h5 : m ((c : Thread nD τ).loc main_arg5) = up2 pa
  h6 : m ((c : Thread nD τ).loc main_arg6) = up2 pb
  h7 : m ((c : Thread nD τ).loc main_arg7) = up2 yb
  h8 : m ((c : Thread nD τ).loc main_arg8) = up2 gw
  h9 : m ((c : Thread nD τ).loc main_arg9) = up2 gb
  h10 : m ((c : Thread nD τ).loc main_arg10) = up2 rk

variable {m : (ℓ : Loc nD τ sig) → Buf (Elt Ideal) ℓ} {c : Dev nD}
  {y r k v g pa pb yb : Fin 4352 → Fin 2048 → ℝ} {gw gb rk : Fin 1 → Fin 2048 → ℝ}

/-- The computed operand is the matrix of heads. -/
theorem heads (c : Dev nD) : V m c main_v12 = up2 Em := by
  show StableHlo.after (List.flatten [hostOps0, hostOps0_1, hostOps0_2]) _ _ = _
  simp only [hostOps0, hostOps0_1, hostOps0_2, List.flatten_cons, List.flatten_nil, List.cons_append, List.nil_append, List.append_nil]
  after_results_simp
  change (truncf .bf16 (select (andi
      (cmpi .sle (muli (broadcastInDim S2048x128 ![] bcast_S_S2048x128 (constantI S_ 32 64#32)) (iotaInDim S2048x128 32 1))
        (iotaInDim S2048x128 32 0))
      (cmpi .slt (iotaInDim S2048x128 32 0)
        (addi (muli (broadcastInDim S2048x128 ![] bcast_S_S2048x128 (constantI S_ 32 64#32)) (iotaInDim S2048x128 32 1))
          (broadcastInDim S2048x128 ![] bcast_S_S2048x128 (constantI S_ 32 64#32)))))
    (broadcastInDim S2048x128 ![] bcast_S_S2048x128 (constant S_ .f32 0x3F800000#32))
    (broadcastInDim S2048x128 ![] bcast_S_S2048x128 (constant S_ .f32 0x00000000#32)) : FVec Ideal S2048x128 .f32)
    bitsLt_bf16_f32 : FVec Ideal S2048x128 .bf16) = up2 Em
  refine ext2 (n := 2048) (m := 128) fun a b => ?_
  pointwise [up2_at]
  have hm : IntOp.muli (64#32) (BitVec.ofNat 32 b.val) = BitVec.ofNat 32 (64 * b.val) := by
    show 64#32 * BitVec.ofNat 32 b.val = _
    apply BitVec.eq_of_toNat_eq
    simp [BitVec.toNat_mul]
  have hs : IntOp.addi (BitVec.ofNat 32 (64 * b.val)) 64#32 = BitVec.ofNat 32 (64 * b.val + 64) := by
    show BitVec.ofNat 32 (64 * b.val) + 64#32 = _
    apply BitVec.eq_of_toNat_eq
    simp [BitVec.toNat_add]
  have ea : (BitVec.ofNat 32 a.val).toNat = a.val := by simp only [BitVec.toNat_ofNat]; omega
  have eb : (BitVec.ofNat 32 (64 * b.val)).toNat = 64 * b.val := by simp only [BitVec.toNat_ofNat]; omega
  have ec : (BitVec.ofNat 32 (64 * b.val + 64)).toNat = 64 * b.val + 64 := by simp only [BitVec.toNat_ofNat]; omega
  rw [hm, hs, WordCmp.cmpi_sle_of_lt (by rw [eb]; omega) (by rw [ea]; omega),
    WordCmp.cmpi_slt_of_lt (by rw [ea]; omega) (by rw [ec]; omega), ea, eb, ec]
  unfold Em
  by_cases h1 : 64 * b.val ≤ a.val <;> by_cases h2 : a.val < 64 * b.val + 64 <;>
    simp [h1, h2, IntOp.andi, Scalar.select]

/-- The other one is its transpose. -/
theorem heads' (c : Dev nD) : V m c main_v13 = up2 Et := by
  have e : V m c main_v13 = transpose S128x2048 [1, 0] (V m c main_v12 : FVec Ideal S2048x128 .bf16) transposes_S2048x128_S128x2048_1_0 := by
    simp only [V, hostOps0, hostOps0_1, hostOps0_2, List.flatten_cons, List.flatten_nil, List.cons_append, List.nil_append, List.append_nil]
    after_results_simp
    try rfl
  rw [e, heads]
  refine ext2 (n := 128) (m := 2048) fun a b => ?_
  pointwise [up2_at]
  rfl

theorem blk11 (t : Fin cfg0.N) : iblk m c 11 t = up2 Em := by
  refine ext2 (n := 2048) (m := 128) fun a b => ?_
  have e : iblk m c 11 t (ix2 a b) = V m c main_v12 (ix2 a b) := by
    blk_ext [iblk, idx t]
  rw [e, heads]

theorem blk12 (t : Fin cfg0.N) : iblk m c 12 t = up2 Et := by
  refine ext2 (n := 128) (m := 2048) fun a b => ?_
  have e : iblk m c 12 t (ix2 a b) = V m c main_v13 (ix2 a b) := by
    blk_ext [iblk, idx t]
  rw [e, heads']

theorem blk0 (h : Ins m c y r k v g pa pb yb gw gb rk) (t : Fin cfg0.N) : iblk m c 0 t = up2 (rows y t) := by
  refine ext2 (n := 128) (m := 2048) fun a b => ?_
  have e : iblk m c 0 t (ix2 a b) = m ((c : Thread nD τ).loc main_arg0) (ix2 ⟨128 * t.val + a.val, by have := lt_of_lt_of_eq t.isLt N_0; omega⟩ b) := by
    blk_point [iblk, V, idx t]
  rw [e, h.h0]
  rfl

theorem blk1 (h : Ins m c y r k v g pa pb yb gw gb rk) (t : Fin cfg0.N) : iblk m c 1 t = up2 (rows r t) := by
  refine ext2 (n := 128) (m := 2048) fun a b => ?_
  have e : iblk m c 1 t (ix2 a b) = m ((c : Thread nD τ).loc main_arg1) (ix2 ⟨128 * t.val + a.val, by have := lt_of_lt_of_eq t.isLt N_0; omega⟩ b) := by
    blk_point [iblk, V, idx t]
  rw [e, h.h1]
  rfl

theorem blk2 (h : Ins m c y r k v g pa pb yb gw gb rk) (t : Fin cfg0.N) : iblk m c 2 t = up2 (rows k t) := by
  refine ext2 (n := 128) (m := 2048) fun a b => ?_
  have e : iblk m c 2 t (ix2 a b) = m ((c : Thread nD τ).loc main_arg2) (ix2 ⟨128 * t.val + a.val, by have := lt_of_lt_of_eq t.isLt N_0; omega⟩ b) := by
    blk_point [iblk, V, idx t]
  rw [e, h.h2]
  rfl

theorem blk3 (h : Ins m c y r k v g pa pb yb gw gb rk) (t : Fin cfg0.N) : iblk m c 3 t = up2 (rows v t) := by
  refine ext2 (n := 128) (m := 2048) fun a b => ?_
  have e : iblk m c 3 t (ix2 a b) = m ((c : Thread nD τ).loc main_arg3) (ix2 ⟨128 * t.val + a.val, by have := lt_of_lt_of_eq t.isLt N_0; omega⟩ b) := by
    blk_point [iblk, V, idx t]
  rw [e, h.h3]
  rfl

theorem blk4 (h : Ins m c y r k v g pa pb yb gw gb rk) (t : Fin cfg0.N) : iblk m c 4 t = up2 (rows g t) := by
  refine ext2 (n := 128) (m := 2048) fun a b => ?_
  have e : iblk m c 4 t (ix2 a b) = m ((c : Thread nD τ).loc main_arg4) (ix2 ⟨128 * t.val + a.val, by have := lt_of_lt_of_eq t.isLt N_0; omega⟩ b) := by
    blk_point [iblk, V, idx t]
  rw [e, h.h4]
  rfl

theorem blk5 (h : Ins m c y r k v g pa pb yb gw gb rk) (t : Fin cfg0.N) : iblk m c 5 t = up2 (rows pa t) := by
  refine ext2 (n := 128) (m := 2048) fun a b => ?_
  have e : iblk m c 5 t (ix2 a b) = m ((c : Thread nD τ).loc main_arg5) (ix2 ⟨128 * t.val + a.val, by have := lt_of_lt_of_eq t.isLt N_0; omega⟩ b) := by
    blk_point [iblk, V, idx t]
  rw [e, h.h5]
  rfl

theorem blk6 (h : Ins m c y r k v g pa pb yb gw gb rk) (t : Fin cfg0.N) : iblk m c 6 t = up2 (rows pb t) := by
  refine ext2 (n := 128) (m := 2048) fun a b => ?_
  have e : iblk m c 6 t (ix2 a b) = m ((c : Thread nD τ).loc main_arg6) (ix2 ⟨128 * t.val + a.val, by have := lt_of_lt_of_eq t.isLt N_0; omega⟩ b) := by
    blk_point [iblk, V, idx t]
  rw [e, h.h6]
  rfl

theorem blk7 (h : Ins m c y r k v g pa pb yb gw gb rk) (t : Fin cfg0.N) : iblk m c 7 t = up2 (rows yb t) := by
  refine ext2 (n := 128) (m := 2048) fun a b => ?_
  have e : iblk m c 7 t (ix2 a b) = m ((c : Thread nD τ).loc main_arg7) (ix2 ⟨128 * t.val + a.val, by have := lt_of_lt_of_eq t.isLt N_0; omega⟩ b) := by
    blk_point [iblk, V, idx t]
  rw [e, h.h7]
  rfl

theorem blk8 (h : Ins m c y r k v g pa pb yb gw gb rk) (t : Fin cfg0.N) : iblk m c 8 t = up2 gw := by
  refine ext2 (n := 1) (m := 2048) fun a b => ?_
  have e : iblk m c 8 t (ix2 a b) = m ((c : Thread nD τ).loc main_arg8) (ix2 a b) := by
    blk_point [iblk, V, idx t]
  rw [e, h.h8]

theorem blk9 (h : Ins m c y r k v g pa pb yb gw gb rk) (t : Fin cfg0.N) : iblk m c 9 t = up2 gb := by
  refine ext2 (n := 1) (m := 2048) fun a b => ?_
  have e : iblk m c 9 t (ix2 a b) = m ((c : Thread nD τ).loc main_arg9) (ix2 a b) := by
    blk_point [iblk, V, idx t]
  rw [e, h.h9]

theorem blk10 (h : Ins m c y r k v g pa pb yb gw gb rk) (t : Fin cfg0.N) : iblk m c 10 t = up2 rk := by
  refine ext2 (n := 1) (m := 2048) fun a b => ?_
  have e : iblk m c 10 t (ix2 a b) = m ((c : Thread nD τ).loc main_arg10) (ix2 a b) := by
    blk_point [iblk, V, idx t]
  rw [e, h.h10]

theorem emb13 (F : Fin 4352 → Fin 2048 → ℝ) (t : Fin cfg0.N) (z : ((cfg0.win 13).xblock (cfg0.grid.coords t)).Idx) :
    up2 (rows F t) z = up2 F (((View.whole main_v14).slice (win0_13.rect t)).emb z) := by
  have e : ((View.whole main_v14).slice (win0_13.rect t)).emb z = ix2 ⟨128 * t.val + (z 0).val, by have := lt_of_lt_of_eq t.isLt N_0; have h : (z 0).val < 128 := (z 0).isLt; omega⟩ (z 1) := by
    blk_ext [idx t]
  rw [e]
  rfl

/-- The result array after the grid. -/
theorem final (h : Ins m c y r k v g pa pb yb gw gb rk) : (dats m 0 c).arrAt 13 (cfgs 0).N = up2 (mrg y r k v g pa pb yb gw gb rk) := by
  refine (dats m 0 c).arrAt_eq_of_covers 13 _ (by decide +kernel) fun t hf z => ?_
  blk_simp
  rw [after0_13]
  unfold out0_13
  frame_out
  simp only [blk0 h, blk1 h, blk2 h, blk3 h, blk4 h, blk5 h, blk6 h, blk7 h, blk8 h, blk9 h, blk10 h, blk11, blk12, body]
  exact emb13 (mrg y r k v g pa pb yb gw gb rk) t z

end Cert.K39Val

end
-- ==== Proof.Merge.lean ====
/- The forward merge runs to its end and leaves its arguments, and ends with the reference's results, at arrays of real numbers. -/
module

public import proofs.«01_k».proof.Defs
public import proofs.«01_k».proof.Proof.K39Val
public import proofs.«01_k».proof.Proof.Finite
public import Idealize.ShloMosaic.Adequacy
public import Idealize.ShloMosaic.Init

@[expose] public section

set_option maxRecDepth 16384

noncomputable section

namespace Cert.Merge

open Idealize.ShloMosaic Idealize.ShloMosaic.TcCoe Idealize.SL.Sem
open Cert.Reals

/-- Under the precondition the arguments are arrays of real numbers. -/
theorem ins39 (m : (ℓ : Loc Cert.Kernel39Ideal.nD Cert.Kernel39Ideal.τ Cert.Kernel39Ideal.sig) → Buf (Elt Ideal) ℓ)
    (hpre : Pre_Kernel39Ideal_finite39 m) (c : Dev Cert.Kernel39Ideal.nD) :
    ∃ (y r k v g pa pb yb : Fin 4352 → Fin 2048 → ℝ) (gw gb rk : Fin 1 → Fin 2048 → ℝ),
      K39Val.Ins m c y r k v g pa pb yb gw gb rk := by
  obtain ⟨h0, h1, h2, h3, h4, h5, h6, h7, h8, h9, h10⟩ := hpre c
  obtain ⟨y, e0⟩ := Finite.real2 (n := 4352) (k := 2048) _ (by decide) h0
  obtain ⟨r, e1⟩ := Finite.real2 (n := 4352) (k := 2048) _ (by decide) h1
  obtain ⟨k, e2⟩ := Finite.real2 (n := 4352) (k := 2048) _ (by decide) h2
  obtain ⟨v, e3⟩ := Finite.real2 (n := 4352) (k := 2048) _ (by decide) h3
  obtain ⟨g, e4⟩ := Finite.real2 (n := 4352) (k := 2048) _ (by decide) h4
  obtain ⟨pa, e5⟩ := Finite.real2 (n := 4352) (k := 2048) _ (by decide) h5
  obtain ⟨pb, e6⟩ := Finite.real2 (n := 4352) (k := 2048) _ (by decide) h6
  obtain ⟨yb, e7⟩ := Finite.real2 (n := 4352) (k := 2048) _ (by decide) h7
  obtain ⟨gw, e8⟩ := Finite.real2 (n := 1) (k := 2048) _ (by decide) h8
  obtain ⟨gb, e9⟩ := Finite.real2 (n := 1) (k := 2048) _ (by decide) h9
  obtain ⟨rk, e10⟩ := Finite.real2 (n := 1) (k := 2048) _ (by decide) h10
  exact ⟨y, r, k, v, g, pa, pb, yb, gw, gb, rk, ⟨e0, e1, e2, e3, e4, e5, e6, e7, e8, e9, e10⟩⟩

/-- The reference's run leaves its arguments, and every counter at zero. -/
theorem frame39 : quiescent_Reference39Ideal := fun m ρ _ => (θ_run Cert.Reference39Ideal.defs _ _).mono
  (fun r h => And.intro (fun c => (h c).2) (sem_eq_zero_of_no_sems (by decide) r.2))
  (Cert.Reference39Ideal.Value.run (F := Ideal) m ρ)

/-- The kernel and the reference end with equal results. -/
theorem algebraic39 : algebraic_Kernel39Ideal_Reference39Ideal_pre_finite39 := by
  intro m g m' g' hpre hagree
  refine ⟨fun c => (Cert.Kernel39Ideal.Gen.dats m 0 c).arrAt 13 (Cert.Kernel39Ideal.cfgs 0).N, ?_, ?_⟩
  · exact θ_run_mono (θ_run_and (Cert.Kernel39Ideal.Gen.run_main m g) (Cert.Kernel39Ideal.Gen.unchanged m g)) fun r h c =>
      ⟨(h.1 c).1 13, h.2 c⟩
  · refine (θ_run Cert.Reference39Ideal.defs _ _).mono (fun r hr c => ?_) (Cert.Reference39Ideal.Value.run (F := Ideal) m' g')
    obtain ⟨y, r', k, v, g, pa, pb, yb, gw, gb, rk, hI⟩ := ins39 m hpre c
    obtain ⟨a0, a1, a2, a3, a4, a5, a6, a7, a8, a9, a10⟩ := hagree c
    replace a0 := a0.trans hI.h0
    replace a1 := a1.trans hI.h1
    replace a2 := a2.trans hI.h2
    replace a3 := a3.trans hI.h3
    replace a4 := a4.trans hI.h4
    replace a5 := a5.trans hI.h5
    replace a6 := a6.trans hI.h6
    replace a7 := a7.trans hI.h7
    replace a8 := a8.trans hI.h8
    replace a9 := a9.trans hI.h9
    replace a10 := a10.trans hI.h10
    have h := hr c
    refine ⟨h.1.trans ?_, h.2⟩
    · refine Eq.trans ?_ (K39Val.final hI).symm
      simp only [a0, a1, a2, a3, a4, a5, a6, a7, a8, a9, a10]
      exact K39Val.ref y r' k v g pa pb yb gw gb rk

end Cert.Merge

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel34.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel32.Frame
public import proofs.«01_k».proof.Proof.Gen.Kernel33.Frame
public import proofs.«01_k».proof.Proof.Gen.Kernel36.Frame
public import proofs.«01_k».proof.Proof.Gen.Kernel29.Frame
public import proofs.«01_k».proof.Proof.Gen.Kernel30.Frame
public import proofs.«01_k».proof.Proof.Gen.Kernel35.Frame
public import proofs.«01_k».proof.Proof.Gen.Kernel31.Frame
public import proofs.«01_k».proof.Proof.Gen.Kernel37.Frame
public import proofs.«01_k».proof.Proof.Gen.Kernel38.Frame
public import proofs.«01_k».proof.Proof.Gen.Kernel39.Frame
public import proofs.«01_k».proof.Proof.KVal
public import proofs.«01_k».proof.Proof.RefGate
public import proofs.«01_k».proof.Proof.Finite
public import proofs.«01_k».proof.Proof.Feed
public import proofs.«01_k».proof.Proof.Mixer
public import proofs.«01_k».proof.Proof.Latent
public import proofs.«01_k».proof.Proof.Norms
public import proofs.«01_k».proof.Proof.Shift
public import proofs.«01_k».proof.Proof.Optim
public import proofs.«01_k».proof.Proof.Merge
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.Reals Cert.Gate Cert.KVal Cert.RefGate
open Cert.KernelIdeal (cfgs)
open Cert.KernelIdeal.Gen (dats)

/-- Under the precondition the arguments are arrays of real numbers. -/
theorem ins (m : (ℓ : Loc Cert.KernelIdeal.nD Cert.KernelIdeal.τ Cert.KernelIdeal.sig) → Buf (Elt Ideal) ℓ)
    (hpre : Pre_KernelIdeal_finite m) (c : Dev Cert.KernelIdeal.nD) :
    ∃ (y r k v g pa pb yb dm : Fin 4352 → Fin 2048 → ℝ) (gw gb rk : Fin 1 → Fin 2048 → ℝ),
      Ins m c y r k v g pa pb yb dm gw gb rk := by
  obtain ⟨h0, h1, h2, h3, h4, h5, h6, h7, h8, h9, h10, h11⟩ := hpre c
  obtain ⟨y, e0⟩ := Finite.real2 (n := 4352) (k := 2048) _ (by decide) h0
  obtain ⟨r, e1⟩ := Finite.real2 (n := 4352) (k := 2048) _ (by decide) h1
  obtain ⟨k, e2⟩ := Finite.real2 (n := 4352) (k := 2048) _ (by decide) h2
  obtain ⟨v, e3⟩ := Finite.real2 (n := 4352) (k := 2048) _ (by decide) h3
  obtain ⟨g, e4⟩ := Finite.real2 (n := 4352) (k := 2048) _ (by decide) h4
  obtain ⟨pa, e5⟩ := Finite.real2 (n := 4352) (k := 2048) _ (by decide) h5
  obtain ⟨pb, e6⟩ := Finite.real2 (n := 4352) (k := 2048) _ (by decide) h6
  obtain ⟨yb, e7⟩ := Finite.real2 (n := 4352) (k := 2048) _ (by decide) h7
  obtain ⟨gw, e8⟩ := Finite.real2 (n := 1) (k := 2048) _ (by decide) h8
  obtain ⟨gb, e9⟩ := Finite.real2 (n := 1) (k := 2048) _ (by decide) h9
  obtain ⟨rk, e10⟩ := Finite.real2 (n := 1) (k := 2048) _ (by decide) h10
  obtain ⟨dm, e11⟩ := Finite.real2 (n := 4352) (k := 2048) _ (by decide) h11
  exact ⟨y, r, k, v, g, pa, pb, yb, dm, gw, gb, rk, ⟨e0, e1, e2, e3, e4, e5, e6, e7, e8, e9, e10, e11⟩⟩

/-- The reference's run leaves its arguments, and every counter at zero. -/
theorem frame_reference : quiescent_ReferenceIdeal := fun m ρ _ => (θ_run Cert.ReferenceIdeal.defs _ _).mono
  (fun r h => And.intro (fun c => (h c).2.2.2.2.2.2.2.2.2.2.2) (sem_eq_zero_of_no_sems (by decide) r.2))
  (Cert.ReferenceIdeal.Value.run (F := Ideal) m ρ)

set_option maxHeartbeats 4000000 in
/-- From finite arguments the kernel and the reference end with equal results. -/
theorem algebraic : algebraic_KernelIdeal_ReferenceIdeal_pre_finite := by
  intro m g m' g' hpre hagree
  refine ⟨fun c => (dats m 0 c).arrAt 13 (cfgs 0).N,
    fun c => (dats m 0 c).arrAt 14 (cfgs 0).N,
    fun c => (dats m 0 c).arrAt 15 (cfgs 0).N,
    fun c => (dats m 0 c).arrAt 16 (cfgs 0).N,
    fun c => (dats m 0 c).arrAt 17 (cfgs 0).N,
    fun c => (dats m 0 c).arrAt 18 (cfgs 0).N,
    fun c => (dats m 0 c).arrAt 19 (cfgs 0).N,
    fun c => (dats m 0 c).arrAt 20 (cfgs 0).N,
    fun c => (dats m 0 c).arrAt 21 (cfgs 0).N,
    fun c => (dats m 0 c).arrAt 22 (cfgs 0).N,
    fun c => (dats m 0 c).arrAt 23 (cfgs 0).N, ?_, ?_⟩
  · exact θ_run_mono (θ_run_and (Cert.KernelIdeal.Gen.run_main m g) (Cert.KernelIdeal.Gen.unchanged m g)) fun r h c =>
      ⟨(h.1 c).1 13, (h.1 c).1 14, (h.1 c).1 15, (h.1 c).1 16, (h.1 c).1 17, (h.1 c).1 18, (h.1 c).1 19, (h.1 c).1 20, (h.1 c).1 21, (h.1 c).1 22, (h.1 c).1 23, h.2 c⟩
  · refine (θ_run Cert.ReferenceIdeal.defs _ _).mono (fun r hr c => ?_) (Cert.ReferenceIdeal.Value.run (F := Ideal) m' g')
    obtain ⟨y, r', k, v, g, pa, pb, yb, dm, gw, gb, rk, hI⟩ := ins m hpre c
    obtain ⟨a0, a1, a2, a3, a4, a5, a6, a7, a8, a9, a10, a11⟩ := hagree c
    replace a0 := a0.trans hI.h0
    replace a1 := a1.trans hI.h1
    replace a2 := a2.trans hI.h2
    replace a3 := a3.trans hI.h3
    replace a4 := a4.trans hI.h4
    replace a5 := a5.trans hI.h5
    replace a6 := a6.trans hI.h6
    replace a7 := a7.trans hI.h7
    replace a8 := a8.trans hI.h8
    replace a9 := a9.trans hI.h9
    replace a10 := a10.trans hI.h10
    replace a11 := a11.trans hI.h11
    have h := hr c
    refine ⟨h.1.trans ?_, h.2.1.trans ?_, h.2.2.1.trans ?_, h.2.2.2.1.trans ?_, h.2.2.2.2.1.trans ?_, h.2.2.2.2.2.1.trans ?_, h.2.2.2.2.2.2.1.trans ?_, h.2.2.2.2.2.2.2.1.trans ?_, h.2.2.2.2.2.2.2.2.1.trans ?_, h.2.2.2.2.2.2.2.2.2.1.trans ?_, h.2.2.2.2.2.2.2.2.2.2.1.trans ?_, h.2.2.2.2.2.2.2.2.2.2.2⟩
    · refine Eq.trans ?_ (final_13 hI).symm
      unfold Cert.ReferenceIdeal.Value.res_main_v124
      simp only [a0, a1, a2, a3, a4, a5, a6, a7, a8, a9, a10, a11]
      exact ref_dy y g pa dm gw
    · refine Eq.trans ?_ (final_14 hI).symm
      simp only [a0, a1, a2, a3, a4, a5, a6, a7, a8, a9, a10, a11]
      exact ref_dr k v g pa dm rk
    · refine Eq.trans ?_ (final_15 hI).symm
      simp only [a0, a1, a2, a3, a4, a5, a6, a7, a8, a9, a10, a11]
      exact ref_dk r' v g pa dm rk
    · refine Eq.trans ?_ (final_16 hI).symm
      simp only [a0, a1, a2, a3, a4, a5, a6, a7, a8, a9, a10, a11]
      exact ref_dv r' k g pa dm rk
    · refine Eq.trans ?_ (final_17 hI).symm
      simp only [a0, a1, a2, a3, a4, a5, a6, a7, a8, a9, a10, a11]
      exact ref_dg y r' k v pa dm gw gb rk
    · refine Eq.trans ?_ (final_18 hI).symm
      simp only [a0, a1, a2, a3, a4, a5, a6, a7, a8, a9, a10, a11]
      exact ref_pa y r' k v g pa dm gw gb rk
    · refine Eq.trans ?_ (final_19 hI).symm
      simp only [a0, a1, a2, a3, a4, a5, a6, a7, a8, a9, a10, a11]
      exact ref_pb yb pb dm
    · refine Eq.trans ?_ (final_20 hI).symm
      simp only [a0, a1, a2, a3, a4, a5, a6, a7, a8, a9, a10, a11]
      exact ref_yb pb dm
    · refine Eq.trans ?_ (final_21 hI).symm
      simp only [a0, a1, a2, a3, a4, a5, a6, a7, a8, a9, a10, a11]
      exact ref_gw y g pa dm
    · refine Eq.trans ?_ (final_22 hI).symm
      simp only [a0, a1, a2, a3, a4, a5, a6, a7, a8, a9, a10, a11]
      exact ref_gb g pa dm
    · refine Eq.trans ?_ (final_23 hI).symm
      simp only [a0, a1, a2, a3, a4, a5, a6, a7, a8, a9, a10, a11]
      exact ref_rk r' k v g pa dm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel34.Gen.facts, Cert.Kernel34Ideal.Gen.facts, Cert.Reference34Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel36.Gen.facts, Cert.Kernel36Ideal.Gen.facts, Cert.Reference36Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel35.Gen.facts, Cert.Kernel35Ideal.Gen.facts, Cert.Reference35Ideal.Gen.facts,
  Cert.Kernel31.Gen.facts, Cert.Kernel31Ideal.Gen.facts, Cert.Reference31Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Finite.facts, Finite.facts2, Finite.facts39,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ,
  fun m ρ _ => Cert.Kernel2Ideal.Gen.frame m ρ, Feed.frame2, fun m ρ _ => Feed.frame2 m ρ trivial,
  fun m ρ _ => Cert.Kernel3.Gen.frame m ρ, fun m ρ _ => Cert.Kernel3Ideal.Gen.frame m ρ, Feed.frame3,
  fun m ρ _ => Cert.Kernel4.Gen.frame m ρ, fun m ρ _ => Cert.Kernel4Ideal.Gen.frame m ρ, Feed.frame4,
  fun m ρ _ => Cert.Kernel5.Gen.frame m ρ, fun m ρ _ => Cert.Kernel5Ideal.Gen.frame m ρ, Feed.frame5,
  fun m ρ _ => Cert.Kernel6.Gen.frame m ρ, fun m ρ _ => Cert.Kernel6Ideal.Gen.frame m ρ, Feed.frame6,
  fun m ρ _ => Cert.Kernel7.Gen.frame m ρ, fun m ρ _ => Cert.Kernel7Ideal.Gen.frame m ρ, Feed.frame7,
  fun m ρ _ => Cert.Kernel8.Gen.frame m ρ, fun m ρ _ => Cert.Kernel8Ideal.Gen.frame m ρ, Mixer.frame8,
  fun m ρ _ => Cert.Kernel9.Gen.frame m ρ, fun m ρ _ => Cert.Kernel9Ideal.Gen.frame m ρ, Mixer.frame9,
  fun m ρ _ => Cert.Kernel10.Gen.frame m ρ, fun m ρ _ => Cert.Kernel10Ideal.Gen.frame m ρ, Mixer.frame10,
  fun m ρ _ => Cert.Kernel11.Gen.frame m ρ, fun m ρ _ => Cert.Kernel11Ideal.Gen.frame m ρ, Mixer.frame11,
  fun m ρ _ => Cert.Kernel12.Gen.frame m ρ, fun m ρ _ => Cert.Kernel12Ideal.Gen.frame m ρ, Mixer.frame12,
  fun m ρ _ => Cert.Kernel13.Gen.frame m ρ, fun m ρ _ => Cert.Kernel13Ideal.Gen.frame m ρ, Norms.frame13,
  fun m ρ _ => Cert.Kernel14.Gen.frame m ρ, fun m ρ _ => Cert.Kernel14Ideal.Gen.frame m ρ, Shift.frame14,
  fun m ρ _ => Cert.Kernel15.Gen.frame m ρ, fun m ρ _ => Cert.Kernel15Ideal.Gen.frame m ρ, Shift.frame15,
  fun m ρ _ => Cert.Kernel34.Gen.frame m ρ, fun m ρ _ => Cert.Kernel34Ideal.Gen.frame m ρ, Shift.frame34,
  fun m ρ _ => Cert.Kernel16.Gen.frame m ρ, fun m ρ _ => Cert.Kernel16Ideal.Gen.frame m ρ, Mixer.frame16,
  fun m ρ _ => Cert.Kernel17.Gen.frame m ρ, fun m ρ _ => Cert.Kernel17Ideal.Gen.frame m ρ, Mixer.frame17,
  fun m ρ _ => Cert.Kernel18.Gen.frame m ρ, fun m ρ _ => Cert.Kernel18Ideal.Gen.frame m ρ, Mixer.frame18,
  fun m ρ _ => Cert.Kernel19.Gen.frame m ρ, fun m ρ _ => Cert.Kernel19Ideal.Gen.frame m ρ, Mixer.frame19,
  fun m ρ _ => Cert.Kernel20.Gen.frame m ρ, fun m ρ _ => Cert.Kernel20Ideal.Gen.frame m ρ, Mixer.frame20,
  fun m ρ _ => Cert.Kernel21.Gen.frame m ρ, fun m ρ _ => Cert.Kernel21Ideal.Gen.frame m ρ, Mixer.frame21,
  fun m ρ _ => Cert.Kernel22.Gen.frame m ρ, fun m ρ _ => Cert.Kernel22Ideal.Gen.frame m ρ, Latent.frame22,
  fun m ρ _ => Cert.Kernel23.Gen.frame m ρ, fun m ρ _ => Cert.Kernel23Ideal.Gen.frame m ρ, Latent.frame23,
  fun m ρ _ => Cert.Kernel24.Gen.frame m ρ, fun m ρ _ => Cert.Kernel24Ideal.Gen.frame m ρ, Latent.frame24,
  fun m ρ _ => Cert.Kernel25.Gen.frame m ρ, fun m ρ _ => Cert.Kernel25Ideal.Gen.frame m ρ, Latent.frame25,
  fun m ρ _ => Cert.Kernel26.Gen.frame m ρ, fun m ρ _ => Cert.Kernel26Ideal.Gen.frame m ρ, Latent.frame26,
  fun m ρ _ => Cert.Kernel27.Gen.frame m ρ, fun m ρ _ => Cert.Kernel27Ideal.Gen.frame m ρ, Latent.frame27,
  fun m ρ _ => Cert.Kernel28.Gen.frame m ρ, fun m ρ _ => Cert.Kernel28Ideal.Gen.frame m ρ, Latent.frame28,
  fun m ρ _ => Cert.Kernel32.Gen.frame m ρ, fun m ρ _ => Cert.Kernel32Ideal.Gen.frame m ρ, Norms.frame32,
  fun m ρ _ => Cert.Kernel33.Gen.frame m ρ, fun m ρ _ => Cert.Kernel33Ideal.Gen.frame m ρ, Norms.frame33,
  fun m ρ _ => Cert.Kernel36.Gen.frame m ρ, fun m ρ _ => Cert.Kernel36Ideal.Gen.frame m ρ, Optim.frame36,
  fun m ρ _ => Cert.Kernel29.Gen.frame m ρ, fun m ρ _ => Cert.Kernel29Ideal.Gen.frame m ρ, Norms.frame29,
  fun m ρ _ => Cert.Kernel30.Gen.frame m ρ, fun m ρ _ => Cert.Kernel30Ideal.Gen.frame m ρ, Shift.frame30,
  fun m ρ _ => Cert.Kernel35.Gen.frame m ρ, fun m ρ _ => Cert.Kernel35Ideal.Gen.frame m ρ, Shift.frame35,
  fun m ρ _ => Cert.Kernel31.Gen.frame m ρ, fun m ρ _ => Cert.Kernel31Ideal.Gen.frame m ρ, Norms.frame31,
  fun m ρ _ => Cert.Kernel37.Gen.frame m ρ, fun m ρ _ => Cert.Kernel37Ideal.Gen.frame m ρ, Optim.frame37,
  fun m ρ _ => Cert.Kernel38.Gen.frame m ρ, fun m ρ _ => Cert.Kernel38Ideal.Gen.frame m ρ, Optim.frame38,
  fun m ρ _ => Cert.Kernel39.Gen.frame m ρ, fun m ρ _ => Cert.Kernel39Ideal.Gen.frame m ρ,
  fun m ρ _ => Cert.Kernel39Ideal.Gen.frame m ρ, Merge.frame39, fun m ρ _ => Merge.frame39 m ρ trivial,
  trivial, algebraic, trivial, Feed.algebraic2, trivial, Feed.algebraic3, trivial, Feed.algebraic4, trivial, Feed.algebraic5, trivial, Feed.algebraic6, trivial, Feed.algebraic7,
  trivial, Mixer.algebraic8,
  trivial, Mixer.algebraic9,
  trivial, Mixer.algebraic10,
  trivial, Mixer.algebraic11,
  trivial, Mixer.algebraic12,
  trivial, Norms.algebraic13,
  trivial, Shift.algebraic14,
  trivial, Shift.algebraic15,
  trivial, Shift.algebraic34,
  trivial, Mixer.algebraic16,
  trivial, Mixer.algebraic17,
  trivial, Mixer.algebraic18,
  trivial, Mixer.algebraic19,
  trivial, Mixer.algebraic20,
  trivial, Mixer.algebraic21,
  trivial, Latent.algebraic22,
  trivial, Latent.algebraic23,
  trivial, Latent.algebraic24,
  trivial, Latent.algebraic25,
  trivial, Latent.algebraic26,
  trivial, Latent.algebraic27,
  trivial, Latent.algebraic28,
  trivial, Norms.algebraic32,
  trivial, Norms.algebraic33,
  trivial, Optim.algebraic36,
  trivial, Norms.algebraic29,
  trivial, Shift.algebraic30,
  trivial, Shift.algebraic35,
  trivial, Norms.algebraic31,
  trivial, Optim.algebraic37,
  trivial, Optim.algebraic38,
  trivial, Merge.algebraic39⟩

end Cert.Proof

end
